-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5)
      ∧ r.2.mem ((c.tc : Thread Cert.KernelFwd.nD Cert.KernelFwd.τ).loc Cert.KernelFwd.main_arg6) = m ((c.tc : Thread Cert.KernelFwd.nD Cert.KernelFwd.τ).loc Cert.KernelFwd.main_arg6)
      ∧ r.2.mem ((c.tc : Thread Cert.KernelFwd.nD Cert.KernelFwd.τ).loc Cert.KernelFwd.main_arg7) = m ((c.tc : Thread Cert.KernelFwd.nD Cert.KernelFwd.τ).loc Cert.KernelFwd.main_arg7))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3)
      ∧ r.2.mem ((c.tc : Thread Cert.KernelAdamUp.nD Cert.KernelAdamUp.τ).loc Cert.KernelAdamUp.main_arg4) = m ((c.tc : Thread Cert.KernelAdamUp.nD Cert.KernelAdamUp.τ).loc Cert.KernelAdamUp.main_arg4)
      ∧ r.2.mem ((c.tc : Thread Cert.KernelAdamUp.nD Cert.KernelAdamUp.τ).loc Cert.KernelAdamUp.main_arg5) = m ((c.tc : Thread Cert.KernelAdamUp.nD Cert.KernelAdamUp.τ).loc Cert.KernelAdamUp.main_arg5)
      ∧ r.2.mem ((c.tc : Thread Cert.KernelAdamUp.nD Cert.KernelAdamUp.τ).loc Cert.KernelAdamUp.main_arg6) = m ((c.tc : Thread Cert.KernelAdamUp.nD Cert.KernelAdamUp.τ).loc Cert.KernelAdamUp.main_arg6)
      ∧ r.2.mem ((c.tc : Thread Cert.KernelAdamUp.nD Cert.KernelAdamUp.τ).loc Cert.KernelAdamUp.main_arg7) = m ((c.tc : Thread Cert.KernelAdamUp.nD Cert.KernelAdamUp.τ).loc Cert.KernelAdamUp.main_arg7))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
      ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4)
      ∧ r.2.mem ((c.tc : Thread Cert.KernelAdamUpIdeal.nD Cert.KernelAdamUpIdeal.τ).loc Cert.KernelAdamUpIdeal.main_arg5) = m ((c.tc : Thread Cert.KernelAdamUpIdeal.nD Cert.KernelAdamUpIdeal.τ).loc Cert.KernelAdamUpIdeal.main_arg5)
      ∧ r.2.mem ((c.tc : Thread Cert.KernelAdamUpIdeal.nD Cert.KernelAdamUpIdeal.τ).loc Cert.KernelAdamUpIdeal.main_arg6) = m ((c.tc : Thread Cert.KernelAdamUpIdeal.nD Cert.KernelAdamUpIdeal.τ).loc Cert.KernelAdamUpIdeal.main_arg6)
      ∧ r.2.mem ((c.tc : Thread Cert.KernelAdamUpIdeal.nD Cert.KernelAdamUpIdeal.τ).loc Cert.KernelAdamUpIdeal.main_arg7) = m ((c.tc : Thread Cert.KernelAdamUpIdeal.nD Cert.KernelAdamUpIdeal.τ).loc Cert.KernelAdamUpIdeal.main_arg7))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3)
      ∧ r.2.mem ((c.tc : Thread Cert.ReferenceAdamUpIdeal.nD Cert.ReferenceAdamUpIdeal.τ).loc Cert.ReferenceAdamUpIdeal.main_arg4) = m ((c.tc : Thread Cert.ReferenceAdamUpIdeal.nD Cert.ReferenceAdamUpIdeal.τ).loc Cert.ReferenceAdamUpIdeal.main_arg4)
      ∧ r.2.mem ((c.tc : Thread Cert.ReferenceAdamUpIdeal.nD Cert.ReferenceAdamUpIdeal.τ).loc Cert.ReferenceAdamUpIdeal.main_arg5) = m ((c.tc : Thread Cert.ReferenceAdamUpIdeal.nD Cert.ReferenceAdamUpIdeal.τ).loc Cert.ReferenceAdamUpIdeal.main_arg5)
      ∧ r.2.mem ((c.tc : Thread Cert.ReferenceAdamUpIdeal.nD Cert.ReferenceAdamUpIdeal.τ).loc Cert.ReferenceAdamUpIdeal.main_arg6) = m ((c.tc : Thread Cert.ReferenceAdamUpIdeal.nD Cert.ReferenceAdamUpIdeal.τ).loc Cert.ReferenceAdamUpIdeal.main_arg6)
      ∧ r.2.mem ((c.tc : Thread Cert.ReferenceAdamUpIdeal.nD Cert.ReferenceAdamUpIdeal.τ).loc Cert.ReferenceAdamUpIdeal.main_arg7) = m ((c.tc : Thread Cert.ReferenceAdamUpIdeal.nD Cert.ReferenceAdamUpIdeal.τ).loc Cert.ReferenceAdamUpIdeal.main_arg7))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4)
      ∧ r.2.mem ((c.tc : Thread Cert.KernelAdamIn.nD Cert.KernelAdamIn.τ).loc Cert.KernelAdamIn.main_arg5) = m ((c.tc : Thread Cert.KernelAdamIn.nD Cert.KernelAdamIn.τ).loc Cert.KernelAdamIn.main_arg5)
      ∧ r.2.mem ((c.tc : Thread Cert.KernelAdamIn.nD Cert.KernelAdamIn.τ).loc Cert.KernelAdamIn.main_arg6) = m ((c.tc : Thread Cert.KernelAdamIn.nD Cert.KernelAdamIn.τ).loc Cert.KernelAdamIn.main_arg6)
      ∧ r.2.mem ((c.tc : Thread Cert.KernelAdamIn.nD Cert.KernelAdamIn.τ).loc Cert.KernelAdamIn.main_arg7) = m ((c.tc : Thread Cert.KernelAdamIn.nD Cert.KernelAdamIn.τ).loc Cert.KernelAdamIn.main_arg7))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
      ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5)
      ∧ r.2.mem ((c.tc : Thread Cert.KernelAdamInIdeal.nD Cert.KernelAdamInIdeal.τ).loc Cert.KernelAdamInIdeal.main_arg6) = m ((c.tc : Thread Cert.KernelAdamInIdeal.nD Cert.KernelAdamInIdeal.τ).loc Cert.KernelAdamInIdeal.main_arg6)
      ∧ r.2.mem ((c.tc : Thread Cert.KernelAdamInIdeal.nD Cert.KernelAdamInIdeal.τ).loc Cert.KernelAdamInIdeal.main_arg7) = m ((c.tc : Thread Cert.KernelAdamInIdeal.nD Cert.KernelAdamInIdeal.τ).loc Cert.KernelAdamInIdeal.main_arg7))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4)
      ∧ r.2.mem ((c.tc : Thread Cert.ReferenceAdamInIdeal.nD Cert.ReferenceAdamInIdeal.τ).loc Cert.ReferenceAdamInIdeal.main_arg5) = m ((c.tc : Thread Cert.ReferenceAdamInIdeal.nD Cert.ReferenceAdamInIdeal.τ).loc Cert.ReferenceAdamInIdeal.main_arg5)
      ∧ r.2.mem ((c.tc : Thread Cert.ReferenceAdamInIdeal.nD Cert.ReferenceAdamInIdeal.τ).loc Cert.ReferenceAdamInIdeal.main_arg6) = m ((c.tc : Thread Cert.ReferenceAdamInIdeal.nD Cert.ReferenceAdamInIdeal.τ).loc Cert.ReferenceAdamInIdeal.main_arg6)
      ∧ r.2.mem ((c.tc : Thread Cert.ReferenceAdamInIdeal.nD Cert.ReferenceAdamInIdeal.τ).loc Cert.ReferenceAdamInIdeal.main_arg7) = m ((c.tc : Thread Cert.ReferenceAdamInIdeal.nD Cert.ReferenceAdamInIdeal.τ).loc Cert.ReferenceAdamInIdeal.main_arg7))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3)
      ∧ r.2.mem ((c.tc : Thread Cert.KernelAdamSmall.nD Cert.KernelAdamSmall.τ).loc Cert.KernelAdamSmall.main_arg4) = m ((c.tc : Thread Cert.KernelAdamSmall.nD Cert.KernelAdamSmall.τ).loc Cert.KernelAdamSmall.main_arg4)
      ∧ r.2.mem ((c.tc : Thread Cert.KernelAdamSmall.nD Cert.KernelAdamSmall.τ).loc Cert.KernelAdamSmall.main_arg5) = m ((c.tc : Thread Cert.KernelAdamSmall.nD Cert.KernelAdamSmall.τ).loc Cert.KernelAdamSmall.main_arg5)
      ∧ r.2.mem ((c.tc : Thread Cert.KernelAdamSmall.nD Cert.KernelAdamSmall.τ).loc Cert.KernelAdamSmall.main_arg6) = m ((c.tc : Thread Cert.KernelAdamSmall.nD Cert.KernelAdamSmall.τ).loc Cert.KernelAdamSmall.main_arg6)
      ∧ r.2.mem ((c.tc : Thread Cert.KernelAdamSmall.nD Cert.KernelAdamSmall.τ).loc Cert.KernelAdamSmall.main_arg7) = m ((c.tc : Thread Cert.KernelAdamSmall.nD Cert.KernelAdamSmall.τ).loc Cert.KernelAdamSmall.main_arg7)
      ∧ r.2.mem ((c.tc : Thread Cert.KernelAdamSmall.nD Cert.KernelAdamSmall.τ).loc Cert.KernelAdamSmall.main_arg8) = m ((c.tc : Thread Cert.KernelAdamSmall.nD Cert.KernelAdamSmall.τ).loc Cert.KernelAdamSmall.main_arg8)
      ∧ r.2.mem ((c.tc : Thread Cert.KernelAdamSmall.nD Cert.KernelAdamSmall.τ).loc Cert.KernelAdamSmall.main_arg9) = m ((c.tc : Thread Cert.KernelAdamSmall.nD Cert.KernelAdamSmall.τ).loc Cert.KernelAdamSmall.main_arg9)
      ∧ r.2.mem ((c.tc : Thread Cert.KernelAdamSmall.nD Cert.KernelAdamSmall.τ).loc Cert.KernelAdamSmall.main_arg10) = m ((c.tc : Thread Cert.KernelAdamSmall.nD Cert.KernelAdamSmall.τ).loc Cert.KernelAdamSmall.main_arg10)
      ∧ r.2.mem ((c.tc : Thread Cert.KernelAdamSmall.nD Cert.KernelAdamSmall.τ).loc Cert.KernelAdamSmall.main_arg11) = m ((c.tc : Thread Cert.KernelAdamSmall.nD Cert.KernelAdamSmall.τ).loc Cert.KernelAdamSmall.main_arg11)
      ∧ r.2.mem ((c.tc : Thread Cert.KernelAdamSmall.nD Cert.KernelAdamSmall.τ).loc Cert.KernelAdamSmall.main_arg12) = m ((c.tc : Thread Cert.KernelAdamSmall.nD Cert.KernelAdamSmall.τ).loc Cert.KernelAdamSmall.main_arg12)
      ∧ r.2.mem ((c.tc : Thread Cert.KernelAdamSmall.nD Cert.KernelAdamSmall.τ).loc Cert.KernelAdamSmall.main_arg13) = m ((c.tc : Thread Cert.KernelAdamSmall.nD Cert.KernelAdamSmall.τ).loc Cert.KernelAdamSmall.main_arg13)
      ∧ r.2.mem ((c.tc : Thread Cert.KernelAdamSmall.nD Cert.KernelAdamSmall.τ).loc Cert.KernelAdamSmall.main_arg14) = m ((c.tc : Thread Cert.KernelAdamSmall.nD Cert.KernelAdamSmall.τ).loc Cert.KernelAdamSmall.main_arg14)
      ∧ r.2.mem ((c.tc : Thread Cert.KernelAdamSmall.nD Cert.KernelAdamSmall.τ).loc Cert.KernelAdamSmall.main_arg15) = m ((c.tc : Thread Cert.KernelAdamSmall.nD Cert.KernelAdamSmall.τ).loc Cert.KernelAdamSmall.main_arg15)
      ∧ r.2.mem ((c.tc : Thread Cert.KernelAdamSmall.nD Cert.KernelAdamSmall.τ).loc Cert.KernelAdamSmall.main_arg16) = m ((c.tc : Thread Cert.KernelAdamSmall.nD Cert.KernelAdamSmall.τ).loc Cert.KernelAdamSmall.main_arg16)
      ∧ r.2.mem ((c.tc : Thread Cert.KernelAdamSmall.nD Cert.KernelAdamSmall.τ).loc Cert.KernelAdamSmall.main_arg17) = m ((c.tc : Thread Cert.KernelAdamSmall.nD Cert.KernelAdamSmall.τ).loc Cert.KernelAdamSmall.main_arg17)
      ∧ r.2.mem ((c.tc : Thread Cert.KernelAdamSmall.nD Cert.KernelAdamSmall.τ).loc Cert.KernelAdamSmall.main_arg18) = m ((c.tc : Thread Cert.KernelAdamSmall.nD Cert.KernelAdamSmall.τ).loc Cert.KernelAdamSmall.main_arg18)
      ∧ r.2.mem ((c.tc : Thread Cert.KernelAdamSmall.nD Cert.KernelAdamSmall.τ).loc Cert.KernelAdamSmall.main_arg19) = m ((c.tc : Thread Cert.KernelAdamSmall.nD Cert.KernelAdamSmall.τ).loc Cert.KernelAdamSmall.main_arg19)
      ∧ r.2.mem ((c.tc : Thread Cert.KernelAdamSmall.nD Cert.KernelAdamSmall.τ).loc Cert.KernelAdamSmall.main_arg20) = m ((c.tc : Thread Cert.KernelAdamSmall.nD Cert.KernelAdamSmall.τ).loc Cert.KernelAdamSmall.main_arg20)
      ∧ r.2.mem ((c.tc : Thread Cert.KernelAdamSmall.nD Cert.KernelAdamSmall.τ).loc Cert.KernelAdamSmall.main_arg21) = m ((c.tc : Thread Cert.KernelAdamSmall.nD Cert.KernelAdamSmall.τ).loc Cert.KernelAdamSmall.main_arg21)
      ∧ r.2.mem ((c.tc : Thread Cert.KernelAdamSmall.nD Cert.KernelAdamSmall.τ).loc Cert.KernelAdamSmall.main_arg22) = m ((c.tc : Thread Cert.KernelAdamSmall.nD Cert.KernelAdamSmall.τ).loc Cert.KernelAdamSmall.main_arg22)
      ∧ r.2.mem ((c.tc : Thread Cert.KernelAdamSmall.nD Cert.KernelAdamSmall.τ).loc Cert.KernelAdamSmall.main_arg23) = m ((c.tc : Thread Cert.KernelAdamSmall.nD Cert.KernelAdamSmall.τ).loc Cert.KernelAdamSmall.main_arg23)
      ∧ r.2.mem ((c.tc : Thread Cert.KernelAdamSmall.nD Cert.KernelAdamSmall.τ).loc Cert.KernelAdamSmall.main_arg24) = m ((c.tc : Thread Cert.KernelAdamSmall.nD Cert.KernelAdamSmall.τ).loc Cert.KernelAdamSmall.main_arg24)
      ∧ r.2.mem ((c.tc : Thread Cert.KernelAdamSmall.nD Cert.KernelAdamSmall.τ).loc Cert.KernelAdamSmall.main_arg25) = m ((c.tc : Thread Cert.KernelAdamSmall.nD Cert.KernelAdamSmall.τ).loc Cert.KernelAdamSmall.main_arg25)
      ∧ r.2.mem ((c.tc : Thread Cert.KernelAdamSmall.nD Cert.KernelAdamSmall.τ).loc Cert.KernelAdamSmall.main_arg26) = m ((c.tc : Thread Cert.KernelAdamSmall.nD Cert.KernelAdamSmall.τ).loc Cert.KernelAdamSmall.main_arg26)
      ∧ r.2.mem ((c.tc : Thread Cert.KernelAdamSmall.nD Cert.KernelAdamSmall.τ).loc Cert.KernelAdamSmall.main_arg27) = m ((c.tc : Thread Cert.KernelAdamSmall.nD Cert.KernelAdamSmall.τ).loc Cert.KernelAdamSmall.main_arg27)
      ∧ r.2.mem ((c.tc : Thread Cert.KernelAdamSmall.nD Cert.KernelAdamSmall.τ).loc Cert.KernelAdamSmall.main_arg28) = m ((c.tc : Thread Cert.KernelAdamSmall.nD Cert.KernelAdamSmall.τ).loc Cert.KernelAdamSmall.main_arg28)
      ∧ r.2.mem ((c.tc : Thread Cert.KernelAdamSmall.nD Cert.KernelAdamSmall.τ).loc Cert.KernelAdamSmall.main_arg29) = m ((c.tc : Thread Cert.KernelAdamSmall.nD Cert.KernelAdamSmall.τ).loc Cert.KernelAdamSmall.main_arg29)
      ∧ r.2.mem ((c.tc : Thread Cert.KernelAdamSmall.nD Cert.KernelAdamSmall.τ).loc Cert.KernelAdamSmall.main_arg30) = m ((c.tc : Thread Cert.KernelAdamSmall.nD Cert.KernelAdamSmall.τ).loc Cert.KernelAdamSmall.main_arg30)
      ∧ r.2.mem ((c.tc : Thread Cert.KernelAdamSmall.nD Cert.KernelAdamSmall.τ).loc Cert.KernelAdamSmall.main_arg31) = m ((c.tc : Thread Cert.KernelAdamSmall.nD Cert.KernelAdamSmall.τ).loc Cert.KernelAdamSmall.main_arg31)
      ∧ r.2.mem ((c.tc : Thread Cert.KernelAdamSmall.nD Cert.KernelAdamSmall.τ).loc Cert.KernelAdamSmall.main_arg32) = m ((c.tc : Thread Cert.KernelAdamSmall.nD Cert.KernelAdamSmall.τ).loc Cert.KernelAdamSmall.main_arg32)
      ∧ r.2.mem ((c.tc : Thread Cert.KernelAdamSmall.nD Cert.KernelAdamSmall.τ).loc Cert.KernelAdamSmall.main_arg33) = m ((c.tc : Thread Cert.KernelAdamSmall.nD Cert.KernelAdamSmall.τ).loc Cert.KernelAdamSmall.main_arg33)
      ∧ r.2.mem ((c.tc : Thread Cert.KernelAdamSmall.nD Cert.KernelAdamSmall.τ).loc Cert.KernelAdamSmall.main_arg34) = m ((c.tc : Thread Cert.KernelAdamSmall.nD Cert.KernelAdamSmall.τ).loc Cert.KernelAdamSmall.main_arg34)
      ∧ r.2.mem ((c.tc : Thread Cert.KernelAdamSmall.nD Cert.KernelAdamSmall.τ).loc Cert.KernelAdamSmall.main_arg35) = m ((c.tc : Thread Cert.KernelAdamSmall.nD Cert.KernelAdamSmall.τ).loc Cert.KernelAdamSmall.main_arg35)
      ∧ r.2.mem ((c.tc : Thread Cert.KernelAdamSmall.nD Cert.KernelAdamSmall.τ).loc Cert.KernelAdamSmall.main_arg36) = m ((c.tc : Thread Cert.KernelAdamSmall.nD Cert.KernelAdamSmall.τ).loc Cert.KernelAdamSmall.main_arg36)
      ∧ r.2.mem ((c.tc : Thread Cert.KernelAdamSmall.nD Cert.KernelAdamSmall.τ).loc Cert.KernelAdamSmall.main_arg37) = m ((c.tc : Thread Cert.KernelAdamSmall.nD Cert.KernelAdamSmall.τ).loc Cert.KernelAdamSmall.main_arg37)
      ∧ r.2.mem ((c.tc : Thread Cert.KernelAdamSmall.nD Cert.KernelAdamSmall.τ).loc Cert.KernelAdamSmall.main_arg38) = m ((c.tc : Thread Cert.KernelAdamSmall.nD Cert.KernelAdamSmall.τ).loc Cert.KernelAdamSmall.main_arg38)
      ∧ r.2.mem ((c.tc : Thread Cert.KernelAdamSmall.nD Cert.KernelAdamSmall.τ).loc Cert.KernelAdamSmall.main_arg39) = m ((c.tc : Thread Cert.KernelAdamSmall.nD Cert.KernelAdamSmall.τ).loc Cert.KernelAdamSmall.main_arg39))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
      ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
      ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
      ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
      ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
      ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
      ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
      ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
      ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
      ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
      ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
      ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
      ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
      ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
      ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
      ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
      ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
      ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
      ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
      ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
      ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23)
      ∧ r.2.mem ((c.tc : Thread Cert.KernelAdamSmallIdeal.nD Cert.KernelAdamSmallIdeal.τ).loc Cert.KernelAdamSmallIdeal.main_arg24) = m ((c.tc : Thread Cert.KernelAdamSmallIdeal.nD Cert.KernelAdamSmallIdeal.τ).loc Cert.KernelAdamSmallIdeal.main_arg24)
      ∧ r.2.mem ((c.tc : Thread Cert.KernelAdamSmallIdeal.nD Cert.KernelAdamSmallIdeal.τ).loc Cert.KernelAdamSmallIdeal.main_arg25) = m ((c.tc : Thread Cert.KernelAdamSmallIdeal.nD Cert.KernelAdamSmallIdeal.τ).loc Cert.KernelAdamSmallIdeal.main_arg25)
      ∧ r.2.mem ((c.tc : Thread Cert.KernelAdamSmallIdeal.nD Cert.KernelAdamSmallIdeal.τ).loc Cert.KernelAdamSmallIdeal.main_arg26) = m ((c.tc : Thread Cert.KernelAdamSmallIdeal.nD Cert.KernelAdamSmallIdeal.τ).loc Cert.KernelAdamSmallIdeal.main_arg26)
      ∧ r.2.mem ((c.tc : Thread Cert.KernelAdamSmallIdeal.nD Cert.KernelAdamSmallIdeal.τ).loc Cert.KernelAdamSmallIdeal.main_arg27) = m ((c.tc : Thread Cert.KernelAdamSmallIdeal.nD Cert.KernelAdamSmallIdeal.τ).loc Cert.KernelAdamSmallIdeal.main_arg27)
      ∧ r.2.mem ((c.tc : Thread Cert.KernelAdamSmallIdeal.nD Cert.KernelAdamSmallIdeal.τ).loc Cert.KernelAdamSmallIdeal.main_arg28) = m ((c.tc : Thread Cert.KernelAdamSmallIdeal.nD Cert.KernelAdamSmallIdeal.τ).loc Cert.KernelAdamSmallIdeal.main_arg28)
      ∧ r.2.mem ((c.tc : Thread Cert.KernelAdamSmallIdeal.nD Cert.KernelAdamSmallIdeal.τ).loc Cert.KernelAdamSmallIdeal.main_arg29) = m ((c.tc : Thread Cert.KernelAdamSmallIdeal.nD Cert.KernelAdamSmallIdeal.τ).loc Cert.KernelAdamSmallIdeal.main_arg29)
      ∧ r.2.mem ((c.tc : Thread Cert.KernelAdamSmallIdeal.nD Cert.KernelAdamSmallIdeal.τ).loc Cert.KernelAdamSmallIdeal.main_arg30) = m ((c.tc : Thread Cert.KernelAdamSmallIdeal.nD Cert.KernelAdamSmallIdeal.τ).loc Cert.KernelAdamSmallIdeal.main_arg30)
      ∧ r.2.mem ((c.tc : Thread Cert.KernelAdamSmallIdeal.nD Cert.KernelAdamSmallIdeal.τ).loc Cert.KernelAdamSmallIdeal.main_arg31) = m ((c.tc : Thread Cert.KernelAdamSmallIdeal.nD Cert.KernelAdamSmallIdeal.τ).loc Cert.KernelAdamSmallIdeal.main_arg31)
      ∧ r.2.mem ((c.tc : Thread Cert.KernelAdamSmallIdeal.nD Cert.KernelAdamSmallIdeal.τ).loc Cert.KernelAdamSmallIdeal.main_arg32) = m ((c.tc : Thread Cert.KernelAdamSmallIdeal.nD Cert.KernelAdamSmallIdeal.τ).loc Cert.KernelAdamSmallIdeal.main_arg32)
      ∧ r.2.mem ((c.tc : Thread Cert.KernelAdamSmallIdeal.nD Cert.KernelAdamSmallIdeal.τ).loc Cert.KernelAdamSmallIdeal.main_arg33) = m ((c.tc : Thread Cert.KernelAdamSmallIdeal.nD Cert.KernelAdamSmallIdeal.τ).loc Cert.KernelAdamSmallIdeal.main_arg33)
      ∧ r.2.mem ((c.tc : Thread Cert.KernelAdamSmallIdeal.nD Cert.KernelAdamSmallIdeal.τ).loc Cert.KernelAdamSmallIdeal.main_arg34) = m ((c.tc : Thread Cert.KernelAdamSmallIdeal.nD Cert.KernelAdamSmallIdeal.τ).loc Cert.KernelAdamSmallIdeal.main_arg34)
      ∧ r.2.mem ((c.tc : Thread Cert.KernelAdamSmallIdeal.nD Cert.KernelAdamSmallIdeal.τ).loc Cert.KernelAdamSmallIdeal.main_arg35) = m ((c.tc : Thread Cert.KernelAdamSmallIdeal.nD Cert.KernelAdamSmallIdeal.τ).loc Cert.KernelAdamSmallIdeal.main_arg35)
      ∧ r.2.mem ((c.tc : Thread Cert.KernelAdamSmallIdeal.nD Cert.KernelAdamSmallIdeal.τ).loc Cert.KernelAdamSmallIdeal.main_arg36) = m ((c.tc : Thread Cert.KernelAdamSmallIdeal.nD Cert.KernelAdamSmallIdeal.τ).loc Cert.KernelAdamSmallIdeal.main_arg36)
      ∧ r.2.mem ((c.tc : Thread Cert.KernelAdamSmallIdeal.nD Cert.KernelAdamSmallIdeal.τ).loc Cert.KernelAdamSmallIdeal.main_arg37) = m ((c.tc : Thread Cert.KernelAdamSmallIdeal.nD Cert.KernelAdamSmallIdeal.τ).loc Cert.KernelAdamSmallIdeal.main_arg37)
      ∧ r.2.mem ((c.tc : Thread Cert.KernelAdamSmallIdeal.nD Cert.KernelAdamSmallIdeal.τ).loc Cert.KernelAdamSmallIdeal.main_arg38) = m ((c.tc : Thread Cert.KernelAdamSmallIdeal.nD Cert.KernelAdamSmallIdeal.τ).loc Cert.KernelAdamSmallIdeal.main_arg38)
      ∧ r.2.mem ((c.tc : Thread Cert.KernelAdamSmallIdeal.nD Cert.KernelAdamSmallIdeal.τ).loc Cert.KernelAdamSmallIdeal.main_arg39) = m ((c.tc : Thread Cert.KernelAdamSmallIdeal.nD Cert.KernelAdamSmallIdeal.τ).loc Cert.KernelAdamSmallIdeal.main_arg39))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3)
      ∧ r.2.mem ((c.tc : Thread Cert.ReferenceAdamSmallIdeal.nD Cert.ReferenceAdamSmallIdeal.τ).loc Cert.ReferenceAdamSmallIdeal.main_arg4) = m ((c.tc : Thread Cert.ReferenceAdamSmallIdeal.nD Cert.ReferenceAdamSmallIdeal.τ).loc Cert.ReferenceAdamSmallIdeal.main_arg4)
      ∧ r.2.mem ((c.tc : Thread Cert.ReferenceAdamSmallIdeal.nD Cert.ReferenceAdamSmallIdeal.τ).loc Cert.ReferenceAdamSmallIdeal.main_arg5) = m ((c.tc : Thread Cert.ReferenceAdamSmallIdeal.nD Cert.ReferenceAdamSmallIdeal.τ).loc Cert.ReferenceAdamSmallIdeal.main_arg5)
      ∧ r.2.mem ((c.tc : Thread Cert.ReferenceAdamSmallIdeal.nD Cert.ReferenceAdamSmallIdeal.τ).loc Cert.ReferenceAdamSmallIdeal.main_arg6) = m ((c.tc : Thread Cert.ReferenceAdamSmallIdeal.nD Cert.ReferenceAdamSmallIdeal.τ).loc Cert.ReferenceAdamSmallIdeal.main_arg6)
      ∧ r.2.mem ((c.tc : Thread Cert.ReferenceAdamSmallIdeal.nD Cert.ReferenceAdamSmallIdeal.τ).loc Cert.ReferenceAdamSmallIdeal.main_arg7) = m ((c.tc : Thread Cert.ReferenceAdamSmallIdeal.nD Cert.ReferenceAdamSmallIdeal.τ).loc Cert.ReferenceAdamSmallIdeal.main_arg7)
      ∧ r.2.mem ((c.tc : Thread Cert.ReferenceAdamSmallIdeal.nD Cert.ReferenceAdamSmallIdeal.τ).loc Cert.ReferenceAdamSmallIdeal.main_arg8) = m ((c.tc : Thread Cert.ReferenceAdamSmallIdeal.nD Cert.ReferenceAdamSmallIdeal.τ).loc Cert.ReferenceAdamSmallIdeal.main_arg8)
      ∧ r.2.mem ((c.tc : Thread Cert.ReferenceAdamSmallIdeal.nD Cert.ReferenceAdamSmallIdeal.τ).loc Cert.ReferenceAdamSmallIdeal.main_arg9) = m ((c.tc : Thread Cert.ReferenceAdamSmallIdeal.nD Cert.ReferenceAdamSmallIdeal.τ).loc Cert.ReferenceAdamSmallIdeal.main_arg9)
      ∧ r.2.mem ((c.tc : Thread Cert.ReferenceAdamSmallIdeal.nD Cert.ReferenceAdamSmallIdeal.τ).loc Cert.ReferenceAdamSmallIdeal.main_arg10) = m ((c.tc : Thread Cert.ReferenceAdamSmallIdeal.nD Cert.ReferenceAdamSmallIdeal.τ).loc Cert.ReferenceAdamSmallIdeal.main_arg10)
      ∧ r.2.mem ((c.tc : Thread Cert.ReferenceAdamSmallIdeal.nD Cert.ReferenceAdamSmallIdeal.τ).loc Cert.ReferenceAdamSmallIdeal.main_arg11) = m ((c.tc : Thread Cert.ReferenceAdamSmallIdeal.nD Cert.ReferenceAdamSmallIdeal.τ).loc Cert.ReferenceAdamSmallIdeal.main_arg11)
      ∧ r.2.mem ((c.tc : Thread Cert.ReferenceAdamSmallIdeal.nD Cert.ReferenceAdamSmallIdeal.τ).loc Cert.ReferenceAdamSmallIdeal.main_arg12) = m ((c.tc : Thread Cert.ReferenceAdamSmallIdeal.nD Cert.ReferenceAdamSmallIdeal.τ).loc Cert.ReferenceAdamSmallIdeal.main_arg12)
      ∧ r.2.mem ((c.tc : Thread Cert.ReferenceAdamSmallIdeal.nD Cert.ReferenceAdamSmallIdeal.τ).loc Cert.ReferenceAdamSmallIdeal.main_arg13) = m ((c.tc : Thread Cert.ReferenceAdamSmallIdeal.nD Cert.ReferenceAdamSmallIdeal.τ).loc Cert.ReferenceAdamSmallIdeal.main_arg13)
      ∧ r.2.mem ((c.tc : Thread Cert.ReferenceAdamSmallIdeal.nD Cert.ReferenceAdamSmallIdeal.τ).loc Cert.ReferenceAdamSmallIdeal.main_arg14) = m ((c.tc : Thread Cert.ReferenceAdamSmallIdeal.nD Cert.ReferenceAdamSmallIdeal.τ).loc Cert.ReferenceAdamSmallIdeal.main_arg14)
      ∧ r.2.mem ((c.tc : Thread Cert.ReferenceAdamSmallIdeal.nD Cert.ReferenceAdamSmallIdeal.τ).loc Cert.ReferenceAdamSmallIdeal.main_arg15) = m ((c.tc : Thread Cert.ReferenceAdamSmallIdeal.nD Cert.ReferenceAdamSmallIdeal.τ).loc Cert.ReferenceAdamSmallIdeal.main_arg15)
      ∧ r.2.mem ((c.tc : Thread Cert.ReferenceAdamSmallIdeal.nD Cert.ReferenceAdamSmallIdeal.τ).loc Cert.ReferenceAdamSmallIdeal.main_arg16) = m ((c.tc : Thread Cert.ReferenceAdamSmallIdeal.nD Cert.ReferenceAdamSmallIdeal.τ).loc Cert.ReferenceAdamSmallIdeal.main_arg16)
      ∧ r.2.mem ((c.tc : Thread Cert.ReferenceAdamSmallIdeal.nD Cert.ReferenceAdamSmallIdeal.τ).loc Cert.ReferenceAdamSmallIdeal.main_arg17) = m ((c.tc : Thread Cert.ReferenceAdamSmallIdeal.nD Cert.ReferenceAdamSmallIdeal.τ).loc Cert.ReferenceAdamSmallIdeal.main_arg17)
      ∧ r.2.mem ((c.tc : Thread Cert.ReferenceAdamSmallIdeal.nD Cert.ReferenceAdamSmallIdeal.τ).loc Cert.ReferenceAdamSmallIdeal.main_arg18) = m ((c.tc : Thread Cert.ReferenceAdamSmallIdeal.nD Cert.ReferenceAdamSmallIdeal.τ).loc Cert.ReferenceAdamSmallIdeal.main_arg18)
      ∧ r.2.mem ((c.tc : Thread Cert.ReferenceAdamSmallIdeal.nD Cert.ReferenceAdamSmallIdeal.τ).loc Cert.ReferenceAdamSmallIdeal.main_arg19) = m ((c.tc : Thread Cert.ReferenceAdamSmallIdeal.nD Cert.ReferenceAdamSmallIdeal.τ).loc Cert.ReferenceAdamSmallIdeal.main_arg19)
      ∧ r.2.mem ((c.tc : Thread Cert.ReferenceAdamSmallIdeal.nD Cert.ReferenceAdamSmallIdeal.τ).loc Cert.ReferenceAdamSmallIdeal.main_arg20) = m ((c.tc : Thread Cert.ReferenceAdamSmallIdeal.nD Cert.ReferenceAdamSmallIdeal.τ).loc Cert.ReferenceAdamSmallIdeal.main_arg20)
      ∧ r.2.mem ((c.tc : Thread Cert.ReferenceAdamSmallIdeal.nD Cert.ReferenceAdamSmallIdeal.τ).loc Cert.ReferenceAdamSmallIdeal.main_arg21) = m ((c.tc : Thread Cert.ReferenceAdamSmallIdeal.nD Cert.ReferenceAdamSmallIdeal.τ).loc Cert.ReferenceAdamSmallIdeal.main_arg21)
      ∧ r.2.mem ((c.tc : Thread Cert.ReferenceAdamSmallIdeal.nD Cert.ReferenceAdamSmallIdeal.τ).loc Cert.ReferenceAdamSmallIdeal.main_arg22) = m ((c.tc : Thread Cert.ReferenceAdamSmallIdeal.nD Cert.ReferenceAdamSmallIdeal.τ).loc Cert.ReferenceAdamSmallIdeal.main_arg22)
      ∧ r.2.mem ((c.tc : Thread Cert.ReferenceAdamSmallIdeal.nD Cert.ReferenceAdamSmallIdeal.τ).loc Cert.ReferenceAdamSmallIdeal.main_arg23) = m ((c.tc : Thread Cert.ReferenceAdamSmallIdeal.nD Cert.ReferenceAdamSmallIdeal.τ).loc Cert.ReferenceAdamSmallIdeal.main_arg23)
      ∧ r.2.mem ((c.tc : Thread Cert.ReferenceAdamSmallIdeal.nD Cert.ReferenceAdamSmallIdeal.τ).loc Cert.ReferenceAdamSmallIdeal.main_arg24) = m ((c.tc : Thread Cert.ReferenceAdamSmallIdeal.nD Cert.ReferenceAdamSmallIdeal.τ).loc Cert.ReferenceAdamSmallIdeal.main_arg24)
      ∧ r.2.mem ((c.tc : Thread Cert.ReferenceAdamSmallIdeal.nD Cert.ReferenceAdamSmallIdeal.τ).loc Cert.ReferenceAdamSmallIdeal.main_arg25) = m ((c.tc : Thread Cert.ReferenceAdamSmallIdeal.nD Cert.ReferenceAdamSmallIdeal.τ).loc Cert.ReferenceAdamSmallIdeal.main_arg25)
      ∧ r.2.mem ((c.tc : Thread Cert.ReferenceAdamSmallIdeal.nD Cert.ReferenceAdamSmallIdeal.τ).loc Cert.ReferenceAdamSmallIdeal.main_arg26) = m ((c.tc : Thread Cert.ReferenceAdamSmallIdeal.nD Cert.ReferenceAdamSmallIdeal.τ).loc Cert.ReferenceAdamSmallIdeal.main_arg26)
      ∧ r.2.mem ((c.tc : Thread Cert.ReferenceAdamSmallIdeal.nD Cert.ReferenceAdamSmallIdeal.τ).loc Cert.ReferenceAdamSmallIdeal.main_arg27) = m ((c.tc : Thread Cert.ReferenceAdamSmallIdeal.nD Cert.ReferenceAdamSmallIdeal.τ).loc Cert.ReferenceAdamSmallIdeal.main_arg27)
      ∧ r.2.mem ((c.tc : Thread Cert.ReferenceAdamSmallIdeal.nD Cert.ReferenceAdamSmallIdeal.τ).loc Cert.ReferenceAdamSmallIdeal.main_arg28) = m ((c.tc : Thread Cert.ReferenceAdamSmallIdeal.nD Cert.ReferenceAdamSmallIdeal.τ).loc Cert.ReferenceAdamSmallIdeal.main_arg28)
      ∧ r.2.mem ((c.tc : Thread Cert.ReferenceAdamSmallIdeal.nD Cert.ReferenceAdamSmallIdeal.τ).loc Cert.ReferenceAdamSmallIdeal.main_arg29) = m ((c.tc : Thread Cert.ReferenceAdamSmallIdeal.nD Cert.ReferenceAdamSmallIdeal.τ).loc Cert.ReferenceAdamSmallIdeal.main_arg29)
      ∧ r.2.mem ((c.tc : Thread Cert.ReferenceAdamSmallIdeal.nD Cert.ReferenceAdamSmallIdeal.τ).loc Cert.ReferenceAdamSmallIdeal.main_arg30) = m ((c.tc : Thread Cert.ReferenceAdamSmallIdeal.nD Cert.ReferenceAdamSmallIdeal.τ).loc Cert.ReferenceAdamSmallIdeal.main_arg30)
      ∧ r.2.mem ((c.tc : Thread Cert.ReferenceAdamSmallIdeal.nD Cert.ReferenceAdamSmallIdeal.τ).loc Cert.ReferenceAdamSmallIdeal.main_arg31) = m ((c.tc : Thread Cert.ReferenceAdamSmallIdeal.nD Cert.ReferenceAdamSmallIdeal.τ).loc Cert.ReferenceAdamSmallIdeal.main_arg31)
      ∧ r.2.mem ((c.tc : Thread Cert.ReferenceAdamSmallIdeal.nD Cert.ReferenceAdamSmallIdeal.τ).loc Cert.ReferenceAdamSmallIdeal.main_arg32) = m ((c.tc : Thread Cert.ReferenceAdamSmallIdeal.nD Cert.ReferenceAdamSmallIdeal.τ).loc Cert.ReferenceAdamSmallIdeal.main_arg32)
      ∧ r.2.mem ((c.tc : Thread Cert.ReferenceAdamSmallIdeal.nD Cert.ReferenceAdamSmallIdeal.τ).loc Cert.ReferenceAdamSmallIdeal.main_arg33) = m ((c.tc : Thread Cert.ReferenceAdamSmallIdeal.nD Cert.ReferenceAdamSmallIdeal.τ).loc Cert.ReferenceAdamSmallIdeal.main_arg33)
      ∧ r.2.mem ((c.tc : Thread Cert.ReferenceAdamSmallIdeal.nD Cert.ReferenceAdamSmallIdeal.τ).loc Cert.ReferenceAdamSmallIdeal.main_arg34) = m ((c.tc : Thread Cert.ReferenceAdamSmallIdeal.nD Cert.ReferenceAdamSmallIdeal.τ).loc Cert.ReferenceAdamSmallIdeal.main_arg34)
      ∧ r.2.mem ((c.tc : Thread Cert.ReferenceAdamSmallIdeal.nD Cert.ReferenceAdamSmallIdeal.τ).loc Cert.ReferenceAdamSmallIdeal.main_arg35) = m ((c.tc : Thread Cert.ReferenceAdamSmallIdeal.nD Cert.ReferenceAdamSmallIdeal.τ).loc Cert.ReferenceAdamSmallIdeal.main_arg35)
      ∧ r.2.mem ((c.tc : Thread Cert.ReferenceAdamSmallIdeal.nD Cert.ReferenceAdamSmallIdeal.τ).loc Cert.ReferenceAdamSmallIdeal.main_arg36) = m ((c.tc : Thread Cert.ReferenceAdamSmallIdeal.nD Cert.ReferenceAdamSmallIdeal.τ).loc Cert.ReferenceAdamSmallIdeal.main_arg36)
      ∧ r.2.mem ((c.tc : Thread Cert.ReferenceAdamSmallIdeal.nD Cert.ReferenceAdamSmallIdeal.τ).loc Cert.ReferenceAdamSmallIdeal.main_arg37) = m ((c.tc : Thread Cert.ReferenceAdamSmallIdeal.nD Cert.ReferenceAdamSmallIdeal.τ).loc Cert.ReferenceAdamSmallIdeal.main_arg37)
      ∧ r.2.mem ((c.tc : Thread Cert.ReferenceAdamSmallIdeal.nD Cert.ReferenceAdamSmallIdeal.τ).loc Cert.ReferenceAdamSmallIdeal.main_arg38) = m ((c.tc : Thread Cert.ReferenceAdamSmallIdeal.nD Cert.ReferenceAdamSmallIdeal.τ).loc Cert.ReferenceAdamSmallIdeal.main_arg38)
      ∧ r.2.mem ((c.tc : Thread Cert.ReferenceAdamSmallIdeal.nD Cert.ReferenceAdamSmallIdeal.τ).loc Cert.ReferenceAdamSmallIdeal.main_arg39) = m ((c.tc : Thread Cert.ReferenceAdamSmallIdeal.nD Cert.ReferenceAdamSmallIdeal.τ).loc Cert.ReferenceAdamSmallIdeal.main_arg39))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)) (v2 : (c : Dev Cert.KernelIdeal.nD) → Buf (Elt Ideal) ((c.tc : Thread Cert.KernelIdeal.nD Cert.KernelIdeal.τ).loc Cert.KernelIdeal.main_v81_2)) (v3 : (c : Dev Cert.KernelIdeal.nD) → Buf (Elt Ideal) ((c.tc : Thread Cert.KernelIdeal.nD Cert.KernelIdeal.τ).loc Cert.KernelIdeal.main_v81_3)) (v4 : (c : Dev Cert.KernelIdeal.nD) → Buf (Elt Ideal) ((c.tc : Thread Cert.KernelIdeal.nD Cert.KernelIdeal.τ).loc Cert.KernelIdeal.main_v81_4)) (v5 : (c : Dev Cert.KernelIdeal.nD) → Buf (Elt Ideal) ((c.tc : Thread Cert.KernelIdeal.nD Cert.KernelIdeal.τ).loc Cert.KernelIdeal.main_v81_5)) (v6 : (c : Dev Cert.KernelIdeal.nD) → Buf (Elt Ideal) ((c.tc : Thread Cert.KernelIdeal.nD Cert.KernelIdeal.τ).loc Cert.KernelIdeal.main_v81_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_v81_2) = v2 c
          ∧ r.2.mem ((c.tc : Thread Cert.KernelIdeal.nD Cert.KernelIdeal.τ).loc Cert.KernelIdeal.main_v81_3) = v3 c
          ∧ r.2.mem ((c.tc : Thread Cert.KernelIdeal.nD Cert.KernelIdeal.τ).loc Cert.KernelIdeal.main_v81_4) = v4 c
          ∧ r.2.mem ((c.tc : Thread Cert.KernelIdeal.nD Cert.KernelIdeal.τ).loc Cert.KernelIdeal.main_v81_5) = v5 c
          ∧ r.2.mem ((c.tc : Thread Cert.KernelIdeal.nD Cert.KernelIdeal.τ).loc Cert.KernelIdeal.main_v81_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_v175) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v156) = v4 c
          ∧ r.2.mem ((c.tc : Thread Cert.ReferenceIdeal.nD Cert.ReferenceIdeal.τ).loc Cert.ReferenceIdeal.main_v139) = v5 c
          ∧ r.2.mem ((c.tc : Thread Cert.ReferenceIdeal.nD Cert.ReferenceIdeal.τ).loc Cert.ReferenceIdeal.main_v150) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v14) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v5) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)
      ∧ m' ((c.tc : Thread Cert.ReferenceFwdIdeal.nD Cert.ReferenceFwdIdeal.τ).loc Cert.ReferenceFwdIdeal.main_arg6) = m ((c.tc : Thread Cert.KernelFwdIdeal.nD Cert.KernelFwdIdeal.τ).loc Cert.KernelFwdIdeal.main_arg6)
      ∧ m' ((c.tc : Thread Cert.ReferenceFwdIdeal.nD Cert.ReferenceFwdIdeal.τ).loc Cert.ReferenceFwdIdeal.main_arg7) = m ((c.tc : Thread Cert.KernelFwdIdeal.nD Cert.KernelFwdIdeal.τ).loc Cert.KernelFwdIdeal.main_arg7)) →
    ∃ (v0 : (c : Dev Cert.KernelFwdIdeal.nD) → Buf (Elt Ideal) ((c.tc : Thread Cert.KernelFwdIdeal.nD Cert.KernelFwdIdeal.τ).loc Cert.KernelFwdIdeal.main_v4_0)) (v1 : (c : Dev Cert.KernelFwdIdeal.nD) → Buf (Elt Ideal) ((c.tc : Thread Cert.KernelFwdIdeal.nD Cert.KernelFwdIdeal.τ).loc Cert.KernelFwdIdeal.main_v4_1)) (v2 : (c : Dev Cert.KernelFwdIdeal.nD) → Buf (Elt Ideal) ((c.tc : Thread Cert.KernelFwdIdeal.nD Cert.KernelFwdIdeal.τ).loc Cert.KernelFwdIdeal.main_v4_2)) (v3 : (c : Dev Cert.KernelFwdIdeal.nD) → Buf (Elt Ideal) ((c.tc : Thread Cert.KernelFwdIdeal.nD Cert.KernelFwdIdeal.τ).loc Cert.KernelFwdIdeal.main_v4_3)) (v4 : (c : Dev Cert.KernelFwdIdeal.nD) → Buf (Elt Ideal) ((c.tc : Thread Cert.KernelFwdIdeal.nD Cert.KernelFwdIdeal.τ).loc Cert.KernelFwdIdeal.main_v4_5)) (v5 : (c : Dev Cert.KernelFwdIdeal.nD) → Buf (Elt Ideal) ((c.tc : Thread Cert.KernelFwdIdeal.nD Cert.KernelFwdIdeal.τ).loc Cert.KernelFwdIdeal.main_v4_6)) (v6 : (c : Dev Cert.KernelFwdIdeal.nD) → Buf (Elt Ideal) ((c.tc : Thread Cert.KernelFwdIdeal.nD Cert.KernelFwdIdeal.τ).loc Cert.KernelFwdIdeal.main_v4_7)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v4_0) = v0 c
          ∧ r.2.mem ((c.tc : Thread Cert.KernelFwdIdeal.nD Cert.KernelFwdIdeal.τ).loc Cert.KernelFwdIdeal.main_v4_1) = v1 c
          ∧ r.2.mem ((c.tc : Thread Cert.KernelFwdIdeal.nD Cert.KernelFwdIdeal.τ).loc Cert.KernelFwdIdeal.main_v4_2) = v2 c
          ∧ r.2.mem ((c.tc : Thread Cert.KernelFwdIdeal.nD Cert.KernelFwdIdeal.τ).loc Cert.KernelFwdIdeal.main_v4_3) = v3 c
          ∧ r.2.mem ((c.tc : Thread Cert.KernelFwdIdeal.nD Cert.KernelFwdIdeal.τ).loc Cert.KernelFwdIdeal.main_v4_5) = v4 c
          ∧ r.2.mem ((c.tc : Thread Cert.KernelFwdIdeal.nD Cert.KernelFwdIdeal.τ).loc Cert.KernelFwdIdeal.main_v4_6) = v5 c
          ∧ r.2.mem ((c.tc : Thread Cert.KernelFwdIdeal.nD Cert.KernelFwdIdeal.τ).loc Cert.KernelFwdIdeal.main_v4_7) = v6 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
          ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
          ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v82) = v0 c
          ∧ r.2.mem ((c.tc : Thread Cert.ReferenceFwdIdeal.nD Cert.ReferenceFwdIdeal.τ).loc Cert.ReferenceFwdIdeal.main_v83) = v1 c
          ∧ r.2.mem ((c.tc : Thread Cert.ReferenceFwdIdeal.nD Cert.ReferenceFwdIdeal.τ).loc Cert.ReferenceFwdIdeal.main_v85) = v2 c
          ∧ r.2.mem ((c.tc : Thread Cert.ReferenceFwdIdeal.nD Cert.ReferenceFwdIdeal.τ).loc Cert.ReferenceFwdIdeal.main_v86) = v3 c
          ∧ r.2.mem ((c.tc : Thread Cert.ReferenceFwdIdeal.nD Cert.ReferenceFwdIdeal.τ).loc Cert.ReferenceFwdIdeal.main_v53) = v4 c
          ∧ r.2.mem ((c.tc : Thread Cert.ReferenceFwdIdeal.nD Cert.ReferenceFwdIdeal.τ).loc Cert.ReferenceFwdIdeal.main_v81) = v5 c
          ∧ r.2.mem ((c.tc : Thread Cert.ReferenceFwdIdeal.nD Cert.ReferenceFwdIdeal.τ).loc Cert.ReferenceFwdIdeal.main_v87) = v6 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6)
          ∧ r.2.mem ((c.tc : Thread Cert.ReferenceFwdIdeal.nD Cert.ReferenceFwdIdeal.τ).loc Cert.ReferenceFwdIdeal.main_arg7) = m' ((c.tc : Thread Cert.ReferenceFwdIdeal.nD Cert.ReferenceFwdIdeal.τ).loc Cert.ReferenceFwdIdeal.main_arg7))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)
      ∧ m' ((c.tc : Thread Cert.ReferenceAdamUpIdeal.nD Cert.ReferenceAdamUpIdeal.τ).loc Cert.ReferenceAdamUpIdeal.main_arg4) = m ((c.tc : Thread Cert.KernelAdamUpIdeal.nD Cert.KernelAdamUpIdeal.τ).loc Cert.KernelAdamUpIdeal.main_arg4)
      ∧ m' ((c.tc : Thread Cert.ReferenceAdamUpIdeal.nD Cert.ReferenceAdamUpIdeal.τ).loc Cert.ReferenceAdamUpIdeal.main_arg5) = m ((c.tc : Thread Cert.KernelAdamUpIdeal.nD Cert.KernelAdamUpIdeal.τ).loc Cert.KernelAdamUpIdeal.main_arg5)
      ∧ m' ((c.tc : Thread Cert.ReferenceAdamUpIdeal.nD Cert.ReferenceAdamUpIdeal.τ).loc Cert.ReferenceAdamUpIdeal.main_arg6) = m ((c.tc : Thread Cert.KernelAdamUpIdeal.nD Cert.KernelAdamUpIdeal.τ).loc Cert.KernelAdamUpIdeal.main_arg6)
      ∧ m' ((c.tc : Thread Cert.ReferenceAdamUpIdeal.nD Cert.ReferenceAdamUpIdeal.τ).loc Cert.ReferenceAdamUpIdeal.main_arg7) = m ((c.tc : Thread Cert.KernelAdamUpIdeal.nD Cert.KernelAdamUpIdeal.τ).loc Cert.KernelAdamUpIdeal.main_arg7)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_2)) (v2 : (c : Dev Cert.KernelAdamUpIdeal.nD) → Buf (Elt Ideal) ((c.tc : Thread Cert.KernelAdamUpIdeal.nD Cert.KernelAdamUpIdeal.τ).loc Cert.KernelAdamUpIdeal.main_v0_4)) (v3 : (c : Dev Cert.KernelAdamUpIdeal.nD) → Buf (Elt Ideal) ((c.tc : Thread Cert.KernelAdamUpIdeal.nD Cert.KernelAdamUpIdeal.τ).loc Cert.KernelAdamUpIdeal.main_v0_6)) (v4 : (c : Dev Cert.KernelAdamUpIdeal.nD) → Buf (Elt Ideal) ((c.tc : Thread Cert.KernelAdamUpIdeal.nD Cert.KernelAdamUpIdeal.τ).loc Cert.KernelAdamUpIdeal.main_v0_1)) (v5 : (c : Dev Cert.KernelAdamUpIdeal.nD) → Buf (Elt Ideal) ((c.tc : Thread Cert.KernelAdamUpIdeal.nD Cert.KernelAdamUpIdeal.τ).loc Cert.KernelAdamUpIdeal.main_v0_3)) (v6 : (c : Dev Cert.KernelAdamUpIdeal.nD) → Buf (Elt Ideal) ((c.tc : Thread Cert.KernelAdamUpIdeal.nD Cert.KernelAdamUpIdeal.τ).loc Cert.KernelAdamUpIdeal.main_v0_5)) (v7 : (c : Dev Cert.KernelAdamUpIdeal.nD) → Buf (Elt Ideal) ((c.tc : Thread Cert.KernelAdamUpIdeal.nD Cert.KernelAdamUpIdeal.τ).loc Cert.KernelAdamUpIdeal.main_v0_7)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_2) = v1 c
          ∧ r.2.mem ((c.tc : Thread Cert.KernelAdamUpIdeal.nD Cert.KernelAdamUpIdeal.τ).loc Cert.KernelAdamUpIdeal.main_v0_4) = v2 c
          ∧ r.2.mem ((c.tc : Thread Cert.KernelAdamUpIdeal.nD Cert.KernelAdamUpIdeal.τ).loc Cert.KernelAdamUpIdeal.main_v0_6) = v3 c
          ∧ r.2.mem ((c.tc : Thread Cert.KernelAdamUpIdeal.nD Cert.KernelAdamUpIdeal.τ).loc Cert.KernelAdamUpIdeal.main_v0_1) = v4 c
          ∧ r.2.mem ((c.tc : Thread Cert.KernelAdamUpIdeal.nD Cert.KernelAdamUpIdeal.τ).loc Cert.KernelAdamUpIdeal.main_v0_3) = v5 c
          ∧ r.2.mem ((c.tc : Thread Cert.KernelAdamUpIdeal.nD Cert.KernelAdamUpIdeal.τ).loc Cert.KernelAdamUpIdeal.main_v0_5) = v6 c
          ∧ r.2.mem ((c.tc : Thread Cert.KernelAdamUpIdeal.nD Cert.KernelAdamUpIdeal.τ).loc Cert.KernelAdamUpIdeal.main_v0_7) = v7 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
          ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4)
          ∧ r.2.mem ((c.tc : Thread Cert.KernelAdamUpIdeal.nD Cert.KernelAdamUpIdeal.τ).loc Cert.KernelAdamUpIdeal.main_arg5) = m ((c.tc : Thread Cert.KernelAdamUpIdeal.nD Cert.KernelAdamUpIdeal.τ).loc Cert.KernelAdamUpIdeal.main_arg5)
          ∧ r.2.mem ((c.tc : Thread Cert.KernelAdamUpIdeal.nD Cert.KernelAdamUpIdeal.τ).loc Cert.KernelAdamUpIdeal.main_arg6) = m ((c.tc : Thread Cert.KernelAdamUpIdeal.nD Cert.KernelAdamUpIdeal.τ).loc Cert.KernelAdamUpIdeal.main_arg6)
          ∧ r.2.mem ((c.tc : Thread Cert.KernelAdamUpIdeal.nD Cert.KernelAdamUpIdeal.τ).loc Cert.KernelAdamUpIdeal.main_arg7) = m ((c.tc : Thread Cert.KernelAdamUpIdeal.nD Cert.KernelAdamUpIdeal.τ).loc Cert.KernelAdamUpIdeal.main_arg7))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v23) = v0 c
          ∧ r.2.mem ((c.tc : Thread Cert.ReferenceAdamUpIdeal.nD Cert.ReferenceAdamUpIdeal.τ).loc Cert.ReferenceAdamUpIdeal.main_v4) = v1 c
          ∧ r.2.mem ((c.tc : Thread Cert.ReferenceAdamUpIdeal.nD Cert.ReferenceAdamUpIdeal.τ).loc Cert.ReferenceAdamUpIdeal.main_v10) = v2 c
          ∧ r.2.mem ((c.tc : Thread Cert.ReferenceAdamUpIdeal.nD Cert.ReferenceAdamUpIdeal.τ).loc Cert.ReferenceAdamUpIdeal.main_arg2) = v3 c
          ∧ r.2.mem ((c.tc : Thread Cert.ReferenceAdamUpIdeal.nD Cert.ReferenceAdamUpIdeal.τ).loc Cert.ReferenceAdamUpIdeal.main_v47) = v4 c
          ∧ r.2.mem ((c.tc : Thread Cert.ReferenceAdamUpIdeal.nD Cert.ReferenceAdamUpIdeal.τ).loc Cert.ReferenceAdamUpIdeal.main_v28) = v5 c
          ∧ r.2.mem ((c.tc : Thread Cert.ReferenceAdamUpIdeal.nD Cert.ReferenceAdamUpIdeal.τ).loc Cert.ReferenceAdamUpIdeal.main_v34) = v6 c
          ∧ r.2.mem ((c.tc : Thread Cert.ReferenceAdamUpIdeal.nD Cert.ReferenceAdamUpIdeal.τ).loc Cert.ReferenceAdamUpIdeal.main_arg3) = v7 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3)
          ∧ r.2.mem ((c.tc : Thread Cert.ReferenceAdamUpIdeal.nD Cert.ReferenceAdamUpIdeal.τ).loc Cert.ReferenceAdamUpIdeal.main_arg4) = m' ((c.tc : Thread Cert.ReferenceAdamUpIdeal.nD Cert.ReferenceAdamUpIdeal.τ).loc Cert.ReferenceAdamUpIdeal.main_arg4)
          ∧ r.2.mem ((c.tc : Thread Cert.ReferenceAdamUpIdeal.nD Cert.ReferenceAdamUpIdeal.τ).loc Cert.ReferenceAdamUpIdeal.main_arg5) = m' ((c.tc : Thread Cert.ReferenceAdamUpIdeal.nD Cert.ReferenceAdamUpIdeal.τ).loc Cert.ReferenceAdamUpIdeal.main_arg5)
          ∧ r.2.mem ((c.tc : Thread Cert.ReferenceAdamUpIdeal.nD Cert.ReferenceAdamUpIdeal.τ).loc Cert.ReferenceAdamUpIdeal.main_arg6) = m' ((c.tc : Thread Cert.ReferenceAdamUpIdeal.nD Cert.ReferenceAdamUpIdeal.τ).loc Cert.ReferenceAdamUpIdeal.main_arg6)
          ∧ r.2.mem ((c.tc : Thread Cert.ReferenceAdamUpIdeal.nD Cert.ReferenceAdamUpIdeal.τ).loc Cert.ReferenceAdamUpIdeal.main_arg7) = m' ((c.tc : Thread Cert.ReferenceAdamUpIdeal.nD Cert.ReferenceAdamUpIdeal.τ).loc Cert.ReferenceAdamUpIdeal.main_arg7))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)
      ∧ m' ((c.tc : Thread Cert.ReferenceAdamInIdeal.nD Cert.ReferenceAdamInIdeal.τ).loc Cert.ReferenceAdamInIdeal.main_arg5) = m ((c.tc : Thread Cert.KernelAdamInIdeal.nD Cert.KernelAdamInIdeal.τ).loc Cert.KernelAdamInIdeal.main_arg5)
      ∧ m' ((c.tc : Thread Cert.ReferenceAdamInIdeal.nD Cert.ReferenceAdamInIdeal.τ).loc Cert.ReferenceAdamInIdeal.main_arg6) = m ((c.tc : Thread Cert.KernelAdamInIdeal.nD Cert.KernelAdamInIdeal.τ).loc Cert.KernelAdamInIdeal.main_arg6)
      ∧ m' ((c.tc : Thread Cert.ReferenceAdamInIdeal.nD Cert.ReferenceAdamInIdeal.τ).loc Cert.ReferenceAdamInIdeal.main_arg7) = m ((c.tc : Thread Cert.KernelAdamInIdeal.nD Cert.KernelAdamInIdeal.τ).loc Cert.KernelAdamInIdeal.main_arg7)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_2)) (v2 : (c : Dev Cert.KernelAdamInIdeal.nD) → Buf (Elt Ideal) ((c.tc : Thread Cert.KernelAdamInIdeal.nD Cert.KernelAdamInIdeal.τ).loc Cert.KernelAdamInIdeal.main_v0_4)) (v3 : (c : Dev Cert.KernelAdamInIdeal.nD) → Buf (Elt Ideal) ((c.tc : Thread Cert.KernelAdamInIdeal.nD Cert.KernelAdamInIdeal.τ).loc Cert.KernelAdamInIdeal.main_v0_6)) (v4 : (c : Dev Cert.KernelAdamInIdeal.nD) → Buf (Elt Ideal) ((c.tc : Thread Cert.KernelAdamInIdeal.nD Cert.KernelAdamInIdeal.τ).loc Cert.KernelAdamInIdeal.main_v0_1)) (v5 : (c : Dev Cert.KernelAdamInIdeal.nD) → Buf (Elt Ideal) ((c.tc : Thread Cert.KernelAdamInIdeal.nD Cert.KernelAdamInIdeal.τ).loc Cert.KernelAdamInIdeal.main_v0_3)) (v6 : (c : Dev Cert.KernelAdamInIdeal.nD) → Buf (Elt Ideal) ((c.tc : Thread Cert.KernelAdamInIdeal.nD Cert.KernelAdamInIdeal.τ).loc Cert.KernelAdamInIdeal.main_v0_5)) (v7 : (c : Dev Cert.KernelAdamInIdeal.nD) → Buf (Elt Ideal) ((c.tc : Thread Cert.KernelAdamInIdeal.nD Cert.KernelAdamInIdeal.τ).loc Cert.KernelAdamInIdeal.main_v0_7)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_2) = v1 c
          ∧ r.2.mem ((c.tc : Thread Cert.KernelAdamInIdeal.nD Cert.KernelAdamInIdeal.τ).loc Cert.KernelAdamInIdeal.main_v0_4) = v2 c
          ∧ r.2.mem ((c.tc : Thread Cert.KernelAdamInIdeal.nD Cert.KernelAdamInIdeal.τ).loc Cert.KernelAdamInIdeal.main_v0_6) = v3 c
          ∧ r.2.mem ((c.tc : Thread Cert.KernelAdamInIdeal.nD Cert.KernelAdamInIdeal.τ).loc Cert.KernelAdamInIdeal.main_v0_1) = v4 c
          ∧ r.2.mem ((c.tc : Thread Cert.KernelAdamInIdeal.nD Cert.KernelAdamInIdeal.τ).loc Cert.KernelAdamInIdeal.main_v0_3) = v5 c
          ∧ r.2.mem ((c.tc : Thread Cert.KernelAdamInIdeal.nD Cert.KernelAdamInIdeal.τ).loc Cert.KernelAdamInIdeal.main_v0_5) = v6 c
          ∧ r.2.mem ((c.tc : Thread Cert.KernelAdamInIdeal.nD Cert.KernelAdamInIdeal.τ).loc Cert.KernelAdamInIdeal.main_v0_7) = v7 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
          ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5)
          ∧ r.2.mem ((c.tc : Thread Cert.KernelAdamInIdeal.nD Cert.KernelAdamInIdeal.τ).loc Cert.KernelAdamInIdeal.main_arg6) = m ((c.tc : Thread Cert.KernelAdamInIdeal.nD Cert.KernelAdamInIdeal.τ).loc Cert.KernelAdamInIdeal.main_arg6)
          ∧ r.2.mem ((c.tc : Thread Cert.KernelAdamInIdeal.nD Cert.KernelAdamInIdeal.τ).loc Cert.KernelAdamInIdeal.main_arg7) = m ((c.tc : Thread Cert.KernelAdamInIdeal.nD Cert.KernelAdamInIdeal.τ).loc Cert.KernelAdamInIdeal.main_arg7))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg2) = v3 c
          ∧ r.2.mem ((c.tc : Thread Cert.ReferenceAdamInIdeal.nD Cert.ReferenceAdamInIdeal.τ).loc Cert.ReferenceAdamInIdeal.main_v47) = v4 c
          ∧ r.2.mem ((c.tc : Thread Cert.ReferenceAdamInIdeal.nD Cert.ReferenceAdamInIdeal.τ).loc Cert.ReferenceAdamInIdeal.main_v28) = v5 c
          ∧ r.2.mem ((c.tc : Thread Cert.ReferenceAdamInIdeal.nD Cert.ReferenceAdamInIdeal.τ).loc Cert.ReferenceAdamInIdeal.main_v34) = v6 c
          ∧ r.2.mem ((c.tc : Thread Cert.ReferenceAdamInIdeal.nD Cert.ReferenceAdamInIdeal.τ).loc Cert.ReferenceAdamInIdeal.main_arg3) = v7 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4)
          ∧ r.2.mem ((c.tc : Thread Cert.ReferenceAdamInIdeal.nD Cert.ReferenceAdamInIdeal.τ).loc Cert.ReferenceAdamInIdeal.main_arg5) = m' ((c.tc : Thread Cert.ReferenceAdamInIdeal.nD Cert.ReferenceAdamInIdeal.τ).loc Cert.ReferenceAdamInIdeal.main_arg5)
          ∧ r.2.mem ((c.tc : Thread Cert.ReferenceAdamInIdeal.nD Cert.ReferenceAdamInIdeal.τ).loc Cert.ReferenceAdamInIdeal.main_arg6) = m' ((c.tc : Thread Cert.ReferenceAdamInIdeal.nD Cert.ReferenceAdamInIdeal.τ).loc Cert.ReferenceAdamInIdeal.main_arg6)
          ∧ r.2.mem ((c.tc : Thread Cert.ReferenceAdamInIdeal.nD Cert.ReferenceAdamInIdeal.τ).loc Cert.ReferenceAdamInIdeal.main_arg7) = m' ((c.tc : Thread Cert.ReferenceAdamInIdeal.nD Cert.ReferenceAdamInIdeal.τ).loc Cert.ReferenceAdamInIdeal.main_arg7))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)
      ∧ m' ((c.tc : Thread Cert.ReferenceAdamSmallIdeal.nD Cert.ReferenceAdamSmallIdeal.τ).loc Cert.ReferenceAdamSmallIdeal.main_arg4) = m ((c.tc : Thread Cert.KernelAdamSmallIdeal.nD Cert.KernelAdamSmallIdeal.τ).loc Cert.KernelAdamSmallIdeal.main_arg4)
      ∧ m' ((c.tc : Thread Cert.ReferenceAdamSmallIdeal.nD Cert.ReferenceAdamSmallIdeal.τ).loc Cert.ReferenceAdamSmallIdeal.main_arg5) = m ((c.tc : Thread Cert.KernelAdamSmallIdeal.nD Cert.KernelAdamSmallIdeal.τ).loc Cert.KernelAdamSmallIdeal.main_arg5)
      ∧ m' ((c.tc : Thread Cert.ReferenceAdamSmallIdeal.nD Cert.ReferenceAdamSmallIdeal.τ).loc Cert.ReferenceAdamSmallIdeal.main_arg6) = m ((c.tc : Thread Cert.KernelAdamSmallIdeal.nD Cert.KernelAdamSmallIdeal.τ).loc Cert.KernelAdamSmallIdeal.main_arg6)
      ∧ m' ((c.tc : Thread Cert.ReferenceAdamSmallIdeal.nD Cert.ReferenceAdamSmallIdeal.τ).loc Cert.ReferenceAdamSmallIdeal.main_arg7) = m ((c.tc : Thread Cert.KernelAdamSmallIdeal.nD Cert.KernelAdamSmallIdeal.τ).loc Cert.KernelAdamSmallIdeal.main_arg7)
      ∧ m' ((c.tc : Thread Cert.ReferenceAdamSmallIdeal.nD Cert.ReferenceAdamSmallIdeal.τ).loc Cert.ReferenceAdamSmallIdeal.main_arg8) = m ((c.tc : Thread Cert.KernelAdamSmallIdeal.nD Cert.KernelAdamSmallIdeal.τ).loc Cert.KernelAdamSmallIdeal.main_arg8)
      ∧ m' ((c.tc : Thread Cert.ReferenceAdamSmallIdeal.nD Cert.ReferenceAdamSmallIdeal.τ).loc Cert.ReferenceAdamSmallIdeal.main_arg9) = m ((c.tc : Thread Cert.KernelAdamSmallIdeal.nD Cert.KernelAdamSmallIdeal.τ).loc Cert.KernelAdamSmallIdeal.main_arg9)
      ∧ m' ((c.tc : Thread Cert.ReferenceAdamSmallIdeal.nD Cert.ReferenceAdamSmallIdeal.τ).loc Cert.ReferenceAdamSmallIdeal.main_arg10) = m ((c.tc : Thread Cert.KernelAdamSmallIdeal.nD Cert.KernelAdamSmallIdeal.τ).loc Cert.KernelAdamSmallIdeal.main_arg10)
      ∧ m' ((c.tc : Thread Cert.ReferenceAdamSmallIdeal.nD Cert.ReferenceAdamSmallIdeal.τ).loc Cert.ReferenceAdamSmallIdeal.main_arg11) = m ((c.tc : Thread Cert.KernelAdamSmallIdeal.nD Cert.KernelAdamSmallIdeal.τ).loc Cert.KernelAdamSmallIdeal.main_arg11)
      ∧ m' ((c.tc : Thread Cert.ReferenceAdamSmallIdeal.nD Cert.ReferenceAdamSmallIdeal.τ).loc Cert.ReferenceAdamSmallIdeal.main_arg12) = m ((c.tc : Thread Cert.KernelAdamSmallIdeal.nD Cert.KernelAdamSmallIdeal.τ).loc Cert.KernelAdamSmallIdeal.main_arg12)
      ∧ m' ((c.tc : Thread Cert.ReferenceAdamSmallIdeal.nD Cert.ReferenceAdamSmallIdeal.τ).loc Cert.ReferenceAdamSmallIdeal.main_arg13) = m ((c.tc : Thread Cert.KernelAdamSmallIdeal.nD Cert.KernelAdamSmallIdeal.τ).loc Cert.KernelAdamSmallIdeal.main_arg13)
      ∧ m' ((c.tc : Thread Cert.ReferenceAdamSmallIdeal.nD Cert.ReferenceAdamSmallIdeal.τ).loc Cert.ReferenceAdamSmallIdeal.main_arg14) = m ((c.tc : Thread Cert.KernelAdamSmallIdeal.nD Cert.KernelAdamSmallIdeal.τ).loc Cert.KernelAdamSmallIdeal.main_arg14)
      ∧ m' ((c.tc : Thread Cert.ReferenceAdamSmallIdeal.nD Cert.ReferenceAdamSmallIdeal.τ).loc Cert.ReferenceAdamSmallIdeal.main_arg15) = m ((c.tc : Thread Cert.KernelAdamSmallIdeal.nD Cert.KernelAdamSmallIdeal.τ).loc Cert.KernelAdamSmallIdeal.main_arg15)
      ∧ m' ((c.tc : Thread Cert.ReferenceAdamSmallIdeal.nD Cert.ReferenceAdamSmallIdeal.τ).loc Cert.ReferenceAdamSmallIdeal.main_arg16) = m ((c.tc : Thread Cert.KernelAdamSmallIdeal.nD Cert.KernelAdamSmallIdeal.τ).loc Cert.KernelAdamSmallIdeal.main_arg16)
      ∧ m' ((c.tc : Thread Cert.ReferenceAdamSmallIdeal.nD Cert.ReferenceAdamSmallIdeal.τ).loc Cert.ReferenceAdamSmallIdeal.main_arg17) = m ((c.tc : Thread Cert.KernelAdamSmallIdeal.nD Cert.KernelAdamSmallIdeal.τ).loc Cert.KernelAdamSmallIdeal.main_arg17)
      ∧ m' ((c.tc : Thread Cert.ReferenceAdamSmallIdeal.nD Cert.ReferenceAdamSmallIdeal.τ).loc Cert.ReferenceAdamSmallIdeal.main_arg18) = m ((c.tc : Thread Cert.KernelAdamSmallIdeal.nD Cert.KernelAdamSmallIdeal.τ).loc Cert.KernelAdamSmallIdeal.main_arg18)
      ∧ m' ((c.tc : Thread Cert.ReferenceAdamSmallIdeal.nD Cert.ReferenceAdamSmallIdeal.τ).loc Cert.ReferenceAdamSmallIdeal.main_arg19) = m ((c.tc : Thread Cert.KernelAdamSmallIdeal.nD Cert.KernelAdamSmallIdeal.τ).loc Cert.KernelAdamSmallIdeal.main_arg19)
      ∧ m' ((c.tc : Thread Cert.ReferenceAdamSmallIdeal.nD Cert.ReferenceAdamSmallIdeal.τ).loc Cert.ReferenceAdamSmallIdeal.main_arg20) = m ((c.tc : Thread Cert.KernelAdamSmallIdeal.nD Cert.KernelAdamSmallIdeal.τ).loc Cert.KernelAdamSmallIdeal.main_arg20)
      ∧ m' ((c.tc : Thread Cert.ReferenceAdamSmallIdeal.nD Cert.ReferenceAdamSmallIdeal.τ).loc Cert.ReferenceAdamSmallIdeal.main_arg21) = m ((c.tc : Thread Cert.KernelAdamSmallIdeal.nD Cert.KernelAdamSmallIdeal.τ).loc Cert.KernelAdamSmallIdeal.main_arg21)
      ∧ m' ((c.tc : Thread Cert.ReferenceAdamSmallIdeal.nD Cert.ReferenceAdamSmallIdeal.τ).loc Cert.ReferenceAdamSmallIdeal.main_arg22) = m ((c.tc : Thread Cert.KernelAdamSmallIdeal.nD Cert.KernelAdamSmallIdeal.τ).loc Cert.KernelAdamSmallIdeal.main_arg22)
      ∧ m' ((c.tc : Thread Cert.ReferenceAdamSmallIdeal.nD Cert.ReferenceAdamSmallIdeal.τ).loc Cert.ReferenceAdamSmallIdeal.main_arg23) = m ((c.tc : Thread Cert.KernelAdamSmallIdeal.nD Cert.KernelAdamSmallIdeal.τ).loc Cert.KernelAdamSmallIdeal.main_arg23)
      ∧ m' ((c.tc : Thread Cert.ReferenceAdamSmallIdeal.nD Cert.ReferenceAdamSmallIdeal.τ).loc Cert.ReferenceAdamSmallIdeal.main_arg24) = m ((c.tc : Thread Cert.KernelAdamSmallIdeal.nD Cert.KernelAdamSmallIdeal.τ).loc Cert.KernelAdamSmallIdeal.main_arg24)
      ∧ m' ((c.tc : Thread Cert.ReferenceAdamSmallIdeal.nD Cert.ReferenceAdamSmallIdeal.τ).loc Cert.ReferenceAdamSmallIdeal.main_arg25) = m ((c.tc : Thread Cert.KernelAdamSmallIdeal.nD Cert.KernelAdamSmallIdeal.τ).loc Cert.KernelAdamSmallIdeal.main_arg25)
      ∧ m' ((c.tc : Thread Cert.ReferenceAdamSmallIdeal.nD Cert.ReferenceAdamSmallIdeal.τ).loc Cert.ReferenceAdamSmallIdeal.main_arg26) = m ((c.tc : Thread Cert.KernelAdamSmallIdeal.nD Cert.KernelAdamSmallIdeal.τ).loc Cert.KernelAdamSmallIdeal.main_arg26)
      ∧ m' ((c.tc : Thread Cert.ReferenceAdamSmallIdeal.nD Cert.ReferenceAdamSmallIdeal.τ).loc Cert.ReferenceAdamSmallIdeal.main_arg27) = m ((c.tc : Thread Cert.KernelAdamSmallIdeal.nD Cert.KernelAdamSmallIdeal.τ).loc Cert.KernelAdamSmallIdeal.main_arg27)
      ∧ m' ((c.tc : Thread Cert.ReferenceAdamSmallIdeal.nD Cert.ReferenceAdamSmallIdeal.τ).loc Cert.ReferenceAdamSmallIdeal.main_arg28) = m ((c.tc : Thread Cert.KernelAdamSmallIdeal.nD Cert.KernelAdamSmallIdeal.τ).loc Cert.KernelAdamSmallIdeal.main_arg28)
      ∧ m' ((c.tc : Thread Cert.ReferenceAdamSmallIdeal.nD Cert.ReferenceAdamSmallIdeal.τ).loc Cert.ReferenceAdamSmallIdeal.main_arg29) = m ((c.tc : Thread Cert.KernelAdamSmallIdeal.nD Cert.KernelAdamSmallIdeal.τ).loc Cert.KernelAdamSmallIdeal.main_arg29)
      ∧ m' ((c.tc : Thread Cert.ReferenceAdamSmallIdeal.nD Cert.ReferenceAdamSmallIdeal.τ).loc Cert.ReferenceAdamSmallIdeal.main_arg30) = m ((c.tc : Thread Cert.KernelAdamSmallIdeal.nD Cert.KernelAdamSmallIdeal.τ).loc Cert.KernelAdamSmallIdeal.main_arg30)
      ∧ m' ((c.tc : Thread Cert.ReferenceAdamSmallIdeal.nD Cert.ReferenceAdamSmallIdeal.τ).loc Cert.ReferenceAdamSmallIdeal.main_arg31) = m ((c.tc : Thread Cert.KernelAdamSmallIdeal.nD Cert.KernelAdamSmallIdeal.τ).loc Cert.KernelAdamSmallIdeal.main_arg31)
      ∧ m' ((c.tc : Thread Cert.ReferenceAdamSmallIdeal.nD Cert.ReferenceAdamSmallIdeal.τ).loc Cert.ReferenceAdamSmallIdeal.main_arg32) = m ((c.tc : Thread Cert.KernelAdamSmallIdeal.nD Cert.KernelAdamSmallIdeal.τ).loc Cert.KernelAdamSmallIdeal.main_arg32)
      ∧ m' ((c.tc : Thread Cert.ReferenceAdamSmallIdeal.nD Cert.ReferenceAdamSmallIdeal.τ).loc Cert.ReferenceAdamSmallIdeal.main_arg33) = m ((c.tc : Thread Cert.KernelAdamSmallIdeal.nD Cert.KernelAdamSmallIdeal.τ).loc Cert.KernelAdamSmallIdeal.main_arg33)
      ∧ m' ((c.tc : Thread Cert.ReferenceAdamSmallIdeal.nD Cert.ReferenceAdamSmallIdeal.τ).loc Cert.ReferenceAdamSmallIdeal.main_arg34) = m ((c.tc : Thread Cert.KernelAdamSmallIdeal.nD Cert.KernelAdamSmallIdeal.τ).loc Cert.KernelAdamSmallIdeal.main_arg34)
      ∧ m' ((c.tc : Thread Cert.ReferenceAdamSmallIdeal.nD Cert.ReferenceAdamSmallIdeal.τ).loc Cert.ReferenceAdamSmallIdeal.main_arg35) = m ((c.tc : Thread Cert.KernelAdamSmallIdeal.nD Cert.KernelAdamSmallIdeal.τ).loc Cert.KernelAdamSmallIdeal.main_arg35)
      ∧ m' ((c.tc : Thread Cert.ReferenceAdamSmallIdeal.nD Cert.ReferenceAdamSmallIdeal.τ).loc Cert.ReferenceAdamSmallIdeal.main_arg36) = m ((c.tc : Thread Cert.KernelAdamSmallIdeal.nD Cert.KernelAdamSmallIdeal.τ).loc Cert.KernelAdamSmallIdeal.main_arg36)
      ∧ m' ((c.tc : Thread Cert.ReferenceAdamSmallIdeal.nD Cert.ReferenceAdamSmallIdeal.τ).loc Cert.ReferenceAdamSmallIdeal.main_arg37) = m ((c.tc : Thread Cert.KernelAdamSmallIdeal.nD Cert.KernelAdamSmallIdeal.τ).loc Cert.KernelAdamSmallIdeal.main_arg37)
      ∧ m' ((c.tc : Thread Cert.ReferenceAdamSmallIdeal.nD Cert.ReferenceAdamSmallIdeal.τ).loc Cert.ReferenceAdamSmallIdeal.main_arg38) = m ((c.tc : Thread Cert.KernelAdamSmallIdeal.nD Cert.KernelAdamSmallIdeal.τ).loc Cert.KernelAdamSmallIdeal.main_arg38)
      ∧ m' ((c.tc : Thread Cert.ReferenceAdamSmallIdeal.nD Cert.ReferenceAdamSmallIdeal.τ).loc Cert.ReferenceAdamSmallIdeal.main_arg39) = m ((c.tc : Thread Cert.KernelAdamSmallIdeal.nD Cert.KernelAdamSmallIdeal.τ).loc Cert.KernelAdamSmallIdeal.main_arg39)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)) (v3 : (c : Dev Cert.KernelAdamSmallIdeal.nD) → Buf (Elt Ideal) ((c.tc : Thread Cert.KernelAdamSmallIdeal.nD Cert.KernelAdamSmallIdeal.τ).loc Cert.KernelAdamSmallIdeal.main_v0_3)) (v4 : (c : Dev Cert.KernelAdamSmallIdeal.nD) → Buf (Elt Ideal) ((c.tc : Thread Cert.KernelAdamSmallIdeal.nD Cert.KernelAdamSmallIdeal.τ).loc Cert.KernelAdamSmallIdeal.main_v0_4)) (v5 : (c : Dev Cert.KernelAdamSmallIdeal.nD) → Buf (Elt Ideal) ((c.tc : Thread Cert.KernelAdamSmallIdeal.nD Cert.KernelAdamSmallIdeal.τ).loc Cert.KernelAdamSmallIdeal.main_v0_5)) (v6 : (c : Dev Cert.KernelAdamSmallIdeal.nD) → Buf (Elt Ideal) ((c.tc : Thread Cert.KernelAdamSmallIdeal.nD Cert.KernelAdamSmallIdeal.τ).loc Cert.KernelAdamSmallIdeal.main_v0_6)) (v7 : (c : Dev Cert.KernelAdamSmallIdeal.nD) → Buf (Elt Ideal) ((c.tc : Thread Cert.KernelAdamSmallIdeal.nD Cert.KernelAdamSmallIdeal.τ).loc Cert.KernelAdamSmallIdeal.main_v0_7)) (v8 : (c : Dev Cert.KernelAdamSmallIdeal.nD) → Buf (Elt Ideal) ((c.tc : Thread Cert.KernelAdamSmallIdeal.nD Cert.KernelAdamSmallIdeal.τ).loc Cert.KernelAdamSmallIdeal.main_v0_8)) (v9 : (c : Dev Cert.KernelAdamSmallIdeal.nD) → Buf (Elt Ideal) ((c.tc : Thread Cert.KernelAdamSmallIdeal.nD Cert.KernelAdamSmallIdeal.τ).loc Cert.KernelAdamSmallIdeal.main_v0_9)) (v10 : (c : Dev Cert.KernelAdamSmallIdeal.nD) → Buf (Elt Ideal) ((c.tc : Thread Cert.KernelAdamSmallIdeal.nD Cert.KernelAdamSmallIdeal.τ).loc Cert.KernelAdamSmallIdeal.main_v0_10)) (v11 : (c : Dev Cert.KernelAdamSmallIdeal.nD) → Buf (Elt Ideal) ((c.tc : Thread Cert.KernelAdamSmallIdeal.nD Cert.KernelAdamSmallIdeal.τ).loc Cert.KernelAdamSmallIdeal.main_v0_11)) (v12 : (c : Dev Cert.KernelAdamSmallIdeal.nD) → Buf (Elt Ideal) ((c.tc : Thread Cert.KernelAdamSmallIdeal.nD Cert.KernelAdamSmallIdeal.τ).loc Cert.KernelAdamSmallIdeal.main_v0_12)) (v13 : (c : Dev Cert.KernelAdamSmallIdeal.nD) → Buf (Elt Ideal) ((c.tc : Thread Cert.KernelAdamSmallIdeal.nD Cert.KernelAdamSmallIdeal.τ).loc Cert.KernelAdamSmallIdeal.main_v0_13)) (v14 : (c : Dev Cert.KernelAdamSmallIdeal.nD) → Buf (Elt Ideal) ((c.tc : Thread Cert.KernelAdamSmallIdeal.nD Cert.KernelAdamSmallIdeal.τ).loc Cert.KernelAdamSmallIdeal.main_v0_14)) (v15 : (c : Dev Cert.KernelAdamSmallIdeal.nD) → Buf (Elt Ideal) ((c.tc : Thread Cert.KernelAdamSmallIdeal.nD Cert.KernelAdamSmallIdeal.τ).loc Cert.KernelAdamSmallIdeal.main_v0_15)) (v16 : (c : Dev Cert.KernelAdamSmallIdeal.nD) → Buf (Elt Ideal) ((c.tc : Thread Cert.KernelAdamSmallIdeal.nD Cert.KernelAdamSmallIdeal.τ).loc Cert.KernelAdamSmallIdeal.main_v0_16)) (v17 : (c : Dev Cert.KernelAdamSmallIdeal.nD) → Buf (Elt Ideal) ((c.tc : Thread Cert.KernelAdamSmallIdeal.nD Cert.KernelAdamSmallIdeal.τ).loc Cert.KernelAdamSmallIdeal.main_v0_17)) (v18 : (c : Dev Cert.KernelAdamSmallIdeal.nD) → Buf (Elt Ideal) ((c.tc : Thread Cert.KernelAdamSmallIdeal.nD Cert.KernelAdamSmallIdeal.τ).loc Cert.KernelAdamSmallIdeal.main_v0_18)) (v19 : (c : Dev Cert.KernelAdamSmallIdeal.nD) → Buf (Elt Ideal) ((c.tc : Thread Cert.KernelAdamSmallIdeal.nD Cert.KernelAdamSmallIdeal.τ).loc Cert.KernelAdamSmallIdeal.main_v0_19)) (v20 : (c : Dev Cert.KernelAdamSmallIdeal.nD) → Buf (Elt Ideal) ((c.tc : Thread Cert.KernelAdamSmallIdeal.nD Cert.KernelAdamSmallIdeal.τ).loc Cert.KernelAdamSmallIdeal.main_v0_20)) (v21 : (c : Dev Cert.KernelAdamSmallIdeal.nD) → Buf (Elt Ideal) ((c.tc : Thread Cert.KernelAdamSmallIdeal.nD Cert.KernelAdamSmallIdeal.τ).loc Cert.KernelAdamSmallIdeal.main_v0_21)) (v22 : (c : Dev Cert.KernelAdamSmallIdeal.nD) → Buf (Elt Ideal) ((c.tc : Thread Cert.KernelAdamSmallIdeal.nD Cert.KernelAdamSmallIdeal.τ).loc Cert.KernelAdamSmallIdeal.main_v0_22)) (v23 : (c : Dev Cert.KernelAdamSmallIdeal.nD) → Buf (Elt Ideal) ((c.tc : Thread Cert.KernelAdamSmallIdeal.nD Cert.KernelAdamSmallIdeal.τ).loc Cert.KernelAdamSmallIdeal.main_v0_23)) (v24 : (c : Dev Cert.KernelAdamSmallIdeal.nD) → Buf (Elt Ideal) ((c.tc : Thread Cert.KernelAdamSmallIdeal.nD Cert.KernelAdamSmallIdeal.τ).loc Cert.KernelAdamSmallIdeal.main_v0_24)) (v25 : (c : Dev Cert.KernelAdamSmallIdeal.nD) → Buf (Elt Ideal) ((c.tc : Thread Cert.KernelAdamSmallIdeal.nD Cert.KernelAdamSmallIdeal.τ).loc Cert.KernelAdamSmallIdeal.main_v0_25)) (v26 : (c : Dev Cert.KernelAdamSmallIdeal.nD) → Buf (Elt Ideal) ((c.tc : Thread Cert.KernelAdamSmallIdeal.nD Cert.KernelAdamSmallIdeal.τ).loc Cert.KernelAdamSmallIdeal.main_v0_26)) (v27 : (c : Dev Cert.KernelAdamSmallIdeal.nD) → Buf (Elt Ideal) ((c.tc : Thread Cert.KernelAdamSmallIdeal.nD Cert.KernelAdamSmallIdeal.τ).loc Cert.KernelAdamSmallIdeal.main_v0_27)) (v28 : (c : Dev Cert.KernelAdamSmallIdeal.nD) → Buf (Elt Ideal) ((c.tc : Thread Cert.KernelAdamSmallIdeal.nD Cert.KernelAdamSmallIdeal.τ).loc Cert.KernelAdamSmallIdeal.main_v0_28)) (v29 : (c : Dev Cert.KernelAdamSmallIdeal.nD) → Buf (Elt Ideal) ((c.tc : Thread Cert.KernelAdamSmallIdeal.nD Cert.KernelAdamSmallIdeal.τ).loc Cert.KernelAdamSmallIdeal.main_v0_29)) (v30 : (c : Dev Cert.KernelAdamSmallIdeal.nD) → Buf (Elt Ideal) ((c.tc : Thread Cert.KernelAdamSmallIdeal.nD Cert.KernelAdamSmallIdeal.τ).loc Cert.KernelAdamSmallIdeal.main_v0_30)) (v31 : (c : Dev Cert.KernelAdamSmallIdeal.nD) → Buf (Elt Ideal) ((c.tc : Thread Cert.KernelAdamSmallIdeal.nD Cert.KernelAdamSmallIdeal.τ).loc Cert.KernelAdamSmallIdeal.main_v0_31)) (v32 : (c : Dev Cert.KernelAdamSmallIdeal.nD) → Buf (Elt Ideal) ((c.tc : Thread Cert.KernelAdamSmallIdeal.nD Cert.KernelAdamSmallIdeal.τ).loc Cert.KernelAdamSmallIdeal.main_v0_32)) (v33 : (c : Dev Cert.KernelAdamSmallIdeal.nD) → Buf (Elt Ideal) ((c.tc : Thread Cert.KernelAdamSmallIdeal.nD Cert.KernelAdamSmallIdeal.τ).loc Cert.KernelAdamSmallIdeal.main_v0_33)) (v34 : (c : Dev Cert.KernelAdamSmallIdeal.nD) → Buf (Elt Ideal) ((c.tc : Thread Cert.KernelAdamSmallIdeal.nD Cert.KernelAdamSmallIdeal.τ).loc Cert.KernelAdamSmallIdeal.main_v0_34)) (v35 : (c : Dev Cert.KernelAdamSmallIdeal.nD) → Buf (Elt Ideal) ((c.tc : Thread Cert.KernelAdamSmallIdeal.nD Cert.KernelAdamSmallIdeal.τ).loc Cert.KernelAdamSmallIdeal.main_v0_35)) (v36 : (c : Dev Cert.KernelAdamSmallIdeal.nD) → Buf (Elt Ideal) ((c.tc : Thread Cert.KernelAdamSmallIdeal.nD Cert.KernelAdamSmallIdeal.τ).loc Cert.KernelAdamSmallIdeal.main_v0_36)) (v37 : (c : Dev Cert.KernelAdamSmallIdeal.nD) → Buf (Elt Ideal) ((c.tc : Thread Cert.KernelAdamSmallIdeal.nD Cert.KernelAdamSmallIdeal.τ).loc Cert.KernelAdamSmallIdeal.main_v0_37)) (v38 : (c : Dev Cert.KernelAdamSmallIdeal.nD) → Buf (Elt Ideal) ((c.tc : Thread Cert.KernelAdamSmallIdeal.nD Cert.KernelAdamSmallIdeal.τ).loc Cert.KernelAdamSmallIdeal.main_v0_38)) (v39 : (c : Dev Cert.KernelAdamSmallIdeal.nD) → Buf (Elt Ideal) ((c.tc : Thread Cert.KernelAdamSmallIdeal.nD Cert.KernelAdamSmallIdeal.τ).loc Cert.KernelAdamSmallIdeal.main_v0_39)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_v0_3) = v3 c
          ∧ r.2.mem ((c.tc : Thread Cert.KernelAdamSmallIdeal.nD Cert.KernelAdamSmallIdeal.τ).loc Cert.KernelAdamSmallIdeal.main_v0_4) = v4 c
          ∧ r.2.mem ((c.tc : Thread Cert.KernelAdamSmallIdeal.nD Cert.KernelAdamSmallIdeal.τ).loc Cert.KernelAdamSmallIdeal.main_v0_5) = v5 c
          ∧ r.2.mem ((c.tc : Thread Cert.KernelAdamSmallIdeal.nD Cert.KernelAdamSmallIdeal.τ).loc Cert.KernelAdamSmallIdeal.main_v0_6) = v6 c
          ∧ r.2.mem ((c.tc : Thread Cert.KernelAdamSmallIdeal.nD Cert.KernelAdamSmallIdeal.τ).loc Cert.KernelAdamSmallIdeal.main_v0_7) = v7 c
          ∧ r.2.mem ((c.tc : Thread Cert.KernelAdamSmallIdeal.nD Cert.KernelAdamSmallIdeal.τ).loc Cert.KernelAdamSmallIdeal.main_v0_8) = v8 c
          ∧ r.2.mem ((c.tc : Thread Cert.KernelAdamSmallIdeal.nD Cert.KernelAdamSmallIdeal.τ).loc Cert.KernelAdamSmallIdeal.main_v0_9) = v9 c
          ∧ r.2.mem ((c.tc : Thread Cert.KernelAdamSmallIdeal.nD Cert.KernelAdamSmallIdeal.τ).loc Cert.KernelAdamSmallIdeal.main_v0_10) = v10 c
          ∧ r.2.mem ((c.tc : Thread Cert.KernelAdamSmallIdeal.nD Cert.KernelAdamSmallIdeal.τ).loc Cert.KernelAdamSmallIdeal.main_v0_11) = v11 c
          ∧ r.2.mem ((c.tc : Thread Cert.KernelAdamSmallIdeal.nD Cert.KernelAdamSmallIdeal.τ).loc Cert.KernelAdamSmallIdeal.main_v0_12) = v12 c
          ∧ r.2.mem ((c.tc : Thread Cert.KernelAdamSmallIdeal.nD Cert.KernelAdamSmallIdeal.τ).loc Cert.KernelAdamSmallIdeal.main_v0_13) = v13 c
          ∧ r.2.mem ((c.tc : Thread Cert.KernelAdamSmallIdeal.nD Cert.KernelAdamSmallIdeal.τ).loc Cert.KernelAdamSmallIdeal.main_v0_14) = v14 c
          ∧ r.2.mem ((c.tc : Thread Cert.KernelAdamSmallIdeal.nD Cert.KernelAdamSmallIdeal.τ).loc Cert.KernelAdamSmallIdeal.main_v0_15) = v15 c
          ∧ r.2.mem ((c.tc : Thread Cert.KernelAdamSmallIdeal.nD Cert.KernelAdamSmallIdeal.τ).loc Cert.KernelAdamSmallIdeal.main_v0_16) = v16 c
          ∧ r.2.mem ((c.tc : Thread Cert.KernelAdamSmallIdeal.nD Cert.KernelAdamSmallIdeal.τ).loc Cert.KernelAdamSmallIdeal.main_v0_17) = v17 c
          ∧ r.2.mem ((c.tc : Thread Cert.KernelAdamSmallIdeal.nD Cert.KernelAdamSmallIdeal.τ).loc Cert.KernelAdamSmallIdeal.main_v0_18) = v18 c
          ∧ r.2.mem ((c.tc : Thread Cert.KernelAdamSmallIdeal.nD Cert.KernelAdamSmallIdeal.τ).loc Cert.KernelAdamSmallIdeal.main_v0_19) = v19 c
          ∧ r.2.mem ((c.tc : Thread Cert.KernelAdamSmallIdeal.nD Cert.KernelAdamSmallIdeal.τ).loc Cert.KernelAdamSmallIdeal.main_v0_20) = v20 c
          ∧ r.2.mem ((c.tc : Thread Cert.KernelAdamSmallIdeal.nD Cert.KernelAdamSmallIdeal.τ).loc Cert.KernelAdamSmallIdeal.main_v0_21) = v21 c
          ∧ r.2.mem ((c.tc : Thread Cert.KernelAdamSmallIdeal.nD Cert.KernelAdamSmallIdeal.τ).loc Cert.KernelAdamSmallIdeal.main_v0_22) = v22 c
          ∧ r.2.mem ((c.tc : Thread Cert.KernelAdamSmallIdeal.nD Cert.KernelAdamSmallIdeal.τ).loc Cert.KernelAdamSmallIdeal.main_v0_23) = v23 c
          ∧ r.2.mem ((c.tc : Thread Cert.KernelAdamSmallIdeal.nD Cert.KernelAdamSmallIdeal.τ).loc Cert.KernelAdamSmallIdeal.main_v0_24) = v24 c
          ∧ r.2.mem ((c.tc : Thread Cert.KernelAdamSmallIdeal.nD Cert.KernelAdamSmallIdeal.τ).loc Cert.KernelAdamSmallIdeal.main_v0_25) = v25 c
          ∧ r.2.mem ((c.tc : Thread Cert.KernelAdamSmallIdeal.nD Cert.KernelAdamSmallIdeal.τ).loc Cert.KernelAdamSmallIdeal.main_v0_26) = v26 c
          ∧ r.2.mem ((c.tc : Thread Cert.KernelAdamSmallIdeal.nD Cert.KernelAdamSmallIdeal.τ).loc Cert.KernelAdamSmallIdeal.main_v0_27) = v27 c
          ∧ r.2.mem ((c.tc : Thread Cert.KernelAdamSmallIdeal.nD Cert.KernelAdamSmallIdeal.τ).loc Cert.KernelAdamSmallIdeal.main_v0_28) = v28 c
          ∧ r.2.mem ((c.tc : Thread Cert.KernelAdamSmallIdeal.nD Cert.KernelAdamSmallIdeal.τ).loc Cert.KernelAdamSmallIdeal.main_v0_29) = v29 c
          ∧ r.2.mem ((c.tc : Thread Cert.KernelAdamSmallIdeal.nD Cert.KernelAdamSmallIdeal.τ).loc Cert.KernelAdamSmallIdeal.main_v0_30) = v30 c
          ∧ r.2.mem ((c.tc : Thread Cert.KernelAdamSmallIdeal.nD Cert.KernelAdamSmallIdeal.τ).loc Cert.KernelAdamSmallIdeal.main_v0_31) = v31 c
          ∧ r.2.mem ((c.tc : Thread Cert.KernelAdamSmallIdeal.nD Cert.KernelAdamSmallIdeal.τ).loc Cert.KernelAdamSmallIdeal.main_v0_32) = v32 c
          ∧ r.2.mem ((c.tc : Thread Cert.KernelAdamSmallIdeal.nD Cert.KernelAdamSmallIdeal.τ).loc Cert.KernelAdamSmallIdeal.main_v0_33) = v33 c
          ∧ r.2.mem ((c.tc : Thread Cert.KernelAdamSmallIdeal.nD Cert.KernelAdamSmallIdeal.τ).loc Cert.KernelAdamSmallIdeal.main_v0_34) = v34 c
          ∧ r.2.mem ((c.tc : Thread Cert.KernelAdamSmallIdeal.nD Cert.KernelAdamSmallIdeal.τ).loc Cert.KernelAdamSmallIdeal.main_v0_35) = v35 c
          ∧ r.2.mem ((c.tc : Thread Cert.KernelAdamSmallIdeal.nD Cert.KernelAdamSmallIdeal.τ).loc Cert.KernelAdamSmallIdeal.main_v0_36) = v36 c
          ∧ r.2.mem ((c.tc : Thread Cert.KernelAdamSmallIdeal.nD Cert.KernelAdamSmallIdeal.τ).loc Cert.KernelAdamSmallIdeal.main_v0_37) = v37 c
          ∧ r.2.mem ((c.tc : Thread Cert.KernelAdamSmallIdeal.nD Cert.KernelAdamSmallIdeal.τ).loc Cert.KernelAdamSmallIdeal.main_v0_38) = v38 c
          ∧ r.2.mem ((c.tc : Thread Cert.KernelAdamSmallIdeal.nD Cert.KernelAdamSmallIdeal.τ).loc Cert.KernelAdamSmallIdeal.main_v0_39) = v39 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
          ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
          ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
          ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
          ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
          ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
          ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
          ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
          ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
          ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
          ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
          ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
          ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
          ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
          ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
          ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
          ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
          ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
          ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
          ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
          ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23)
          ∧ r.2.mem ((c.tc : Thread Cert.KernelAdamSmallIdeal.nD Cert.KernelAdamSmallIdeal.τ).loc Cert.KernelAdamSmallIdeal.main_arg24) = m ((c.tc : Thread Cert.KernelAdamSmallIdeal.nD Cert.KernelAdamSmallIdeal.τ).loc Cert.KernelAdamSmallIdeal.main_arg24)
          ∧ r.2.mem ((c.tc : Thread Cert.KernelAdamSmallIdeal.nD Cert.KernelAdamSmallIdeal.τ).loc Cert.KernelAdamSmallIdeal.main_arg25) = m ((c.tc : Thread Cert.KernelAdamSmallIdeal.nD Cert.KernelAdamSmallIdeal.τ).loc Cert.KernelAdamSmallIdeal.main_arg25)
          ∧ r.2.mem ((c.tc : Thread Cert.KernelAdamSmallIdeal.nD Cert.KernelAdamSmallIdeal.τ).loc Cert.KernelAdamSmallIdeal.main_arg26) = m ((c.tc : Thread Cert.KernelAdamSmallIdeal.nD Cert.KernelAdamSmallIdeal.τ).loc Cert.KernelAdamSmallIdeal.main_arg26)
          ∧ r.2.mem ((c.tc : Thread Cert.KernelAdamSmallIdeal.nD Cert.KernelAdamSmallIdeal.τ).loc Cert.KernelAdamSmallIdeal.main_arg27) = m ((c.tc : Thread Cert.KernelAdamSmallIdeal.nD Cert.KernelAdamSmallIdeal.τ).loc Cert.KernelAdamSmallIdeal.main_arg27)
          ∧ r.2.mem ((c.tc : Thread Cert.KernelAdamSmallIdeal.nD Cert.KernelAdamSmallIdeal.τ).loc Cert.KernelAdamSmallIdeal.main_arg28) = m ((c.tc : Thread Cert.KernelAdamSmallIdeal.nD Cert.KernelAdamSmallIdeal.τ).loc Cert.KernelAdamSmallIdeal.main_arg28)
          ∧ r.2.mem ((c.tc : Thread Cert.KernelAdamSmallIdeal.nD Cert.KernelAdamSmallIdeal.τ).loc Cert.KernelAdamSmallIdeal.main_arg29) = m ((c.tc : Thread Cert.KernelAdamSmallIdeal.nD Cert.KernelAdamSmallIdeal.τ).loc Cert.KernelAdamSmallIdeal.main_arg29)
          ∧ r.2.mem ((c.tc : Thread Cert.KernelAdamSmallIdeal.nD Cert.KernelAdamSmallIdeal.τ).loc Cert.KernelAdamSmallIdeal.main_arg30) = m ((c.tc : Thread Cert.KernelAdamSmallIdeal.nD Cert.KernelAdamSmallIdeal.τ).loc Cert.KernelAdamSmallIdeal.main_arg30)
          ∧ r.2.mem ((c.tc : Thread Cert.KernelAdamSmallIdeal.nD Cert.KernelAdamSmallIdeal.τ).loc Cert.KernelAdamSmallIdeal.main_arg31) = m ((c.tc : Thread Cert.KernelAdamSmallIdeal.nD Cert.KernelAdamSmallIdeal.τ).loc Cert.KernelAdamSmallIdeal.main_arg31)
          ∧ r.2.mem ((c.tc : Thread Cert.KernelAdamSmallIdeal.nD Cert.KernelAdamSmallIdeal.τ).loc Cert.KernelAdamSmallIdeal.main_arg32) = m ((c.tc : Thread Cert.KernelAdamSmallIdeal.nD Cert.KernelAdamSmallIdeal.τ).loc Cert.KernelAdamSmallIdeal.main_arg32)
          ∧ r.2.mem ((c.tc : Thread Cert.KernelAdamSmallIdeal.nD Cert.KernelAdamSmallIdeal.τ).loc Cert.KernelAdamSmallIdeal.main_arg33) = m ((c.tc : Thread Cert.KernelAdamSmallIdeal.nD Cert.KernelAdamSmallIdeal.τ).loc Cert.KernelAdamSmallIdeal.main_arg33)
          ∧ r.2.mem ((c.tc : Thread Cert.KernelAdamSmallIdeal.nD Cert.KernelAdamSmallIdeal.τ).loc Cert.KernelAdamSmallIdeal.main_arg34) = m ((c.tc : Thread Cert.KernelAdamSmallIdeal.nD Cert.KernelAdamSmallIdeal.τ).loc Cert.KernelAdamSmallIdeal.main_arg34)
          ∧ r.2.mem ((c.tc : Thread Cert.KernelAdamSmallIdeal.nD Cert.KernelAdamSmallIdeal.τ).loc Cert.KernelAdamSmallIdeal.main_arg35) = m ((c.tc : Thread Cert.KernelAdamSmallIdeal.nD Cert.KernelAdamSmallIdeal.τ).loc Cert.KernelAdamSmallIdeal.main_arg35)
          ∧ r.2.mem ((c.tc : Thread Cert.KernelAdamSmallIdeal.nD Cert.KernelAdamSmallIdeal.τ).loc Cert.KernelAdamSmallIdeal.main_arg36) = m ((c.tc : Thread Cert.KernelAdamSmallIdeal.nD Cert.KernelAdamSmallIdeal.τ).loc Cert.KernelAdamSmallIdeal.main_arg36)
          ∧ r.2.mem ((c.tc : Thread Cert.KernelAdamSmallIdeal.nD Cert.KernelAdamSmallIdeal.τ).loc Cert.KernelAdamSmallIdeal.main_arg37) = m ((c.tc : Thread Cert.KernelAdamSmallIdeal.nD Cert.KernelAdamSmallIdeal.τ).loc Cert.KernelAdamSmallIdeal.main_arg37)
          ∧ r.2.mem ((c.tc : Thread Cert.KernelAdamSmallIdeal.nD Cert.KernelAdamSmallIdeal.τ).loc Cert.KernelAdamSmallIdeal.main_arg38) = m ((c.tc : Thread Cert.KernelAdamSmallIdeal.nD Cert.KernelAdamSmallIdeal.τ).loc Cert.KernelAdamSmallIdeal.main_arg38)
          ∧ r.2.mem ((c.tc : Thread Cert.KernelAdamSmallIdeal.nD Cert.KernelAdamSmallIdeal.τ).loc Cert.KernelAdamSmallIdeal.main_arg39) = m ((c.tc : Thread Cert.KernelAdamSmallIdeal.nD Cert.KernelAdamSmallIdeal.τ).loc Cert.KernelAdamSmallIdeal.main_arg39))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v47) = v1 c
          ∧ r.2.mem ((c.tc : Thread Cert.ReferenceAdamSmallIdeal.nD Cert.ReferenceAdamSmallIdeal.τ).loc Cert.ReferenceAdamSmallIdeal.main_v71) = v2 c
          ∧ r.2.mem ((c.tc : Thread Cert.ReferenceAdamSmallIdeal.nD Cert.ReferenceAdamSmallIdeal.τ).loc Cert.ReferenceAdamSmallIdeal.main_v95) = v3 c
          ∧ r.2.mem ((c.tc : Thread Cert.ReferenceAdamSmallIdeal.nD Cert.ReferenceAdamSmallIdeal.τ).loc Cert.ReferenceAdamSmallIdeal.main_v119) = v4 c
          ∧ r.2.mem ((c.tc : Thread Cert.ReferenceAdamSmallIdeal.nD Cert.ReferenceAdamSmallIdeal.τ).loc Cert.ReferenceAdamSmallIdeal.main_v143) = v5 c
          ∧ r.2.mem ((c.tc : Thread Cert.ReferenceAdamSmallIdeal.nD Cert.ReferenceAdamSmallIdeal.τ).loc Cert.ReferenceAdamSmallIdeal.main_v167) = v6 c
          ∧ r.2.mem ((c.tc : Thread Cert.ReferenceAdamSmallIdeal.nD Cert.ReferenceAdamSmallIdeal.τ).loc Cert.ReferenceAdamSmallIdeal.main_v191) = v7 c
          ∧ r.2.mem ((c.tc : Thread Cert.ReferenceAdamSmallIdeal.nD Cert.ReferenceAdamSmallIdeal.τ).loc Cert.ReferenceAdamSmallIdeal.main_v215) = v8 c
          ∧ r.2.mem ((c.tc : Thread Cert.ReferenceAdamSmallIdeal.nD Cert.ReferenceAdamSmallIdeal.τ).loc Cert.ReferenceAdamSmallIdeal.main_v239) = v9 c
          ∧ r.2.mem ((c.tc : Thread Cert.ReferenceAdamSmallIdeal.nD Cert.ReferenceAdamSmallIdeal.τ).loc Cert.ReferenceAdamSmallIdeal.main_v4) = v10 c
          ∧ r.2.mem ((c.tc : Thread Cert.ReferenceAdamSmallIdeal.nD Cert.ReferenceAdamSmallIdeal.τ).loc Cert.ReferenceAdamSmallIdeal.main_v28) = v11 c
          ∧ r.2.mem ((c.tc : Thread Cert.ReferenceAdamSmallIdeal.nD Cert.ReferenceAdamSmallIdeal.τ).loc Cert.ReferenceAdamSmallIdeal.main_v52) = v12 c
          ∧ r.2.mem ((c.tc : Thread Cert.ReferenceAdamSmallIdeal.nD Cert.ReferenceAdamSmallIdeal.τ).loc Cert.ReferenceAdamSmallIdeal.main_v76) = v13 c
          ∧ r.2.mem ((c.tc : Thread Cert.ReferenceAdamSmallIdeal.nD Cert.ReferenceAdamSmallIdeal.τ).loc Cert.ReferenceAdamSmallIdeal.main_v100) = v14 c
          ∧ r.2.mem ((c.tc : Thread Cert.ReferenceAdamSmallIdeal.nD Cert.ReferenceAdamSmallIdeal.τ).loc Cert.ReferenceAdamSmallIdeal.main_v124) = v15 c
          ∧ r.2.mem ((c.tc : Thread Cert.ReferenceAdamSmallIdeal.nD Cert.ReferenceAdamSmallIdeal.τ).loc Cert.ReferenceAdamSmallIdeal.main_v148) = v16 c
          ∧ r.2.mem ((c.tc : Thread Cert.ReferenceAdamSmallIdeal.nD Cert.ReferenceAdamSmallIdeal.τ).loc Cert.ReferenceAdamSmallIdeal.main_v172) = v17 c
          ∧ r.2.mem ((c.tc : Thread Cert.ReferenceAdamSmallIdeal.nD Cert.ReferenceAdamSmallIdeal.τ).loc Cert.ReferenceAdamSmallIdeal.main_v196) = v18 c
          ∧ r.2.mem ((c.tc : Thread Cert.ReferenceAdamSmallIdeal.nD Cert.ReferenceAdamSmallIdeal.τ).loc Cert.ReferenceAdamSmallIdeal.main_v220) = v19 c
          ∧ r.2.mem ((c.tc : Thread Cert.ReferenceAdamSmallIdeal.nD Cert.ReferenceAdamSmallIdeal.τ).loc Cert.ReferenceAdamSmallIdeal.main_v10) = v20 c
          ∧ r.2.mem ((c.tc : Thread Cert.ReferenceAdamSmallIdeal.nD Cert.ReferenceAdamSmallIdeal.τ).loc Cert.ReferenceAdamSmallIdeal.main_v34) = v21 c
          ∧ r.2.mem ((c.tc : Thread Cert.ReferenceAdamSmallIdeal.nD Cert.ReferenceAdamSmallIdeal.τ).loc Cert.ReferenceAdamSmallIdeal.main_v58) = v22 c
          ∧ r.2.mem ((c.tc : Thread Cert.ReferenceAdamSmallIdeal.nD Cert.ReferenceAdamSmallIdeal.τ).loc Cert.ReferenceAdamSmallIdeal.main_v82) = v23 c
          ∧ r.2.mem ((c.tc : Thread Cert.ReferenceAdamSmallIdeal.nD Cert.ReferenceAdamSmallIdeal.τ).loc Cert.ReferenceAdamSmallIdeal.main_v106) = v24 c
          ∧ r.2.mem ((c.tc : Thread Cert.ReferenceAdamSmallIdeal.nD Cert.ReferenceAdamSmallIdeal.τ).loc Cert.ReferenceAdamSmallIdeal.main_v130) = v25 c
          ∧ r.2.mem ((c.tc : Thread Cert.ReferenceAdamSmallIdeal.nD Cert.ReferenceAdamSmallIdeal.τ).loc Cert.ReferenceAdamSmallIdeal.main_v154) = v26 c
          ∧ r.2.mem ((c.tc : Thread Cert.ReferenceAdamSmallIdeal.nD Cert.ReferenceAdamSmallIdeal.τ).loc Cert.ReferenceAdamSmallIdeal.main_v178) = v27 c
          ∧ r.2.mem ((c.tc : Thread Cert.ReferenceAdamSmallIdeal.nD Cert.ReferenceAdamSmallIdeal.τ).loc Cert.ReferenceAdamSmallIdeal.main_v202) = v28 c
          ∧ r.2.mem ((c.tc : Thread Cert.ReferenceAdamSmallIdeal.nD Cert.ReferenceAdamSmallIdeal.τ).loc Cert.ReferenceAdamSmallIdeal.main_v226) = v29 c
          ∧ r.2.mem ((c.tc : Thread Cert.ReferenceAdamSmallIdeal.nD Cert.ReferenceAdamSmallIdeal.τ).loc Cert.ReferenceAdamSmallIdeal.main_arg10) = v30 c
          ∧ r.2.mem ((c.tc : Thread Cert.ReferenceAdamSmallIdeal.nD Cert.ReferenceAdamSmallIdeal.τ).loc Cert.ReferenceAdamSmallIdeal.main_arg11) = v31 c
          ∧ r.2.mem ((c.tc : Thread Cert.ReferenceAdamSmallIdeal.nD Cert.ReferenceAdamSmallIdeal.τ).loc Cert.ReferenceAdamSmallIdeal.main_arg12) = v32 c
          ∧ r.2.mem ((c.tc : Thread Cert.ReferenceAdamSmallIdeal.nD Cert.ReferenceAdamSmallIdeal.τ).loc Cert.ReferenceAdamSmallIdeal.main_arg13) = v33 c
          ∧ r.2.mem ((c.tc : Thread Cert.ReferenceAdamSmallIdeal.nD Cert.ReferenceAdamSmallIdeal.τ).loc Cert.ReferenceAdamSmallIdeal.main_arg14) = v34 c
          ∧ r.2.mem ((c.tc : Thread Cert.ReferenceAdamSmallIdeal.nD Cert.ReferenceAdamSmallIdeal.τ).loc Cert.ReferenceAdamSmallIdeal.main_arg15) = v35 c
          ∧ r.2.mem ((c.tc : Thread Cert.ReferenceAdamSmallIdeal.nD Cert.ReferenceAdamSmallIdeal.τ).loc Cert.ReferenceAdamSmallIdeal.main_arg16) = v36 c
          ∧ r.2.mem ((c.tc : Thread Cert.ReferenceAdamSmallIdeal.nD Cert.ReferenceAdamSmallIdeal.τ).loc Cert.ReferenceAdamSmallIdeal.main_arg17) = v37 c
          ∧ r.2.mem ((c.tc : Thread Cert.ReferenceAdamSmallIdeal.nD Cert.ReferenceAdamSmallIdeal.τ).loc Cert.ReferenceAdamSmallIdeal.main_arg18) = v38 c
          ∧ r.2.mem ((c.tc : Thread Cert.ReferenceAdamSmallIdeal.nD Cert.ReferenceAdamSmallIdeal.τ).loc Cert.ReferenceAdamSmallIdeal.main_arg19) = v39 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3)
          ∧ r.2.mem ((c.tc : Thread Cert.ReferenceAdamSmallIdeal.nD Cert.ReferenceAdamSmallIdeal.τ).loc Cert.ReferenceAdamSmallIdeal.main_arg4) = m' ((c.tc : Thread Cert.ReferenceAdamSmallIdeal.nD Cert.ReferenceAdamSmallIdeal.τ).loc Cert.ReferenceAdamSmallIdeal.main_arg4)
          ∧ r.2.mem ((c.tc : Thread Cert.ReferenceAdamSmallIdeal.nD Cert.ReferenceAdamSmallIdeal.τ).loc Cert.ReferenceAdamSmallIdeal.main_arg5) = m' ((c.tc : Thread Cert.ReferenceAdamSmallIdeal.nD Cert.ReferenceAdamSmallIdeal.τ).loc Cert.ReferenceAdamSmallIdeal.main_arg5)
          ∧ r.2.mem ((c.tc : Thread Cert.ReferenceAdamSmallIdeal.nD Cert.ReferenceAdamSmallIdeal.τ).loc Cert.ReferenceAdamSmallIdeal.main_arg6) = m' ((c.tc : Thread Cert.ReferenceAdamSmallIdeal.nD Cert.ReferenceAdamSmallIdeal.τ).loc Cert.ReferenceAdamSmallIdeal.main_arg6)
          ∧ r.2.mem ((c.tc : Thread Cert.ReferenceAdamSmallIdeal.nD Cert.ReferenceAdamSmallIdeal.τ).loc Cert.ReferenceAdamSmallIdeal.main_arg7) = m' ((c.tc : Thread Cert.ReferenceAdamSmallIdeal.nD Cert.ReferenceAdamSmallIdeal.τ).loc Cert.ReferenceAdamSmallIdeal.main_arg7)
          ∧ r.2.mem ((c.tc : Thread Cert.ReferenceAdamSmallIdeal.nD Cert.ReferenceAdamSmallIdeal.τ).loc Cert.ReferenceAdamSmallIdeal.main_arg8) = m' ((c.tc : Thread Cert.ReferenceAdamSmallIdeal.nD Cert.ReferenceAdamSmallIdeal.τ).loc Cert.ReferenceAdamSmallIdeal.main_arg8)
          ∧ r.2.mem ((c.tc : Thread Cert.ReferenceAdamSmallIdeal.nD Cert.ReferenceAdamSmallIdeal.τ).loc Cert.ReferenceAdamSmallIdeal.main_arg9) = m' ((c.tc : Thread Cert.ReferenceAdamSmallIdeal.nD Cert.ReferenceAdamSmallIdeal.τ).loc Cert.ReferenceAdamSmallIdeal.main_arg9)
          ∧ r.2.mem ((c.tc : Thread Cert.ReferenceAdamSmallIdeal.nD Cert.ReferenceAdamSmallIdeal.τ).loc Cert.ReferenceAdamSmallIdeal.main_arg10) = m' ((c.tc : Thread Cert.ReferenceAdamSmallIdeal.nD Cert.ReferenceAdamSmallIdeal.τ).loc Cert.ReferenceAdamSmallIdeal.main_arg10)
          ∧ r.2.mem ((c.tc : Thread Cert.ReferenceAdamSmallIdeal.nD Cert.ReferenceAdamSmallIdeal.τ).loc Cert.ReferenceAdamSmallIdeal.main_arg11) = m' ((c.tc : Thread Cert.ReferenceAdamSmallIdeal.nD Cert.ReferenceAdamSmallIdeal.τ).loc Cert.ReferenceAdamSmallIdeal.main_arg11)
          ∧ r.2.mem ((c.tc : Thread Cert.ReferenceAdamSmallIdeal.nD Cert.ReferenceAdamSmallIdeal.τ).loc Cert.ReferenceAdamSmallIdeal.main_arg12) = m' ((c.tc : Thread Cert.ReferenceAdamSmallIdeal.nD Cert.ReferenceAdamSmallIdeal.τ).loc Cert.ReferenceAdamSmallIdeal.main_arg12)
          ∧ r.2.mem ((c.tc : Thread Cert.ReferenceAdamSmallIdeal.nD Cert.ReferenceAdamSmallIdeal.τ).loc Cert.ReferenceAdamSmallIdeal.main_arg13) = m' ((c.tc : Thread Cert.ReferenceAdamSmallIdeal.nD Cert.ReferenceAdamSmallIdeal.τ).loc Cert.ReferenceAdamSmallIdeal.main_arg13)
          ∧ r.2.mem ((c.tc : Thread Cert.ReferenceAdamSmallIdeal.nD Cert.ReferenceAdamSmallIdeal.τ).loc Cert.ReferenceAdamSmallIdeal.main_arg14) = m' ((c.tc : Thread Cert.ReferenceAdamSmallIdeal.nD Cert.ReferenceAdamSmallIdeal.τ).loc Cert.ReferenceAdamSmallIdeal.main_arg14)
          ∧ r.2.mem ((c.tc : Thread Cert.ReferenceAdamSmallIdeal.nD Cert.ReferenceAdamSmallIdeal.τ).loc Cert.ReferenceAdamSmallIdeal.main_arg15) = m' ((c.tc : Thread Cert.ReferenceAdamSmallIdeal.nD Cert.ReferenceAdamSmallIdeal.τ).loc Cert.ReferenceAdamSmallIdeal.main_arg15)
          ∧ r.2.mem ((c.tc : Thread Cert.ReferenceAdamSmallIdeal.nD Cert.ReferenceAdamSmallIdeal.τ).loc Cert.ReferenceAdamSmallIdeal.main_arg16) = m' ((c.tc : Thread Cert.ReferenceAdamSmallIdeal.nD Cert.ReferenceAdamSmallIdeal.τ).loc Cert.ReferenceAdamSmallIdeal.main_arg16)
          ∧ r.2.mem ((c.tc : Thread Cert.ReferenceAdamSmallIdeal.nD Cert.ReferenceAdamSmallIdeal.τ).loc Cert.ReferenceAdamSmallIdeal.main_arg17) = m' ((c.tc : Thread Cert.ReferenceAdamSmallIdeal.nD Cert.ReferenceAdamSmallIdeal.τ).loc Cert.ReferenceAdamSmallIdeal.main_arg17)
          ∧ r.2.mem ((c.tc : Thread Cert.ReferenceAdamSmallIdeal.nD Cert.ReferenceAdamSmallIdeal.τ).loc Cert.ReferenceAdamSmallIdeal.main_arg18) = m' ((c.tc : Thread Cert.ReferenceAdamSmallIdeal.nD Cert.ReferenceAdamSmallIdeal.τ).loc Cert.ReferenceAdamSmallIdeal.main_arg18)
          ∧ r.2.mem ((c.tc : Thread Cert.ReferenceAdamSmallIdeal.nD Cert.ReferenceAdamSmallIdeal.τ).loc Cert.ReferenceAdamSmallIdeal.main_arg19) = m' ((c.tc : Thread Cert.ReferenceAdamSmallIdeal.nD Cert.ReferenceAdamSmallIdeal.τ).loc Cert.ReferenceAdamSmallIdeal.main_arg19)
          ∧ r.2.mem ((c.tc : Thread Cert.ReferenceAdamSmallIdeal.nD Cert.ReferenceAdamSmallIdeal.τ).loc Cert.ReferenceAdamSmallIdeal.main_arg20) = m' ((c.tc : Thread Cert.ReferenceAdamSmallIdeal.nD Cert.ReferenceAdamSmallIdeal.τ).loc Cert.ReferenceAdamSmallIdeal.main_arg20)
          ∧ r.2.mem ((c.tc : Thread Cert.ReferenceAdamSmallIdeal.nD Cert.ReferenceAdamSmallIdeal.τ).loc Cert.ReferenceAdamSmallIdeal.main_arg21) = m' ((c.tc : Thread Cert.ReferenceAdamSmallIdeal.nD Cert.ReferenceAdamSmallIdeal.τ).loc Cert.ReferenceAdamSmallIdeal.main_arg21)
          ∧ r.2.mem ((c.tc : Thread Cert.ReferenceAdamSmallIdeal.nD Cert.ReferenceAdamSmallIdeal.τ).loc Cert.ReferenceAdamSmallIdeal.main_arg22) = m' ((c.tc : Thread Cert.ReferenceAdamSmallIdeal.nD Cert.ReferenceAdamSmallIdeal.τ).loc Cert.ReferenceAdamSmallIdeal.main_arg22)
          ∧ r.2.mem ((c.tc : Thread Cert.ReferenceAdamSmallIdeal.nD Cert.ReferenceAdamSmallIdeal.τ).loc Cert.ReferenceAdamSmallIdeal.main_arg23) = m' ((c.tc : Thread Cert.ReferenceAdamSmallIdeal.nD Cert.ReferenceAdamSmallIdeal.τ).loc Cert.ReferenceAdamSmallIdeal.main_arg23)
          ∧ r.2.mem ((c.tc : Thread Cert.ReferenceAdamSmallIdeal.nD Cert.ReferenceAdamSmallIdeal.τ).loc Cert.ReferenceAdamSmallIdeal.main_arg24) = m' ((c.tc : Thread Cert.ReferenceAdamSmallIdeal.nD Cert.ReferenceAdamSmallIdeal.τ).loc Cert.ReferenceAdamSmallIdeal.main_arg24)
          ∧ r.2.mem ((c.tc : Thread Cert.ReferenceAdamSmallIdeal.nD Cert.ReferenceAdamSmallIdeal.τ).loc Cert.ReferenceAdamSmallIdeal.main_arg25) = m' ((c.tc : Thread Cert.ReferenceAdamSmallIdeal.nD Cert.ReferenceAdamSmallIdeal.τ).loc Cert.ReferenceAdamSmallIdeal.main_arg25)
          ∧ r.2.mem ((c.tc : Thread Cert.ReferenceAdamSmallIdeal.nD Cert.ReferenceAdamSmallIdeal.τ).loc Cert.ReferenceAdamSmallIdeal.main_arg26) = m' ((c.tc : Thread Cert.ReferenceAdamSmallIdeal.nD Cert.ReferenceAdamSmallIdeal.τ).loc Cert.ReferenceAdamSmallIdeal.main_arg26)
          ∧ r.2.mem ((c.tc : Thread Cert.ReferenceAdamSmallIdeal.nD Cert.ReferenceAdamSmallIdeal.τ).loc Cert.ReferenceAdamSmallIdeal.main_arg27) = m' ((c.tc : Thread Cert.ReferenceAdamSmallIdeal.nD Cert.ReferenceAdamSmallIdeal.τ).loc Cert.ReferenceAdamSmallIdeal.main_arg27)
          ∧ r.2.mem ((c.tc : Thread Cert.ReferenceAdamSmallIdeal.nD Cert.ReferenceAdamSmallIdeal.τ).loc Cert.ReferenceAdamSmallIdeal.main_arg28) = m' ((c.tc : Thread Cert.ReferenceAdamSmallIdeal.nD Cert.ReferenceAdamSmallIdeal.τ).loc Cert.ReferenceAdamSmallIdeal.main_arg28)
          ∧ r.2.mem ((c.tc : Thread Cert.ReferenceAdamSmallIdeal.nD Cert.ReferenceAdamSmallIdeal.τ).loc Cert.ReferenceAdamSmallIdeal.main_arg29) = m' ((c.tc : Thread Cert.ReferenceAdamSmallIdeal.nD Cert.ReferenceAdamSmallIdeal.τ).loc Cert.ReferenceAdamSmallIdeal.main_arg29)
          ∧ r.2.mem ((c.tc : Thread Cert.ReferenceAdamSmallIdeal.nD Cert.ReferenceAdamSmallIdeal.τ).loc Cert.ReferenceAdamSmallIdeal.main_arg30) = m' ((c.tc : Thread Cert.ReferenceAdamSmallIdeal.nD Cert.ReferenceAdamSmallIdeal.τ).loc Cert.ReferenceAdamSmallIdeal.main_arg30)
          ∧ r.2.mem ((c.tc : Thread Cert.ReferenceAdamSmallIdeal.nD Cert.ReferenceAdamSmallIdeal.τ).loc Cert.ReferenceAdamSmallIdeal.main_arg31) = m' ((c.tc : Thread Cert.ReferenceAdamSmallIdeal.nD Cert.ReferenceAdamSmallIdeal.τ).loc Cert.ReferenceAdamSmallIdeal.main_arg31)
          ∧ r.2.mem ((c.tc : Thread Cert.ReferenceAdamSmallIdeal.nD Cert.ReferenceAdamSmallIdeal.τ).loc Cert.ReferenceAdamSmallIdeal.main_arg32) = m' ((c.tc : Thread Cert.ReferenceAdamSmallIdeal.nD Cert.ReferenceAdamSmallIdeal.τ).loc Cert.ReferenceAdamSmallIdeal.main_arg32)
          ∧ r.2.mem ((c.tc : Thread Cert.ReferenceAdamSmallIdeal.nD Cert.ReferenceAdamSmallIdeal.τ).loc Cert.ReferenceAdamSmallIdeal.main_arg33) = m' ((c.tc : Thread Cert.ReferenceAdamSmallIdeal.nD Cert.ReferenceAdamSmallIdeal.τ).loc Cert.ReferenceAdamSmallIdeal.main_arg33)
          ∧ r.2.mem ((c.tc : Thread Cert.ReferenceAdamSmallIdeal.nD Cert.ReferenceAdamSmallIdeal.τ).loc Cert.ReferenceAdamSmallIdeal.main_arg34) = m' ((c.tc : Thread Cert.ReferenceAdamSmallIdeal.nD Cert.ReferenceAdamSmallIdeal.τ).loc Cert.ReferenceAdamSmallIdeal.main_arg34)
          ∧ r.2.mem ((c.tc : Thread Cert.ReferenceAdamSmallIdeal.nD Cert.ReferenceAdamSmallIdeal.τ).loc Cert.ReferenceAdamSmallIdeal.main_arg35) = m' ((c.tc : Thread Cert.ReferenceAdamSmallIdeal.nD Cert.ReferenceAdamSmallIdeal.τ).loc Cert.ReferenceAdamSmallIdeal.main_arg35)
          ∧ r.2.mem ((c.tc : Thread Cert.ReferenceAdamSmallIdeal.nD Cert.ReferenceAdamSmallIdeal.τ).loc Cert.ReferenceAdamSmallIdeal.main_arg36) = m' ((c.tc : Thread Cert.ReferenceAdamSmallIdeal.nD Cert.ReferenceAdamSmallIdeal.τ).loc Cert.ReferenceAdamSmallIdeal.main_arg36)
          ∧ r.2.mem ((c.tc : Thread Cert.ReferenceAdamSmallIdeal.nD Cert.ReferenceAdamSmallIdeal.τ).loc Cert.ReferenceAdamSmallIdeal.main_arg37) = m' ((c.tc : Thread Cert.ReferenceAdamSmallIdeal.nD Cert.ReferenceAdamSmallIdeal.τ).loc Cert.ReferenceAdamSmallIdeal.main_arg37)
          ∧ r.2.mem ((c.tc : Thread Cert.ReferenceAdamSmallIdeal.nD Cert.ReferenceAdamSmallIdeal.τ).loc Cert.ReferenceAdamSmallIdeal.main_arg38) = m' ((c.tc : Thread Cert.ReferenceAdamSmallIdeal.nD Cert.ReferenceAdamSmallIdeal.τ).loc Cert.ReferenceAdamSmallIdeal.main_arg38)
          ∧ r.2.mem ((c.tc : Thread Cert.ReferenceAdamSmallIdeal.nD Cert.ReferenceAdamSmallIdeal.τ).loc Cert.ReferenceAdamSmallIdeal.main_arg39) = m' ((c.tc : Thread Cert.ReferenceAdamSmallIdeal.nD Cert.ReferenceAdamSmallIdeal.τ).loc Cert.ReferenceAdamSmallIdeal.main_arg39))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelFwd : Cert.KernelFwd.Facts) (hKernelFwdIdeal : Cert.KernelFwdIdeal.Facts) (hReferenceFwdIdeal : Cert.ReferenceFwdIdeal.Facts) (hKernelAdamUp : Cert.KernelAdamUp.Facts) (hKernelAdamUpIdeal : Cert.KernelAdamUpIdeal.Facts) (hReferenceAdamUpIdeal : Cert.ReferenceAdamUpIdeal.Facts) (hKernelAdamIn : Cert.KernelAdamIn.Facts) (hKernelAdamInIdeal : Cert.KernelAdamInIdeal.Facts) (hReferenceAdamInIdeal : Cert.ReferenceAdamInIdeal.Facts) (hKernelAdamSmall : Cert.KernelAdamSmall.Facts) (hKernelAdamSmallIdeal : Cert.KernelAdamSmallIdeal.Facts) (hReferenceAdamSmallIdeal : Cert.ReferenceAdamSmallIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)

variable [Facts]

def fn_part1 {F : FTy → Type} [FloatOps F] (main_arg6 : FVec F S2816x1024 .f32) (main_arg7 : FVec F S1x1024 .f32) (main_v2 : IVec S8192x1024 1) (main_v5 : IVec S8192x1024 1) (main_v8 : IVec S1x1024 1) (main_v11 : IVec S1024x5632 1) (main_v14 : IVec S3x5632 1) (main_v17 : IVec S1x5632 1) : IVec S8192x1024 1 × IVec S8192x1024 1 × IVec S1x1024 1 × IVec S1024x5632 1 × IVec S3x5632 1 × IVec S1x5632 1 × IVec S2816x1024 1 × IVec S1x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .f32) (main_arg2 : FVec F S1x1024 .f32) (main_arg3 : FVec F S1024x5632 .f32) (main_arg4 : FVec F S3x5632 .f32) (main_arg5 : FVec F S1x5632 .f32) (main_arg6 : FVec F S2816x1024 .f32) (main_arg7 : FVec F S1x1024 .f32) : IVec S8192x1024 1 × IVec S8192x1024 1 × IVec S1x1024 1 × IVec S1024x5632 1 × IVec S3x5632 1 × IVec S1x5632 1 × IVec S2816x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S3x5632 .f32 := Host.absf main_arg4
  let main_cst_3 : FVec F S_ .f32 := constant S_ .f32 0x7F800000#32
  let main_v13 : FVec F S3x5632 .f32 := broadcastInDim S3x5632 ![] bcast_S_S3x5632 main_cst_3
  let main_v14 : IVec S3x5632 1 := cmpf .olt main_v12 main_v13
  let main_v15 : FVec F S1x5632 .f32 := Host.absf main_arg5
  let main_cst_4 : FVec F S_ .f32 := constant S_ .f32 0x7F800000#32
  let main_v16 : FVec F S1x5632 .f32 := broadcastInDim S1x5632 ![] bcast_S_S1x5632 main_cst_4
  let main_v17 : IVec S1x5632 1 := cmpf .olt main_v15 main_v16
  fn_part1 (F := F) main_arg6 main_arg7 main_v2 main_v5 main_v8 main_v11 main_v14 main_v17
-- ==== Kernel.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S8x5632 : Shape := ⟨2, ![8, 5632]⟩
abbrev S2 : Shape := ⟨1, ![2]⟩
abbrev S1 : Shape := ⟨1, ![1]⟩
abbrev S256 : Shape := ⟨1, ![256]⟩
abbrev S256x1 : Shape := ⟨2, ![256, 1]⟩
abbrev S1024 : Shape := ⟨1, ![1024]⟩
abbrev S1408x1024 : Shape := ⟨2, ![1408, 1024]⟩
abbrev S256x1408 : Shape := ⟨2, ![256, 1408]⟩
abbrev S1x1408 : Shape := ⟨2, ![1, 1408]⟩
abbrev S8x1408 : Shape := ⟨2, ![8, 1408]⟩
abbrev S1408 : Shape := ⟨1, ![1408]⟩
abbrev S1x1024x1408 : Shape := ⟨3, ![1, 1024, 1408]⟩
abbrev S1024x1408 : Shape := ⟨2, ![1024, 1408]⟩

abbrev nBuf : Space → Nat
  | .hbm => 110
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x5632, .f32⟩
  | .hbm, ⟨4, _⟩ => ⟨S3x5632, .f32⟩
  | .hbm, ⟨5, _⟩ => ⟨S1x5632, .f32⟩
  | .hbm, ⟨6, _⟩ => ⟨S2816x1024, .f32⟩
  | .hbm, ⟨7, _⟩ => ⟨S1x1024, .f32⟩
  | .hbm, ⟨8, _⟩ => ⟨S2816x1024, .bf16⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S_, .f32⟩
  | .hbm, ⟨29, _⟩ => ⟨S2x5632, .f32⟩
  | .hbm, ⟨30, _⟩ => ⟨S8194x5632, .f32⟩
  | .hbm, ⟨31, _⟩ => ⟨S1x5632, .f32⟩
  | .hbm, ⟨32, _⟩ => ⟨S5632, .f32⟩
  | .hbm, ⟨33, _⟩ => ⟨S8192x5632, .f32⟩
  | .hbm, ⟨34, _⟩ => ⟨S1x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S1x5632, .f32⟩
  | .hbm, ⟨40, _⟩ => ⟨S5632, .f32⟩
  | .hbm, ⟨41, _⟩ => ⟨S8192x5632, .f32⟩
  | .hbm, ⟨42, _⟩ => ⟨S1x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S1x5632, .f32⟩
  | .hbm, ⟨47, _⟩ => ⟨S5632, .f32⟩
  | .hbm, ⟨48, _⟩ => ⟨S8192x5632, .f32⟩
  | .hbm, ⟨49, _⟩ => ⟨S1x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S_, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S_, .f32⟩
  | .hbm, ⟨70, _⟩ => ⟨S8192x2816, .f32⟩
  | .hbm, ⟨71, _⟩ => ⟨S8192x2816, .f32⟩
  | .hbm, ⟨72, _⟩ => ⟨S_, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S_, .f32⟩
  | .hbm, ⟨77, _⟩ => ⟨S8192x2816, .f32⟩
  | .hbm, ⟨78, _⟩ => ⟨S8192x2816, .f32⟩
  | .hbm, ⟨79, _⟩ => ⟨S_, .f32⟩
  | .hbm, ⟨80, _⟩ => ⟨S8192x2816, .f32⟩
  | .hbm, ⟨81, _⟩ => ⟨S8192x2816, .f32⟩
  | .hbm, ⟨82, _⟩ => ⟨S8192x2816, .f32⟩
  | .hbm, ⟨83, _⟩ => ⟨S8192x2816, .f32⟩
  | .hbm, ⟨84, _⟩ => ⟨S8192x2816, .f32⟩
  | .hbm, ⟨85, _⟩ => ⟨S_, .f32⟩
  | .hbm, ⟨86, _⟩ => ⟨S8192x2816, .f32⟩
  | .hbm, ⟨87, _⟩ => ⟨S8192x2816, .f32⟩
  | .hbm, ⟨88, _⟩ => ⟨S8192x2816, .f32⟩
  | .hbm, ⟨89, _⟩ => ⟨S_, .f32⟩
  | .hbm, ⟨90, _⟩ => ⟨S8192x2816, .f32⟩
  | .hbm, ⟨91, _⟩ => ⟨S8192x2816, .f32⟩
  | .hbm, ⟨92, _⟩ => ⟨S8192x2816, .f32⟩
  | .hbm, ⟨93, _⟩ => ⟨S_, .f32⟩
  | .hbm, ⟨94, _⟩ => ⟨S8192x2816, .f32⟩
  | .hbm, ⟨95, _⟩ => ⟨S8192x2816, .f32⟩
  | .hbm, ⟨96, _⟩ => ⟨S8192x2816, .f32⟩
  | .hbm, ⟨97, _⟩ => ⟨S8192x2816, .f32⟩
  | .hbm, ⟨98, _⟩ => ⟨S8192x2816, .f32⟩
  | .hbm, ⟨99, _⟩ => ⟨S8192x1024, .f32⟩
  | .hbm, ⟨100, _⟩ => ⟨S8192x5632, .bf16⟩
  | .hbm, ⟨101, _⟩ => ⟨S8192x2816, .bf16⟩
  | .hbm, ⟨102, _⟩ => ⟨S8192x2816, .bf16⟩
  | .hbm, ⟨103, _⟩ => ⟨S8192x1024, .bf16⟩
  | .hbm, ⟨104, _⟩ => ⟨S8192x5632, .bf16⟩
  | .hbm, ⟨105, _⟩ => ⟨S8192x1024, .f32⟩
  | .hbm, ⟨106, _⟩ => ⟨S1x1024, .f32⟩
  | .hbm, ⟨107, _⟩ => ⟨S1x1024, .f32⟩
  | .hbm, ⟨108, _⟩ => ⟨S1x5632, .f32⟩
  | .hbm, ⟨109, _⟩ => ⟨S3x5632, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S3x5632, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x5632, .bf16⟩
  | .local _ .vmem, ⟨18, _⟩ => ⟨S256x5632, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | .local _ .vmem, ⟨23, _⟩ => ⟨S1x5632, .f32⟩
  | .local _ .vmem, ⟨24, _⟩ => ⟨S3x5632, .f32⟩
  | .local _ .vmem, ⟨25, _⟩ => ⟨S4x1024x1408, .bf16⟩
  | .local _ .vmem, ⟨26, _⟩ => ⟨S2816x1024, .bf16⟩
  | .local _ .vmem, ⟨27, _⟩ => ⟨S8x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81_0 : Ref sig .tc := ⟨.hbm, 103, rfl⟩
abbrev main_v81_1 : Ref sig .tc := ⟨.hbm, 104, rfl⟩
abbrev main_v81_2 : Ref sig .tc := ⟨.hbm, 105, rfl⟩
abbrev main_v81_3 : Ref sig .tc := ⟨.hbm, 106, rfl⟩
abbrev main_v81_4 : Ref sig .tc := ⟨.hbm, 107, rfl⟩
abbrev main_v81_5 : Ref sig .tc := ⟨.hbm, 108, rfl⟩
abbrev main_v81_6 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x5632 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S1024 : Shape := ⟨1, ![1024]⟩

abbrev nBuf : Space → Nat
  | .hbm => 225
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x5632, .f32⟩
  | 4 => ⟨S3x5632, .f32⟩
  | 5 => ⟨S1x5632, .f32⟩
  | 6 => ⟨S2816x1024, .f32⟩
  | 7 => ⟨S1x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S8192x5632, .f32⟩
  | 28 => ⟨S_, .f32⟩
  | 29 => ⟨S2x5632, .f32⟩
  | 30 => ⟨S8194x5632, .f32⟩
  | 31 => ⟨S_, .f32⟩
  | 32 => ⟨S2x5632, .f32⟩
  | 33 => ⟨S1x5632, .f32⟩
  | 34 => ⟨S5632, .f32⟩
  | 35 => ⟨S8192x5632, .f32⟩
  | 36 => ⟨S1x5632, .f32⟩
  | 37 => ⟨S8192x5632, .f32⟩
  | 38 => ⟨S8192x5632, .f32⟩
  | 39 => ⟨S8192x5632, .f32⟩
  | 40 => ⟨S8192x5632, .f32⟩
  | 41 => ⟨S1x5632, .f32⟩
  | 42 => ⟨S5632, .f32⟩
  | 43 => ⟨S8192x5632, .f32⟩
  | 44 => ⟨S1x5632, .f32⟩
  | 45 => ⟨S8192x5632, .f32⟩
  | 46 => ⟨S8192x5632, .f32⟩
  | 47 => ⟨S8192x5632, .f32⟩
  | 48 => ⟨S1x5632, .f32⟩
  | 49 => ⟨S5632, .f32⟩
  | 50 => ⟨S8192x5632, .f32⟩
  | 51 => ⟨S1x5632, .f32⟩
  | 52 => ⟨S8192x5632, .f32⟩
  | 53 => ⟨S8192x5632, .f32⟩
  | 54 => ⟨S8192x5632, .f32⟩
  | 55 => ⟨S8192x2816, .f32⟩
  | 56 => ⟨S8192x2816, .f32⟩
  | 57 => ⟨S8192x2816, .f32⟩
  | 58 => ⟨S8192x2816, .f32⟩
  | 59 => ⟨S8192x2816, .f32⟩
  | 60 => ⟨S_, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S8192x2816, .f32⟩
  | 67 => ⟨S_, .f32⟩
  | 68 => ⟨S8192x2816, .f32⟩
  | 69 => ⟨S8192x2816, .f32⟩
  | 70 => ⟨S8192x2816, .f32⟩
  | 71 => ⟨S_, .f32⟩
  | 72 => ⟨S8192x2816, .f32⟩
  | 73 => ⟨S8192x2816, .f32⟩
  | 74 => ⟨S_, .f32⟩
  | 75 => ⟨S8192x2816, .f32⟩
  | 76 => ⟨S8192x2816, .f32⟩
  | 77 => ⟨S8192x2816, .f32⟩
  | 78 => ⟨S_, .f32⟩
  | 79 => ⟨S8192x2816, .f32⟩
  | 80 => ⟨S8192x2816, .f32⟩
  | 81 => ⟨S_, .f32⟩
  | 82 => ⟨S8192x2816, .f32⟩
  | 83 => ⟨S8192x2816, .f32⟩
  | 84 => ⟨S8192x2816, .f32⟩
  | 85 => ⟨S8192x2816, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1, .f32⟩
  | 99 => ⟨S_, .f32⟩
  | 100 => ⟨S8192x1, .f32⟩
  | 101 => ⟨S8192x1, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S_, .f32⟩
  | 110 => ⟨S1024, .f32⟩
  | 111 => ⟨S1x1024, .f32⟩
  | 112 => ⟨S8192x1024, .f32⟩
  | 113 => ⟨S8192x1024, .f32⟩
  | 114 => ⟨S8192x1024, .f32⟩
  | 115 => ⟨S_, .f32⟩
  | 116 => ⟨S8192, .f32⟩
  | 117 => ⟨S8192x1, .f32⟩
  | 118 => ⟨S8192x1024, .f32⟩
  | 119 => ⟨S8192x1024, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x2816, .f32⟩
  | 4 => ⟨S8192x2816, .f32⟩
  | 5 => ⟨S8192x2816, .f32⟩
  | 6 => ⟨S8192x2816, .f32⟩
  | 7 => ⟨S8192x2816, .f32⟩
  | 8 => ⟨S_, .f32⟩
  | 9 => ⟨S8192x2816, .f32⟩
  | 10 => ⟨S8192x2816, .f32⟩
  | 11 => ⟨S8192x2816, .f32⟩
  | 12 => ⟨S_, .f32⟩
  | 13 => ⟨S8192x2816, .f32⟩
  | 14 => ⟨S8192x2816, .f32⟩
  | 15 => ⟨S8192x2816, .f32⟩
  | 16 => ⟨S_, .f32⟩
  | 17 => ⟨S8192x2816, .f32⟩
  | 18 => ⟨S8192x2816, .f32⟩
  | 19 => ⟨S8192x2816, .f32⟩
  | 20 => ⟨S8192x2816, .f32⟩
  | 21 => ⟨S8192x5632, .f32⟩
  | 22 => ⟨S8192x5632, .f32⟩
  | 23 => ⟨S8192x5632, .f32⟩
  | 24 => ⟨S8192x5632, .f32⟩
  | 25 => ⟨S_, .f32⟩
  | 26 => ⟨S5632, .f32⟩
  | 27 => ⟨S1x5632, .f32⟩
  | 28 => ⟨S_, .f32⟩
  | 29 => ⟨S5632, .f32⟩
  | 30 => ⟨S_, .f32⟩
  | 31 => ⟨S8194x5632, .f32⟩
  | 32 => ⟨S1x5632, .f32⟩
  | 33 => ⟨S_, .f32⟩
  | 34 => ⟨S3x5632, .f32⟩
  | 35 => ⟨S8192x5632, .f32⟩
  | 36 => ⟨S8192x5632, .f32⟩
  | 37 => ⟨S8192x5632, .f32⟩
  | 38 => ⟨S_, .f32⟩
  | 39 => ⟨S5632, .f32⟩
  | 40 => ⟨S1x5632, .f32⟩
  | 41 => ⟨S_, .f32⟩
  | 42 => ⟨S5632, .f32⟩
  | 43 => ⟨S_, .f32⟩
  | 44 => ⟨S8194x5632, .f32⟩
  | 45 => ⟨S8194x5632, .f32⟩
  | 46 => ⟨S1x5632, .f32⟩
  | 47 => ⟨S_, .f32⟩
  | 48 => ⟨S3x5632, .f32⟩
  | 49 => ⟨S3x5632, .f32⟩
  | 50 => ⟨S_, .f32⟩
  | 51 => ⟨S5632, .f32⟩
  | 52 => ⟨S1x5632, .f32⟩
  | 53 => ⟨S8192x5632, .f32⟩
  | 54 => ⟨S8192x5632, .f32⟩
  | 55 => ⟨S8192x5632, .f32⟩
  | 56 => ⟨S_, .f32⟩
  | 57 => ⟨S5632, .f32⟩
  | 58 => ⟨S1x5632, .f32⟩
  | 59 => ⟨S_, .f32⟩
  | 60 => ⟨S5632, .f32⟩
  | 61 => ⟨S_, .f32⟩
  | 62 => ⟨S8194x5632, .f32⟩
  | 63 => ⟨S8194x5632, .f32⟩
  | 64 => ⟨S1x5632, .f32⟩
  | 65 => ⟨S_, .f32⟩
  | 66 => ⟨S3x5632, .f32⟩
  | 67 => ⟨S3x5632, .f32⟩
  | 68 => ⟨S2x5632, .f32⟩
  | 69 => ⟨S8192x5632, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S8192x1024, .f32⟩
  | 76 => ⟨S8192x1024, .f32⟩
  | 77 => ⟨S8192x1024, .f32⟩
  | 78 => ⟨S_, .f32⟩
  | 79 => ⟨S8192, .f32⟩
  | 80 => ⟨S8192x1, .f32⟩
  | 81 => ⟨S8192x1024, .f32⟩
  | 82 => ⟨S8192x1024, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .bf16⟩
  | 95 => ⟨S8192x5632, .bf16⟩
  | 96 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_17 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_18 : Ref sig .tc := ⟨.hbm, 121, rfl⟩
abbrev main_v94 : Ref sig .tc := ⟨.hbm, 122, rfl⟩
abbrev main_v95 : Ref sig .tc := ⟨.hbm, 123, rfl⟩
abbrev main_cst_19 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_20 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_21 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_22 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_23 : Ref sig .tc := ⟨.hbm, 153, rfl⟩
abbrev main_v121 : Ref sig .tc := ⟨.hbm, 154, rfl⟩
abbrev main_v122 : Ref sig .tc := ⟨.hbm, 155, rfl⟩
abbrev main_cst_24 : Ref sig .tc := ⟨.hbm, 156, rfl⟩
abbrev main_v123 : Ref sig .tc := ⟨.hbm, 157, rfl⟩
abbrev main_cst_25 : Ref sig .tc := ⟨.hbm, 158, rfl⟩
abbrev main_v124 : Ref sig .tc := ⟨.hbm, 159, rfl⟩
abbrev main_v125 : Ref sig .tc := ⟨.hbm, 160, rfl⟩
abbrev main_cst_26 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_27 : Ref sig .tc := ⟨.hbm, 166, rfl⟩
abbrev main_v130 : Ref sig .tc := ⟨.hbm, 167, rfl⟩
abbrev main_v131 : Ref sig .tc := ⟨.hbm, 168, rfl⟩
abbrev main_cst_28 : Ref sig .tc := ⟨.hbm, 169, rfl⟩
abbrev main_v132 : Ref sig .tc := ⟨.hbm, 170, rfl⟩
abbrev main_cst_29 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_30 : Ref sig .tc := ⟨.hbm, 175, rfl⟩
abbrev main_v136 : Ref sig .tc := ⟨.hbm, 176, rfl⟩
abbrev main_v137 : Ref sig .tc := ⟨.hbm, 177, rfl⟩
abbrev main_cst_31 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_32 : Ref sig .tc := ⟨.hbm, 184, rfl⟩
abbrev main_v143 : Ref sig .tc := ⟨.hbm, 185, rfl⟩
abbrev main_v144 : Ref sig .tc := ⟨.hbm, 186, rfl⟩
abbrev main_cst_33 : Ref sig .tc := ⟨.hbm, 187, rfl⟩
abbrev main_v145 : Ref sig .tc := ⟨.hbm, 188, rfl⟩
abbrev main_cst_34 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_35 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_cst_36 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_37 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_cst_38 : Ref sig .tc := ⟨.hbm, 212, rfl⟩
abbrev main_v165 : Ref sig .tc := ⟨.hbm, 213, rfl⟩
abbrev main_v166 : Ref sig .tc := ⟨.hbm, 214, rfl⟩
abbrev main_cst_39 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩

abbrev nD : Nat := 1
abbrev τ : Topo := Topo.v7x

variable {F : FTy → Type} [FloatOps F]
-- ==== KernelUp.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceUpIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S8192x1024 : Shape := ⟨2, ![8192, 1024]⟩
abbrev S8192x2432 : Shape := ⟨2, ![8192, 2432]⟩
abbrev S1024x2432 : Shape := ⟨2, ![1024, 2432]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2432, .bf16⟩
  | .hbm, ⟨2, _⟩ => ⟨S1024x2432, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceInIdeal.lean ====
abbrev S8192x1024 : Shape := ⟨2, ![8192, 1024]⟩
abbrev S8192x2432 : Shape := ⟨2, ![8192, 2432]⟩
abbrev S_ : Shape := ⟨0, ![]⟩
abbrev S1024x2432 : Shape := ⟨2, ![1024, 2432]⟩
abbrev S2432x1024 : Shape := ⟨2, ![2432, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2432, .bf16⟩
  | .hbm, ⟨2, _⟩ => ⟨S_, .f32⟩
  | .hbm, ⟨3, _⟩ => ⟨S1024x2432, .f32⟩
  | .hbm, ⟨4, _⟩ => ⟨S8192x1024, .f32⟩
  | .hbm, ⟨5, _⟩ => ⟨S8192x2432, .f32⟩
  | .hbm, ⟨6, _⟩ => ⟨S8192x2432, .f32⟩
  | .hbm, ⟨7, _⟩ => ⟨S2432x1024, .f32⟩
  | .hbm, ⟨8, _⟩ => ⟨S1024x2432, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelFwd.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S8192x2816 : Shape := ⟨2, ![8192, 2816]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩
abbrev S8x5632 : Shape := ⟨2, ![8, 5632]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1x1408 : Shape := ⟨2, ![1, 1408]⟩
abbrev S8x1408 : Shape := ⟨2, ![8, 1408]⟩
abbrev S1x256x1024 : Shape := ⟨3, ![1, 256, 1024]⟩
abbrev S1x1x1 : Shape := ⟨3, ![1, 1, 1]⟩

abbrev nBuf : Space → Nat
  | .hbm => 20
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S1x5632, .f32⟩
  | .hbm, ⟨5, _⟩ => ⟨S2816x1024, .f32⟩
  | .hbm, ⟨6, _⟩ => ⟨S1x1024, .f32⟩
  | .hbm, ⟨7, _⟩ => ⟨S8192x1024, .f32⟩
  | .hbm, ⟨8, _⟩ => ⟨S2816x1024, .bf16⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S8192x1024, .bf16⟩
  | .hbm, ⟨13, _⟩ => ⟨S8192x5632, .bf16⟩
  | .hbm, ⟨14, _⟩ => ⟨S8192x2816, .bf16⟩
  | .hbm, ⟨15, _⟩ => ⟨S8192x2816, .bf16⟩
  | .hbm, ⟨16, _⟩ => ⟨S8192x2816, .bf16⟩
  | .hbm, ⟨17, _⟩ => ⟨S8192x1024, .f32⟩
  | .hbm, ⟨18, _⟩ => ⟨S8192x1024, .f32⟩
  | .hbm, ⟨19, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S3x5632, .f32⟩
  | .local _ .vmem, ⟨4, _⟩ => ⟨S1x5632, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x5632, .bf16⟩
  | .local _ .vmem, ⟨11, _⟩ => ⟨S256x5632, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S8x128, .f32⟩
  | .local _ .vmem, ⟨23, _⟩ => ⟨S4x1024x1408, .bf16⟩
  | .local _ .vmem, ⟨24, _⟩ => ⟨S2816x1024, .bf16⟩
  | .local _ .vmem, ⟨25, _⟩ => ⟨S8x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceFwdIdeal.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S8x128 : Shape := ⟨2, ![8, 128]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S1x5632, .f32⟩
  | .hbm, ⟨5, _⟩ => ⟨S2816x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x5632, .f32⟩
  | .hbm, ⟨24, _⟩ => ⟨S_, .f32⟩
  | .hbm, ⟨25, _⟩ => ⟨S2x5632, .f32⟩
  | .hbm, ⟨26, _⟩ => ⟨S8194x5632, .f32⟩
  | .hbm, ⟨27, _⟩ => ⟨S1x5632, .f32⟩
  | .hbm, ⟨28, _⟩ => ⟨S5632, .f32⟩
  | .hbm, ⟨29, _⟩ => ⟨S8192x5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S1x5632, .f32⟩
  | .hbm, ⟨36, _⟩ => ⟨S5632, .f32⟩
  | .hbm, ⟨37, _⟩ => ⟨S8192x5632, .f32⟩
  | .hbm, ⟨38, _⟩ => ⟨S1x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S1x5632, .f32⟩
  | .hbm, ⟨43, _⟩ => ⟨S5632, .f32⟩
  | .hbm, ⟨44, _⟩ => ⟨S8192x5632, .f32⟩
  | .hbm, ⟨45, _⟩ => ⟨S1x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S_, .f32⟩
  | .hbm, ⟨62, _⟩ => ⟨S8192x2816, .f32⟩
  | .hbm, ⟨63, _⟩ => ⟨S8192x2816, .f32⟩
  | .hbm, ⟨64, _⟩ => ⟨S_, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x1, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S8192, .f32⟩
  | .hbm, ⟨104, _⟩ => ⟨S_, .f32⟩
  | .hbm, ⟨105, _⟩ => ⟨S8192, .f32⟩
  | .hbm, ⟨106, _⟩ => ⟨S8192, .f32⟩
  | .hbm, ⟨107, _⟩ => ⟨S8192x1024, .f32⟩
  | .hbm, ⟨108, _⟩ => ⟨S8192x1024, .f32⟩
  | .hbm, ⟨109, _⟩ => ⟨S8192x1024, .bf16⟩
  | .hbm, ⟨110, _⟩ => ⟨S8192x5632, .bf16⟩
  | .hbm, ⟨111, _⟩ => ⟨S8192x2816, .f32⟩
  | .hbm, ⟨112, _⟩ => ⟨S8192x2816, .bf16⟩
  | .hbm, ⟨113, _⟩ => ⟨S8192x2816, .bf16⟩
  | .hbm, ⟨114, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_cst_14 : Ref sig .tc := ⟨.hbm, 98, rfl⟩
abbrev main_v75 : Ref sig .tc := ⟨.hbm, 99, rfl⟩
abbrev main_cst_15 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== KernelAdamUp.lean ====
abbrev S1024x1408 : Shape := ⟨2, ![1024, 1408]⟩
abbrev S704x1024 : Shape := ⟨2, ![704, 1024]⟩
abbrev S256x1408 : Shape := ⟨2, ![256, 1408]⟩
abbrev S176x1024 : Shape := ⟨2, ![176, 1024]⟩

abbrev nBuf : Space → Nat
  | .hbm => 16
  | .vmem => 32
  | .smem => 0
  | _ => 0

abbrev bufTy : (tb : Table) → Fin (tcTables nBuf tb) → BufTy
  | .hbm, ⟨0, _⟩ => ⟨S1024x1408, .f32⟩
  | .hbm, ⟨1, _⟩ => ⟨S704x1024, .f32⟩
  | .hbm, ⟨2, _⟩ => ⟨S1024x1408, .f32⟩
  | .hbm, ⟨3, _⟩ => ⟨S704x1024, .f32⟩
  | .hbm, ⟨4, _⟩ => ⟨S1024x1408, .f32⟩
  | .hbm, ⟨5, _⟩ => ⟨S704x1024, .f32⟩
  | .hbm, ⟨6, _⟩ => ⟨S1024x1408, .f32⟩
  | .hbm, ⟨7, _⟩ => ⟨S704x1024, .f32⟩
  | .hbm, ⟨8, _⟩ => ⟨S1024x1408, .f32⟩
  | .hbm, ⟨9, _⟩ => ⟨S704x1024, .f32⟩
  | .hbm, ⟨10, _⟩ => ⟨S1024x1408, .f32⟩
  | .hbm, ⟨11, _⟩ => ⟨S704x1024, .f32⟩
  | .hbm, ⟨12, _⟩ => ⟨S1024x1408, .f32⟩
  | .hbm, ⟨13, _⟩ => ⟨S704x1024, .f32⟩
  | .hbm, ⟨14, _⟩ => ⟨S1024x1408, .f32⟩
  | .hbm, ⟨15, _⟩ => ⟨S704x1024, .f32⟩
  | .local _ .vmem, ⟨0, _⟩ => ⟨S256x1408, .f32⟩
  | .local _ .vmem, ⟨1, _⟩ => ⟨S256x1408, .f32⟩
  | .local _ .vmem, ⟨2, _⟩ => ⟨S176x1024, .f32⟩
  | .local _ .vmem, ⟨3, _⟩ => ⟨S176x1024, .f32⟩
  | .local _ .vmem, ⟨4, _⟩ => ⟨S256x1408, .f32⟩
  | .local _ .vmem, ⟨5, _⟩ => ⟨S256x1408, .f32⟩
  | .local _ .vmem, ⟨6, _⟩ => ⟨S176x1024, .f32⟩
  | .local _ .vmem, ⟨7, _⟩ => ⟨S176x1024, .f32⟩
  | .local _ .vmem, ⟨8, _⟩ => ⟨S256x1408, .f32⟩
  | .local _ .vmem, ⟨9, _⟩ => ⟨S256x1408, .f32⟩
  | .local _ .vmem, ⟨10, _⟩ => ⟨S176x1024, .f32⟩
  | .local _ .vmem, ⟨11, _⟩ => ⟨S176x1024, .f32⟩
  | .local _ .vmem, ⟨12, _⟩ => ⟨S256x1408, .f32⟩
  | .local _ .vmem, ⟨13, _⟩ => ⟨S256x1408, .f32⟩
  | .local _ .vmem, ⟨14, _⟩ => ⟨S176x1024, .f32⟩
  | .local _ .vmem, ⟨15, _⟩ => ⟨S176x1024, .f32⟩
  | .local _ .vmem, ⟨16, _⟩ => ⟨S256x1408, .f32⟩
  | .local _ .vmem, ⟨17, _⟩ => ⟨S256x1408, .f32⟩
  | .local _ .vmem, ⟨18, _⟩ => ⟨S176x1024, .f32⟩
  | .local _ .vmem, ⟨19, _⟩ => ⟨S176x1024, .f32⟩
  | .local _ .vmem, ⟨20, _⟩ => ⟨S256x1408, .f32⟩
  | .local _ .vmem, ⟨21, _⟩ => ⟨S256x1408, .f32⟩
  | .local _ .vmem, ⟨22, _⟩ => ⟨S176x1024, .f32⟩
  | .local _ .vmem, ⟨23, _⟩ => ⟨S176x1024, .f32⟩
  | .local _ .vmem, ⟨24, _⟩ => ⟨S256x1408, .f32⟩
  | .local _ .vmem, ⟨25, _⟩ => ⟨S256x1408, .f32⟩
  | .local _ .vmem, ⟨26, _⟩ => ⟨S176x1024, .f32⟩
  | .local _ .vmem, ⟨27, _⟩ => ⟨S176x1024, .f32⟩
  | .local _ .vmem, ⟨28, _⟩ => ⟨S256x1408, .f32⟩
  | .local _ .vmem, ⟨29, _⟩ => ⟨S256x1408, .f32⟩
  | .local _ .vmem, ⟨30, _⟩ => ⟨S176x1024, .f32⟩
  | .local _ .vmem, ⟨31, _⟩ => ⟨S176x1024, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceAdamUpIdeal.lean ====
abbrev S1024x1408 : Shape := ⟨2, ![1024, 1408]⟩
abbrev S704x1024 : Shape := ⟨2, ![704, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S704x1024, .f32⟩
  | .hbm, ⟨2, _⟩ => ⟨S1024x1408, .f32⟩
  | .hbm, ⟨3, _⟩ => ⟨S704x1024, .f32⟩
  | .hbm, ⟨4, _⟩ => ⟨S1024x1408, .f32⟩
  | .hbm, ⟨5, _⟩ => ⟨S704x1024, .f32⟩
  | .hbm, ⟨6, _⟩ => ⟨S1024x1408, .f32⟩
  | .hbm, ⟨7, _⟩ => ⟨S704x1024, .f32⟩
  | .hbm, ⟨8, _⟩ => ⟨S_, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S_, .f32⟩
  | .hbm, ⟨39, _⟩ => ⟨S1024x1408, .f32⟩
  | .hbm, ⟨40, _⟩ => ⟨S1024x1408, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S_, .f32⟩
  | .hbm, ⟨57, _⟩ => ⟨S704x1024, .f32⟩
  | .hbm, ⟨58, _⟩ => ⟨S704x1024, .f32⟩
  | .hbm, ⟨59, _⟩ => ⟨S_, .f32⟩
  | .hbm, ⟨60, _⟩ => ⟨S704x1024, .f32⟩
  | .hbm, ⟨61, _⟩ => ⟨S704x1024, .f32⟩
  | .hbm, ⟨62, _⟩ => ⟨S704x1024, .f32⟩
  | .hbm, ⟨63, _⟩ => ⟨S_, .f32⟩
  | .hbm, ⟨64, _⟩ => ⟨S704x1024, .f32⟩
  | .hbm, ⟨65, _⟩ => ⟨S704x1024, .f32⟩
  | .hbm, ⟨66, _⟩ => ⟨S704x1024, .f32⟩
  | .hbm, ⟨67, _⟩ => ⟨S_, .f32⟩
  | .hbm, ⟨68, _⟩ => ⟨S704x1024, .f32⟩
  | .hbm, ⟨69, _⟩ => ⟨S704x1024, .f32⟩
  | .hbm, ⟨70, _⟩ => ⟨S704x1024, .f32⟩
  | .hbm, ⟨71, _⟩ => ⟨S_, .f32⟩
  | .hbm, ⟨72, _⟩ => ⟨S704x1024, .f32⟩
  | .hbm, ⟨73, _⟩ => ⟨S704x1024, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== KernelAdamIn.lean ====
abbrev S1024x580 : Shape := ⟨2, ![1024, 580]⟩
abbrev S256x1024 : Shape := ⟨2, ![256, 1024]⟩
abbrev S256x580 : Shape := ⟨2, ![256, 580]⟩
abbrev S64x1024 : Shape := ⟨2, ![64, 1024]⟩

abbrev nBuf : Space → Nat
  | .hbm => 16
  | .vmem => 32
  | .smem => 0
  | _ => 0

abbrev bufTy : (tb : Table) → Fin (tcTables nBuf tb) → BufTy
  | .hbm, ⟨0, _⟩ => ⟨S1024x580, .f32⟩
  | .hbm, ⟨1, _⟩ => ⟨S256x1024, .f32⟩
  | .hbm, ⟨2, _⟩ => ⟨S1024x580, .f32⟩
  | .hbm, ⟨3, _⟩ => ⟨S256x1024, .f32⟩
  | .hbm, ⟨4, _⟩ => ⟨S1024x580, .f32⟩
  | .hbm, ⟨5, _⟩ => ⟨S256x1024, .f32⟩
  | .hbm, ⟨6, _⟩ => ⟨S1024x580, .f32⟩
  | .hbm, ⟨7, _⟩ => ⟨S256x1024, .f32⟩
  | .hbm, ⟨8, _⟩ => ⟨S1024x580, .f32⟩
  | .hbm, ⟨9, _⟩ => ⟨S256x1024, .f32⟩
  | .hbm, ⟨10, _⟩ => ⟨S1024x580, .f32⟩
  | .hbm, ⟨11, _⟩ => ⟨S256x1024, .f32⟩
  | .hbm, ⟨12, _⟩ => ⟨S1024x580, .f32⟩
  | .hbm, ⟨13, _⟩ => ⟨S256x1024, .f32⟩
  | .hbm, ⟨14, _⟩ => ⟨S1024x580, .f32⟩
  | .hbm, ⟨15, _⟩ => ⟨S256x1024, .f32⟩
  | .local _ .vmem, ⟨0, _⟩ => ⟨S256x580, .f32⟩
  | .local _ .vmem, ⟨1, _⟩ => ⟨S256x580, .f32⟩
  | .local _ .vmem, ⟨2, _⟩ => ⟨S64x1024, .f32⟩
  | .local _ .vmem, ⟨3, _⟩ => ⟨S64x1024, .f32⟩
  | .local _ .vmem, ⟨4, _⟩ => ⟨S256x580, .f32⟩
  | .local _ .vmem, ⟨5, _⟩ => ⟨S256x580, .f32⟩
  | .local _ .vmem, ⟨6, _⟩ => ⟨S64x1024, .f32⟩
  | .local _ .vmem, ⟨7, _⟩ => ⟨S64x1024, .f32⟩
  | .local _ .vmem, ⟨8, _⟩ => ⟨S256x580, .f32⟩
  | .local _ .vmem, ⟨9, _⟩ => ⟨S256x580, .f32⟩
  | .local _ .vmem, ⟨10, _⟩ => ⟨S64x1024, .f32⟩
  | .local _ .vmem, ⟨11, _⟩ => ⟨S64x1024, .f32⟩
  | .local _ .vmem, ⟨12, _⟩ => ⟨S256x580, .f32⟩
  | .local _ .vmem, ⟨13, _⟩ => ⟨S256x580, .f32⟩
  | .local _ .vmem, ⟨14, _⟩ => ⟨S64x1024, .f32⟩
  | .local _ .vmem, ⟨15, _⟩ => ⟨S64x1024, .f32⟩
  | .local _ .vmem, ⟨16, _⟩ => ⟨S256x580, .f32⟩
  | .local _ .vmem, ⟨17, _⟩ => ⟨S256x580, .f32⟩
  | .local _ .vmem, ⟨18, _⟩ => ⟨S64x1024, .f32⟩
  | .local _ .vmem, ⟨19, _⟩ => ⟨S64x1024, .f32⟩
  | .local _ .vmem, ⟨20, _⟩ => ⟨S256x580, .f32⟩
  | .local _ .vmem, ⟨21, _⟩ => ⟨S256x580, .f32⟩
  | .local _ .vmem, ⟨22, _⟩ => ⟨S64x1024, .f32⟩
  | .local _ .vmem, ⟨23, _⟩ => ⟨S64x1024, .f32⟩
  | .local _ .vmem, ⟨24, _⟩ => ⟨S256x580, .f32⟩
  | .local _ .vmem, ⟨25, _⟩ => ⟨S256x580, .f32⟩
  | .local _ .vmem, ⟨26, _⟩ => ⟨S64x1024, .f32⟩
  | .local _ .vmem, ⟨27, _⟩ => ⟨S64x1024, .f32⟩
  | .local _ .vmem, ⟨28, _⟩ => ⟨S256x580, .f32⟩
  | .local _ .vmem, ⟨29, _⟩ => ⟨S256x580, .f32⟩
  | .local _ .vmem, ⟨30, _⟩ => ⟨S64x1024, .f32⟩
  | .local _ .vmem, ⟨31, _⟩ => ⟨S64x1024, .f32⟩
  | _, _ => ⟨S1024x580, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x580 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x580 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x580 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x580 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x580 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x580 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x580 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x580 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceAdamInIdeal.lean ====
abbrev S1024x580 : Shape := ⟨2, ![1024, 580]⟩
abbrev S256x1024 : Shape := ⟨2, ![256, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x580, .f32⟩
  | .hbm, ⟨1, _⟩ => ⟨S256x1024, .f32⟩
  | .hbm, ⟨2, _⟩ => ⟨S1024x580, .f32⟩
  | .hbm, ⟨3, _⟩ => ⟨S256x1024, .f32⟩
  | .hbm, ⟨4, _⟩ => ⟨S1024x580, .f32⟩
  | .hbm, ⟨5, _⟩ => ⟨S256x1024, .f32⟩
  | .hbm, ⟨6, _⟩ => ⟨S1024x580, .f32⟩
  | .hbm, ⟨7, _⟩ => ⟨S256x1024, .f32⟩
  | .hbm, ⟨8, _⟩ => ⟨S_, .f32⟩
  | .hbm, ⟨9, _⟩ => ⟨S1024x580, .f32⟩
  | .hbm, ⟨10, _⟩ => ⟨S1024x580, .f32⟩
  | .hbm, ⟨11, _⟩ => ⟨S_, .f32⟩
  | .hbm, ⟨12, _⟩ => ⟨S1024x580, .f32⟩
  | .hbm, ⟨13, _⟩ => ⟨S1024x580, .f32⟩
  | .hbm, ⟨14, _⟩ => ⟨S1024x580, .f32⟩
  | .hbm, ⟨15, _⟩ => ⟨S_, .f32⟩
  | .hbm, ⟨16, _⟩ => ⟨S1024x580, .f32⟩
  | .hbm, ⟨17, _⟩ => ⟨S1024x580, .f32⟩
  | .hbm, ⟨18, _⟩ => ⟨S1024x580, .f32⟩
  | .hbm, ⟨19, _⟩ => ⟨S_, .f32⟩
  | .hbm, ⟨20, _⟩ => ⟨S1024x580, .f32⟩
  | .hbm, ⟨21, _⟩ => ⟨S1024x580, .f32⟩
  | .hbm, ⟨22, _⟩ => ⟨S1024x580, .f32⟩
  | .hbm, ⟨23, _⟩ => ⟨S_, .f32⟩
  | .hbm, ⟨24, _⟩ => ⟨S1024x580, .f32⟩
  | .hbm, ⟨25, _⟩ => ⟨S1024x580, .f32⟩
  | .hbm, ⟨26, _⟩ => ⟨S_, .f32⟩
  | .hbm, ⟨27, _⟩ => ⟨S1024x580, .f32⟩
  | .hbm, ⟨28, _⟩ => ⟨S1024x580, .f32⟩
  | .hbm, ⟨29, _⟩ => ⟨S1024x580, .f32⟩
  | .hbm, ⟨30, _⟩ => ⟨S_, .f32⟩
  | .hbm, ⟨31, _⟩ => ⟨S1024x580, .f32⟩
  | .hbm, ⟨32, _⟩ => ⟨S1024x580, .f32⟩
  | .hbm, ⟨33, _⟩ => ⟨S1024x580, .f32⟩
  | .hbm, ⟨34, _⟩ => ⟨S_, .f32⟩
  | .hbm, ⟨35, _⟩ => ⟨S1024x580, .f32⟩
  | .hbm, ⟨36, _⟩ => ⟨S1024x580, .f32⟩
  | .hbm, ⟨37, _⟩ => ⟨S1024x580, .f32⟩
  | .hbm, ⟨38, _⟩ => ⟨S_, .f32⟩
  | .hbm, ⟨39, _⟩ => ⟨S1024x580, .f32⟩
  | .hbm, ⟨40, _⟩ => ⟨S1024x580, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | _, _ => ⟨S1024x580, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== KernelAdamSmall.lean ====
abbrev S1x1024 : Shape := ⟨2, ![1, 1024]⟩
abbrev S1x256 : Shape := ⟨2, ![1, 256]⟩
abbrev S1x128 : Shape := ⟨2, ![1, 128]⟩
abbrev S1x8 : Shape := ⟨2, ![1, 8]⟩
abbrev S1x5632 : Shape := ⟨2, ![1, 5632]⟩
abbrev S16x64 : Shape := ⟨2, ![16, 64]⟩
abbrev S3x1408 : Shape := ⟨2, ![3, 1408]⟩

abbrev nBuf : Space → Nat
  | .hbm => 80
  | .vmem => 80
  | .smem => 0
  | _ => 0

abbrev bufTy : (tb : Table) → Fin (tcTables nBuf tb) → BufTy
  | .hbm, ⟨0, _⟩ => ⟨S1x1024, .f32⟩
  | .hbm, ⟨1, _⟩ => ⟨S1x256, .f32⟩
  | .hbm, ⟨2, _⟩ => ⟨S1x128, .f32⟩
  | .hbm, ⟨3, _⟩ => ⟨S1x8, .f32⟩
  | .hbm, ⟨4, _⟩ => ⟨S1x1024, .f32⟩
  | .hbm, ⟨5, _⟩ => ⟨S1x1024, .f32⟩
  | .hbm, ⟨6, _⟩ => ⟨S1x5632, .f32⟩
  | .hbm, ⟨7, _⟩ => ⟨S1x1024, .f32⟩
  | .hbm, ⟨8, _⟩ => ⟨S16x64, .f32⟩
  | .hbm, ⟨9, _⟩ => ⟨S3x1408, .f32⟩
  | .hbm, ⟨10, _⟩ => ⟨S1x1024, .f32⟩
  | .hbm, ⟨11, _⟩ => ⟨S1x256, .f32⟩
  | .hbm, ⟨12, _⟩ => ⟨S1x128, .f32⟩
  | .hbm, ⟨13, _⟩ => ⟨S1x8, .f32⟩
  | .hbm, ⟨14, _⟩ => ⟨S1x1024, .f32⟩
  | .hbm, ⟨15, _⟩ => ⟨S1x1024, .f32⟩
  | .hbm, ⟨16, _⟩ => ⟨S1x5632, .f32⟩
  | .hbm, ⟨17, _⟩ => ⟨S1x1024, .f32⟩
  | .hbm, ⟨18, _⟩ => ⟨S16x64, .f32⟩
  | .hbm, ⟨19, _⟩ => ⟨S3x1408, .f32⟩
  | .hbm, ⟨20, _⟩ => ⟨S1x1024, .f32⟩
  | .hbm, ⟨21, _⟩ => ⟨S1x256, .f32⟩
  | .hbm, ⟨22, _⟩ => ⟨S1x128, .f32⟩
  | .hbm, ⟨23, _⟩ => ⟨S1x8, .f32⟩
  | .hbm, ⟨24, _⟩ => ⟨S1x1024, .f32⟩
  | .hbm, ⟨25, _⟩ => ⟨S1x1024, .f32⟩
  | .hbm, ⟨26, _⟩ => ⟨S1x5632, .f32⟩
  | .hbm, ⟨27, _⟩ => ⟨S1x1024, .f32⟩
  | .hbm, ⟨28, _⟩ => ⟨S16x64, .f32⟩
  | .hbm, ⟨29, _⟩ => ⟨S3x1408, .f32⟩
  | .hbm, ⟨30, _⟩ => ⟨S1x1024, .f32⟩
  | .hbm, ⟨31, _⟩ => ⟨S1x256, .f32⟩
  | .hbm, ⟨32, _⟩ => ⟨S1x128, .f32⟩
  | .hbm, ⟨33, _⟩ => ⟨S1x8, .f32⟩
  | .hbm, ⟨34, _⟩ => ⟨S1x1024, .f32⟩
  | .hbm, ⟨35, _⟩ => ⟨S1x1024, .f32⟩
  | .hbm, ⟨36, _⟩ => ⟨S1x5632, .f32⟩
  | .hbm, ⟨37, _⟩ => ⟨S1x1024, .f32⟩
  | .hbm, ⟨38, _⟩ => ⟨S16x64, .f32⟩
  | .hbm, ⟨39, _⟩ => ⟨S3x1408, .f32⟩
  | .hbm, ⟨40, _⟩ => ⟨S1x1024, .f32⟩
  | .hbm, ⟨41, _⟩ => ⟨S1x256, .f32⟩
  | .hbm, ⟨42, _⟩ => ⟨S1x128, .f32⟩
  | .hbm, ⟨43, _⟩ => ⟨S1x8, .f32⟩
  | .hbm, ⟨44, _⟩ => ⟨S1x1024, .f32⟩
  | .hbm, ⟨45, _⟩ => ⟨S1x1024, .f32⟩
  | .hbm, ⟨46, _⟩ => ⟨S1x5632, .f32⟩
  | .hbm, ⟨47, _⟩ => ⟨S1x1024, .f32⟩
  | .hbm, ⟨48, _⟩ => ⟨S16x64, .f32⟩
  | .hbm, ⟨49, _⟩ => ⟨S3x1408, .f32⟩
  | .hbm, ⟨50, _⟩ => ⟨S1x1024, .f32⟩
  | .hbm, ⟨51, _⟩ => ⟨S1x256, .f32⟩
  | .hbm, ⟨52, _⟩ => ⟨S1x128, .f32⟩
  | .hbm, ⟨53, _⟩ => ⟨S1x8, .f32⟩
  | .hbm, ⟨54, _⟩ => ⟨S1x1024, .f32⟩
  | .hbm, ⟨55, _⟩ => ⟨S1x1024, .f32⟩
  | .hbm, ⟨56, _⟩ => ⟨S1x5632, .f32⟩
  | .hbm, ⟨57, _⟩ => ⟨S1x1024, .f32⟩
  | .hbm, ⟨58, _⟩ => ⟨S16x64, .f32⟩
  | .hbm, ⟨59, _⟩ => ⟨S3x1408, .f32⟩
  | .hbm, ⟨60, _⟩ => ⟨S1x1024, .f32⟩
  | .hbm, ⟨61, _⟩ => ⟨S1x256, .f32⟩
  | .hbm, ⟨62, _⟩ => ⟨S1x128, .f32⟩
  | .hbm, ⟨63, _⟩ => ⟨S1x8, .f32⟩
  | .hbm, ⟨64, _⟩ => ⟨S1x1024, .f32⟩
  | .hbm, ⟨65, _⟩ => ⟨S1x1024, .f32⟩
  | .hbm, ⟨66, _⟩ => ⟨S1x5632, .f32⟩
  | .hbm, ⟨67, _⟩ => ⟨S1x1024, .f32⟩
  | .hbm, ⟨68, _⟩ => ⟨S16x64, .f32⟩
  | .hbm, ⟨69, _⟩ => ⟨S3x1408, .f32⟩
  | .hbm, ⟨70, _⟩ => ⟨S1x1024, .f32⟩
  | .hbm, ⟨71, _⟩ => ⟨S1x256, .f32⟩
  | .hbm, ⟨72, _⟩ => ⟨S1x128, .f32⟩
  | .hbm, ⟨73, _⟩ => ⟨S1x8, .f32⟩
  | .hbm, ⟨74, _⟩ => ⟨S1x1024, .f32⟩
  | .hbm, ⟨75, _⟩ => ⟨S1x1024, .f32⟩
  | .hbm, ⟨76, _⟩ => ⟨S1x5632, .f32⟩
  | .hbm, ⟨77, _⟩ => ⟨S1x1024, .f32⟩
  | .hbm, ⟨78, _⟩ => ⟨S16x64, .f32⟩
  | .hbm, ⟨79, _⟩ => ⟨S3x1408, .f32⟩
  | .local _ .vmem, ⟨0, _⟩ => ⟨S1x1024, .f32⟩
  | .local _ .vmem, ⟨1, _⟩ => ⟨S1x256, .f32⟩
  | .local _ .vmem, ⟨2, _⟩ => ⟨S1x128, .f32⟩
  | .local _ .vmem, ⟨3, _⟩ => ⟨S1x8, .f32⟩
  | .local _ .vmem, ⟨4, _⟩ => ⟨S1x1024, .f32⟩
  | .local _ .vmem, ⟨5, _⟩ => ⟨S1x1024, .f32⟩
  | .local _ .vmem, ⟨6, _⟩ => ⟨S1x5632, .f32⟩
  | .local _ .vmem, ⟨7, _⟩ => ⟨S1x1024, .f32⟩
  | .local _ .vmem, ⟨8, _⟩ => ⟨S16x64, .f32⟩
  | .local _ .vmem, ⟨9, _⟩ => ⟨S3x1408, .f32⟩
  | .local _ .vmem, ⟨10, _⟩ => ⟨S1x1024, .f32⟩
  | .local _ .vmem, ⟨11, _⟩ => ⟨S1x256, .f32⟩
  | .local _ .vmem, ⟨12, _⟩ => ⟨S1x128, .f32⟩
  | .local _ .vmem, ⟨13, _⟩ => ⟨S1x8, .f32⟩
  | .local _ .vmem, ⟨14, _⟩ => ⟨S1x1024, .f32⟩
  | .local _ .vmem, ⟨15, _⟩ => ⟨S1x1024, .f32⟩
  | .local _ .vmem, ⟨16, _⟩ => ⟨S1x5632, .f32⟩
  | .local _ .vmem, ⟨17, _⟩ => ⟨S1x1024, .f32⟩
  | .local _ .vmem, ⟨18, _⟩ => ⟨S16x64, .f32⟩
  | .local _ .vmem, ⟨19, _⟩ => ⟨S3x1408, .f32⟩
  | .local _ .vmem, ⟨20, _⟩ => ⟨S1x1024, .f32⟩
  | .local _ .vmem, ⟨21, _⟩ => ⟨S1x256, .f32⟩
  | .local _ .vmem, ⟨22, _⟩ => ⟨S1x128, .f32⟩
  | .local _ .vmem, ⟨23, _⟩ => ⟨S1x8, .f32⟩
  | .local _ .vmem, ⟨24, _⟩ => ⟨S1x1024, .f32⟩
  | .local _ .vmem, ⟨25, _⟩ => ⟨S1x1024, .f32⟩
  | .local _ .vmem, ⟨26, _⟩ => ⟨S1x5632, .f32⟩
  | .local _ .vmem, ⟨27, _⟩ => ⟨S1x1024, .f32⟩
  | .local _ .vmem, ⟨28, _⟩ => ⟨S16x64, .f32⟩
  | .local _ .vmem, ⟨29, _⟩ => ⟨S3x1408, .f32⟩
  | .local _ .vmem, ⟨30, _⟩ => ⟨S1x1024, .f32⟩
  | .local _ .vmem, ⟨31, _⟩ => ⟨S1x256, .f32⟩
  | .local _ .vmem, ⟨32, _⟩ => ⟨S1x128, .f32⟩
  | .local _ .vmem, ⟨33, _⟩ => ⟨S1x8, .f32⟩
  | .local _ .vmem, ⟨34, _⟩ => ⟨S1x1024, .f32⟩
  | .local _ .vmem, ⟨35, _⟩ => ⟨S1x1024, .f32⟩
  | .local _ .vmem, ⟨36, _⟩ => ⟨S1x5632, .f32⟩
  | .local _ .vmem, ⟨37, _⟩ => ⟨S1x1024, .f32⟩
  | .local _ .vmem, ⟨38, _⟩ => ⟨S16x64, .f32⟩
  | .local _ .vmem, ⟨39, _⟩ => ⟨S3x1408, .f32⟩
  | .local _ .vmem, ⟨40, _⟩ => ⟨S1x1024, .f32⟩
  | .local _ .vmem, ⟨41, _⟩ => ⟨S1x256, .f32⟩
  | .local _ .vmem, ⟨42, _⟩ => ⟨S1x128, .f32⟩
  | .local _ .vmem, ⟨43, _⟩ => ⟨S1x8, .f32⟩
  | .local _ .vmem, ⟨44, _⟩ => ⟨S1x1024, .f32⟩
  | .local _ .vmem, ⟨45, _⟩ => ⟨S1x1024, .f32⟩
  | .local _ .vmem, ⟨46, _⟩ => ⟨S1x5632, .f32⟩
  | .local _ .vmem, ⟨47, _⟩ => ⟨S1x1024, .f32⟩
  | .local _ .vmem, ⟨48, _⟩ => ⟨S16x64, .f32⟩
  | .local _ .vmem, ⟨49, _⟩ => ⟨S3x1408, .f32⟩
  | .local _ .vmem, ⟨50, _⟩ => ⟨S1x1024, .f32⟩
  | .local _ .vmem, ⟨51, _⟩ => ⟨S1x256, .f32⟩
  | .local _ .vmem, ⟨52, _⟩ => ⟨S1x128, .f32⟩
  | .local _ .vmem, ⟨53, _⟩ => ⟨S1x8, .f32⟩
  | .local _ .vmem, ⟨54, _⟩ => ⟨S1x1024, .f32⟩
  | .local _ .vmem, ⟨55, _⟩ => ⟨S1x1024, .f32⟩
  | .local _ .vmem, ⟨56, _⟩ => ⟨S1x5632, .f32⟩
  | .local _ .vmem, ⟨57, _⟩ => ⟨S1x1024, .f32⟩
  | .local _ .vmem, ⟨58, _⟩ => ⟨S16x64, .f32⟩
  | .local _ .vmem, ⟨59, _⟩ => ⟨S3x1408, .f32⟩
  | .local _ .vmem, ⟨60, _⟩ => ⟨S1x1024, .f32⟩
  | .local _ .vmem, ⟨61, _⟩ => ⟨S1x256, .f32⟩
  | .local _ .vmem, ⟨62, _⟩ => ⟨S1x128, .f32⟩
  | .local _ .vmem, ⟨63, _⟩ => ⟨S1x8, .f32⟩
  | .local _ .vmem, ⟨64, _⟩ => ⟨S1x1024, .f32⟩
  | .local _ .vmem, ⟨65, _⟩ => ⟨S1x1024, .f32⟩
  | .local _ .vmem, ⟨66, _⟩ => ⟨S1x5632, .f32⟩
  | .local _ .vmem, ⟨67, _⟩ => ⟨S1x1024, .f32⟩
  | .local _ .vmem, ⟨68, _⟩ => ⟨S16x64, .f32⟩
  | .local _ .vmem, ⟨69, _⟩ => ⟨S3x1408, .f32⟩
  | .local _ .vmem, ⟨70, _⟩ => ⟨S1x1024, .f32⟩
  | .local _ .vmem, ⟨71, _⟩ => ⟨S1x256, .f32⟩
  | .local _ .vmem, ⟨72, _⟩ => ⟨S1x128, .f32⟩
  | .local _ .vmem, ⟨73, _⟩ => ⟨S1x8, .f32⟩
  | .local _ .vmem, ⟨74, _⟩ => ⟨S1x1024, .f32⟩
  | .local _ .vmem, ⟨75, _⟩ => ⟨S1x1024, .f32⟩
  | .local _ .vmem, ⟨76, _⟩ => ⟨S1x5632, .f32⟩
  | .local _ .vmem, ⟨77, _⟩ => ⟨S1x1024, .f32⟩
  | .local _ .vmem, ⟨78, _⟩ => ⟨S16x64, .f32⟩
  | .local _ .vmem, ⟨79, _⟩ => ⟨S3x1408, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev main_v0_4 : Ref sig .tc := ⟨.hbm, 44, rfl⟩
abbrev main_v0_5 : Ref sig .tc := ⟨.hbm, 45, rfl⟩
abbrev main_v0_6 : Ref sig .tc := ⟨.hbm, 46, rfl⟩
abbrev main_v0_7 : Ref sig .tc := ⟨.hbm, 47, rfl⟩
abbrev main_v0_8 : Ref sig .tc := ⟨.hbm, 48, rfl⟩
abbrev main_v0_9 : Ref sig .tc := ⟨.hbm, 49, rfl⟩
abbrev main_v0_10 : Ref sig .tc := ⟨.hbm, 50, rfl⟩
abbrev main_v0_11 : Ref sig .tc := ⟨.hbm, 51, rfl⟩
abbrev main_v0_12 : Ref sig .tc := ⟨.hbm, 52, rfl⟩
abbrev main_v0_13 : Ref sig .tc := ⟨.hbm, 53, rfl⟩
abbrev main_v0_14 : Ref sig .tc := ⟨.hbm, 54, rfl⟩
abbrev main_v0_15 : Ref sig .tc := ⟨.hbm, 55, rfl⟩
abbrev main_v0_16 : Ref sig .tc := ⟨.hbm, 56, rfl⟩
abbrev main_v0_17 : Ref sig .tc := ⟨.hbm, 57, rfl⟩
abbrev main_v0_18 : Ref sig .tc := ⟨.hbm, 58, rfl⟩
abbrev main_v0_19 : Ref sig .tc := ⟨.hbm, 59, rfl⟩
abbrev main_v0_20 : Ref sig .tc := ⟨.hbm, 60, rfl⟩
abbrev main_v0_21 : Ref sig .tc := ⟨.hbm, 61, rfl⟩
abbrev main_v0_22 : Ref sig .tc := ⟨.hbm, 62, rfl⟩
abbrev main_v0_23 : Ref sig .tc := ⟨.hbm, 63, rfl⟩
abbrev main_v0_24 : Ref sig .tc := ⟨.hbm, 64, rfl⟩
abbrev main_v0_25 : Ref sig .tc := ⟨.hbm, 65, rfl⟩
abbrev main_v0_26 : Ref sig .tc := ⟨.hbm, 66, rfl⟩
abbrev main_v0_27 : Ref sig .tc := ⟨.hbm, 67, rfl⟩
abbrev main_v0_28 : Ref sig .tc := ⟨.hbm, 68, rfl⟩
abbrev main_v0_29 : Ref sig .tc := ⟨.hbm, 69, rfl⟩
abbrev main_v0_30 : Ref sig .tc := ⟨.hbm, 70, rfl⟩
abbrev main_v0_31 : Ref sig .tc := ⟨.hbm, 71, rfl⟩
abbrev main_v0_32 : Ref sig .tc := ⟨.hbm, 72, rfl⟩
abbrev main_v0_33 : Ref sig .tc := ⟨.hbm, 73, rfl⟩
abbrev main_v0_34 : Ref sig .tc := ⟨.hbm, 74, rfl⟩
abbrev main_v0_35 : Ref sig .tc := ⟨.hbm, 75, rfl⟩
abbrev main_v0_36 : Ref sig .tc := ⟨.hbm, 76, rfl⟩
abbrev main_v0_37 : Ref sig .tc := ⟨.hbm, 77, rfl⟩
abbrev main_v0_38 : Ref sig .tc := ⟨.hbm, 78, rfl⟩
abbrev main_v0_39 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x1408 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x8 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x5632 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S16x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S3x1408 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x8 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x5632 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S16x64 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S3x1408 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x256 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x8 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x5632 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S16x64 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S3x1408 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x256 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x8 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x5632 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S16x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S3x1408 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x256 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x128 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x8 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x5632 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S16x64 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S3x1408 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x1024 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x256 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x128 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x8 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1x1024 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x5632 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x1024 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S16x64 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S3x1408 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))
-- ==== ReferenceAdamSmallIdeal.lean ====
abbrev S1x1024 : Shape := ⟨2, ![1, 1024]⟩
abbrev S1x256 : Shape := ⟨2, ![1, 256]⟩
abbrev S1x128 : Shape := ⟨2, ![1, 128]⟩
abbrev S1x8 : Shape := ⟨2, ![1, 8]⟩
abbrev S1x5632 : Shape := ⟨2, ![1, 5632]⟩
abbrev S16x64 : Shape := ⟨2, ![16, 64]⟩
abbrev S3x1408 : Shape := ⟨2, ![3, 1408]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S1x1024, .f32⟩
  | 1 => ⟨S1x256, .f32⟩
  | 2 => ⟨S1x128, .f32⟩
  | 3 => ⟨S1x8, .f32⟩
  | 4 => ⟨S1x1024, .f32⟩
  | 5 => ⟨S1x1024, .f32⟩
  | 6 => ⟨S1x5632, .f32⟩
  | 7 => ⟨S1x1024, .f32⟩
  | 8 => ⟨S16x64, .f32⟩
  | 9 => ⟨S3x1408, .f32⟩
  | 10 => ⟨S1x1024, .f32⟩
  | 11 => ⟨S1x256, .f32⟩
  | 12 => ⟨S1x128, .f32⟩
  | 13 => ⟨S1x8, .f32⟩
  | 14 => ⟨S1x1024, .f32⟩
  | 15 => ⟨S1x1024, .f32⟩
  | 16 => ⟨S1x5632, .f32⟩
  | 17 => ⟨S1x1024, .f32⟩
  | 18 => ⟨S16x64, .f32⟩
  | 19 => ⟨S3x1408, .f32⟩
  | 20 => ⟨S1x1024, .f32⟩
  | 21 => ⟨S1x256, .f32⟩
  | 22 => ⟨S1x128, .f32⟩
  | 23 => ⟨S1x8, .f32⟩
  | 24 => ⟨S1x1024, .f32⟩
  | 25 => ⟨S1x1024, .f32⟩
  | 26 => ⟨S1x5632, .f32⟩
  | 27 => ⟨S1x1024, .f32⟩
  | 28 => ⟨S16x64, .f32⟩
  | 29 => ⟨S3x1408, .f32⟩
  | 30 => ⟨S1x1024, .f32⟩
  | 31 => ⟨S1x256, .f32⟩
  | 32 => ⟨S1x128, .f32⟩
  | 33 => ⟨S1x8, .f32⟩
  | 34 => ⟨S1x1024, .f32⟩
  | 35 => ⟨S1x1024, .f32⟩
  | 36 => ⟨S1x5632, .f32⟩
  | 37 => ⟨S1x1024, .f32⟩
  | 38 => ⟨S16x64, .f32⟩
  | 39 => ⟨S3x1408, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S_, .f32⟩
  | 74 => ⟨S1x256, .f32⟩
  | 75 => ⟨S1x256, .f32⟩
  | 76 => ⟨S_, .f32⟩
  | 77 => ⟨S1x256, .f32⟩
  | 78 => ⟨S1x256, .f32⟩
  | 79 => ⟨S1x256, .f32⟩
  | 80 => ⟨S_, .f32⟩
  | 81 => ⟨S1x256, .f32⟩
  | 82 => ⟨S1x256, .f32⟩
  | 83 => ⟨S1x256, .f32⟩
  | 84 => ⟨S_, .f32⟩
  | 85 => ⟨S1x256, .f32⟩
  | 86 => ⟨S1x256, .f32⟩
  | 87 => ⟨S1x256, .f32⟩
  | 88 => ⟨S_, .f32⟩
  | 89 => ⟨S1x256, .f32⟩
  | 90 => ⟨S1x256, .f32⟩
  | 91 => ⟨S_, .f32⟩
  | 92 => ⟨S1x256, .f32⟩
  | 93 => ⟨S1x256, .f32⟩
  | 94 => ⟨S1x256, .f32⟩
  | 95 => ⟨S_, .f32⟩
  | 96 => ⟨S1x256, .f32⟩
  | 97 => ⟨S1x256, .f32⟩
  | 98 => ⟨S1x256, .f32⟩
  | 99 => ⟨S_, .f32⟩
  | 100 => ⟨S1x256, .f32⟩
  | 101 => ⟨S1x256, .f32⟩
  | 102 => ⟨S1x256, .f32⟩
  | 103 => ⟨S_, .f32⟩
  | 104 => ⟨S1x256, .f32⟩
  | 105 => ⟨S1x256, .f32⟩
  | 106 => ⟨S_, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S1x1024, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S_, .f32⟩
  | 12 => ⟨S1x8, .f32⟩
  | 13 => ⟨S1x8, .f32⟩
  | 14 => ⟨S_, .f32⟩
  | 15 => ⟨S1x8, .f32⟩
  | 16 => ⟨S1x8, .f32⟩
  | 17 => ⟨S1x8, .f32⟩
  | 18 => ⟨S_, .f32⟩
  | 19 => ⟨S1x8, .f32⟩
  | 20 => ⟨S1x8, .f32⟩
  | 21 => ⟨S1x8, .f32⟩
  | 22 => ⟨S_, .f32⟩
  | 23 => ⟨S1x8, .f32⟩
  | 24 => ⟨S1x8, .f32⟩
  | 25 => ⟨S1x8, .f32⟩
  | 26 => ⟨S_, .f32⟩
  | 27 => ⟨S1x8, .f32⟩
  | 28 => ⟨S1x8, .f32⟩
  | 29 => ⟨S_, .f32⟩
  | 30 => ⟨S1x8, .f32⟩
  | 31 => ⟨S1x8, .f32⟩
  | 32 => ⟨S1x8, .f32⟩
  | 33 => ⟨S_, .f32⟩
  | 34 => ⟨S1x8, .f32⟩
  | 35 => ⟨S1x8, .f32⟩
  | 36 => ⟨S1x8, .f32⟩
  | 37 => ⟨S_, .f32⟩
  | 38 => ⟨S1x8, .f32⟩
  | 39 => ⟨S1x8, .f32⟩
  | 40 => ⟨S1x8, .f32⟩
  | 41 => ⟨S_, .f32⟩
  | 42 => ⟨S1x8, .f32⟩
  | 43 => ⟨S1x8, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S_, .f32⟩
  | 111 => ⟨S1x5632, .f32⟩
  | 112 => ⟨S1x5632, .f32⟩
  | 113 => ⟨S_, .f32⟩
  | 114 => ⟨S1x5632, .f32⟩
  | 115 => ⟨S1x5632, .f32⟩
  | 116 => ⟨S1x5632, .f32⟩
  | 117 => ⟨S_, .f32⟩
  | 118 => ⟨S1x5632, .f32⟩
  | 119 => ⟨S1x5632, .f32⟩
  | 120 => ⟨S1x5632, .f32⟩
  | 121 => ⟨S_, .f32⟩
  | 122 => ⟨S1x5632, .f32⟩
  | 123 => ⟨S1x5632, .f32⟩
  | 124 => ⟨S1x5632, .f32⟩
  | 125 => ⟨S_, .f32⟩
  | 126 => ⟨S1x5632, .f32⟩
  | 127 => ⟨S1x5632, .f32⟩
  | _ => ⟨S1x1024, .f32⟩

abbrev hbmTy0_2 (i : Nat) : BufTy := match i % 128 with
  | 0 => ⟨S_, .f32⟩
  | 1 => ⟨S1x5632, .f32⟩
  | 2 => ⟨S1x5632, .f32⟩
  | 3 => ⟨S1x5632, .f32⟩
  | 4 => ⟨S_, .f32⟩
  | 5 => ⟨S1x5632, .f32⟩
  | 6 => ⟨S1x5632, .f32⟩
  | 7 => ⟨S1x5632, .f32⟩
  | 8 => ⟨S_, .f32⟩
  | 9 => ⟨S1x5632, .f32⟩
  | 10 => ⟨S1x5632, .f32⟩
  | 11 => ⟨S1x5632, .f32⟩
  | 12 => ⟨S_, .f32⟩
  | 13 => ⟨S1x5632, .f32⟩
  | 14 => ⟨S1x5632, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S16x64, .f32⟩
  | 50 => ⟨S16x64, .f32⟩
  | 51 => ⟨S_, .f32⟩
  | 52 => ⟨S16x64, .f32⟩
  | 53 => ⟨S16x64, .f32⟩
  | 54 => ⟨S16x64, .f32⟩
  | 55 => ⟨S_, .f32⟩
  | 56 => ⟨S16x64, .f32⟩
  | 57 => ⟨S16x64, .f32⟩
  | 58 => ⟨S16x64, .f32⟩
  | 59 => ⟨S_, .f32⟩
  | 60 => ⟨S16x64, .f32⟩
  | 61 => ⟨S16x64, .f32⟩
  | 62 => ⟨S16x64, .f32⟩
  | 63 => ⟨S_, .f32⟩
  | 64 => ⟨S16x64, .f32⟩
  | 65 => ⟨S16x64, .f32⟩
  | 66 => ⟨S_, .f32⟩
  | 67 => ⟨S16x64, .f32⟩
  | 68 => ⟨S16x64, .f32⟩
  | 69 => ⟨S16x64, .f32⟩
  | 70 => ⟨S_, .f32⟩
  | 71 => ⟨S16x64, .f32⟩
  | 72 => ⟨S16x64, .f32⟩
  | 73 => ⟨S16x64, .f32⟩
  | 74 => ⟨S_, .f32⟩
  | 75 => ⟨S16x64, .f32⟩
  | 76 => ⟨S16x64, .f32⟩
  | 77 => ⟨S16x64, .f32⟩
  | 78 => ⟨S_, .f32⟩
  | 79 => ⟨S16x64, .f32⟩
  | 80 => ⟨S16x64, .f32⟩
  | 81 => ⟨S_, .f32⟩
  | 82 => ⟨S3x1408, .f32⟩
  | 83 => ⟨S3x1408, .f32⟩
  | 84 => ⟨S_, .f32⟩
  | 85 => ⟨S3x1408, .f32⟩
  | 86 => ⟨S3x1408, .f32⟩
  | 87 => ⟨S3x1408, .f32⟩
  | 88 => ⟨S_, .f32⟩
  | 89 => ⟨S3x1408, .f32⟩
  | 90 => ⟨S3x1408, .f32⟩
  | 91 => ⟨S3x1408, .f32⟩
  | 92 => ⟨S_, .f32⟩
  | 93 => ⟨S3x1408, .f32⟩
  | 94 => ⟨S3x1408, .f32⟩
  | 95 => ⟨S3x1408, .f32⟩
  | 96 => ⟨S_, .f32⟩
  | 97 => ⟨S3x1408, .f32⟩
  | 98 => ⟨S3x1408, .f32⟩
  | 99 => ⟨S_, .f32⟩
  | 100 => ⟨S3x1408, .f32⟩
  | 101 => ⟨S3x1408, .f32⟩
  | 102 => ⟨S3x1408, .f32⟩
  | 103 => ⟨S_, .f32⟩
  | 104 => ⟨S3x1408, .f32⟩
  | 105 => ⟨S3x1408, .f32⟩
  | 106 => ⟨S3x1408, .f32⟩
  | 107 => ⟨S_, .f32⟩
  | 108 => ⟨S3x1408, .f32⟩
  | 109 => ⟨S3x1408, .f32⟩
  | 110 => ⟨S3x1408, .f32⟩
  | 111 => ⟨S_, .f32⟩
  | 112 => ⟨S3x1408, .f32⟩
  | 113 => ⟨S3x1408, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.IdealHost

@[expose] public section

set_option maxRecDepth 16384

noncomputable section

open Idealize.ShloMosaic

/-! The backward pass of the feed-forward block, as functions of a row and a column, and the facts about
extended reals that the comparison with the differentiated forward pass takes. -/

namespace Cert.Spec

/-- the width of a normalised row, as the programs write it -/
abbrev cN : EReal := Ideal.ofBits FTy.f32 0x44800000#32
/-- the number added under the root -/
abbrev cEps : EReal := Ideal.ofBits FTy.f32 0x358637BD#32
/-- minus one half -/
abbrev cNh : EReal := Ideal.ofBits FTy.f32 0xBF000000#32

/-- the mean square of row `r`, plus the number under the root -/
def ms {R : ℕ} (v : Fin R → Fin 1024 → EReal) (r : Fin R) : EReal := Ideal.div (∑ x, v r x * v r x) cN + cEps
/-- the reciprocal root mean square of row `r` -/
def rs {R : ℕ} (v : Fin R → Fin 1024 → EReal) (r : Fin R) : EReal := Ideal.rsqrt (ms v r)
/-- gradient of the normalisation of `v` with gain `g`, for the gradient `d` of the result -/
def rmsB {R : ℕ} (v : Fin R → Fin 1024 → EReal) (g : Fin 1024 → EReal) (d : Fin R → Fin 1024 → EReal) (r : Fin R) (k : Fin 1024) : EReal :=
  rs v r * (g k * d r k) - v r k * (rs v r * rs v r * rs v r) * Ideal.div (∑ x, v r x * (g x * d r x)) cN
/-- the same gradient in the order of the differentiated forward pass: `s` is the mean square's share -/
def rmsS {R : ℕ} (v : Fin R → Fin 1024 → EReal) (gd : Fin R → Fin 1024 → EReal) (r : Fin R) : EReal :=
  Ideal.div ((∑ x, v r x * gd r x) * (cNh * Ideal.div (rs v r) (ms v r))) cN
/-- a product with a transposed right factor -/
def mmT {R N K : ℕ} (a : Fin R → Fin K → EReal) (w : Fin N → Fin K → EReal) (r : Fin R) (f : Fin N) : EReal := ∑ k, a r k * w f k
/-- the gradient of the convolution's result: the value half and the gate half -/
def dU {R : ℕ} (da c1 c2 : Fin R → Fin 2816 → EReal) (r : Fin R) (n : Fin 5632) : EReal :=
  if h : (n : ℕ) < 2816 then da r ⟨n, h⟩ * c1 r ⟨n, h⟩
  else da r ⟨n - 2816, by omega⟩ * c2 r ⟨n - 2816, by omega⟩
/-- the array read `s` rows further on, zero past the last row -/
def sh (s : ℕ) (d : Fin 8192 → Fin 5632 → EReal) (T : Fin 8192) (n : Fin 5632) : EReal :=
  if h : (T : ℕ) + s < 8192 then d ⟨T + s, h⟩ n else 0
/-- the array read `s` rows back, zero before the first row -/
def shB (s : ℕ) (u : Fin 8192 → Fin 5632 → EReal) (T : Fin 8192) (n : Fin 5632) : EReal :=
  if h : s ≤ (T : ℕ) then u ⟨T - s, by omega⟩ n else 0
/-- the gradient of the convolution's operand -/
def dUp (cw : Fin 3 → Fin 5632 → EReal) (d : Fin 8192 → Fin 5632 → EReal) (T : Fin 8192) (n : Fin 5632) : EReal :=
  cw 2 n * d T n + cw 1 n * sh 1 d T n + cw 0 n * sh 2 d T n

/-! ### The forward pass

The arguments are `x` (the block's input), `g3`, `wu`, `cw`, `cb`, `wd`: the first gain, the weights up, the convolution's taps
and bias, the weights down. -/

/-- the projection of the normalised input -/
def up (x : Fin 8192 → Fin 1024 → EReal) (g3 : Fin 1024 → EReal) (wu : Fin 1024 → Fin 5632 → EReal) (T : Fin 8192) (n : Fin 5632) : EReal :=
  ∑ k, x T k * rs x T * g3 k * wu k n
/-- the causal convolution -/
def conv (u : Fin 8192 → Fin 5632 → EReal) (cw : Fin 3 → Fin 5632 → EReal) (cb : Fin 5632 → EReal) (T : Fin 8192) (n : Fin 5632) : EReal :=
  cb n + cw 0 n * shB 2 u T n + cw 1 n * shB 1 u T n + cw 2 n * u T n
/-- the value half -/
def vH (u : Fin 8192 → Fin 5632 → EReal) (T : Fin 8192) (f : Fin 2816) : EReal := u T ⟨f, by omega⟩
/-- the gate half -/
def gH (u : Fin 8192 → Fin 5632 → EReal) (T : Fin 8192) (f : Fin 2816) : EReal := u T ⟨2816 + f, by omega⟩
/-- the hyperbolic tangent of the gate -/
def tH (g : Fin 8192 → Fin 2816 → EReal) (T : Fin 8192) (f : Fin 2816) : EReal :=
  Ideal.tanh (Ideal.ofBits FTy.f32 0x3F4C422A#32 * (g T f + Ideal.ofBits FTy.f32 0x3D372713#32 * (g T f * g T f * g T f)))
/-- the gate's weight `(1 + tanh) / 2` -/
def pH (g : Fin 8192 → Fin 2816 → EReal) (T : Fin 8192) (f : Fin 2816) : EReal :=
  Ideal.ofBits FTy.f32 0x3F000000#32 * (1 + tH g T f)
/-- the activation -/
def actH (g : Fin 8192 → Fin 2816 → EReal) (T : Fin 8192) (f : Fin 2816) : EReal := g T f * pH g T f
/-- the activation's derivative applied to `w` -/
def dactH (g w : Fin 8192 → Fin 2816 → EReal) (T : Fin 8192) (f : Fin 2816) : EReal :=
  w T f * pH g T f
    + Ideal.ofBits FTy.f32 0x3F4C422A#32 * (Ideal.ofBits FTy.f32 0x3F000000#32 * (g T f * w T f) * ((1 + tH g T f) * (1 - tH g T f)))
    + Ideal.ofBits FTy.f32 0x3D372713#32
        * (Ideal.ofBits FTy.f32 0x3F4C422A#32 * (Ideal.ofBits FTy.f32 0x3F000000#32 * (g T f * w T f) * ((1 + tH g T f) * (1 - tH g T f))))
        * (Ideal.ofBits FTy.f32 0x40400000#32 * (g T f * g T f))
/-- the projection down -/
def yH (u : Fin 8192 → Fin 5632 → EReal) (wd : Fin 2816 → Fin 1024 → EReal) (T : Fin 8192) (k : Fin 1024) : EReal :=
  ∑ f, actH (gH u) T f * vH u T f * wd f k

/-! ### Being a real number -/

/-- an extended real that is a real number -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.sum {ι : Type} (s : Finset ι) (f : ι → EReal) (hf : ∀ i, IsR (f i)) : IsR (∑ i ∈ s, f i) := by
  classical
  induction s using Finset.induction_on with
  | empty => simpa using IsR.zero
  | insert a s ha ih => rw [Finset.sum_insert ha]; exact (hf a).add ih
theorem IsR.tanh {x : EReal} (hx : IsR x) : IsR (Ideal.tanh x) := by
  obtain ⟨a, rfl⟩ := hx; exact ⟨Real.tanh a, rfl⟩
theorem IsR.div {x y : EReal} (hx : IsR x) (hy : ∃ b : ℝ, b ≠ 0 ∧ y = (b : EReal)) : IsR (Ideal.div x y) := by
  obtain ⟨a, rfl⟩ := hx; obtain ⟨b, hb, rfl⟩ := hy
  exact ⟨a * (1 / b), by rw [Ideal.div_coe hb, EReal.coe_mul]⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
/-- a family of real numbers is the coercion of one real function -/
theorem IsR.fn {ι : Type} {f : ι → EReal} (hf : ∀ i, IsR (f i)) : ∃ g : ι → ℝ, f = fun i => (g i : EReal) :=
  ⟨fun i => (hf i).choose, funext fun i => (hf i).choose_spec⟩
theorem isR_of_abs_lt {x : EReal} (h : max x (-x) < ⊤) : IsR x := by
  induction x with
  | bot => simp at h
  | top => simp at h
  | coe r => exact ⟨r, rfl⟩

/-! ### The constants -/

theorem cN_eq : cN = ((1024 : ℝ) : EReal) := by
  simp [Ideal.ofBits, Ideal.ieee, -EReal.coe_mul]; norm_num
theorem cNh_eq : cNh = ((-(1 / 2) : ℝ) : EReal) := by
  simp [Ideal.ofBits, Ideal.ieee, -EReal.coe_mul, -EReal.coe_neg]; norm_num
theorem cEps_eq : ∃ e : ℝ, 0 < e ∧ cEps = (e : EReal) := by
  refine ⟨8796093 / 8796093022208, by norm_num, ?_⟩
  simp [Ideal.ofBits, Ideal.ieee, -EReal.coe_mul]; norm_num
theorem isR_tanhScale : IsR (Ideal.ofBits FTy.f32 0x3F4C422A#32) := by
  simp [Ideal.ofBits, Ideal.ieee, -EReal.coe_mul]; exact ⟨_, rfl⟩
theorem isR_tanhCubic : IsR (Ideal.ofBits FTy.f32 0x3D372713#32) := by
  simp [Ideal.ofBits, Ideal.ieee, -EReal.coe_mul]; exact ⟨_, rfl⟩
theorem isR_half : IsR (Ideal.ofBits FTy.f32 0x3F000000#32) := by
  simp [Ideal.ofBits, Ideal.ieee, -EReal.coe_mul]; exact ⟨_, rfl⟩
theorem isR_three : IsR (Ideal.ofBits FTy.f32 0x40400000#32) := by
  simp [Ideal.ofBits, Ideal.ieee, -EReal.coe_mul]; exact ⟨_, rfl⟩
theorem ofBits_inf : Ideal.ofBits FTy.f32 0x7F800000#32 = ⊤ := by
  simp [Ideal.ofBits, Ideal.ieee]

/-! ### The normalisation -/

/-- the mean square under the root is a positive real -/
theorem ms_pos {R : ℕ} {v : Fin R → Fin 1024 → EReal} {r : Fin R} (hv : ∀ k, IsR (v r k)) :
    ∃ q : ℝ, 0 < q ∧ ms v r = (q : EReal) := by
  obtain ⟨w, hw⟩ := IsR.fn hv
  obtain ⟨e, he, hE⟩ := cEps_eq
  have hS : 0 ≤ ∑ x, w x * w x := Finset.sum_nonneg fun x _ => mul_self_nonneg _
  refine ⟨(∑ x, w x * w x) * (1 / 1024) + e, by positivity, ?_⟩
  unfold ms
  rw [hE, cN_eq, Ideal.div_coe (by norm_num : (1024 : ℝ) ≠ 0), EReal.coe_add, EReal.coe_mul, coe_sum]
  simp only [EReal.coe_mul, ← congrFun hw]

theorem rs_pos {R : ℕ} {v : Fin R → Fin 1024 → EReal} {r : Fin R} (hv : ∀ k, IsR (v r k)) :
    ∃ q : ℝ, 0 < q ∧ ms v r = (q : EReal) ∧ rs v r = (((Real.sqrt q)⁻¹ : ℝ) : EReal) := by
  obtain ⟨q, hq, h⟩ := ms_pos hv
  refine ⟨q, hq, h, ?_⟩
  unfold rs
  rw [h, Ideal.rsqrt_coe, if_neg (not_lt.mpr hq.le), if_neg hq.ne']

theorem rs_isR {R : ℕ} {v : Fin R → Fin 1024 → EReal} {r : Fin R} (hv : ∀ k, IsR (v r k)) : IsR (rs v r) := by
  obtain ⟨q, -, -, h⟩ := rs_pos hv; exact ⟨_, h⟩

/-- the kernel's gradient of the normalisation is the one of the differentiated forward pass -/
theorem rms_core {R : ℕ} (v : Fin R → Fin 1024 → EReal) (g : Fin 1024 → EReal) (d : Fin R → Fin 1024 → EReal) (r : Fin R) (k : Fin 1024)
    (hv : ∀ k, IsR (v r k)) (hg : ∀ k, IsR (g k)) (hd : ∀ k, IsR (d r k)) :
    (d r k * g k * rs v r + v r k * rmsS v (fun r x => d r x * g x) r) + rmsS v (fun r x => d r x * g x) r * v r k = rmsB v g d r k := by
  obtain ⟨q, hq, hm, hr⟩ := rs_pos hv
  obtain ⟨w, hw⟩ := IsR.fn hv
  obtain ⟨a, ha⟩ := IsR.fn hg
  obtain ⟨b, hb⟩ := IsR.fn hd
  have h3 : (Real.sqrt q)⁻¹ * (1 / q) = (Real.sqrt q)⁻¹ * (Real.sqrt q)⁻¹ * (Real.sqrt q)⁻¹ := by
    rw [mul_assoc, ← mul_inv, Real.mul_self_sqrt hq.le, one_div]
  unfold rmsB rmsS
  have e1 : (∑ x, v r x * (d r x * g x)) = ((∑ x, w x * (a x * b x) : ℝ) : EReal) := by
    rw [coe_sum]; refine Finset.sum_congr rfl fun x _ => ?_
    rw [congrFun hw x, congrFun ha x, congrFun hb x]; push_cast; rw [mul_comm (b x : EReal)]
  have e2 : (∑ x, v r x * (g x * d r x)) = ((∑ x, w x * (a x * b x) : ℝ) : EReal) := by
    rw [coe_sum]; refine Finset.sum_congr rfl fun x _ => ?_
    rw [congrFun hw x, congrFun ha x, congrFun hb x]; push_cast; rfl
  simp only [e1, e2, hr, hm, cN_eq, cNh_eq, congrFun hw k, congrFun ha k, congrFun hb k,
    Ideal.div_coe hq.ne', Ideal.div_coe (by norm_num : (1024 : ℝ) ≠ 0)]
  generalize (∑ x, w x * (a x * b x)) = S
  rw [← EReal.coe_mul ((Real.sqrt q)⁻¹), h3]
  norm_cast
  ring

theorem rmsB_isR {R : ℕ} {v : Fin R → Fin 1024 → EReal} {g : Fin 1024 → EReal} {d : Fin R → Fin 1024 → EReal} {r : Fin R} (k : Fin 1024)
    (hv : ∀ k, IsR (v r k)) (hg : ∀ k, IsR (g k)) (hd : ∀ k, IsR (d r k)) : IsR (rmsB v g d r k) := by
  have hN : ∃ b : ℝ, b ≠ 0 ∧ cN = (b : EReal) := ⟨1024, by norm_num, cN_eq⟩
  have h := rs_isR hv
  exact (h.mul ((hg k).mul (hd k))).sub (((hv k).mul ((h.mul h).mul h)).mul
    (IsR.div (IsR.sum _ _ fun x => (hv x).mul ((hg x).mul (hd x))) hN))

/-- the gate's share of the gradient: a product with a stored coefficient is the chain rule's sum -/
theorem gelu_core (da val gate t p h2 c s u : EReal) (hda : IsR da) (hval : IsR val) (hgate : IsR gate) (ht : IsR t) (hp : IsR p)
    (h2' : IsR h2) (hc : IsR c) (hs : IsR s) (hu : IsR u) :
    da * (val * p + s * (h2 * (gate * val) * ((1 + t) * (1 - t))) + c * (s * (h2 * (gate * val) * ((1 + t) * (1 - t)))) * (u * (gate * gate)))
      = da * val * p + s * (h2 * (gate * (da * val)) * ((1 + t) * (1 - t))) + c * (s * (h2 * (gate * (da * val)) * ((1 + t) * (1 - t)))) * (u * (gate * gate)) := by
  obtain ⟨da, rfl⟩ := hda; obtain ⟨val, rfl⟩ := hval; obtain ⟨gate, rfl⟩ := hgate; obtain ⟨t, rfl⟩ := ht; obtain ⟨p, rfl⟩ := hp
  obtain ⟨h2, rfl⟩ := h2'; obtain ⟨c, rfl⟩ := hc; obtain ⟨s, rfl⟩ := hs; obtain ⟨u, rfl⟩ := hu
  rw [← EReal.coe_one]
  norm_cast
  ring

/-- the stored coefficient times the incoming gradient is the chain rule's sum -/
theorem dactH_mul (g w a : Fin 8192 → Fin 2816 → EReal) (T : Fin 8192) (f : Fin 2816) (hg : IsR (g T f)) (hw : IsR (w T f)) (ha : IsR (a T f)) :
    a T f * dactH g w T f = dactH g (fun T f => a T f * w T f) T f := by
  have ht : IsR (tH g T f) := IsR.tanh (isR_tanhScale.mul (hg.add (isR_tanhCubic.mul ((hg.mul hg).mul hg))))
  exact gelu_core _ _ _ _ _ _ _ _ _ ha hw hg ht (isR_half.mul (IsR.one.add ht)) isR_half isR_tanhCubic isR_tanhScale isR_three

section
variable {x : Fin 8192 → Fin 1024 → EReal} {g3 : Fin 1024 → EReal} {wu : Fin 1024 → Fin 5632 → EReal} {cw : Fin 3 → Fin 5632 → EReal}
  {cb : Fin 5632 → EReal} {wd : Fin 2816 → Fin 1024 → EReal} {u : Fin 8192 → Fin 5632 → EReal} {g w : Fin 8192 → Fin 2816 → EReal}

theorem up_isR (hx : ∀ T k, IsR (x T k)) (hg : ∀ k, IsR (g3 k)) (hw : ∀ k n, IsR (wu k n)) (T n) : IsR (up x g3 wu T n) :=
  IsR.sum _ _ fun k => (((hx T k).mul (rs_isR (hx T))).mul (hg k)).mul (hw k n)
theorem shB_isR (s : ℕ) (hu : ∀ T n, IsR (u T n)) (T n) : IsR (shB s u T n) := by
  unfold shB; split
  · exact hu _ _
  · exact IsR.zero
theorem sh_isR (s : ℕ) (hu : ∀ T n, IsR (u T n)) (T n) : IsR (sh s u T n) := by
  unfold sh; split
  · exact hu _ _
  · exact IsR.zero
theorem conv_isR (hu : ∀ T n, IsR (u T n)) (hc : ∀ j n, IsR (cw j n)) (hb : ∀ n, IsR (cb n)) (T n) : IsR (conv u cw cb T n) :=
  (((hb n).add ((hc 0 n).mul (shB_isR 2 hu T n))).add ((hc 1 n).mul (shB_isR 1 hu T n))).add ((hc 2 n).mul (hu T n))
theorem vH_isR (hu : ∀ T n, IsR (u T n)) (T f) : IsR (vH u T f) := hu _ _
theorem gH_isR (hu : ∀ T n, IsR (u T n)) (T f) : IsR (gH u T f) := hu _ _
theorem tH_isR (hg : ∀ T f, IsR (g T f)) (T f) : IsR (tH g T f) :=
  IsR.tanh (isR_tanhScale.mul ((hg T f).add (isR_tanhCubic.mul (((hg T f).mul (hg T f)).mul (hg T f)))))
theorem pH_isR (hg : ∀ T f, IsR (g T f)) (T f) : IsR (pH g T f) := isR_half.mul (IsR.one.add (tH_isR hg T f))
theorem actH_isR (hg : ∀ T f, IsR (g T f)) (T f) : IsR (actH g T f) := (hg T f).mul (pH_isR hg T f)
theorem dactH_isR (hg : ∀ T f, IsR (g T f)) (hw : ∀ T f, IsR (w T f)) (T f) : IsR (dactH g w T f) := by
  have h := isR_tanhScale.mul ((isR_half.mul ((hg T f).mul (hw T f))).mul ((IsR.one.add (tH_isR hg T f)).mul (IsR.one.sub (tH_isR hg T f))))
  exact (((hw T f).mul (pH_isR hg T f)).add h).add ((isR_tanhCubic.mul h).mul (isR_three.mul ((hg T f).mul (hg T f))))
theorem yH_isR (hu : ∀ T n, IsR (u T n)) (hw : ∀ f k, IsR (wd f k)) (T k) : IsR (yH u wd T k) :=
  IsR.sum _ _ fun f => ((actH_isR (gH_isR hu) T f).mul (vH_isR hu T f)).mul (hw f k)
theorem mmT_isR {R N K : ℕ} {a : Fin R → Fin K → EReal} {w : Fin N → Fin K → EReal} (ha : ∀ r k, IsR (a r k)) (hw : ∀ f k, IsR (w f k)) (r f) :
    IsR (mmT a w r f) := IsR.sum _ _ fun k => (ha r k).mul (hw f k)
theorem dU_isR {R : ℕ} {da c1 c2 : Fin R → Fin 2816 → EReal} (ha : ∀ r f, IsR (da r f)) (h1 : ∀ r f, IsR (c1 r f)) (h2 : ∀ r f, IsR (c2 r f)) (r n) :
    IsR (dU da c1 c2 r n) := by
  unfold dU; split
  · exact (ha _ _).mul (h1 _ _)
  · exact (ha _ _).mul (h2 _ _)
theorem dUp_isR (hc : ∀ j n, IsR (cw j n)) (hu : ∀ T n, IsR (u T n)) (T n) : IsR (dUp cw u T n) :=
  (((hc 2 n).mul (hu T n)).add ((hc 1 n).mul (sh_isR 1 hu T n))).add ((hc 0 n).mul (sh_isR 2 hu T n))
end

/-- a sum read `s` rows further on against an array is the sum against the array read `s` rows back -/
theorem sum_sh (s : ℕ) (d u : Fin 8192 → Fin 5632 → EReal) (n : Fin 5632) :
    (∑ T, sh s d T n * u T n) = ∑ T : Fin 8192, d T n * shB s u T n := by
  have e1 : ∀ T : Fin 8192, sh s d T n * u T n = ∑ T' : Fin 8192, if (T' : ℕ) = T + s then d T' n * u T n else 0 := fun T => by
    unfold sh
    by_cases h : (T : ℕ) + s < 8192
    · rw [dif_pos h, Finset.sum_eq_single (⟨T + s, h⟩ : Fin 8192)]
      · simp
      · intro b _ hb; rw [if_neg]; intro hc; exact hb (Fin.ext hc)
      · simp
    · rw [dif_neg h, zero_mul]; symm; refine Finset.sum_eq_zero fun b _ => ?_
      rw [if_neg]; omega
  have e2 : ∀ T' : Fin 8192, d T' n * shB s u T' n = ∑ T : Fin 8192, if (T' : ℕ) = T + s then d T' n * u T n else 0 := fun T' => by
    unfold shB
    by_cases h : s ≤ (T' : ℕ)
    · rw [dif_pos h, Finset.sum_eq_single (⟨T' - s, by omega⟩ : Fin 8192)]
      · rw [if_pos]; show (T' : ℕ) = T' - s + s; omega
      · intro b _ hb; rw [if_neg]; intro hc; exact hb (Fin.ext (by show (b : ℕ) = T' - s; omega))
      · simp
    · rw [dif_neg h, mul_zero]; symm; refine Finset.sum_eq_zero fun b _ => ?_
      rw [if_neg]; omega
  simp only [e1, e2]
  exact Finset.sum_comm

end Cert.Spec

end
-- ==== Proof.Ref.lean ====
module

public import proofs.«01_k».proof.Proof.Spec
public import proofs.«01_k».proof.Proof.Gen.ReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.ReferenceIdeal Cert.ReferenceIdeal.Gen Cert.ReferenceIdeal.Value Cert.Spec

/-! The reference's named arrays, read at an index: they are the functions of `Spec`. -/

namespace Cert.ReferenceIdeal.At
variable (V0 : Valuation τ sig (Elt Ideal))

/-- the incoming gradient -/
abbrev dn (T : Fin 8192) (k : Fin 1024) : EReal := (V0 (Proc.devRef .tc main_arg0) : FVec Ideal S8192x1024 .f32) (ix2 T k)
/-- the block's input -/
abbrev x (T : Fin 8192) (k : Fin 1024) : EReal := (V0 (Proc.devRef .tc main_arg1) : FVec Ideal S8192x1024 .f32) (ix2 T k)
/-- the first gain -/
abbrev g3 (k : Fin 1024) : EReal := (V0 (Proc.devRef .tc main_arg2) : FVec Ideal S1x1024 .f32) (ix2 0 k)
/-- the weights up -/
abbrev wu (k : Fin 1024) (n : Fin 5632) : EReal := (V0 (Proc.devRef .tc main_arg3) : FVec Ideal S1024x5632 .f32) (ix2 k n)
/-- the taps -/
abbrev cw (j : Fin 3) (n : Fin 5632) : EReal := (V0 (Proc.devRef .tc main_arg4) : FVec Ideal S3x5632 .f32) (ix2 j n)
/-- the bias -/
abbrev cb (n : Fin 5632) : EReal := (V0 (Proc.devRef .tc main_arg5) : FVec Ideal S1x5632 .f32) (ix2 0 n)
/-- the weights down -/
abbrev wd (f : Fin 2816) (k : Fin 1024) : EReal := (V0 (Proc.devRef .tc main_arg6) : FVec Ideal S2816x1024 .f32) (ix2 f k)
/-- the second gain -/
abbrev g4 (k : Fin 1024) : EReal := (V0 (Proc.devRef .tc main_arg7) : FVec Ideal S1x1024 .f32) (ix2 0 k)
/-- the projection up -/
abbrev U : Fin 8192 → Fin 5632 → EReal := up (x V0) (g3 V0) (wu V0)
/-- the convolution's result -/
abbrev C : Fin 8192 → Fin 5632 → EReal := conv (U V0) (cw V0) (cb V0)
/-- the projection down -/
abbrev Y : Fin 8192 → Fin 1024 → EReal := yH (C V0) (wd V0)

theorem v6_at (r : Fin 8192) : (res_main_v6 (F := Ideal) V0 : FVec Ideal ⟨2, ![8192, 1]⟩ .f32) (ix2 r 0) = ms (x V0) r := by
  pointwise [res_main_v6]
  rfl

theorem v7_at (r : Fin 8192) : (res_main_v7 (F := Ideal) V0 : FVec Ideal ⟨2, ![8192, 1]⟩ .f32) (ix2 r 0) = rs (x V0) r := by
  pointwise [res_main_v7]
  rw [v6_at]; rfl

theorem v12_at (r : Fin 8192) (l : Fin 1024) : (res_main_v12 (F := Ideal) V0 : FVec Ideal ⟨2, ![8192, 1024]⟩ .f32) (ix2 r l) = x V0 r l * rs (x V0) r := by
  pointwise [res_main_v12]
  rw [v7_at]

theorem v17_at (r : Fin 8194) (l : Fin 5632) : (res_main_v17 (F := Ideal) V0 : FVec Ideal ⟨2, ![8194, 5632]⟩ .f32) (ix2 r l) = if h : (r : ℕ) < 2 then 0 else U V0 ⟨r - 2, by omega⟩ l := by
  pointwise [res_main_v17]
  split
  · rfl
  · simp only [v12_at]; rfl

theorem v21_at (r : Fin 8192) (l : Fin 5632) : (res_main_v21 (F := Ideal) V0 : FVec Ideal ⟨2, ![8192, 5632]⟩ .f32) (ix2 r l) = shB 2 (U V0) r l := by
  pointwise [res_main_v21]
  rw [v17_at]; unfold shB
  by_cases h : 2 ≤ (r : ℕ)
  · rw [dif_neg (show ¬ ((r : ℕ) < 2) by omega), dif_pos h]
  · rw [dif_pos (show (r : ℕ) < 2 by omega), dif_neg h]

theorem v29_at (r : Fin 8192) (l : Fin 5632) : (res_main_v29 (F := Ideal) V0 : FVec Ideal ⟨2, ![8192, 5632]⟩ .f32) (ix2 r l) = shB 1 (U V0) r l := by
  pointwise [res_main_v29]
  rw [v17_at]; unfold shB
  by_cases h : 1 ≤ (r : ℕ)
  · rw [dif_neg (show ¬ (1 + (r : ℕ) < 2) by omega), dif_pos h]
    exact congrArg (fun q => U V0 q l) (Fin.ext (show 1 + (r : ℕ) - 2 = r - 1 by omega))
  · rw [dif_pos (show 1 + (r : ℕ) < 2 by omega), dif_neg h]

theorem v36_at (r : Fin 8192) (l : Fin 5632) : (res_main_v36 (F := Ideal) V0 : FVec Ideal ⟨2, ![8192, 5632]⟩ .f32) (ix2 r l) = U V0 r l := by
  pointwise [res_main_v36]
  rw [v17_at, dif_neg (show ¬ (2 + (r : ℕ) < 2) by omega)]
  exact congrArg (fun q => U V0 q l) (Fin.ext (show 2 + (r : ℕ) - 2 = r by omega))

theorem v22_at (l : Fin 5632) : (res_main_v22 (F := Ideal) V0 : FVec Ideal ⟨2, ![1, 5632]⟩ .f32) (ix2 0 l) = cw V0 0 l := by
  pointwise [res_main_v22]

theorem v30_at (l : Fin 5632) : (res_main_v30 (F := Ideal) V0 : FVec Ideal ⟨2, ![1, 5632]⟩ .f32) (ix2 0 l) = cw V0 1 l := by
  pointwise [res_main_v30]

theorem v37_at (l : Fin 5632) : (res_main_v37 (F := Ideal) V0 : FVec Ideal ⟨2, ![1, 5632]⟩ .f32) (ix2 0 l) = cw V0 2 l := by
  pointwise [res_main_v37]

theorem v40_at (r : Fin 8192) (l : Fin 5632) : (res_main_v40 (F := Ideal) V0 : FVec Ideal ⟨2, ![8192, 5632]⟩ .f32) (ix2 r l) = C V0 r l := by
  pointwise [res_main_v40]
  rw [v22_at, v30_at, v37_at, v21_at, v29_at, v36_at]; rfl

theorem v41_at (r : Fin 8192) (l : Fin 2816) : (res_main_v41 (F := Ideal) V0 : FVec Ideal ⟨2, ![8192, 2816]⟩ .f32) (ix2 r l) = vH (C V0) r l := by
  pointwise [res_main_v41]
  rw [v40_at]; rfl

theorem v42_at (r : Fin 8192) (l : Fin 2816) : (res_main_v42 (F := Ideal) V0 : FVec Ideal ⟨2, ![8192, 2816]⟩ .f32) (ix2 r l) = gH (C V0) r l := by
  pointwise [res_main_v42]
  rw [v40_at]; rfl

theorem v53_at (r : Fin 8192) (l : Fin 2816) : (res_main_v53 (F := Ideal) V0 : FVec Ideal ⟨2, ![8192, 2816]⟩ .f32) (ix2 r l) = tH (gH (C V0)) r l := by
  pointwise [res_main_v53]
  rw [v42_at]; rfl

theorem v62_at (r : Fin 8192) (l : Fin 2816) : (res_main_v62 (F := Ideal) V0 : FVec Ideal ⟨2, ![8192, 2816]⟩ .f32) (ix2 r l) = pH (gH (C V0)) r l := by
  pointwise [res_main_v62]
  rw [v53_at]; rfl

theorem v63_at (r : Fin 8192) (l : Fin 2816) : (res_main_v63 (F := Ideal) V0 : FVec Ideal ⟨2, ![8192, 2816]⟩ .f32) (ix2 r l) = actH (gH (C V0)) r l := by
  pointwise [res_main_v63]
  rw [v62_at, v42_at]; rfl

theorem v65_at (r : Fin 8192) (l : Fin 1024) : (res_main_v65 (F := Ideal) V0 : FVec Ideal ⟨2, ![8192, 1024]⟩ .f32) (ix2 r l) = Y V0 r l := by
  pointwise [res_main_v65]
  simp only [v63_at, v41_at]; rfl

theorem v72_at (r : Fin 8192) : (res_main_v72 (F := Ideal) V0 : FVec Ideal ⟨2, ![8192, 1]⟩ .f32) (ix2 r 0) = ms (Y V0) r := by
  pointwise [res_main_v72]
  simp only [v65_at]; rfl

theorem v73_at (r : Fin 8192) : (res_main_v73 (F := Ideal) V0 : FVec Ideal ⟨2, ![8192, 1]⟩ .f32) (ix2 r 0) = rs (Y V0) r := by
  pointwise [res_main_v73]
  rw [v72_at]; rfl

theorem v78_at (r : Fin 8192) (l : Fin 1024) : (res_main_v78 (F := Ideal) V0 : FVec Ideal ⟨2, ![8192, 1024]⟩ .f32) (ix2 r l) = Y V0 r l * rs (Y V0) r := by
  pointwise [res_main_v78]
  rw [v65_at, v73_at]

theorem v82_at (r : Fin 8192) (l : Fin 1024) : (res_main_v82 (F := Ideal) V0 : FVec Ideal ⟨2, ![8192, 1024]⟩ .f32) (ix2 r l) = dn V0 r l := by
  pointwise [res_main_v82]

theorem v87_at (r : Fin 8192) (l : Fin 1024) : (res_main_v87 (F := Ideal) V0 : FVec Ideal ⟨2, ![8192, 1024]⟩ .f32) (ix2 r l) = dn V0 r l * g4 V0 l := by
  pointwise [res_main_v87]
  rw [v82_at]

/-- the sum over the one column of a column vector -/
theorem sum_one (f : Fin 1 → EReal) : (∑ q, f q) = f 0 := Fin.sum_univ_one f

theorem v97_at (r : Fin 8192) (l : Fin 1024) : (res_main_v97 (F := Ideal) V0 : FVec Ideal ⟨2, ![8192, 1024]⟩ .f32) (ix2 r l) = rmsS (Y V0) (fun T k => dn V0 T k * g4 V0 k) r := by
  pointwise [res_main_v97]
  rw [Fin.sum_univ_one]; simp only [v65_at, v87_at, v72_at, v73_at]; rfl

/-- every entry of the arguments is a real number -/
structure Real : Prop where
  dn : ∀ T k, IsR (dn V0 T k)
  x : ∀ T k, IsR (x V0 T k)
  g3 : ∀ k, IsR (g3 V0 k)
  wu : ∀ k n, IsR (wu V0 k n)
  cw : ∀ j n, IsR (cw V0 j n)
  cb : ∀ n, IsR (cb V0 n)
  wd : ∀ f k, IsR (wd V0 f k)
  g4 : ∀ k, IsR (g4 V0 k)

variable {V0} in
theorem Real.U (h : Real V0) : ∀ T n, IsR (U V0 T n) := up_isR h.x h.g3 h.wu
variable {V0} in
theorem Real.C (h : Real V0) : ∀ T n, IsR (C V0 T n) := conv_isR h.U h.cw h.cb
variable {V0} in
theorem Real.Y (h : Real V0) : ∀ T n, IsR (Y V0 T n) := yH_isR h.C h.wd

/-- the gradient of the projection down's result -/
abbrev DY : Fin 8192 → Fin 1024 → EReal := rmsB (Y V0) (g4 V0) (dn V0)
/-- the gradient of the activation's product -/
abbrev DA : Fin 8192 → Fin 2816 → EReal := mmT (DY V0) (wd V0)
/-- the gradient of the convolution's result -/
abbrev DU : Fin 8192 → Fin 5632 → EReal := dU (DA V0) (actH (gH (C V0))) (dactH (gH (C V0)) (vH (C V0)))
/-- the gradient of the projection up's result -/
abbrev DUP : Fin 8192 → Fin 5632 → EReal := dUp (cw V0) (DU V0)
/-- the gradient of the normalised input -/
abbrev DH : Fin 8192 → Fin 1024 → EReal := mmT (DUP V0) (wu V0)

variable {V0} in
theorem Real.DY (h : Real V0) : ∀ T k, IsR (DY V0 T k) := fun T k => rmsB_isR k (h.Y T) h.g4 (h.dn T)
variable {V0} in
theorem Real.DA (h : Real V0) : ∀ T k, IsR (DA V0 T k) := mmT_isR h.DY h.wd
variable {V0} in
theorem Real.DU (h : Real V0) : ∀ T k, IsR (DU V0 T k) :=
  dU_isR h.DA (actH_isR (gH_isR h.C)) (dactH_isR (gH_isR h.C) (vH_isR h.C))
variable {V0} in
theorem Real.DUP (h : Real V0) : ∀ T k, IsR (DUP V0 T k) := dUp_isR h.cw h.DU
variable {V0} in
theorem Real.DH (h : Real V0) : ∀ T k, IsR (DH V0 T k) := mmT_isR h.DUP h.wu

variable (hR : Real V0)
include hR

theorem v101_at (r : Fin 8192) (l : Fin 1024) : (res_main_v101 (F := Ideal) V0 : FVec Ideal ⟨2, ![8192, 1024]⟩ .f32) (ix2 r l) = DY V0 r l := by
  pointwise [res_main_v101]
  rw [v65_at, v73_at, v87_at, v97_at]; exact rms_core _ _ _ r l (hR.Y r) hR.g4 (hR.dn r)

theorem v102_at (r : Fin 8192) (l : Fin 2816) : (res_main_v102 (F := Ideal) V0 : FVec Ideal ⟨2, ![8192, 2816]⟩ .f32) (ix2 r l) = DA V0 r l := by
  pointwise [res_main_v102]
  simp only [v101_at V0 hR]; rfl

theorem v104_at (r : Fin 8192) (l : Fin 2816) : (res_main_v104 (F := Ideal) V0 : FVec Ideal ⟨2, ![8192, 2816]⟩ .f32) (ix2 r l) = DA V0 r l * vH (C V0) r l := by
  pointwise [res_main_v104]
  rw [v102_at V0 hR, v41_at]

theorem v111_at (r : Fin 8192) (l : Fin 2816) : (res_main_v111 (F := Ideal) V0 : FVec Ideal ⟨2, ![8192, 2816]⟩ .f32) (ix2 r l) = Ideal.ofBits FTy.f32 0x3F4C422A#32 * (Ideal.ofBits FTy.f32 0x3F000000#32 * (gH (C V0) r l * (DA V0 r l * vH (C V0) r l)) * ((1 + tH (gH (C V0)) r l) * (1 - tH (gH (C V0)) r l))) := by
  pointwise [res_main_v111]
  rw [v104_at V0 hR, v42_at, v53_at]

theorem v117_at (r : Fin 8192) (l : Fin 5632) : (res_main_v117 (F := Ideal) V0 : FVec Ideal ⟨2, ![8192, 5632]⟩ .f32) (ix2 r l) = DU V0 r l := by
  pointwise [res_main_v117]
  unfold DU dU
  split
  · rw [v63_at, v102_at V0 hR, mul_comm]
  · rw [v104_at V0 hR, v111_at V0 hR, v62_at, v42_at, dactH_mul _ _ _ r _ (hR.C _ _) (hR.C _ _) (hR.DA _ _)]; rfl

theorem v152_at (r : Fin 8192) (l : Fin 5632) : (res_main_v152 (F := Ideal) V0 : FVec Ideal ⟨2, ![8192, 5632]⟩ .f32) (ix2 r l) = DUP V0 r l := by
  pointwise [res_main_v152, res_main_v147]
  have e1 : (if h : 1 ≤ 2 + (r : ℕ) ∧ 2 + (r : ℕ) - 1 < 8192 then cw V0 1 l * DU V0 ⟨2 + r - 1, by omega⟩ l else 0) = cw V0 1 l * sh 1 (DU V0) r l := by
    unfold sh
    by_cases h : (r : ℕ) + 1 < 8192
    · rw [dif_pos (show 1 ≤ 2 + (r : ℕ) ∧ 2 + (r : ℕ) - 1 < 8192 by omega), dif_pos h]
      exact congrArg (fun q => cw V0 1 l * DU V0 q l) (Fin.ext (show 2 + (r : ℕ) - 1 = r + 1 by omega))
    · rw [dif_neg (show ¬ (1 ≤ 2 + (r : ℕ) ∧ 2 + (r : ℕ) - 1 < 8192) by omega), dif_neg h, mul_zero]
  have e2 : (if h : 2 + (r : ℕ) < 8192 then cw V0 0 l * DU V0 ⟨2 + r, by omega⟩ l else 0) = cw V0 0 l * sh 2 (DU V0) r l := by
    unfold sh
    by_cases h : (r : ℕ) + 2 < 8192
    · rw [dif_pos (show 2 + (r : ℕ) < 8192 by omega), dif_pos h]
      exact congrArg (fun q => cw V0 0 l * DU V0 q l) (Fin.ext (show 2 + (r : ℕ) = r + 2 by omega))
    · rw [dif_neg (show ¬ (2 + (r : ℕ) < 8192) by omega), dif_neg h, mul_zero]
  unfold DUP dUp
  rw [← e1, ← e2]
  simp only [v117_at V0 hR, v22_at, v30_at, v37_at]

theorem v153_at (r : Fin 8192) (l : Fin 1024) : (res_main_v153 (F := Ideal) V0 : FVec Ideal ⟨2, ![8192, 1024]⟩ .f32) (ix2 r l) = DH V0 r l := by
  pointwise [res_main_v153]
  simp only [v152_at V0 hR]; rfl

theorem v158_at (r : Fin 8192) (l : Fin 1024) : (res_main_v158 (F := Ideal) V0 : FVec Ideal ⟨2, ![8192, 1024]⟩ .f32) (ix2 r l) = DH V0 r l * g3 V0 l := by
  pointwise [res_main_v158]
  rw [v153_at V0 hR]

theorem v168_at (r : Fin 8192) (l : Fin 1024) : (res_main_v168 (F := Ideal) V0 : FVec Ideal ⟨2, ![8192, 1024]⟩ .f32) (ix2 r l) = rmsS (x V0) (fun T k => DH V0 T k * g3 V0 k) r := by
  pointwise [res_main_v168]
  rw [Fin.sum_univ_one]; simp only [v158_at V0 hR, v6_at, v7_at]; rfl

theorem dy_at (r : Fin 8192) (l : Fin 1024) :
    (truncf .bf16 (res_main_v101 (F := Ideal) V0) bitsLt_bf16_f32 : FVec Ideal S8192x1024 .bf16) (ix2 r l) = DY V0 r l := by
  pointwise
  exact v101_at V0 hR r l

theorem dup_at (r : Fin 8192) (l : Fin 5632) :
    (truncf .bf16 (res_main_v152 (F := Ideal) V0) bitsLt_bf16_f32 : FVec Ideal S8192x5632 .bf16) (ix2 r l) = DUP V0 r l := by
  pointwise
  exact v152_at V0 hR r l

theorem dx_at (r : Fin 8192) (l : Fin 1024) :
    (addf (V0 (Proc.devRef .tc main_arg0)) (addf (addf (mulf (res_main_v158 (F := Ideal) V0) (broadcastInDim S8192x1024 ![0, 1] bcast_S8192x1_S8192x1024_0_1 (res_main_v7 V0))) (mulf (V0 (Proc.devRef .tc main_arg1)) (res_main_v168 V0))) (mulf (res_main_v168 V0) (V0 (Proc.devRef .tc main_arg1)))) : FVec Ideal S8192x1024 .f32) (ix2 r l)
      = dn V0 r l + rmsB (x V0) (g3 V0) (DH V0) r l := by
  pointwise
  rw [v158_at V0 hR, v168_at V0 hR, v7_at]
  exact congrArg (dn V0 r l + ·) (rms_core (x V0) (g3 V0) (DH V0) r l (hR.x r) hR.g3 (hR.DH r))

theorem dg3_at (l : Fin 1024) :
    (shapeCast S1x1024 (Host.reduceAdd (mulf (res_main_v12 (F := Ideal) V0) (res_main_v153 V0)) (constant S_ .f32 0x00000000#32) reducesTo_S8192x1024_S1024_d0 h_S_) shapeCasts_S1024_S1x1024 : FVec Ideal S1x1024 .f32) (ix2 0 l)
      = ∑ T, DH V0 T l * x V0 T l * rs (x V0) T := by
  pointwise
  simp only [v12_at, v153_at V0 hR]
  exact Finset.sum_congr rfl fun T _ => by rw [mul_comm, mul_assoc]

theorem dcb_at (l : Fin 5632) :
    (shapeCast S1x5632 (Host.reduceAdd (res_main_v117 (F := Ideal) V0) (constant S_ .f32 0x00000000#32) reducesTo_S8192x5632_S5632_d0 h_S_) shapeCasts_S5632_S1x5632 : FVec Ideal S1x5632 .f32) (ix2 0 l)
      = ∑ T, DU V0 T l := by
  pointwise
  simp only [v117_at V0 hR]

theorem dcw_at (j : Fin 3) (l : Fin 5632) :
    (addf (addf (pad S3x5632 ![2, 0] ![0, 0] ![0, 0] (broadcastInDim S1x5632 ![1] bcast_S5632_S1x5632_1 (Host.reduceAdd (shapeCast S1x5632 (Host.reduceAdd (mulf (res_main_v117 (F := Ideal) V0) (res_main_v36 V0)) (constant S_ .f32 0x00000000#32) reducesTo_S8192x5632_S5632_d0 h_S_) shapeCasts_S5632_S1x5632) (constant S_ .f32 0x00000000#32) reducesTo_S1x5632_S5632_d0 h_S_)) (constant S_ .f32 0x00000000#32) pads_S1x5632_S3x5632_200_000 h_S_) (pad S3x5632 ![1, 0] ![1, 0] ![0, 0] (broadcastInDim S1x5632 ![1] bcast_S5632_S1x5632_1 (Host.reduceAdd (shapeCast S1x5632 (Host.reduceAdd (mulf (res_main_v117 V0) (res_main_v29 V0)) (constant S_ .f32 0x00000000#32) reducesTo_S8192x5632_S5632_d0 h_S_) shapeCasts_S5632_S1x5632) (constant S_ .f32 0x00000000#32) reducesTo_S1x5632_S5632_d0 h_S_)) (constant S_ .f32 0x00000000#32) pads_S1x5632_S3x5632_110_000 h_S_)) (pad S3x5632 ![0, 0] ![2, 0] ![0, 0] (broadcastInDim S1x5632 ![1] bcast_S5632_S1x5632_1 (Host.reduceAdd (shapeCast S1x5632 (Host.reduceAdd (mulf (res_main_v117 V0) (res_main_v21 V0)) (constant S_ .f32 0x00000000#32) reducesTo_S8192x5632_S5632_d0 h_S_) shapeCasts_S5632_S1x5632) (constant S_ .f32 0x00000000#32) reducesTo_S1x5632_S5632_d0 h_S_)) (constant S_ .f32 0x00000000#32) pads_S1x5632_S3x5632_020_000 h_S_) : FVec Ideal S3x5632 .f32) (ix2 j l)
      = if (j : ℕ) = 0 then ∑ T, sh 2 (DU V0) T l * U V0 T l else if (j : ℕ) = 1 then ∑ T, sh 1 (DU V0) T l * U V0 T l else ∑ T, DU V0 T l * U V0 T l := by
  pointwise
  simp only [v117_at V0 hR, v36_at, v29_at, v21_at, Fin.sum_univ_one, sum_sh]
  have hj : (j : ℕ) = 0 ∨ (j : ℕ) = 1 ∨ (j : ℕ) = 2 := by omega
  rcases hj with hj | hj | hj <;> simp [hj]

omit hR in
theorem dg4_at (l : Fin 1024) :
    (shapeCast S1x1024 (Host.reduceAdd (mulf (res_main_v78 (F := Ideal) V0) (res_main_v82 V0)) (constant S_ .f32 0x00000000#32) reducesTo_S8192x1024_S1024_d0 h_S_) shapeCasts_S1024_S1x1024 : FVec Ideal S1x1024 .f32) (ix2 0 l)
      = ∑ T, dn V0 T l * Y V0 T l * rs (Y V0) T := by
  pointwise
  simp only [v78_at, v82_at]
  exact Finset.sum_congr rfl fun T _ => by rw [mul_comm, mul_assoc]

end Cert.ReferenceIdeal.At
end
-- ==== Proof.Host.lean ====
module

public import proofs.«01_k».proof.Proof.Spec
public import proofs.«01_k».proof.Proof.Gen.KernelIdeal.Frame.Runs
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Cert.KernelIdeal Cert.KernelIdeal.Gen Cert.Spec

/-! The arrays that the host computes for the kernel, read at an index: they are the functions of `Spec`. -/

namespace Cert.KernelIdeal.At

/-- the first `n` host operations -/
def hostTo (n : ℕ) (V0 : Valuation τ sig (Elt Ideal)) : Valuation τ sig (Elt Ideal) := StableHlo.upto hostOps0 V0 n

theorem hostTo_add (a b : ℕ) (V0 : Valuation τ sig (Elt Ideal)) :
    hostTo (a + b) V0 = StableHlo.after ((hostOps0.drop a).take b) (hostTo a V0) := by
  unfold hostTo StableHlo.upto
  rw [List.take_add, StableHlo.after_append]

theorem hostTo_all (a : ℕ) (V0 : Valuation τ sig (Elt Ideal)) :
    StableHlo.after hostOps0 V0 = StableHlo.after (hostOps0.drop a) (hostTo a V0) := by
  unfold hostTo StableHlo.upto
  rw [← StableHlo.after_append, List.take_append_drop]

variable (V0 : Valuation τ sig (Elt Ideal))

/-- the incoming gradient -/
abbrev dn (T : Fin 8192) (k : Fin 1024) : EReal := (V0 (Proc.devRef .tc main_arg0) : FVec Ideal S8192x1024 .f32) (ix2 T k)
/-- the block's input -/
abbrev x (T : Fin 8192) (k : Fin 1024) : EReal := (V0 (Proc.devRef .tc main_arg1) : FVec Ideal S8192x1024 .f32) (ix2 T k)
/-- the first gain -/
abbrev g3 (k : Fin 1024) : EReal := (V0 (Proc.devRef .tc main_arg2) : FVec Ideal S1x1024 .f32) (ix2 0 k)
/-- the weights up -/
abbrev wu (k : Fin 1024) (n : Fin 5632) : EReal := (V0 (Proc.devRef .tc main_arg3) : FVec Ideal S1024x5632 .f32) (ix2 k n)
/-- the taps -/
abbrev cw (j : Fin 3) (n : Fin 5632) : EReal := (V0 (Proc.devRef .tc main_arg4) : FVec Ideal S3x5632 .f32) (ix2 j n)
/-- the bias -/
abbrev cb (n : Fin 5632) : EReal := (V0 (Proc.devRef .tc main_arg5) : FVec Ideal S1x5632 .f32) (ix2 0 n)
/-- the weights down -/
abbrev wd (f : Fin 2816) (k : Fin 1024) : EReal := (V0 (Proc.devRef .tc main_arg6) : FVec Ideal S2816x1024 .f32) (ix2 f k)
/-- the second gain -/
abbrev g4 (k : Fin 1024) : EReal := (V0 (Proc.devRef .tc main_arg7) : FVec Ideal S1x1024 .f32) (ix2 0 k)
/-- the projection up -/
abbrev U : Fin 8192 → Fin 5632 → EReal := up (x V0) (g3 V0) (wu V0)
/-- the convolution's result -/
abbrev C : Fin 8192 → Fin 5632 → EReal := conv (U V0) (cw V0) (cb V0)
/-- the projection down -/
abbrev Y : Fin 8192 → Fin 1024 → EReal := yH (C V0) (wd V0)

/-! ### The projection up -/

theorem v16_at (r : Fin 8192) (l : Fin 5632) :
    (hostTo 23 V0 (no_index (Proc.devRef .tc main_v16)) : FVec Ideal ⟨2, ![8192, 5632]⟩ .f32) (ix2 r l) = U V0 r l := by
  unfold hostTo
  after_reads_simp
  pointwise []
  rfl

theorem v18_at (r : Fin 8194) (l : Fin 5632) :
    (hostTo 23 V0 (no_index (Proc.devRef .tc main_v18)) : FVec Ideal ⟨2, ![8194, 5632]⟩ .f32) (ix2 r l)
      = if h : (r : ℕ) < 2 then 0 else U V0 ⟨r - 2, by omega⟩ l := by
  unfold hostTo
  after_reads_simp
  pointwise []
  split
  · rfl
  · rfl

theorem arg4_23 : hostTo 23 V0 (Proc.devRef .tc main_arg4) = V0 (Proc.devRef .tc main_arg4) := by
  unfold hostTo; after_reads_simp
theorem arg5_23 : hostTo 23 V0 (Proc.devRef .tc main_arg5) = V0 (Proc.devRef .tc main_arg5) := by
  unfold hostTo; after_reads_simp

/-! ### The convolution -/

theorem v40_at (r : Fin 8192) (l : Fin 5632) :
    (hostTo 45 V0 (no_index (Proc.devRef .tc main_v40)) : FVec Ideal ⟨2, ![8192, 5632]⟩ .f32) (ix2 r l) = C V0 r l := by
  rw [hostTo_add 23 22]
  after_reads_simp
  rw [arg4_23, arg5_23]
  pointwise []
  rw [v18_at, v18_at, v18_at]
  unfold C conv
  congr 1
  · congr 1
    · congr 1
      unfold shB
      by_cases h : 2 ≤ (r : ℕ)
      · rw [dif_neg (show ¬ ((r : ℕ) < 2) by omega), dif_pos h]
      · rw [dif_pos (show (r : ℕ) < 2 by omega), dif_neg h]
    · unfold shB
      by_cases h : 1 ≤ (r : ℕ)
      · rw [dif_neg (show ¬ (1 + (r : ℕ) < 2) by omega), dif_pos h]
        exact congrArg (fun q => cw V0 1 l * U V0 q l) (Fin.ext (show 1 + (r : ℕ) - 2 = r - 1 by omega))
      · rw [dif_pos (show 1 + (r : ℕ) < 2 by omega), dif_neg h]
  · rw [dif_neg (show ¬ (2 + (r : ℕ) < 2) by omega)]
    exact congrArg (fun q => cw V0 2 l * U V0 q l) (Fin.ext (show 2 + (r : ℕ) - 2 = r by omega))

theorem v41_at (r : Fin 8192) (l : Fin 2816) :
    (hostTo 47 V0 (no_index (Proc.devRef .tc main_v41)) : FVec Ideal ⟨2, ![8192, 2816]⟩ .f32) (ix2 r l) = vH (C V0) r l := by
  rw [hostTo_add 45 2]
  after_reads_simp
  pointwise []
  rw [v40_at]; rfl

theorem v42_at (r : Fin 8192) (l : Fin 2816) :
    (hostTo 47 V0 (no_index (Proc.devRef .tc main_v42)) : FVec Ideal ⟨2, ![8192, 2816]⟩ .f32) (ix2 r l) = gH (C V0) r l := by
  rw [hostTo_add 45 2]
  after_reads_simp
  pointwise []
  rw [v40_at]; rfl

/-! ### The gate -/

theorem v41_61 : hostTo 61 V0 (Proc.devRef .tc main_v41) = hostTo 47 V0 (Proc.devRef .tc main_v41) := by
  rw [hostTo_add 47 14]; after_reads_simp
theorem v42_61 : hostTo 61 V0 (Proc.devRef .tc main_v42) = hostTo 47 V0 (Proc.devRef .tc main_v42) := by
  rw [hostTo_add 47 14]; after_reads_simp

theorem v53_at (r : Fin 8192) (l : Fin 2816) :
    (hostTo 61 V0 (no_index (Proc.devRef .tc main_v53)) : FVec Ideal ⟨2, ![8192, 2816]⟩ .f32) (ix2 r l) = tH (gH (C V0)) r l := by
  rw [hostTo_add 47 14]
  after_reads_simp
  pointwise []
  simp only [v42_at]; rfl

theorem v47_at (r : Fin 8192) (l : Fin 2816) :
    (hostTo 61 V0 (no_index (Proc.devRef .tc main_v47)) : FVec Ideal ⟨2, ![8192, 2816]⟩ .f32) (ix2 r l)
      = Ideal.ofBits FTy.f32 0x40400000#32 * (gH (C V0) r l * gH (C V0) r l) := by
  rw [hostTo_add 47 14]
  after_reads_simp
  pointwise []
  simp only [v42_at]

theorem v58_at (r : Fin 8192) (l : Fin 2816) :
    (hostTo 74 V0 (no_index (Proc.devRef .tc main_v58)) : FVec Ideal ⟨2, ![8192, 2816]⟩ .f32) (ix2 r l)
      = (1 + tH (gH (C V0)) r l) * (1 - tH (gH (C V0)) r l) := by
  rw [hostTo_add 61 13]
  after_reads_simp
  pointwise []
  simp only [v53_at]

theorem v62_at (r : Fin 8192) (l : Fin 2816) :
    (hostTo 74 V0 (no_index (Proc.devRef .tc main_v62)) : FVec Ideal ⟨2, ![8192, 2816]⟩ .f32) (ix2 r l) = pH (gH (C V0)) r l := by
  rw [hostTo_add 61 13]
  after_reads_simp
  pointwise []
  simp only [v53_at]; rfl

theorem v41_74 : hostTo 74 V0 (Proc.devRef .tc main_v41) = hostTo 47 V0 (Proc.devRef .tc main_v41) := by
  rw [hostTo_add 61 13]; after_reads_simp; exact v41_61 V0
theorem v42_74 : hostTo 74 V0 (Proc.devRef .tc main_v42) = hostTo 47 V0 (Proc.devRef .tc main_v42) := by
  rw [hostTo_add 61 13]; after_reads_simp; exact v42_61 V0
theorem v47_74 : hostTo 74 V0 (Proc.devRef .tc main_v47) = hostTo 61 V0 (Proc.devRef .tc main_v47) := by
  rw [hostTo_add 61 13]; after_reads_simp

theorem v70_at (r : Fin 8192) (l : Fin 2816) :
    (hostTo 85 V0 (no_index (Proc.devRef .tc main_v70)) : FVec Ideal ⟨2, ![8192, 2816]⟩ .f32) (ix2 r l)
      = Ideal.ofBits FTy.f32 0x3F4C422A#32 * (Ideal.ofBits FTy.f32 0x3F000000#32 * (gH (C V0) r l * vH (C V0) r l) * ((1 + tH (gH (C V0)) r l) * (1 - tH (gH (C V0)) r l))) := by
  rw [hostTo_add 74 11]
  after_reads_simp
  rw [v41_74, v42_74]
  pointwise []
  simp only [v58_at, v41_at, v42_at]

theorem v71_at (r : Fin 8192) (l : Fin 2816) :
    (hostTo 85 V0 (no_index (Proc.devRef .tc main_v71)) : FVec Ideal ⟨2, ![8192, 2816]⟩ .f32) (ix2 r l)
      = vH (C V0) r l * pH (gH (C V0)) r l
        + Ideal.ofBits FTy.f32 0x3F4C422A#32 * (Ideal.ofBits FTy.f32 0x3F000000#32 * (gH (C V0) r l * vH (C V0) r l) * ((1 + tH (gH (C V0)) r l) * (1 - tH (gH (C V0)) r l))) := by
  rw [hostTo_add 74 11]
  after_reads_simp
  rw [v41_74, v42_74]
  pointwise []
  simp only [v58_at, v41_at, v42_at, v62_at]

theorem v63_at (r : Fin 8192) (l : Fin 2816) :
    (hostTo 85 V0 (no_index (Proc.devRef .tc main_v63)) : FVec Ideal ⟨2, ![8192, 2816]⟩ .f32) (ix2 r l) = actH (gH (C V0)) r l := by
  rw [hostTo_add 74 11]
  after_reads_simp
  rw [v42_74]
  pointwise []
  simp only [v42_at, v62_at]; rfl

theorem v41_85 : hostTo 85 V0 (Proc.devRef .tc main_v41) = hostTo 47 V0 (Proc.devRef .tc main_v41) := by
  rw [hostTo_add 74 11]; after_reads_simp; exact v41_74 V0
theorem v47_85 : hostTo 85 V0 (Proc.devRef .tc main_v47) = hostTo 61 V0 (Proc.devRef .tc main_v47) := by
  rw [hostTo_add 74 11]; after_reads_simp; exact v47_74 V0
theorem v16_85 : hostTo 85 V0 (Proc.devRef .tc main_v16) = hostTo 23 V0 (Proc.devRef .tc main_v16) := by
  rw [hostTo_add 23 62]; after_reads_simp
theorem arg3_85 : hostTo 85 V0 (Proc.devRef .tc main_arg3) = V0 (Proc.devRef .tc main_arg3) := by
  unfold hostTo; after_reads_simp
theorem arg6_85 : hostTo 85 V0 (Proc.devRef .tc main_arg6) = V0 (Proc.devRef .tc main_arg6) := by
  unfold hostTo; after_reads_simp

/-! ### The arrays the kernel is called with -/

theorem y_at (r : Fin 8192) (l : Fin 1024) :
    (StableHlo.after hostOps0 V0 (Proc.devRef .tc main_v77) : FVec Ideal ⟨2, ![8192, 1024]⟩ .f32) (ix2 r l) = Y V0 r l := by
  rw [hostTo_all 85]
  after_reads_simp
  rw [v41_85, arg6_85]
  pointwise []
  simp only [v63_at, v41_at]; rfl

theorem up_at (r : Fin 8192) (l : Fin 5632) :
    (StableHlo.after hostOps0 V0 (Proc.devRef .tc main_v78) : FVec Ideal ⟨2, ![8192, 5632]⟩ .bf16) (ix2 r l) = U V0 r l := by
  rw [hostTo_all 85]
  after_reads_simp
  rw [v16_85]
  pointwise []
  rw [v16_at]

theorem c1_at (r : Fin 8192) (l : Fin 2816) :
    (StableHlo.after hostOps0 V0 (Proc.devRef .tc main_v79) : FVec Ideal ⟨2, ![8192, 2816]⟩ .bf16) (ix2 r l) = actH (gH (C V0)) r l := by
  rw [hostTo_all 85]
  after_reads_simp
  pointwise []
  rw [v63_at]

theorem c2_at (r : Fin 8192) (l : Fin 2816) :
    (StableHlo.after hostOps0 V0 (Proc.devRef .tc main_v80) : FVec Ideal ⟨2, ![8192, 2816]⟩ .bf16) (ix2 r l) = dactH (gH (C V0)) (vH (C V0)) r l := by
  rw [hostTo_all 85]
  after_reads_simp
  rw [v47_85]
  pointwise []
  rw [v71_at, v70_at, v47_at]; rfl

theorem wd_at (r : Fin 2816) (l : Fin 1024) :
    (StableHlo.after hostOps0 V0 (Proc.devRef .tc main_v0) : FVec Ideal ⟨2, ![2816, 1024]⟩ .bf16) (ix2 r l) = wd V0 r l := by
  after_reads_simp
  pointwise []

theorem wu_at (s : Fin 4) (k : Fin 1024) (l : Fin 1408) :
    (StableHlo.after hostOps0 V0 (Proc.devRef .tc main_v3) : FVec Ideal ⟨3, ![4, 1024, 1408]⟩ .bf16) (ix3 s k l) = wu V0 k ⟨s * 1408 + l, by omega⟩ := by
  after_reads_simp
  pointwise []

end Cert.KernelIdeal.At
end
-- ==== Proof.Pays.lean ====
module

public import proofs.«01_k».proof.Proof.Spec
public import proofs.«01_k».proof.Proof.Gen.KernelIdeal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen Cert.Spec

/-! What one block of rows computes, as functions of a row and a column.

The kernel treats the 5632 columns in four groups of 1408. The four groups go through the same arithmetic, written out four
times; the first part of this file brings the four spellings to one, the second part reads it at an index. -/

namespace Cert.KernelIdeal.At

/-! ### One spelling -/

section
variable {F : FTy → Type} [FloatOps F]

theorem n15 (a : FVec F S256x1024 .f32) (b : FVec F S256x1 .f32) (c d : FVec F S256x1024 .f32) (W : Vec F S1408x1024 .bf16) (C : Vec F S256x1408 .bf16) :
    k0_pay15 a b c d W C = k0_pay44 (k0_pay12 a b c d) W C := rfl
theorem n31 (a : FVec F S256x1024 .f32) (b : FVec F S256x1 .f32) (c d : FVec F S256x1024 .f32) (W : Vec F S1408x1024 .bf16) (C : Vec F S256x1408 .bf16) :
    k0_pay31 (k0_pay14 a b c d W) C = k0_pay44 (k0_pay12 a b c d) W C := rfl
theorem n56 (e : FVec F S256x1024 .bf16) (W : Vec F S1408x1024 .bf16) (C : Vec F S256x1408 .bf16) :
    k0_pay56 (k0_pay43 e W) (k0_pay55 C) = k0_pay44 e W C := rfl
theorem n16 (a : FVec F S256x1024 .f32) (b : FVec F S256x1 .f32) (c d : FVec F S256x1024 .f32) (W : Vec F S1408x1024 .bf16) (C : Vec F S256x1408 .bf16)
    (k : Vec F S1x1408 .f32) : k0_pay16 a b c d W C k = k0_pay45 (k0_pay15 a b c d W C) k := rfl
theorem n32 (v : FVec F S256x1408 .f32) (C : Vec F S256x1408 .bf16) (k : Vec F S1x1408 .f32) : k0_pay32 v C k = k0_pay45 (k0_pay31 v C) k := rfl
theorem n57 (v : FVec F S256x1408 .f32) (C : FVec F S256x1408 .bf16) (k : Vec F S1x1408 .f32) : k0_pay57 v C k = k0_pay45 (k0_pay56 v C) k := rfl
theorem n20 (a : FVec F S256x1024 .f32) (b : FVec F S256x1 .f32) (c d : FVec F S256x1024 .f32) (W : Vec F S1408x1024 .bf16) (C : Vec F S256x1408 .bf16)
    (k q : Vec F S1x1408 .f32) :
    k0_pay20 k0_pay17 (k0_pay18 a b c d W C k) (k0_pay19 q) = k0_pay46 (k0_pay15 a b c d W C) k q := rfl
theorem n34 (v : FVec F S256x1408 .f32) (k q : Vec F S1x1408 .f32) :
    k0_pay34 v k q (iota Kind.tc S256x1408 32 [0] iota_S256x1408_d0_w32) k0_pay33 254#32 = k0_pay46 v k q := rfl
theorem n58 (v : FVec F S256x1408 .f32) (C : FVec F S256x1408 .bf16) (k q : Vec F S1x1408 .f32) :
    k0_pay58 v C k q = k0_pay46 (k0_pay56 v C) k q := rfl
theorem n21 (v : FVec F S256x1408 .f32) : k0_pay21 v = k0_pay47 v := rfl
theorem n35 (v : FVec F S256x1408 .f32) : k0_pay35 v = k0_pay47 v := rfl
theorem n59 (v : FVec F S256x1408 .f32) (C : FVec F S256x1408 .bf16) : k0_pay59 v C = k0_pay47 (k0_pay56 v C) := rfl
theorem n23 (v : FVec F S256x1408 .f32) (e : Vec F S1x1408 .f32) : k0_pay23 v e = k0_pay49 v e := rfl
theorem n37 (v : FVec F S256x1408 .f32) (e : Vec F S1x1408 .f32) : k0_pay37 v e = k0_pay49 v e := rfl
theorem n61 (v : FVec F S256x1408 .f32) (C : FVec F S256x1408 .bf16) (e : Vec F S1x1408 .f32) : k0_pay61 v C e = k0_pay49 (k0_pay56 v C) e := rfl
theorem n24 (a : FVec F S256x1024 .f32) (b : FVec F S256x1 .f32) (c d : FVec F S256x1024 .f32) (W : Vec F S1408x1024 .bf16) (C : Vec F S256x1408 .bf16)
    (k q : Vec F S1x1408 .f32) (u : Vec F S256x1408 .bf16) (e : Vec F S1x1408 .f32) :
    k0_pay24 k0_pay17 (k0_pay18 a b c d W C k) (k0_pay19 q) u e = k0_pay50 (k0_pay15 a b c d W C) k q u e := rfl
theorem n38 (v : FVec F S256x1408 .f32) (k q : Vec F S1x1408 .f32) (u : Vec F S256x1408 .bf16) (e : Vec F S1x1408 .f32) :
    k0_pay38 v k q (iota Kind.tc S256x1408 32 [0] iota_S256x1408_d0_w32) k0_pay33 254#32 u e = k0_pay50 v k q u e := rfl
theorem n64 (v : FVec F S256x1408 .f32) (C : FVec F S256x1408 .bf16) (k q : Vec F S1x1408 .f32) (u : Vec F S256x1408 .bf16) (e : Vec F S1x1408 .f32) :
    k0_pay64 (k0_pay62 e) (k0_pay63 v C k q u) = k0_pay50 (k0_pay56 v C) k q u e := rfl
theorem n25 (p : FVec F S256x1408 .f32) (u : Vec F S256x1408 .bf16) (e : Vec F S1x1408 .f32) : k0_pay25 p u e = k0_pay51 p (k0_pay48 u) e := rfl
theorem n39 (p : FVec F S256x1408 .f32) (u : Vec F S256x1408 .bf16) (e : Vec F S1x1408 .f32) : k0_pay39 p u e = k0_pay51 p (k0_pay48 u) e := rfl
theorem n65 (p u : FVec F S256x1408 .f32) (e : Vec F S1x1408 .f32) : k0_pay65 p u e = k0_pay51 p u e := rfl
theorem n28 (v : FVec F S256x1408 .f32) (u : Vec F S256x1408 .bf16) (e : Vec F S1x1408 .f32) :
    k0_pay28 (k0_pay26 e) (k0_pay27 v u) = k0_pay51 v (k0_pay48 u) e := rfl
theorem n40 (v u : FVec F S256x1408 .f32) (e : Vec F S1x1408 .f32) : k0_pay40 v u e = k0_pay51 v u e := rfl
theorem n52 (v u : FVec F S256x1408 .f32) (e : Vec F S1x1408 .f32) : k0_pay52 v u e = k0_pay51 v u e := rfl
theorem n66 (v u : FVec F S256x1408 .f32) (e : Vec F S1x1408 .f32) : k0_pay66 v u e = k0_pay51 v u e := rfl
theorem n36 (u : Vec F S256x1408 .bf16) : k0_pay36 u = k0_pay48 u := rfl
theorem n60 (u : Vec F S256x1408 .bf16) : k0_pay60 u = k0_pay48 u := rfl
theorem n29 (v p q : FVec F S256x1408 .f32) (x y z : Vec F S1x1408 .f32) : k0_pay29 v p q x y z = k0_pay53 v p q x y z := rfl
theorem n41 (v p q : FVec F S256x1408 .f32) (x y z : Vec F S1x1408 .f32) : k0_pay41 v p q x y z = k0_pay53 v p q x y z := rfl
theorem n67 (v p q : FVec F S256x1408 .f32) (x y z : Vec F S1x1408 .f32) : k0_pay67 v p q x y z = k0_pay53 v p q x y z := rfl
theorem n30 (h : FVec F S256x1024 .f32) (v p q : FVec F S256x1408 .f32) (x y z : Vec F S1x1408 .f32) (W : Vec F S1x1024x1408 .bf16) :
    k0_pay30 h v p q x y z W = k0_pay68 h (k0_pay53 v p q x y z) W := rfl
theorem n42 (h : FVec F S256x1024 .f32) (v p q : FVec F S256x1408 .f32) (x y z : Vec F S1x1408 .f32) (W : Vec F S1x1024x1408 .bf16) :
    k0_pay42 h v p q x y z W = k0_pay68 h (k0_pay53 v p q x y z) W := rfl
theorem n54 (h : FVec F S256x1024 .f32) (v p q : FVec F S256x1408 .f32) (x y z : Vec F S1x1408 .f32) (W : Vec F S1x1024x1408 .bf16) :
    k0_pay54 h v p q x y z W = k0_pay68 h (k0_pay53 v p q x y z) W := rfl
end

/-! ### The functions of a block -/

/-- the gradient read one row further on; past the block, the carried row -/
def bP1 (D : Fin 256 → Fin 5632 → EReal) (K : Fin 8 → Fin 5632 → EReal) (r : Fin 256) (n : Fin 5632) : EReal :=
  if h : (r : ℕ) + 1 < 256 then D ⟨r + 1, h⟩ n else K 0 n
/-- the gradient read two rows further on; past the block, the carried rows -/
def bP2 (D : Fin 256 → Fin 5632 → EReal) (K : Fin 8 → Fin 5632 → EReal) (r : Fin 256) (n : Fin 5632) : EReal :=
  if h : (r : ℕ) + 2 < 256 then D ⟨r + 2, h⟩ n else if (r : ℕ) = 254 then K 0 n else K 1 n
/-- the gradient of the convolution's operand -/
def bUp (cw : Fin 3 → Fin 5632 → EReal) (D P Q : Fin 256 → Fin 5632 → EReal) (r : Fin 256) (n : Fin 5632) : EReal :=
  cw 2 n * D r n + cw 1 n * P r n + cw 0 n * Q r n
/-- column `l` of the group that starts at `o` -/
abbrev col (o : ℕ) (ho : o + 1408 ≤ 5632) (l : Fin 1408) : Fin 5632 := ⟨o + l, by omega⟩

/-- the groups of columns, added up in the kernel's order -/
theorem sum_groups (f : Fin 5632 → EReal) :
    (((0 + ∑ l, f (col 0 (by decide) l)) + ∑ l, f (col 2816 (by decide) l)) + ∑ l, f (col 1408 (by decide) l)) + ∑ l, f (col 4224 (by decide) l)
      = ∑ n, f n := by
  have h3 : ∑ n, f n = (∑ n : Fin 4224, f ⟨n, by omega⟩) + ∑ l, f (col 4224 (by decide) l) := Fin.sum_univ_add (a := 4224) (b := 1408) f
  have h2 : (∑ n : Fin 4224, f ⟨n, by omega⟩) = (∑ n : Fin 2816, f ⟨n, by omega⟩) + ∑ l, f (col 2816 (by decide) l) :=
    Fin.sum_univ_add (a := 2816) (b := 1408) (fun n : Fin 4224 => f ⟨n, by omega⟩)
  have h1 : (∑ n : Fin 2816, f ⟨n, by omega⟩) = (∑ n : Fin 1408, f ⟨n, by omega⟩) + ∑ l, f (col 1408 (by decide) l) :=
    Fin.sum_univ_add (a := 1408) (b := 1408) (fun n : Fin 2816 => f ⟨n, by omega⟩)
  have h0 : (∑ l, f (col 0 (by decide) l)) = ∑ n : Fin 1408, f ⟨n, by omega⟩ :=
    Finset.sum_congr rfl fun l _ => congrArg f (Fin.ext (show 0 + (l : ℕ) = l by omega))
  rw [h3, h2, h1, h0, zero_add, add_right_comm (∑ n : Fin 1408, f ⟨n, by omega⟩)]

/-! ### The payloads at an index -/

theorem dy_at (y dn : FVec Ideal S256x1024 .f32) (g : FVec Ideal S1x1024 .f32) (r : Fin 256) (l : Fin 1024) :
    (k0_pay12 (k0_pay7 y) (k0_pay8 y) (k0_pay10 dn g) (k0_pay11 y) : FVec Ideal S256x1024 .bf16) (ix2 r l)
      = rmsB (fun r k => y (ix2 r k)) (fun k => g (ix2 0 k)) (fun r k => dn (ix2 r k)) r l := by
  pointwise [k0_pay12, k0_pay11, k0_pay10, k0_pay8, k0_pay7]
  rfl
theorem du_at (e : FVec Ideal S256x1024 .bf16) (W : FVec Ideal S1408x1024 .bf16) (C : FVec Ideal S256x1408 .bf16) (r : Fin 256) (l : Fin 1408) :
    (k0_pay44 e W C : FVec Ideal S256x1408 .f32) (ix2 r l) = (∑ k : Fin 1024, e (ix2 r k) * W (ix2 l k)) * C (ix2 r l) := by
  pointwise [k0_pay44, k0_pay43]

section
variable {o : ℕ} {ho : o + 1408 ≤ 5632} {D P Q U : Fin 256 → Fin 5632 → EReal} {K : Fin 8 → Fin 5632 → EReal}
  {d p q : FVec Ideal S256x1408 .f32} {u : FVec Ideal S256x1408 .bf16} {k0 k1 : FVec Ideal S1x1408 .f32}

/-- a row number compared with a literal -/
theorem cmp_word (r : Fin 256) (a : ℕ) (ha : a < 256) (x y : EReal) :
    Scalar.select (IntOp.cmpi .eq (BitVec.ofNat 32 ↑r) (BitVec.ofNat 32 a)) x y = if (r : ℕ) = a then x else y := by
  have : (BitVec.ofNat 32 (r : ℕ) = BitVec.ofNat 32 a) ↔ (r : ℕ) = a := by
    rw [← BitVec.toNat_inj, BitVec.toNat_ofNat, BitVec.toNat_ofNat, Nat.mod_eq_of_lt (by omega), Nat.mod_eq_of_lt (by omega)]
  by_cases h : (r : ℕ) = a
  · rw [if_pos h]; simp [Scalar.select, IntOp.cmpi, this, h]
  · have h2 : (BitVec.ofNat 32 (r : ℕ) == BitVec.ofNat 32 a) = false := beq_eq_false_iff_ne.mpr fun e => h (this.mp e)
    rw [if_neg h]; simp [Scalar.select, IntOp.cmpi, h2]

theorem p1_at (hd : ∀ r l, d (ix2 r l) = D r (col o ho l)) (hk : ∀ l, k0 (ix2 0 l) = K 0 (col o ho l)) (r : Fin 256) (l : Fin 1408) :
    (k0_pay45 d k0 : FVec Ideal S256x1408 .f32) (ix2 r l) = bP1 D K r (col o ho l) := by
  pointwise [k0_pay45]
  refine (cmp_word r 255 (by decide) _ _).trans ?_
  unfold bP1
  by_cases h : (r : ℕ) + 1 < 256
  · rw [if_neg (show ¬ (r : ℕ) = 255 by omega), dif_pos h, hd]
    exact congrArg (fun q => D q (col o ho l)) (Fin.ext (show (↑r + 256 - 255) % 256 = (r : ℕ) + 1 by omega))
  · rw [if_pos (show (r : ℕ) = 255 by omega), dif_neg h, hk]
theorem p2_at (hd : ∀ r l, d (ix2 r l) = D r (col o ho l)) (hk : ∀ l, k0 (ix2 0 l) = K 0 (col o ho l)) (hq : ∀ l, k1 (ix2 0 l) = K 1 (col o ho l))
    (r : Fin 256) (l : Fin 1408) :
    (k0_pay46 d k0 k1 : FVec Ideal S256x1408 .f32) (ix2 r l) = bP2 D K r (col o ho l) := by
  pointwise [k0_pay46]
  refine (cmp_word r 255 (by decide) _ _).trans ?_
  unfold bP2
  by_cases h : (r : ℕ) + 2 < 256
  · rw [if_neg (show ¬ (r : ℕ) = 255 by omega), dif_pos h]
    refine (cmp_word r 254 (by decide) _ _).trans ?_
    rw [if_neg (show ¬ (r : ℕ) = 254 by omega), hd]
    exact congrArg (fun q => D q (col o ho l)) (Fin.ext (show (↑r + 256 - 254) % 256 = (r : ℕ) + 2 by omega))
  · rw [dif_neg h]
    by_cases h' : (r : ℕ) = 254
    · rw [if_neg (show ¬ (r : ℕ) = 255 by omega), if_pos h']
      refine (cmp_word r 254 (by decide) _ _).trans ?_
      rw [if_pos h', hk]
    · rw [if_pos (show (r : ℕ) = 255 by omega), if_neg h', hq]
theorem carry_at (hd : ∀ r l, d (ix2 r l) = D r (col o ho l)) (r : Fin 8) (l : Fin 1408) :
    (k0_pay47 d : FVec Ideal S8x1408 .f32) (ix2 r l) = D ⟨r, by omega⟩ (col o ho l) := by
  pointwise [k0_pay47]
  exact hd _ _
theorem dcb_at (hd : ∀ r l, d (ix2 r l) = D r (col o ho l)) (e : FVec Ideal S1x1408 .f32) (l : Fin 1408) :
    (k0_pay49 d e : FVec Ideal S1x1408 .f32) (ix2 0 l) = e (ix2 0 l) + ∑ r, D r (col o ho l) := by
  pointwise [k0_pay49]
  simp only [hd]
theorem upf_at (u : FVec Ideal S256x1408 .bf16) (r : Fin 256) (l : Fin 1408) : (k0_pay48 u : FVec Ideal S256x1408 .f32) (ix2 r l) = u (ix2 r l) := by
  pointwise [k0_pay48]
theorem dcw_at (hp : ∀ r l, p (ix2 r l) = P r (col o ho l)) (hu : ∀ r l, u (ix2 r l) = U r (col o ho l)) (e : FVec Ideal S1x1408 .f32) (l : Fin 1408) :
    (k0_pay51 p (k0_pay48 u) e : FVec Ideal S1x1408 .f32) (ix2 0 l) = e (ix2 0 l) + ∑ r, P r (col o ho l) * U r (col o ho l) := by
  pointwise [k0_pay51, k0_pay48]
  simp only [hp, hu]
theorem n50 (d : FVec Ideal S256x1408 .f32) (k0 k1 : FVec Ideal S1x1408 .f32) (u : FVec Ideal S256x1408 .bf16) (e : FVec Ideal S1x1408 .f32) :
    k0_pay50 d k0 k1 u e = k0_pay51 (k0_pay46 d k0 k1) (k0_pay48 u) e := rfl
theorem dup_at {cw : Fin 3 → Fin 5632 → EReal} {w2 w1 w0 : FVec Ideal S1x1408 .f32} (hd : ∀ r l, d (ix2 r l) = D r (col o ho l))
    (hp : ∀ r l, p (ix2 r l) = P r (col o ho l)) (hq : ∀ r l, q (ix2 r l) = Q r (col o ho l))
    (h2 : ∀ l, w2 (ix2 0 l) = cw 2 (col o ho l)) (h1 : ∀ l, w1 (ix2 0 l) = cw 1 (col o ho l)) (h0 : ∀ l, w0 (ix2 0 l) = cw 0 (col o ho l))
    (r : Fin 256) (l : Fin 1408) :
    (k0_pay53 d p q w2 w1 w0 : FVec Ideal S256x1408 .bf16) (ix2 r l) = bUp cw D P Q r (col o ho l) := by
  pointwise [k0_pay53]
  rw [h2, h1, h0, hd, hp, hq]; rfl
theorem dh_at {E : Fin 256 → Fin 5632 → EReal} {w : Fin 1024 → Fin 5632 → EReal} (h : FVec Ideal S256x1024 .f32) {v : FVec Ideal S256x1408 .bf16}
    {W : FVec Ideal S1x1024x1408 .bf16} (hv : ∀ r l, v (ix2 r l) = E r (col o ho l)) (hW : ∀ k l, W (ix3 0 k l) = w k (col o ho l))
    (r : Fin 256) (k : Fin 1024) :
    (k0_pay68 h v W : FVec Ideal S256x1024 .f32) (ix2 r k) = h (ix2 r k) + ∑ l, E r (col o ho l) * w k (col o ho l) := by
  pointwise [k0_pay68]
  simp only [hv, hW]
end

theorem zero_at (r : Fin 256) (k : Fin 1024) : (k0_pay13 : FVec Ideal S256x1024 .f32) (ix2 r k) = 0 := by
  unfold k0_pay13
  pointwise []

theorem dg4_at (dn y : FVec Ideal S256x1024 .f32) (e : FVec Ideal S1x1024 .f32) (k : Fin 1024) :
    (k0_pay9 dn y e : FVec Ideal S1x1024 .f32) (ix2 0 k)
      = e (ix2 0 k) + ∑ r, dn (ix2 r k) * y (ix2 r k) * rs (fun r k => y (ix2 r k)) r := by
  pointwise [k0_pay9, k0_pay8, k0_pay7]
  rfl
theorem dg3_at (h : FVec Ideal S256x1024 .f32) (v : FVec Ideal S256x1408 .bf16) (W : FVec Ideal S1x1024x1408 .bf16) (x : FVec Ideal S256x1024 .f32)
    (e : FVec Ideal S1x1024 .f32) (k : Fin 1024) :
    (k0_pay70 h v W x e : FVec Ideal S1x1024 .f32) (ix2 0 k)
      = e (ix2 0 k) + ∑ r, (k0_pay68 h v W : FVec Ideal S256x1024 .f32) (ix2 r k) * x (ix2 r k) * rs (fun r k => x (ix2 r k)) r := by
  pointwise [k0_pay70, k0_pay69]
  rfl
theorem dx_at (dn h : FVec Ideal S256x1024 .f32) (v : FVec Ideal S256x1408 .bf16) (W : FVec Ideal S1x1024x1408 .bf16) (x : FVec Ideal S256x1024 .f32)
    (g : FVec Ideal S1x1024 .f32) (r : Fin 256) (k : Fin 1024) :
    (k0_pay1 dn (k0_pay72 h v W x g) (k0_pay73 x) (k0_pay74 h v W x g) k0_pay75 : FVec Ideal S256x1024 .f32) (ix2 r k)
      = dn (ix2 r k) + rmsB (fun r k => x (ix2 r k)) (fun k => g (ix2 0 k)) (fun r k => (k0_pay68 h v W : FVec Ideal S256x1024 .f32) (ix2 r k)) r k := by
  pointwise [k0_pay1, k0_pay72, k0_pay73, k0_pay74, k0_pay75, k0_pay71, k0_pay69]
  rfl

end Cert.KernelIdeal.At
end
-- ==== Proof.Blocks.lean ====
module

public import proofs.«01_k».proof.Proof.Host
public import proofs.«01_k».proof.Proof.Pays
public import proofs.«01_k».proof.Proof.Gen.KernelIdeal.Frame
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen Cert.Spec

/-! What the kernel's buffers hold at each point of the grid. -/

namespace Cert.KernelIdeal.At

variable (m : (ℓ : Loc nD τ sig) → Buf (Elt Ideal) ℓ) (c : Dev nD)

/-- the arrays before the host's operations -/
abbrev L : Valuation τ sig (Elt Ideal) := fun b => m (c, b)

/-- the windows' blocks: the rows go from the last block to the first -/
theorem idx : ∀ t : Fin cfg0.N, win0_0.index t = ![31 - t.val, 0] ∧ win0_1.index t = ![31 - t.val, 0] ∧ win0_2.index t = ![0, 0]
    ∧ win0_3.index t = ![31 - t.val, 0] ∧ win0_4.index t = ![31 - t.val, 0] ∧ win0_5.index t = ![31 - t.val, 0] ∧ win0_6.index t = ![0, 0]
    ∧ win0_7.index t = ![31 - t.val, 0] ∧ win0_8.index t = ![0, 0] ∧ win0_9.index t = ![31 - t.val, 0] ∧ win0_10.index t = ![31 - t.val, 0]
    ∧ win0_11.index t = ![31 - t.val, 0] ∧ win0_12.index t = ![0, 0] ∧ win0_13.index t = ![0, 0] ∧ win0_14.index t = ![0, 0] ∧ win0_15.index t = ![0, 0] :=
  (by decide +kernel : ∀ t : Fin grid0.N, _)

theorem t_lt (t : Fin cfg0.N) : t.val < 32 := lt_of_lt_of_eq t.isLt N_0

/-- the array's row of row `r` of point `n`'s block -/
abbrev row (n : ℕ) (r : Fin 256) : Fin 8192 := ⟨256 * (31 - n) + r, by omega⟩

theorem b0 (t : Fin cfg0.N) (r : Fin 256) (l : Fin 1024) : (iblk m c 0 t : FVec Ideal S256x1024 .f32) (ix2 r l) = dn (L m c) (row t r) l := by
  have ht := t_lt t
  refine Eq.trans ?_ (congrFun (V_main_arg0 m c) _)
  blk_ext [iblk, idx t]
theorem b1 (t : Fin cfg0.N) (r : Fin 256) (l : Fin 1024) : (iblk m c 1 t : FVec Ideal S256x1024 .f32) (ix2 r l) = Y (L m c) (row t r) l := by
  have ht := t_lt t
  refine Eq.trans ?_ (y_at (L m c) (row t r) l)
  blk_ext [iblk, idx t]
theorem b3 (t : Fin cfg0.N) (r : Fin 256) (l : Fin 5632) : (iblk m c 3 t : FVec Ideal S256x5632 .bf16) (ix2 r l) = U (L m c) (row t r) l := by
  have ht := t_lt t
  refine Eq.trans ?_ (up_at (L m c) (row t r) l)
  blk_ext [iblk, idx t]
theorem b2 (t : Fin cfg0.N) (l : Fin 1024) : (iblk m c 2 t : FVec Ideal S1x1024 .f32) (ix2 0 l) = g4 (L m c) l := by
  refine Eq.trans ?_ (congrFun (V_main_arg7 m c) _)
  blk_ext [iblk, idx t]
theorem b4 (t : Fin cfg0.N) (r : Fin 256) (l : Fin 2816) : (iblk m c 4 t : FVec Ideal S256x2816 .bf16) (ix2 r l) = actH (gH (C (L m c))) (row t r) l := by
  have ht := t_lt t
  refine Eq.trans ?_ (c1_at (L m c) (row t r) l)
  blk_ext [iblk, idx t]
theorem b5 (t : Fin cfg0.N) (r : Fin 256) (l : Fin 2816) :
    (iblk m c 5 t : FVec Ideal S256x2816 .bf16) (ix2 r l) = dactH (gH (C (L m c))) (vH (C (L m c))) (row t r) l := by
  have ht := t_lt t
  refine Eq.trans ?_ (c2_at (L m c) (row t r) l)
  blk_ext [iblk, idx t]
theorem b6 (t : Fin cfg0.N) (j : Fin 3) (l : Fin 5632) : (iblk m c 6 t : FVec Ideal S3x5632 .f32) (ix2 j l) = cw (L m c) j l := by
  refine Eq.trans ?_ (congrFun (V_main_arg4 m c) _)
  blk_ext [iblk, idx t]
theorem b7 (t : Fin cfg0.N) (r : Fin 256) (l : Fin 1024) : (iblk m c 7 t : FVec Ideal S256x1024 .f32) (ix2 r l) = x (L m c) (row t r) l := by
  have ht := t_lt t
  refine Eq.trans ?_ (congrFun (V_main_arg1 m c) _)
  blk_ext [iblk, idx t]
theorem b8 (t : Fin cfg0.N) (l : Fin 1024) : (iblk m c 8 t : FVec Ideal S1x1024 .f32) (ix2 0 l) = g3 (L m c) l := by
  refine Eq.trans ?_ (congrFun (V_main_arg2 m c) _)
  blk_ext [iblk, idx t]

/-! ### The gradients -/

section
variable (V0 : Valuation τ sig (Elt Ideal))
/-- the gradient of the projection down -/
abbrev DY : Fin 8192 → Fin 1024 → EReal := rmsB (Y V0) (g4 V0) (dn V0)
/-- the gradient of its operand -/
abbrev DA : Fin 8192 → Fin 2816 → EReal := mmT (DY V0) (wd V0)
/-- the gradient of the convolution's result -/
abbrev DU : Fin 8192 → Fin 5632 → EReal := dU (DA V0) (actH (gH (C V0))) (dactH (gH (C V0)) (vH (C V0)))
/-- the gradient of the projection up -/
abbrev DUP : Fin 8192 → Fin 5632 → EReal := dUp (cw V0) (DU V0)
/-- the gradient of its operand -/
abbrev DH : Fin 8192 → Fin 1024 → EReal := mmT (DUP V0) (wu V0)
/-- the rows carried into point `n`: the first rows of the block behind it -/
def Kf (n : ℕ) (r : Fin 8) (l : Fin 5632) : EReal := if n = 0 then 0 else DU V0 (row (n - 1) ⟨r, by omega⟩) l

theorem sh1_eq {n : ℕ} (hn : n < 32) (r : Fin 256) (l : Fin 5632) : bP1 (fun r l => DU V0 (row n r) l) (Kf V0 n) r l = sh 1 (DU V0) (row n r) l := by
  unfold bP1 sh Kf
  by_cases h : (r : ℕ) + 1 < 256
  · rw [dif_pos h, dif_pos (show 256 * (31 - n) + (r : ℕ) + 1 < 8192 by omega)]
    exact congrArg (fun q => DU V0 q l) (Fin.ext (show 256 * (31 - n) + ((r : ℕ) + 1) = 256 * (31 - n) + r + 1 by omega))
  · rw [dif_neg h]
    by_cases h0 : n = 0
    · rw [if_pos h0, dif_neg (show ¬ 256 * (31 - n) + (r : ℕ) + 1 < 8192 by omega)]
    · rw [if_neg h0, dif_pos (show 256 * (31 - n) + (r : ℕ) + 1 < 8192 by omega)]
      exact congrArg (fun q => DU V0 q l) (Fin.ext (show 256 * (31 - (n - 1)) + 0 = 256 * (31 - n) + r + 1 by omega))
theorem sh2_eq {n : ℕ} (hn : n < 32) (r : Fin 256) (l : Fin 5632) : bP2 (fun r l => DU V0 (row n r) l) (Kf V0 n) r l = sh 2 (DU V0) (row n r) l := by
  unfold bP2 sh Kf
  by_cases h : (r : ℕ) + 2 < 256
  · rw [dif_pos h, dif_pos (show 256 * (31 - n) + (r : ℕ) + 2 < 8192 by omega)]
    exact congrArg (fun q => DU V0 q l) (Fin.ext (show 256 * (31 - n) + ((r : ℕ) + 2) = 256 * (31 - n) + r + 2 by omega))
  · rw [dif_neg h]
    by_cases h0 : n = 0
    · rw [if_pos h0, if_pos h0, ite_self, dif_neg (show ¬ 256 * (31 - n) + (r : ℕ) + 2 < 8192 by omega)]
    · rw [if_neg h0, if_neg h0, dif_pos (show 256 * (31 - n) + (r : ℕ) + 2 < 8192 by omega)]
      by_cases h' : (r : ℕ) = 254
      · rw [if_pos h']
        exact congrArg (fun q => DU V0 q l) (Fin.ext (show 256 * (31 - (n - 1)) + 0 = 256 * (31 - n) + r + 2 by omega))
      · rw [if_neg h']
        exact congrArg (fun q => DU V0 q l) (Fin.ext (show 256 * (31 - (n - 1)) + 1 = 256 * (31 - n) + r + 2 by omega))
end

/-! ### What a block computes -/

/-- the block's gradient of the projection down -/
abbrev eb (t : Fin cfg0.N) : FVec Ideal S256x1024 .bf16 :=
  k0_pay12 (k0_pay7 (iblk m c 1 t)) (k0_pay8 (iblk m c 1 t)) (k0_pay10 (iblk m c 0 t) (iblk m c 2 t)) (k0_pay11 (iblk m c 1 t))
theorem eb_at (t : Fin cfg0.N) (r : Fin 256) (k : Fin 1024) : eb m c t (ix2 r k) = DY (L m c) (row t r) k := by
  refine (dy_at _ _ _ r k).trans ?_
  rw [funext fun r => funext fun k => b1 m c t r k, funext fun k => b2 m c t k, funext fun r => funext fun k => b0 m c t r k]
  rfl

theorem dU_lo {R : ℕ} (da c1 c2 : Fin R → Fin 2816 → EReal) (r : Fin R) (n : Fin 5632) (h : (n : ℕ) < 2816) :
    dU da c1 c2 r n = da r ⟨n, h⟩ * c1 r ⟨n, h⟩ := by unfold dU; rw [dif_pos h]
theorem dU_hi {R : ℕ} (da c1 c2 : Fin R → Fin 2816 → EReal) (r : Fin R) (n : Fin 5632) (h : ¬ (n : ℕ) < 2816) :
    dU da c1 c2 r n = da r ⟨n - 2816, by omega⟩ * c2 r ⟨n - 2816, by omega⟩ := by unfold dU; rw [dif_neg h]
/-- the first half of the columns -/
theorem du_lo (t : Fin cfg0.N) {o : ℕ} {ho : o + 1408 ≤ 5632} (ho' : o + 1408 ≤ 2816) {W : FVec Ideal S1408x1024 .bf16} {C1 : FVec Ideal S256x1408 .bf16}
    (hW : ∀ l k, W (ix2 l k) = wd (L m c) ⟨o + l, by omega⟩ k)
    (hC : ∀ r l, C1 (ix2 r l) = actH (gH (C (L m c))) (row t r) ⟨o + l, by omega⟩) (r : Fin 256) (l : Fin 1408) :
    (k0_pay44 (eb m c t) W C1 : FVec Ideal S256x1408 .f32) (ix2 r l) = DU (L m c) (row t r) (col o ho l) := by
  refine (du_at _ _ _ r l).trans ?_
  rw [hC]
  simp only [hW, eb_at]
  exact (dU_lo (DA (L m c)) _ _ (row t r) (col o ho l) (show o + (l : ℕ) < 2816 by omega)).symm
/-- the second half of the columns -/
theorem du_hi (t : Fin cfg0.N) {o : ℕ} {ho : o + 1408 ≤ 5632} (ho' : 2816 ≤ o) {W : FVec Ideal S1408x1024 .bf16} {C2 : FVec Ideal S256x1408 .bf16}
    (hW : ∀ l k, W (ix2 l k) = wd (L m c) ⟨o - 2816 + l, by omega⟩ k)
    (hC : ∀ r l, C2 (ix2 r l) = dactH (gH (C (L m c))) (vH (C (L m c))) (row t r) ⟨o - 2816 + l, by omega⟩) (r : Fin 256) (l : Fin 1408) :
    (k0_pay44 (eb m c t) W C2 : FVec Ideal S256x1408 .f32) (ix2 r l) = DU (L m c) (row t r) (col o ho l) := by
  refine (du_at _ _ _ r l).trans ?_
  rw [hC]
  simp only [hW, eb_at]
  have e : (⟨o - 2816 + (l : ℕ), by omega⟩ : Fin 2816) = ⟨o + l - 2816, by omega⟩ := Fin.ext (by show o - 2816 + (l : ℕ) = o + l - 2816; omega)
  rw [e]
  exact (dU_hi (DA (L m c)) _ _ (row t r) (col o ho l) (show ¬ o + (l : ℕ) < 2816 by omega)).symm

section
variable (t : Fin cfg0.N) {o : ℕ} {ho : o + 1408 ≤ 5632} {d p q : FVec Ideal S256x1408 .f32} {u : FVec Ideal S256x1408 .bf16} {k0 k1 : FVec Ideal S1x1408 .f32}
theorem p1_row (hd : ∀ r l, d (ix2 r l) = DU (L m c) (row t r) (col o ho l)) (hk : ∀ l, k0 (ix2 0 l) = Kf (L m c) t 0 (col o ho l)) (r : Fin 256) (l : Fin 1408) :
    (k0_pay45 d k0 : FVec Ideal S256x1408 .f32) (ix2 r l) = sh 1 (DU (L m c)) (row t r) (col o ho l) :=
  (p1_at (D := fun r l => DU (L m c) (row t r) l) hd hk r l).trans (sh1_eq (L m c) (t_lt t) r _)
theorem p2_row (hd : ∀ r l, d (ix2 r l) = DU (L m c) (row t r) (col o ho l)) (hk : ∀ l, k0 (ix2 0 l) = Kf (L m c) t 0 (col o ho l))
    (hq : ∀ l, k1 (ix2 0 l) = Kf (L m c) t 1 (col o ho l)) (r : Fin 256) (l : Fin 1408) :
    (k0_pay46 d k0 k1 : FVec Ideal S256x1408 .f32) (ix2 r l) = sh 2 (DU (L m c)) (row t r) (col o ho l) :=
  (p2_at (D := fun r l => DU (L m c) (row t r) l) hd hk hq r l).trans (sh2_eq (L m c) (t_lt t) r _)
theorem dup_row {w2 w1 w0 : FVec Ideal S1x1408 .f32} (hd : ∀ r l, d (ix2 r l) = DU (L m c) (row t r) (col o ho l))
    (hk : ∀ l, k0 (ix2 0 l) = Kf (L m c) t 0 (col o ho l)) (hq : ∀ l, k1 (ix2 0 l) = Kf (L m c) t 1 (col o ho l))
    (h2 : ∀ l, w2 (ix2 0 l) = cw (L m c) 2 (col o ho l)) (h1 : ∀ l, w1 (ix2 0 l) = cw (L m c) 1 (col o ho l))
    (h0 : ∀ l, w0 (ix2 0 l) = cw (L m c) 0 (col o ho l)) (r : Fin 256) (l : Fin 1408) :
    (k0_pay53 d (k0_pay45 d k0) (k0_pay46 d k0 k1) w2 w1 w0 : FVec Ideal S256x1408 .bf16) (ix2 r l) = DUP (L m c) (row t r) (col o ho l) :=
  dup_at (D := fun r l => DU (L m c) (row t r) l) (P := fun r l => sh 1 (DU (L m c)) (row t r) l) (Q := fun r l => sh 2 (DU (L m c)) (row t r) l) hd
    (p1_row m c t hd hk) (p2_row m c t hd hk hq) h2 h1 h0 r l
end

/-! ### The weights' copies -/

theorem readCov_whole {sg : RefSig} {κ : Kind} {sp : Space} {s : Shape} {e : EltTy} {Val : EltTy → Type} [∀ e, Nonempty (Val e)] (v : View sg κ sp s e)
    (Z : s.Idx → Val e) (r : Rect s) : v.readCov [⟨Rect.whole s, Z⟩] r.toLoadRect = View.ld Z r := by
  rw [View.readCov_eq_canon']; exact congrArg (fun f j => f (r.idx j)) (View.canon_cons_unit_zero (off := fun _ => 0) rfl _ Z [])

theorem wup_all (n : ℕ) (h : n < cfg0.N) (s : Fin 4) (k : Fin 1024) (l : Fin 1408) :
    ((outsAt0 m c n h).2.2.2.2.2.2.2.1 : FVec Ideal S4x1024x1408 .bf16) (ix3 s k l) = wu (L m c) k ⟨s * 1408 + l, by omega⟩ := by
  induction n with
  | zero =>
    rw [show outsAt0 m c 0 h = outsAt0 m c (⟨0, h⟩ : Fin cfg0.N).val (⟨0, h⟩ : Fin cfg0.N).isLt from rfl, outsAt0_A m c ⟨0, h⟩ rfl rfl rfl]
    frame_out
    refine (congrFun (View.canon_cons_unit_zero (off := fun _ => 0) rfl _ _ []) _).trans ?_
    exact wu_at (L m c) s k l
  | succ n ih =>
    have hb : ¬ (⟨n + 1, h⟩ : Fin cfg0.N).val % 32 = 0 := by
      have := t_lt ⟨n + 1, h⟩
      show ¬ (n + 1) % 32 = 0
      have : n + 1 < 32 := this
      omega
    rw [show outsAt0 m c (n + 1) h = outsAt0 m c (⟨n + 1, h⟩ : Fin cfg0.N).val (⟨n + 1, h⟩ : Fin cfg0.N).isLt from rfl, outsAt0_B m c ⟨n + 1, h⟩ hb hb hb]
    frame_out
    unfold sout0_B_0
    exact ih _
theorem wdn_all (n : ℕ) (h : n < cfg0.N) (f : Fin 2816) (k : Fin 1024) :
    ((outsAt0 m c n h).2.2.2.2.2.2.2.2.1 : FVec Ideal S2816x1024 .bf16) (ix2 f k) = wd (L m c) f k := by
  induction n with
  | zero =>
    rw [show outsAt0 m c 0 h = outsAt0 m c (⟨0, h⟩ : Fin cfg0.N).val (⟨0, h⟩ : Fin cfg0.N).isLt from rfl, outsAt0_A m c ⟨0, h⟩ rfl rfl rfl]
    frame_out
    refine (congrFun (View.canon_cons_unit_zero (off := fun _ => 0) rfl _ _ []) _).trans ?_
    exact wd_at (L m c) f k
  | succ n ih =>
    have hb : ¬ (⟨n + 1, h⟩ : Fin cfg0.N).val % 32 = 0 := by
      have := t_lt ⟨n + 1, h⟩
      show ¬ (n + 1) % 32 = 0
      have : n + 1 < 32 := this
      omega
    rw [show outsAt0 m c (n + 1) h = outsAt0 m c (⟨n + 1, h⟩ : Fin cfg0.N).val (⟨n + 1, h⟩ : Fin cfg0.N).isLt from rfl, outsAt0_B m c ⟨n + 1, h⟩ hb hb hb]
    frame_out
    unfold sout0_B_1
    exact ih _
end Cert.KernelIdeal.At
end
-- ==== Proof.Points.lean ====
module

public import proofs.«01_k».proof.Proof.Blocks

@[expose] public section

set_option maxRecDepth 16384

noncomputable section

open Idealize.ShloMosaic Idealize.ShloMosaic.TcCoe Idealize.SL.Sem
open Cert.KernelIdeal Cert.KernelIdeal.Gen Cert.Spec

/-! What a point of the grid leaves in the windows of the rows. -/

namespace Cert.KernelIdeal.At

variable (m : (ℓ : Loc nD τ sig) → Buf (Elt Ideal) ℓ) (c : Dev nD)

/-! ### Parts of arrays -/

/-- a rectangle of an array -/
abbrev cut2 {e : EltTy} {A B : ℕ} (X : Vec Ideal ⟨2, ![A, B]⟩ e) (oa ob a b : ℕ)
    (inb : ∀ i, (![oa, ob] : Fin 2 → ℕ) i + (![a, b] : Fin 2 → ℕ) i ≤ (⟨2, ![A, B]⟩ : Shape).size i) : Vec Ideal ⟨2, ![a, b]⟩ e :=
  View.ld (Val := Elt Ideal) (e' := e) X (Rect.unit (s := ⟨2, ![A, B]⟩) ![oa, ob] ![a, b] inb)
/-- a rectangle of an array, read at an index -/
theorem ld2 {e : EltTy} {A B a b oa ob : ℕ} (X : Vec Ideal ⟨2, ![A, B]⟩ e) (inb : ∀ i, (![oa, ob] : Fin 2 → ℕ) i + (![a, b] : Fin 2 → ℕ) i ≤ (⟨2, ![A, B]⟩ : Shape).size i)
    {G : Fin A → Fin B → Elt Ideal e} (hX : ∀ i j, X (ix2 i j) = G i j) (i : Fin a) (j : Fin b) (i' : Fin A) (j' : Fin B) (hi : (i' : ℕ) = oa + i) (hj : (j' : ℕ) = ob + j) :
    cut2 X oa ob a b inb (ix2 i j) = G i' j' := by
  refine (View.ld_unit_apply_of X ![oa, ob] ![a, b] inb (ix2 i j) (ix2 i' j') fun q => ?_).trans (hX i' j')
  fin_cases q
  · exact hi
  · exact hj
/-- a store of a group of columns -/
abbrev grp {e : EltTy} {A R : ℕ} (q o : ℕ) (inb : ∀ i, (![q, o] : Fin 2 → ℕ) i + (![R, 1408] : Fin 2 → ℕ) i ≤ (⟨2, ![A, 5632]⟩ : Shape).size i)
    (f : Vec Ideal ⟨2, ![R, 1408]⟩ e) : View.Piece (Elt Ideal) ⟨2, ![A, 5632]⟩ e := ⟨Rect.unit (s := ⟨2, ![A, 5632]⟩) ![q, o] ![R, 1408] inb, f⟩
theorem grp_emb {e : EltTy} {A R : ℕ} (q o : ℕ) (ho : o + 1408 ≤ 5632) (inb) (f : Vec Ideal ⟨2, ![R, 1408]⟩ e) (G : Fin A → Fin 5632 → Elt Ideal e)
    (hf : ∀ (r : Fin R) (r' : Fin A) (l : Fin 1408), (r' : ℕ) = q + r → f (ix2 r l) = G r' (col o ho l)) (x : (grp (A := A) q o inb f).1.shape.Idx) :
    (grp (A := A) q o inb f).2 x = (fun y : (⟨2, ![A, 5632]⟩ : Shape).Idx => G (y 0) (y 1)) ((grp (A := A) q o inb f).1.emb x) := by
  refine (congrArg f (ValueIdx.eq_ix2 (n0 := R) (n1 := 1408) x)).trans ?_
  refine (hf (x 0) _ (x 1) (Rect.idx_unit_val _ _ inb x 0)).trans ?_
  exact congrArg (G _) (Fin.ext (Rect.idx_unit_val _ _ inb x 1).symm)
theorem grp_mem {e : EltTy} {A R : ℕ} (q o : ℕ) (inb) (f : Vec Ideal ⟨2, ![R, 1408]⟩ e) (y : (⟨2, ![A, 5632]⟩ : Shape).Idx)
    (h0 : q ≤ (y 0 : ℕ) ∧ (y 0 : ℕ) < q + R) (h1 : o ≤ (y 1 : ℕ) ∧ (y 1 : ℕ) < o + 1408) : y ∈ (grp q o inb f).1.set := by
  refine (Rect.mem_set_unit (inb := inb)).mpr fun a => ?_
  fin_cases a
  · exact h0
  · exact h1

/-- four stores of groups of columns, over any earlier stores -/
theorem canon4 {e : EltTy} {R : ℕ} (G : Fin R → Fin 5632 → Elt Ideal e) {f0 f1 f2 f3 : Vec Ideal ⟨2, ![R, 1408]⟩ e} {i0 i1 i2 i3}
    (L' : List (View.Piece (Elt Ideal) ⟨2, ![R, 5632]⟩ e))
    (h0 : ∀ r l, f0 (ix2 r l) = G r (col 0 (by decide) l)) (h1 : ∀ r l, f1 (ix2 r l) = G r (col 1408 (by decide) l))
    (h2 : ∀ r l, f2 (ix2 r l) = G r (col 2816 (by decide) l)) (h3 : ∀ r l, f3 (ix2 r l) = G r (col 4224 (by decide) l)) (y : (⟨2, ![R, 5632]⟩ : Shape).Idx) :
    View.canon (grp 0 4224 i3 f3 :: grp 0 1408 i1 f1 :: grp 0 2816 i2 f2 :: grp 0 0 i0 f0 :: L') y = G (y 0) (y 1) := by
  have er : ∀ (r r' : Fin R), (r' : ℕ) = 0 + r → r = r' := fun r r' h => Fin.ext (by omega)
  refine View.canon_append_of_piecesOf (fun y => G (y 0) (y 1)) L' [grp 0 4224 i3 f3, grp 0 1408 i1 f1, grp 0 2816 i2 f2, grp 0 0 i0 f0]
    ⟨grp_emb 0 4224 (by decide) i3 f3 G fun r r' l h => (h3 r l).trans (congrArg (fun r => G r _) (er r r' h)), grp_emb 0 1408 (by decide) i1 f1 G fun r r' l h => (h1 r l).trans (congrArg (fun r => G r _) (er r r' h)),
      grp_emb 0 2816 (by decide) i2 f2 G fun r r' l h => (h2 r l).trans (congrArg (fun r => G r _) (er r r' h)), grp_emb 0 0 (by decide) i0 f0 G fun r r' l h => (h0 r l).trans (congrArg (fun r => G r _) (er r r' h)), trivial⟩ y ?_
  have hy0 : (y 0 : ℕ) < R := (y 0).isLt
  have hy1 : (y 1 : ℕ) < 5632 := (y 1).isLt
  rcases lt_or_ge (y 1 : ℕ) 1408 with h | h
  · exact ⟨grp 0 0 i0 f0, by simp, grp_mem _ _ _ _ _ ⟨by omega, by omega⟩ ⟨by omega, by omega⟩⟩
  rcases lt_or_ge (y 1 : ℕ) 2816 with h' | h'
  · exact ⟨grp 0 1408 i1 f1, by simp, grp_mem _ _ _ _ _ ⟨by omega, by omega⟩ ⟨by omega, by omega⟩⟩
  rcases lt_or_ge (y 1 : ℕ) 4224 with h'' | h''
  · exact ⟨grp 0 2816 i2 f2, by simp, grp_mem _ _ _ _ _ ⟨by omega, by omega⟩ ⟨by omega, by omega⟩⟩
  · exact ⟨grp 0 4224 i3 f3, by simp, grp_mem _ _ _ _ _ ⟨by omega, by omega⟩ ⟨by omega, by omega⟩⟩

theorem n34' {F : FTy → Type} [FloatOps F] (v : FVec F S256x1408 .f32) (k q : Vec F S1x1408 .f32) :
    k0_pay34 v k q (no_index (iota Kind.tc S256x1408 32 [0] iota_S256x1408_d0_w32)) k0_pay33 (no_index 254#32) = k0_pay46 v k q := rfl
theorem n38' {F : FTy → Type} [FloatOps F] (v : FVec F S256x1408 .f32) (k q : Vec F S1x1408 .f32) (u : Vec F S256x1408 .bf16) (e : Vec F S1x1408 .f32) :
    k0_pay38 v k q (no_index (iota Kind.tc S256x1408 32 [0] iota_S256x1408_d0_w32)) k0_pay33 (no_index 254#32) u e = k0_pay50 v k q u e := rfl

/-! ### The four groups of columns -/

section
variable (t : Fin cfg0.N) {Wd : FVec Ideal S2816x1024 .bf16} {Wu : FVec Ideal S4x1024x1408 .bf16} {K : FVec Ideal S8x5632 .f32}
  (hW : ∀ f k, Wd (ix2 f k) = wd (L m c) f k) (hK : ∀ r l, K (ix2 r l) = Kf (L m c) t r l) (hU : ∀ s k l, Wu (ix3 s k l) = wu (L m c) k ⟨s * 1408 + l, by omega⟩)

/-- the gradient of the convolution's result in the first group of columns -/
abbrev d0 (Wd : FVec Ideal S2816x1024 .bf16) : FVec Ideal S256x1408 .f32 :=
  k0_pay44 (eb m c t) (cut2 (e := .bf16) (A := 2816) (B := 1024) Wd 0 0 1408 1024 inb_S2816x1024_S1408x1024_0_0)
    (cut2 (e := .bf16) (A := 256) (B := 2816) (iblk m c 4 t) 0 0 256 1408 inb_S256x2816_S256x1408_0_0)
/-- the second group -/
abbrev d1 (Wd : FVec Ideal S2816x1024 .bf16) : FVec Ideal S256x1408 .f32 :=
  k0_pay44 (eb m c t) (cut2 (e := .bf16) (A := 2816) (B := 1024) Wd 1408 0 1408 1024 inb_S2816x1024_S1408x1024_1408_0)
    (cut2 (e := .bf16) (A := 256) (B := 2816) (iblk m c 4 t) 0 1408 256 1408 inb_S256x2816_S256x1408_0_1408)
/-- the third group -/
abbrev d2 (Wd : FVec Ideal S2816x1024 .bf16) : FVec Ideal S256x1408 .f32 :=
  k0_pay44 (eb m c t) (cut2 (e := .bf16) (A := 2816) (B := 1024) Wd 0 0 1408 1024 inb_S2816x1024_S1408x1024_0_0)
    (cut2 (e := .bf16) (A := 256) (B := 2816) (iblk m c 5 t) 0 0 256 1408 inb_S256x2816_S256x1408_0_0)
/-- the fourth group -/
abbrev d3 (Wd : FVec Ideal S2816x1024 .bf16) : FVec Ideal S256x1408 .f32 :=
  k0_pay44 (eb m c t) (cut2 (e := .bf16) (A := 2816) (B := 1024) Wd 1408 0 1408 1024 inb_S2816x1024_S1408x1024_1408_0)
    (cut2 (e := .bf16) (A := 256) (B := 2816) (iblk m c 5 t) 0 1408 256 1408 inb_S256x2816_S256x1408_0_1408)
include hW in
theorem d0_at (r : Fin 256) (l : Fin 1408) : d0 m c t Wd (ix2 r l) = DU (L m c) (row t r) (col 0 (by decide) l) :=
  du_lo m c t (show 0 + 1408 ≤ 2816 by decide) (fun l k => ld2 (e := .bf16) (A := 2816) (B := 1024) Wd inb_S2816x1024_S1408x1024_0_0 hW l k _ _ rfl (Nat.zero_add _).symm)
    (fun r l => ld2 (e := .bf16) (A := 256) (B := 2816) (iblk m c 4 t) inb_S256x2816_S256x1408_0_0 (b4 m c t) r l _ _ (Nat.zero_add _).symm rfl) r l
include hW in
theorem d1_at (r : Fin 256) (l : Fin 1408) : d1 m c t Wd (ix2 r l) = DU (L m c) (row t r) (col 1408 (by decide) l) :=
  du_lo m c t (show 1408 + 1408 ≤ 2816 by decide) (fun l k => ld2 (e := .bf16) (A := 2816) (B := 1024) Wd inb_S2816x1024_S1408x1024_1408_0 hW l k _ _ rfl (Nat.zero_add _).symm)
    (fun r l => ld2 (e := .bf16) (A := 256) (B := 2816) (iblk m c 4 t) inb_S256x2816_S256x1408_0_1408 (b4 m c t) r l _ _ (Nat.zero_add _).symm rfl) r l
include hW in
theorem d2_at (r : Fin 256) (l : Fin 1408) : d2 m c t Wd (ix2 r l) = DU (L m c) (row t r) (col 2816 (by decide) l) :=
  du_hi m c t (show 2816 ≤ 2816 by decide) (fun l k => ld2 (e := .bf16) (A := 2816) (B := 1024) Wd inb_S2816x1024_S1408x1024_0_0 hW l k _ _ rfl (Nat.zero_add _).symm)
    (fun r l => ld2 (e := .bf16) (A := 256) (B := 2816) (iblk m c 5 t) inb_S256x2816_S256x1408_0_0 (b5 m c t) r l _ _ (Nat.zero_add _).symm rfl) r l
include hW in
theorem d3_at (r : Fin 256) (l : Fin 1408) : d3 m c t Wd (ix2 r l) = DU (L m c) (row t r) (col 4224 (by decide) l) :=
  du_hi m c t (show 2816 ≤ 4224 by decide) (fun l k => ld2 (e := .bf16) (A := 2816) (B := 1024) Wd inb_S2816x1024_S1408x1024_1408_0 hW l k _ _ rfl (Nat.zero_add _).symm)
    (fun r l => ld2 (e := .bf16) (A := 256) (B := 2816) (iblk m c 5 t) inb_S256x2816_S256x1408_0_1408 (b5 m c t) r l _ _ (Nat.zero_add _).symm rfl) r l

variable {o : ℕ} {ho : o + 1408 ≤ 5632} {d : FVec Ideal S256x1408 .f32}
include hK in
theorem k_at (j : Fin 8) (inb) (l : Fin 1408) :
    (cut2 (e := .f32) (A := 8) (B := 5632) K (j : ℕ) o 1 1408 inb : FVec Ideal S1x1408 .f32) (ix2 0 l) = Kf (L m c) t j (col o ho l) :=
  ld2 (e := .f32) (A := 8) (B := 5632) K inb hK 0 l _ _ rfl rfl
theorem w_at (j : Fin 3) (inb) (l : Fin 1408) :
    (cut2 (e := .f32) (A := 3) (B := 5632) (iblk m c 6 t) (j : ℕ) o 1 1408 inb : FVec Ideal S1x1408 .f32) (ix2 0 l) = cw (L m c) j (col o ho l) :=
  ld2 (e := .f32) (A := 3) (B := 5632) (iblk m c 6 t) inb (b6 m c t) 0 l _ _ rfl rfl
theorem u_at (inb) (r : Fin 256) (l : Fin 1408) :
    (cut2 (e := .bf16) (A := 256) (B := 5632) (iblk m c 3 t) 0 o 256 1408 inb : FVec Ideal S256x1408 .bf16) (ix2 r l) = U (L m c) (row t r) (col o ho l) :=
  ld2 (e := .bf16) (A := 256) (B := 5632) (iblk m c 3 t) inb (b3 m c t) r l _ _ (Nat.zero_add _).symm rfl

include hK in
theorem dup_ld (hd : ∀ r l, d (ix2 r l) = DU (L m c) (row t r) (col o ho l)) (i0 i0' i1) (j2 j1 j0) (r : Fin 256) (l : Fin 1408) :
    (k0_pay53 d (k0_pay45 d (cut2 (e := .f32) (A := 8) (B := 5632) K 0 o 1 1408 i0)) (k0_pay46 d (cut2 (e := .f32) (A := 8) (B := 5632) K 0 o 1 1408 i0') (cut2 (e := .f32) (A := 8) (B := 5632) K 1 o 1 1408 i1))
      (cut2 (e := .f32) (A := 3) (B := 5632) (iblk m c 6 t) 2 o 1 1408 j2) (cut2 (e := .f32) (A := 3) (B := 5632) (iblk m c 6 t) 1 o 1 1408 j1)
      (cut2 (e := .f32) (A := 3) (B := 5632) (iblk m c 6 t) 0 o 1 1408 j0) : FVec Ideal S256x1408 .bf16) (ix2 r l) = DUP (L m c) (row t r) (col o ho l) :=
  dup_row m c t hd (fun l => k_at m c t hK 0 i0 l) (fun l => k_at m c t hK 1 i1 l) (fun l => w_at m c t 2 j2 l) (fun l => w_at m c t 1 j1 l)
    (fun l => w_at m c t 0 j0 l) r l
end

theorem zero2 (r : Fin 8) (l : Fin 5632) : (k0_pay2 (F := Ideal)) (ix2 r l) = 0 := by
  unfold k0_pay2
  pointwise []

theorem hWA : ∀ f k, (ReadAs.same.apply (View.read (Elt Ideal) (View.whole main_v0) (V m c main_v0)) : FVec Ideal S2816x1024 .bf16) (ix2 f k) = wd (L m c) f k := wd_at (L m c)
theorem hKA (t : Fin cfg0.N) (h : t.val % 32 = 0) : ∀ r l, (k0_pay2 (F := Ideal)) (ix2 r l) = Kf (L m c) t r l := fun r l =>
  (zero2 r l).trans (if_pos (show t.val = 0 by have := t_lt t; omega)).symm

/-- the rows carried to the next point: the first rows of the block -/
theorem carry_all (t : Fin cfg0.N) (y : S8x5632.Idx) :
    ((outsAt0 m c t.val t.isLt).2.2.2.2.2.2.2.2.2 : FVec Ideal S8x5632 .f32) y = DU (L m c) (row t ⟨(y 0).val, lt_of_lt_of_le (y 0).isLt (by decide)⟩) (y 1) := by
  by_cases h : t.val % 32 = 0
  · rw [outsAt0_A m c t h h h]; frame_out
    simp (decide := true) only [↓View.readCov_skip, readCov_whole, View.readCov_fill]
    simp only [n15, n31, n56, n21, n35, n59]
    have hd := hWA m c
    exact canon4 (e := .f32) (R := 8) (fun r n => DU (L m c) (row t ⟨r, by omega⟩) n) [_]
      (fun r l => carry_at (D := fun r n => DU (L m c) (row t r) n) (d0_at m c t hd) r l)
      (fun r l => carry_at (D := fun r n => DU (L m c) (row t r) n) (d1_at m c t hd) r l)
      (fun r l => carry_at (D := fun r n => DU (L m c) (row t r) n) (d2_at m c t hd) r l)
      (fun r l => carry_at (D := fun r n => DU (L m c) (row t r) n) (d3_at m c t hd) r l) y
  · rw [outsAt0_B m c t h h h]; frame_out
    simp only [read_unread_whole]
    simp only [n15, n31, n56, n21, n35, n59]
    have hd := wdn_all m c (t.val - 1) (lt_of_le_of_lt (Nat.sub_le _ _) t.isLt)
    exact canon4 (e := .f32) (R := 8) (fun r n => DU (L m c) (row t ⟨r, by omega⟩) n) []
      (fun r l => carry_at (D := fun r n => DU (L m c) (row t r) n) (d0_at m c t hd) r l)
      (fun r l => carry_at (D := fun r n => DU (L m c) (row t r) n) (d1_at m c t hd) r l)
      (fun r l => carry_at (D := fun r n => DU (L m c) (row t r) n) (d2_at m c t hd) r l)
      (fun r l => carry_at (D := fun r n => DU (L m c) (row t r) n) (d3_at m c t hd) r l) y

theorem hKB (t : Fin cfg0.N) (h : ¬ t.val % 32 = 0) (ht) (r : Fin 8) (l : Fin 5632) :
    ((outsAt0 m c (t.val - 1) ht).2.2.2.2.2.2.2.2.2 : FVec Ideal S8x5632 .f32) (ix2 r l) = Kf (L m c) t r l :=
  (carry_all m c ⟨t.val - 1, ht⟩ (ix2 r l)).trans (if_neg (show ¬ t.val = 0 by omega)).symm

theorem out10 (t : Fin cfg0.N) (y : S256x5632.Idx) :
    ((outsAt0 m c t.val t.isLt).2.1 : FVec Ideal S256x5632 .bf16) y = DUP (L m c) (row t (y 0)) (y 1) := by
  by_cases h : t.val % 32 = 0
  · rw [outsAt0_A m c t h h h]; frame_out
    simp (decide := true) only [↓View.readCov_skip, readCov_whole, View.readCov_fill]
    simp only [n15, n31, n56, n16, n32, n57, n20, n34', n58, n29, n41, n67]
    have hd := hWA m c
    have hk := hKA m c t h
    exact canon4 (e := .bf16) (R := 256) (fun r n => DUP (L m c) (row t r) n) [] (dup_ld m c t hk (d0_at m c t hd) _ _ _ _ _ _)
      (dup_ld m c t hk (d1_at m c t hd) _ _ _ _ _ _) (dup_ld m c t hk (d2_at m c t hd) _ _ _ _ _ _) (dup_ld m c t hk (d3_at m c t hd) _ _ _ _ _ _) y
  · rw [outsAt0_B m c t h h h]; frame_out
    simp only [read_unread_whole]
    simp only [n15, n31, n56, n16, n32, n57, n20, n34', n58, n29, n41, n67]
    have hd := wdn_all m c (t.val - 1) (lt_of_le_of_lt (Nat.sub_le _ _) t.isLt)
    have hk := hKB m c t h (lt_of_le_of_lt (Nat.sub_le _ _) t.isLt)
    exact canon4 (e := .bf16) (R := 256) (fun r n => DUP (L m c) (row t r) n) [] (dup_ld m c t hk (d0_at m c t hd) _ _ _ _ _ _)
      (dup_ld m c t hk (d1_at m c t hd) _ _ _ _ _ _) (dup_ld m c t hk (d2_at m c t hd) _ _ _ _ _ _) (dup_ld m c t hk (d3_at m c t hd) _ _ _ _ _ _) y
end Cert.KernelIdeal.At
end
-- ==== Proof.Rows.lean ====
module

public import proofs.«01_k».proof.Proof.Points

@[expose] public section

set_option maxRecDepth 16384

noncomputable section

open Idealize.ShloMosaic Idealize.ShloMosaic.TcCoe Idealize.SL.Sem
open Cert.KernelIdeal Cert.KernelIdeal.Gen Cert.Spec

/-! What a point of the grid leaves in the remaining windows. -/

namespace Cert.KernelIdeal.At

variable (m : (ℓ : Loc nD τ sig) → Buf (Elt Ideal) ℓ) (c : Dev nD)

/-- twelve stores of groups of columns of the rows of a table of three rows, over any earlier stores -/
theorem canon12 {e : EltTy} (G : Fin 3 → Fin 5632 → Elt Ideal e) {f00 f01 f02 f03 f10 f11 f12 f13 f20 f21 f22 f23 : Vec Ideal ⟨2, ![1, 1408]⟩ e}
    {i00 i01 i02 i03 i10 i11 i12 i13 i20 i21 i22 i23} (L' : List (View.Piece (Elt Ideal) ⟨2, ![3, 5632]⟩ e))
    (h00 : ∀ l, f00 (ix2 0 l) = G 0 (col 0 (by decide) l)) (h01 : ∀ l, f01 (ix2 0 l) = G 0 (col 1408 (by decide) l))
    (h02 : ∀ l, f02 (ix2 0 l) = G 0 (col 2816 (by decide) l)) (h03 : ∀ l, f03 (ix2 0 l) = G 0 (col 4224 (by decide) l))
    (h10 : ∀ l, f10 (ix2 0 l) = G 1 (col 0 (by decide) l)) (h11 : ∀ l, f11 (ix2 0 l) = G 1 (col 1408 (by decide) l))
    (h12 : ∀ l, f12 (ix2 0 l) = G 1 (col 2816 (by decide) l)) (h13 : ∀ l, f13 (ix2 0 l) = G 1 (col 4224 (by decide) l))
    (h20 : ∀ l, f20 (ix2 0 l) = G 2 (col 0 (by decide) l)) (h21 : ∀ l, f21 (ix2 0 l) = G 2 (col 1408 (by decide) l))
    (h22 : ∀ l, f22 (ix2 0 l) = G 2 (col 2816 (by decide) l)) (h23 : ∀ l, f23 (ix2 0 l) = G 2 (col 4224 (by decide) l))
    (y : (⟨2, ![3, 5632]⟩ : Shape).Idx) :
    View.canon (grp 2 4224 i23 f23 :: grp 1 4224 i13 f13 :: grp 0 4224 i03 f03 :: grp 2 1408 i21 f21 :: grp 1 1408 i11 f11 :: grp 0 1408 i01 f01
      :: grp 2 2816 i22 f22 :: grp 1 2816 i12 f12 :: grp 0 2816 i02 f02 :: grp 2 0 i20 f20 :: grp 1 0 i10 f10 :: grp 0 0 i00 f00 :: L') y = G (y 0) (y 1) := by
  have hg : ∀ (q : Fin 3) (q' : ℕ) (hq : (q : ℕ) = q') (o : ℕ) (ho : o + 1408 ≤ 5632) (inb) (f : Vec Ideal ⟨2, ![1, 1408]⟩ e) (hf : ∀ l, f (ix2 0 l) = G q (col o ho l))
      (x : (grp (A := 3) q' o inb f).1.shape.Idx),
      (grp (A := 3) q' o inb f).2 x = (fun y : (⟨2, ![3, 5632]⟩ : Shape).Idx => G (y 0) (y 1)) ((grp (A := 3) q' o inb f).1.emb x) :=
    fun q q' hq o ho inb f hf => grp_emb q' o ho inb f G fun r r' l h =>
      (congrArg (fun z : Fin 1 => f (ix2 z l)) (Subsingleton.elim r 0)).trans ((hf l).trans (congrArg (fun r => G r _) (Fin.ext (show (q : ℕ) = r' by omega))))
  refine View.canon_append_of_piecesOf (fun y : (⟨2, ![3, 5632]⟩ : Shape).Idx => G (y 0) (y 1)) L' [grp 2 4224 i23 f23, grp 1 4224 i13 f13, grp 0 4224 i03 f03, grp 2 1408 i21 f21,
    grp 1 1408 i11 f11, grp 0 1408 i01 f01, grp 2 2816 i22 f22, grp 1 2816 i12 f12, grp 0 2816 i02 f02, grp 2 0 i20 f20, grp 1 0 i10 f10, grp 0 0 i00 f00]
    ⟨hg 2 2 rfl 4224 (by decide) i23 f23 h23, hg 1 1 rfl 4224 (by decide) i13 f13 h13, hg 0 0 rfl 4224 (by decide) i03 f03 h03,
      hg 2 2 rfl 1408 (by decide) i21 f21 h21, hg 1 1 rfl 1408 (by decide) i11 f11 h11, hg 0 0 rfl 1408 (by decide) i01 f01 h01,
      hg 2 2 rfl 2816 (by decide) i22 f22 h22, hg 1 1 rfl 2816 (by decide) i12 f12 h12, hg 0 0 rfl 2816 (by decide) i02 f02 h02,
      hg 2 2 rfl 0 (by decide) i20 f20 h20, hg 1 1 rfl 0 (by decide) i10 f10 h10, hg 0 0 rfl 0 (by decide) i00 f00 h00, trivial⟩ y ?_
  have hy0 : (y 0 : ℕ) < 3 := (y 0).isLt
  have hy1 : (y 1 : ℕ) < 5632 := (y 1).isLt
  rcases (show (y 0 : ℕ) = 0 ∨ (y 0 : ℕ) = 1 ∨ (y 0 : ℕ) = 2 by omega) with a | a | a <;>
    rcases (show (y 1 : ℕ) < 1408 ∨ (1408 ≤ (y 1 : ℕ) ∧ (y 1 : ℕ) < 2816) ∨ (2816 ≤ (y 1 : ℕ) ∧ (y 1 : ℕ) < 4224) ∨ 4224 ≤ (y 1 : ℕ) by omega) with b | b | b | b
  · exact ⟨grp 0 0 i00 f00, by simp, grp_mem _ _ _ _ _ ⟨by omega, by omega⟩ ⟨by omega, by omega⟩⟩
  · exact ⟨grp 0 1408 i01 f01, by simp, grp_mem _ _ _ _ _ ⟨by omega, by omega⟩ ⟨by omega, by omega⟩⟩
  · exact ⟨grp 0 2816 i02 f02, by simp, grp_mem _ _ _ _ _ ⟨by omega, by omega⟩ ⟨by omega, by omega⟩⟩
  · exact ⟨grp 0 4224 i03 f03, by simp, grp_mem _ _ _ _ _ ⟨by omega, by omega⟩ ⟨by omega, by omega⟩⟩
  · exact ⟨grp 1 0 i10 f10, by simp, grp_mem _ _ _ _ _ ⟨by omega, by omega⟩ ⟨by omega, by omega⟩⟩
  · exact ⟨grp 1 1408 i11 f11, by simp, grp_mem _ _ _ _ _ ⟨by omega, by omega⟩ ⟨by omega, by omega⟩⟩
  · exact ⟨grp 1 2816 i12 f12, by simp, grp_mem _ _ _ _ _ ⟨by omega, by omega⟩ ⟨by omega, by omega⟩⟩
  · exact ⟨grp 1 4224 i13 f13, by simp, grp_mem _ _ _ _ _ ⟨by omega, by omega⟩ ⟨by omega, by omega⟩⟩
  · exact ⟨grp 2 0 i20 f20, by simp, grp_mem _ _ _ _ _ ⟨by omega, by omega⟩ ⟨by omega, by omega⟩⟩
  · exact ⟨grp 2 1408 i21 f21, by simp, grp_mem _ _ _ _ _ ⟨by omega, by omega⟩ ⟨by omega, by omega⟩⟩
  · exact ⟨grp 2 2816 i22 f22, by simp, grp_mem _ _ _ _ _ ⟨by omega, by omega⟩ ⟨by omega, by omega⟩⟩
  · exact ⟨grp 2 4224 i23 f23, by simp, grp_mem _ _ _ _ _ ⟨by omega, by omega⟩ ⟨by omega, by omega⟩⟩

/-! ### The sums over a block's rows -/

section
variable (t : Fin cfg0.N) {o : ℕ} {ho : o + 1408 ≤ 5632} {d : FVec Ideal S256x1408 .f32} {K : FVec Ideal S8x5632 .f32}
theorem dcb_ld (E : FVec Ideal S1x5632 .f32) (hd : ∀ r l, d (ix2 r l) = DU (L m c) (row t r) (col o ho l)) (inb) (r : Fin 1) (l : Fin 1408) :
    (k0_pay49 d (cut2 (e := .f32) (A := 1) (B := 5632) E 0 o 1 1408 inb) : FVec Ideal S1x1408 .f32) (ix2 r l)
      = E (ix2 0 (col o ho l)) + ∑ r, DU (L m c) (row t r) (col o ho l) := by
  rw [Subsingleton.elim r 0]
  refine (dcb_at (D := fun r n => DU (L m c) (row t r) n) hd _ l).trans ?_
  exact congrArg (· + _) (ld2 (e := .f32) (A := 1) (B := 5632) (G := fun i j => E (ix2 i j)) E inb (fun _ _ => rfl) 0 l 0 (col o ho l) rfl rfl)
theorem dcw_ld (j : Fin 3) {p : FVec Ideal S256x1408 .f32} {P : Fin 8192 → Fin 5632 → EReal} (E : FVec Ideal S3x5632 .f32)
    (hp : ∀ r l, p (ix2 r l) = P (row t r) (col o ho l)) (ui inb) (l : Fin 1408) :
    (k0_pay51 p (k0_pay48 (cut2 (e := .bf16) (A := 256) (B := 5632) (iblk m c 3 t) 0 o 256 1408 ui))
      (cut2 (e := .f32) (A := 3) (B := 5632) E (j : ℕ) o 1 1408 inb) : FVec Ideal S1x1408 .f32) (ix2 0 l)
      = E (ix2 j (col o ho l)) + ∑ r, P (row t r) (col o ho l) * U (L m c) (row t r) (col o ho l) := by
  refine (dcw_at (P := fun r n => P (row t r) n) (U := fun r n => U (L m c) (row t r) n) hp (u_at m c t ui) _ l).trans ?_
  exact congrArg (· + _) (ld2 (e := .f32) (A := 3) (B := 5632) (G := fun i j => E (ix2 i j)) E inb (fun _ _ => rfl) 0 l j (col o ho l) rfl rfl)
end

/-! ### The gradient of the normalised rows -/

/-- a matrix of a stack -/
abbrev cut3 (X : FVec Ideal S4x1024x1408 .bf16) (s : ℕ)
    (inb : ∀ i, (![s, 0, 0] : Fin 3 → ℕ) i + (![1, 1024, 1408] : Fin 3 → ℕ) i ≤ (⟨3, ![4, 1024, 1408]⟩ : Shape).size i) : Vec Ideal ⟨3, ![1, 1024, 1408]⟩ .bf16 :=
  View.ld (Val := Elt Ideal) (e' := .bf16) X (Rect.unit (s := ⟨3, ![4, 1024, 1408]⟩) ![s, 0, 0] ![1, 1024, 1408] inb)
theorem wu_ld {Wu : FVec Ideal S4x1024x1408 .bf16} (hU : ∀ s k l, Wu (ix3 s k l) = wu (L m c) k ⟨s * 1408 + l, by omega⟩) (s : Fin 4) (inb) (k : Fin 1024) (l : Fin 1408) :
    cut3 Wu (s : ℕ) inb (ix3 0 k l) = wu (L m c) k ⟨s * 1408 + l, by omega⟩ := by
  refine (View.ld_unit_apply_of (Val := Elt Ideal) (e := .bf16) Wu ![(s : ℕ), 0, 0] ![1, 1024, 1408] inb (ix3 0 k l) (ix3 s k l) fun q => ?_).trans (hU s k l)
  fin_cases q
  · rfl
  · exact (Nat.zero_add _).symm
  · exact (Nat.zero_add _).symm

section
variable (t : Fin cfg0.N) {v0 v1 v2 v3 : FVec Ideal S256x1408 .bf16} {Wu : FVec Ideal S4x1024x1408 .bf16} {i0 i1 i2 i3}
  (hU : ∀ s k l, Wu (ix3 s k l) = wu (L m c) k ⟨s * 1408 + l, by omega⟩)
  (h0 : ∀ r l, v0 (ix2 r l) = DUP (L m c) (row t r) (col 0 (by decide) l)) (h1 : ∀ r l, v1 (ix2 r l) = DUP (L m c) (row t r) (col 1408 (by decide) l))
  (h2 : ∀ r l, v2 (ix2 r l) = DUP (L m c) (row t r) (col 2816 (by decide) l)) (h3 : ∀ r l, v3 (ix2 r l) = DUP (L m c) (row t r) (col 4224 (by decide) l))
include hU h0 h1 h2 h3

theorem dh_blk (r : Fin 256) (k : Fin 1024) :
    (k0_pay68 (k0_pay68 (k0_pay68 (k0_pay68 k0_pay13 v0 (cut3 Wu 0 i0)) v2 (cut3 Wu 2 i2)) v1 (cut3 Wu 1 i1)) v3 (cut3 Wu 3 i3) : FVec Ideal S256x1024 .f32) (ix2 r k)
      = DH (L m c) (row t r) k := by
  have e : ∀ (o : ℕ) (ho : o + 1408 ≤ 5632) (h : FVec Ideal S256x1024 .f32) (a : EReal) (v : FVec Ideal S256x1408 .bf16) (s : Fin 4) (inb)
      (hs : ∀ (k : Fin 1024) (l : Fin 1408), (⟨s * 1408 + l, by omega⟩ : Fin 5632) = col o ho l) (hv : ∀ r l, v (ix2 r l) = DUP (L m c) (row t r) (col o ho l)),
      h (ix2 r k) = a → (k0_pay68 h v (cut3 Wu (s : ℕ) inb) : FVec Ideal S256x1024 .f32) (ix2 r k)
        = a + ∑ l, DUP (L m c) (row t r) (col o ho l) * wu (L m c) k (col o ho l) := fun o ho h a v s inb hs hv ha => by
    refine (dh_at (E := fun r n => DUP (L m c) (row t r) n) (w := wu (L m c)) h hv (fun k l => (wu_ld m c hU s inb k l).trans (congrArg _ (hs k l))) r k).trans ?_
    rw [ha]
  refine (e 4224 (by decide) _ _ v3 3 i3 (fun _ _ => rfl) h3 (e 1408 (by decide) _ _ v1 1 i1 (fun _ l => Fin.ext (show 1 * 1408 + (l : ℕ) = 1408 + l by omega)) h1
    (e 2816 (by decide) _ _ v2 2 i2 (fun _ _ => rfl) h2 (e 0 (by decide) _ _ v0 0 i0 (fun _ l => Fin.ext (show 0 * 1408 + (l : ℕ) = 0 + l by omega)) h0 (zero_at r k))))).trans ?_
  exact sum_groups fun n => DUP (L m c) (row t r) n * wu (L m c) k n
theorem dx_blk (r : Fin 256) (k : Fin 1024) :
    (k0_pay1 (iblk m c 0 t)
      (k0_pay72 (k0_pay68 (k0_pay68 (k0_pay68 k0_pay13 v0 (cut3 Wu 0 i0)) v2 (cut3 Wu 2 i2)) v1 (cut3 Wu 1 i1)) v3 (cut3 Wu 3 i3) (iblk m c 7 t) (iblk m c 8 t))
      (k0_pay73 (iblk m c 7 t))
      (k0_pay74 (k0_pay68 (k0_pay68 (k0_pay68 k0_pay13 v0 (cut3 Wu 0 i0)) v2 (cut3 Wu 2 i2)) v1 (cut3 Wu 1 i1)) v3 (cut3 Wu 3 i3) (iblk m c 7 t) (iblk m c 8 t))
      k0_pay75 : FVec Ideal S256x1024 .f32) (ix2 r k)
      = dn (L m c) (row t r) k + rmsB (x (L m c)) (g3 (L m c)) (DH (L m c)) (row t r) k := by
  refine (dx_at _ _ _ _ _ _ r k).trans ?_
  rw [funext fun r => funext fun k => dh_blk m c t hU h0 h1 h2 h3 r k, b0, funext fun r => funext fun k => b7 m c t r k, funext fun k => b8 m c t k]
  rfl
theorem dg3_blk (E : FVec Ideal S1x1024 .f32) (k : Fin 1024) :
    (k0_pay70 (k0_pay68 (k0_pay68 (k0_pay68 k0_pay13 v0 (cut3 Wu 0 i0)) v2 (cut3 Wu 2 i2)) v1 (cut3 Wu 1 i1)) v3 (cut3 Wu 3 i3) (iblk m c 7 t) E
      : FVec Ideal S1x1024 .f32) (ix2 0 k)
      = E (ix2 0 k) + ∑ r, DH (L m c) (row t r) k * x (L m c) (row t r) k * rs (x (L m c)) (row t r) := by
  refine (dg3_at _ _ _ _ _ k).trans ?_
  simp only [dh_blk m c t hU h0 h1 h2 h3, b7]
  rfl
end
theorem dg4_blk (t : Fin cfg0.N) (E : FVec Ideal S1x1024 .f32) (k : Fin 1024) :
    (k0_pay9 (iblk m c 0 t) (iblk m c 1 t) E : FVec Ideal S1x1024 .f32) (ix2 0 k)
      = E (ix2 0 k) + ∑ r, dn (L m c) (row t r) k * Y (L m c) (row t r) k * rs (Y (L m c)) (row t r) := by
  refine (dg4_at _ _ _ k).trans ?_
  simp only [b0, b1]
  rfl

/-- the sum over the blocks' rows is the sum over all rows -/
theorem sum_rows (F : Fin 8192 → EReal) : ∑ s : Fin 32, ∑ r : Fin 256, F (row s r) = ∑ T, F T := by
  rw [← (finProdFinEquiv (m := 32) (n := 256)).sum_comp, Fintype.sum_prod_type, ← Equiv.sum_comp Fin.revPerm]
  refine Finset.sum_congr rfl fun s _ => Finset.sum_congr rfl fun r _ => congrArg F (Fin.ext ?_)
  show 256 * (31 - (Fin.rev s : ℕ)) + (r : ℕ) = r + 256 * s
  rw [Fin.val_rev]; omega

/-! ### The windows -/

theorem out9 (t : Fin cfg0.N) (r : Fin 256) (k : Fin 1024) :
    ((outsAt0 m c t.val t.isLt).1 : FVec Ideal S256x1024 .bf16) (ix2 r k) = DY (L m c) (row t r) k := by
  by_cases h : t.val % 32 = 0
  · rw [outsAt0_A m c t h h h]; frame_out
    exact eb_at m c t r k
  · rw [outsAt0_B m c t h h h]; frame_out
    exact eb_at m c t r k
theorem hUA : ∀ s k (l : Fin 1408), (ReadAs.same.apply (View.read (Elt Ideal) (View.whole main_v3) (V m c main_v3)) : FVec Ideal S4x1024x1408 .bf16) (ix3 s k l)
    = wu (L m c) k ⟨s * 1408 + l, by omega⟩ := wu_at (L m c)
theorem out11 (t : Fin cfg0.N) (r : Fin 256) (k : Fin 1024) :
    ((outsAt0 m c t.val t.isLt).2.2.1 : FVec Ideal S256x1024 .f32) (ix2 r k)
      = dn (L m c) (row t r) k + rmsB (x (L m c)) (g3 (L m c)) (DH (L m c)) (row t r) k := by
  by_cases h : t.val % 32 = 0
  · rw [outsAt0_A m c t h h h]; frame_out
    simp (decide := true) only [↓View.readCov_skip, readCov_whole, View.readCov_fill]
    simp only [n15, n31, n56, n16, n32, n57, n20, n34', n58, n29, n41, n67, n30, n42, n54]
    have hd := hWA m c
    have hk := hKA m c t h
    exact dx_blk m c t (hUA m c) (dup_ld m c t hk (d0_at m c t hd) _ _ _ _ _ _) (dup_ld m c t hk (d1_at m c t hd) _ _ _ _ _ _)
      (dup_ld m c t hk (d2_at m c t hd) _ _ _ _ _ _) (dup_ld m c t hk (d3_at m c t hd) _ _ _ _ _ _) r k
  · rw [outsAt0_B m c t h h h]; frame_out
    simp only [read_unread_whole]
    simp only [n15, n31, n56, n16, n32, n57, n20, n34', n58, n29, n41, n67, n30, n42, n54]
    have hp := lt_of_le_of_lt (Nat.sub_le _ 1) t.isLt
    have hd := wdn_all m c (t.val - 1) hp
    have hk := hKB m c t h hp
    exact dx_blk m c t (wup_all m c (t.val - 1) hp) (dup_ld m c t hk (d0_at m c t hd) _ _ _ _ _ _) (dup_ld m c t hk (d1_at m c t hd) _ _ _ _ _ _)
      (dup_ld m c t hk (d2_at m c t hd) _ _ _ _ _ _) (dup_ld m c t hk (d3_at m c t hd) _ _ _ _ _ _) r k

theorem zero3 (k : Fin 1024) : (k0_pay3 (F := Ideal)) (ix2 0 k) = 0 := by
  unfold k0_pay3
  pointwise []
theorem zero4 (k : Fin 1024) : (k0_pay4 (F := Ideal)) (ix2 0 k) = 0 := by
  unfold k0_pay4
  pointwise []
theorem zero5 (l : Fin 5632) : (k0_pay5 (F := Ideal)) (ix2 0 l) = 0 := by
  unfold k0_pay5
  pointwise []
theorem zero6 (j : Fin 3) (l : Fin 5632) : (k0_pay6 (F := Ideal)) (ix2 j l) = 0 := by
  unfold k0_pay6
  pointwise []

theorem out12A (t : Fin cfg0.N) (h : t.val % 32 = 0) (k : Fin 1024) :
    ((outsAt0 m c t.val t.isLt).2.2.2.1 : FVec Ideal S1x1024 .f32) (ix2 0 k)
      = 0 + ∑ r, dn (L m c) (row t r) k * Y (L m c) (row t r) k * rs (Y (L m c)) (row t r) := by
  rw [outsAt0_A m c t h h h]; frame_out
  exact (dg4_blk m c t _ k).trans (congrArg (· + _) (zero3 k))
theorem out12B (t : Fin cfg0.N) (h : ¬ t.val % 32 = 0) (k : Fin 1024) :
    ((outsAt0 m c t.val t.isLt).2.2.2.1 : FVec Ideal S1x1024 .f32) (ix2 0 k)
      = ((outsAt0 m c (t.val - 1) (Nat.lt_of_le_of_lt (Nat.sub_le _ _) t.isLt)).2.2.2.1 : FVec Ideal S1x1024 .f32) (ix2 0 k)
        + ∑ r, dn (L m c) (row t r) k * Y (L m c) (row t r) k * rs (Y (L m c)) (row t r) := by
  rw [outsAt0_B m c t h h h]; frame_out
  exact dg4_blk m c t _ k

theorem out13A (t : Fin cfg0.N) (h : t.val % 32 = 0) (k : Fin 1024) :
    ((outsAt0 m c t.val t.isLt).2.2.2.2.1 : FVec Ideal S1x1024 .f32) (ix2 0 k)
      = 0 + ∑ r, DH (L m c) (row t r) k * x (L m c) (row t r) k * rs (x (L m c)) (row t r) := by
  rw [outsAt0_A m c t h h h]; frame_out
  simp (decide := true) only [↓View.readCov_skip, readCov_whole, View.readCov_fill]
  simp only [n15, n31, n56, n16, n32, n57, n20, n34', n58, n29, n41, n67, n30, n42, n54]
  have hd := hWA m c
  have hk := hKA m c t h
  exact (dg3_blk m c t (hUA m c) (dup_ld m c t hk (d0_at m c t hd) _ _ _ _ _ _) (dup_ld m c t hk (d1_at m c t hd) _ _ _ _ _ _)
    (dup_ld m c t hk (d2_at m c t hd) _ _ _ _ _ _) (dup_ld m c t hk (d3_at m c t hd) _ _ _ _ _ _) _ k).trans (congrArg (· + _) (zero4 k))
theorem out13B (t : Fin cfg0.N) (h : ¬ t.val % 32 = 0) (k : Fin 1024) :
    ((outsAt0 m c t.val t.isLt).2.2.2.2.1 : FVec Ideal S1x1024 .f32) (ix2 0 k)
      = ((outsAt0 m c (t.val - 1) (Nat.lt_of_le_of_lt (Nat.sub_le _ _) t.isLt)).2.2.2.2.1 : FVec Ideal S1x1024 .f32) (ix2 0 k)
        + ∑ r, DH (L m c) (row t r) k * x (L m c) (row t r) k * rs (x (L m c)) (row t r) := by
  rw [outsAt0_B m c t h h h]; frame_out
  simp only [read_unread_whole]
  simp only [n15, n31, n56, n16, n32, n57, n20, n34', n58, n29, n41, n67, n30, n42, n54]
  have hp := lt_of_le_of_lt (Nat.sub_le _ 1) t.isLt
  have hd := wdn_all m c (t.val - 1) hp
  have hk := hKB m c t h hp
  exact dg3_blk m c t (wup_all m c (t.val - 1) hp) (dup_ld m c t hk (d0_at m c t hd) _ _ _ _ _ _) (dup_ld m c t hk (d1_at m c t hd) _ _ _ _ _ _)
    (dup_ld m c t hk (d2_at m c t hd) _ _ _ _ _ _) (dup_ld m c t hk (d3_at m c t hd) _ _ _ _ _ _) _ k

theorem out14A (t : Fin cfg0.N) (h : t.val % 32 = 0) (l : Fin 5632) :
    ((outsAt0 m c t.val t.isLt).2.2.2.2.2.1 : FVec Ideal S1x5632 .f32) (ix2 0 l) = 0 + ∑ r, DU (L m c) (row t r) l := by
  rw [outsAt0_A m c t h h h]; frame_out
  simp (decide := true) only [↓View.readCov_skip, readCov_whole, View.readCov_fill]
  simp only [n15, n31, n56, n23, n37, n61]
  have hd := hWA m c
  rw [← zero5 l]
  exact canon4 (e := .f32) (R := 1) (fun _ n => (k0_pay5 (F := Ideal)) (ix2 0 n) + ∑ r, DU (L m c) (row t r) n) [_]
    (dcb_ld m c t _ (d0_at m c t hd) _) (dcb_ld m c t _ (d1_at m c t hd) _) (dcb_ld m c t _ (d2_at m c t hd) _) (dcb_ld m c t _ (d3_at m c t hd) _) (ix2 0 l)
theorem out14B (t : Fin cfg0.N) (h : ¬ t.val % 32 = 0) (l : Fin 5632) :
    ((outsAt0 m c t.val t.isLt).2.2.2.2.2.1 : FVec Ideal S1x5632 .f32) (ix2 0 l)
      = ((outsAt0 m c (t.val - 1) (Nat.lt_of_le_of_lt (Nat.sub_le _ _) t.isLt)).2.2.2.2.2.1 : FVec Ideal S1x5632 .f32) (ix2 0 l)
        + ∑ r, DU (L m c) (row t r) l := by
  rw [outsAt0_B m c t h h h]; frame_out
  simp only [read_unread_whole]
  simp only [n15, n31, n56, n23, n37, n61]
  have hp := lt_of_le_of_lt (Nat.sub_le _ 1) t.isLt
  have hd := wdn_all m c (t.val - 1) hp
  exact canon4 (e := .f32) (R := 1) (fun _ n => ((outsAt0 m c (t.val - 1) hp).2.2.2.2.2.1 : FVec Ideal S1x5632 .f32) (ix2 0 n) + ∑ r, DU (L m c) (row t r) n) []
    (dcb_ld m c t _ (d0_at m c t hd) _) (dcb_ld m c t _ (d1_at m c t hd) _) (dcb_ld m c t _ (d2_at m c t hd) _) (dcb_ld m c t _ (d3_at m c t hd) _) (ix2 0 l)

/-- the gradient that meets row `j` of the taps -/
def PJ (V0 : Valuation τ sig (Elt Ideal)) (j : Fin 3) : Fin 8192 → Fin 5632 → EReal := if j = 0 then sh 2 (DU V0) else if j = 1 then sh 1 (DU V0) else DU V0

section
variable (t : Fin cfg0.N) {o : ℕ} {ho : o + 1408 ≤ 5632} {d : FVec Ideal S256x1408 .f32} {K : FVec Ideal S8x5632 .f32} (E : FVec Ideal S3x5632 .f32)
  (hK : ∀ r l, K (ix2 r l) = Kf (L m c) t r l) (hd : ∀ r l, d (ix2 r l) = DU (L m c) (row t r) (col o ho l))
/-- what a block adds to row `j` of the taps' gradient -/
abbrev GW (j : Fin 3) (n : Fin 5632) : EReal := E (ix2 j n) + ∑ r, PJ (L m c) j (row t r) n * U (L m c) (row t r) n
include hd in
theorem dcw2 (ui inb) (l : Fin 1408) :
    (k0_pay51 d (k0_pay48 (cut2 (e := .bf16) (A := 256) (B := 5632) (iblk m c 3 t) 0 o 256 1408 ui))
      (cut2 (e := .f32) (A := 3) (B := 5632) E 2 o 1 1408 inb) : FVec Ideal S1x1408 .f32) (ix2 0 l) = GW m c t E 2 (col o ho l) :=
  dcw_ld m c t 2 (P := DU (L m c)) E hd ui inb l
include hd hK in
theorem dcw1 (i0 ui inb) (l : Fin 1408) :
    (k0_pay51 (k0_pay45 d (cut2 (e := .f32) (A := 8) (B := 5632) K 0 o 1 1408 i0)) (k0_pay48 (cut2 (e := .bf16) (A := 256) (B := 5632) (iblk m c 3 t) 0 o 256 1408 ui))
      (cut2 (e := .f32) (A := 3) (B := 5632) E 1 o 1 1408 inb) : FVec Ideal S1x1408 .f32) (ix2 0 l) = GW m c t E 1 (col o ho l) :=
  dcw_ld m c t 1 (P := sh 1 (DU (L m c))) E (p1_row m c t hd fun l => k_at m c t hK 0 i0 l) ui inb l
include hd hK in
theorem dcw0 (i0 i1 ui inb) (l : Fin 1408) :
    (k0_pay51 (k0_pay46 d (cut2 (e := .f32) (A := 8) (B := 5632) K 0 o 1 1408 i0) (cut2 (e := .f32) (A := 8) (B := 5632) K 1 o 1 1408 i1))
      (k0_pay48 (cut2 (e := .bf16) (A := 256) (B := 5632) (iblk m c 3 t) 0 o 256 1408 ui))
      (cut2 (e := .f32) (A := 3) (B := 5632) E 0 o 1 1408 inb) : FVec Ideal S1x1408 .f32) (ix2 0 l) = GW m c t E 0 (col o ho l) :=
  dcw_ld m c t 0 (P := sh 2 (DU (L m c))) E (p2_row m c t hd (fun l => k_at m c t hK 0 i0 l) fun l => k_at m c t hK 1 i1 l) ui inb l
end

theorem out15A (t : Fin cfg0.N) (h : t.val % 32 = 0) (j : Fin 3) (l : Fin 5632) :
    ((outsAt0 m c t.val t.isLt).2.2.2.2.2.2.1 : FVec Ideal S3x5632 .f32) (ix2 j l) = 0 + ∑ r, PJ (L m c) j (row t r) l * U (L m c) (row t r) l := by
  rw [outsAt0_A m c t h h h]; frame_out
  simp (decide := true) only [↓View.readCov_skip, readCov_whole, View.readCov_fill]
  simp only [n15, n31, n56, n16, n32, n57, n20, n34', n58, n24, n38', n64, n25, n39, n65, n28, n40, n52, n66, n36, n60, n50]
  have hd := hWA m c
  have hk := hKA m c t h
  rw [← zero6 j l]
  exact canon12 (e := .f32) (GW m c t (k0_pay6 (F := Ideal))) [_]
    (dcw0 m c t _ hk (d0_at m c t hd) _ _ _ _) (dcw0 m c t _ hk (d1_at m c t hd) _ _ _ _) (dcw0 m c t _ hk (d2_at m c t hd) _ _ _ _) (dcw0 m c t _ hk (d3_at m c t hd) _ _ _ _)
    (dcw1 m c t _ hk (d0_at m c t hd) _ _ _) (dcw1 m c t _ hk (d1_at m c t hd) _ _ _) (dcw1 m c t _ hk (d2_at m c t hd) _ _ _) (dcw1 m c t _ hk (d3_at m c t hd) _ _ _)
    (dcw2 m c t _ (d0_at m c t hd) _ _) (dcw2 m c t _ (d1_at m c t hd) _ _) (dcw2 m c t _ (d2_at m c t hd) _ _) (dcw2 m c t _ (d3_at m c t hd) _ _) (ix2 j l)
theorem out15B (t : Fin cfg0.N) (h : ¬ t.val % 32 = 0) (j : Fin 3) (l : Fin 5632) :
    ((outsAt0 m c t.val t.isLt).2.2.2.2.2.2.1 : FVec Ideal S3x5632 .f32) (ix2 j l)
      = ((outsAt0 m c (t.val - 1) (Nat.lt_of_le_of_lt (Nat.sub_le _ _) t.isLt)).2.2.2.2.2.2.1 : FVec Ideal S3x5632 .f32) (ix2 j l)
        + ∑ r, PJ (L m c) j (row t r) l * U (L m c) (row t r) l := by
  rw [outsAt0_B m c t h h h]; frame_out
  simp only [read_unread_whole]
  simp only [n15, n31, n56, n16, n32, n57, n20, n34', n58, n24, n38', n64, n25, n39, n65, n28, n40, n52, n66, n36, n60, n50]
  have hp := lt_of_le_of_lt (Nat.sub_le _ 1) t.isLt
  have hd := wdn_all m c (t.val - 1) hp
  have hk := hKB m c t h hp
  exact canon12 (e := .f32) (GW m c t ((outsAt0 m c (t.val - 1) hp).2.2.2.2.2.2.1)) []
    (dcw0 m c t _ hk (d0_at m c t hd) _ _ _ _) (dcw0 m c t _ hk (d1_at m c t hd) _ _ _ _) (dcw0 m c t _ hk (d2_at m c t hd) _ _ _ _) (dcw0 m c t _ hk (d3_at m c t hd) _ _ _ _)
    (dcw1 m c t _ hk (d0_at m c t hd) _ _ _) (dcw1 m c t _ hk (d1_at m c t hd) _ _ _) (dcw1 m c t _ hk (d2_at m c t hd) _ _ _) (dcw1 m c t _ hk (d3_at m c t hd) _ _ _)
    (dcw2 m c t _ (d0_at m c t hd) _ _) (dcw2 m c t _ (d1_at m c t hd) _ _) (dcw2 m c t _ (d2_at m c t hd) _ _) (dcw2 m c t _ (d3_at m c t hd) _ _) (ix2 j l)
end Cert.KernelIdeal.At
end
-- ==== Proof.Final.lean ====
module

public import proofs.«01_k».proof.Proof.Rows

@[expose] public section

set_option maxRecDepth 16384

noncomputable section

open Idealize.ShloMosaic Idealize.ShloMosaic.TcCoe Idealize.SL.Sem
open Cert.KernelIdeal Cert.KernelIdeal.Gen Cert.Spec

/-! What the kernel's results hold after the run. -/

namespace Cert.KernelIdeal.At

variable (m : (ℓ : Loc nD τ sig) → Buf (Elt Ideal) ℓ) (c : Dev nD)

theorem dy_final : (dats m 0 c).arrAt 9 cfg0.N = ((fun y => DY (L m c) (y 0) (y 1)) : FVec Ideal S8192x1024 .bf16) := by
  refine (dats m 0 c).arrAt_eq_of_covers 9 _ (by decide +kernel) fun t _ y => ?_
  have ht := t_lt t
  blk_simp
  rw [after0_9]
  refine (congrArg _ (eq_ix2 (n0 := 256) (n1 := 1024) y)).trans ((out9 m c t (y 0) (y 1)).trans ?_)
  exact congrArg₂ (DY (L m c)) (Fin.ext (by refine (?_ : 256 * (31 - (t : ℕ)) + ((y 0 : Fin 256) : ℕ) = _); blk_simp [idx t]; omega)) (Fin.ext (by blk_simp [idx t]))

theorem dup_final : (dats m 0 c).arrAt 10 cfg0.N = ((fun y => DUP (L m c) (y 0) (y 1)) : FVec Ideal S8192x5632 .bf16) := by
  refine (dats m 0 c).arrAt_eq_of_covers 10 _ (by decide +kernel) fun t _ y => ?_
  have ht := t_lt t
  blk_simp
  rw [after0_10]
  refine (out10 m c t y).trans ?_
  exact congrArg₂ (DUP (L m c)) (Fin.ext (by refine (?_ : 256 * (31 - (t : ℕ)) + ((y 0 : Fin 256) : ℕ) = _); blk_simp [idx t]; omega)) (Fin.ext (by blk_simp [idx t]))

theorem dx_final : (dats m 0 c).arrAt 11 cfg0.N
    = ((fun y => dn (L m c) (y 0) (y 1) + rmsB (x (L m c)) (g3 (L m c)) (DH (L m c)) (y 0) (y 1)) : FVec Ideal S8192x1024 .f32) := by
  refine (dats m 0 c).arrAt_eq_of_covers 11 _ (by decide +kernel) fun t _ y => ?_
  have ht := t_lt t
  blk_simp
  rw [after0_11]
  refine (congrArg _ (eq_ix2 (n0 := 256) (n1 := 1024) y)).trans ((out11 m c t (y 0) (y 1)).trans ?_)
  exact congrArg₂ (fun r k => dn (L m c) r k + rmsB (x (L m c)) (g3 (L m c)) (DH (L m c)) r k) (Fin.ext (by refine (?_ : 256 * (31 - (t : ℕ)) + ((y 0 : Fin 256) : ℕ) = _); blk_simp [idx t]; omega)) (Fin.ext (by blk_simp [idx t]))

/-- the last point's sum over the blocks is the sum over the rows -/
theorem rows_sum (F : Fin 8192 → EReal) (t : Fin cfg0.N) (h : t.val % 32 = 31) :
    0 + ∑ s : Fin 32, ∑ r, F (row ((⟨32 * (t.val / 32) + s.val, Pipeline.run_point_lt_of_flush t h s⟩ : Fin cfg0.N) : ℕ) r) = ∑ T, F T := by
  have ht := t_lt t
  rw [zero_add, ← sum_rows]
  exact Finset.sum_congr rfl fun s _ => Finset.sum_congr rfl fun r _ => congrArg F (Fin.ext (show 256 * (31 - (32 * (t.val / 32) + s.val)) + (r : ℕ) = 256 * (31 - s.val) + r by omega))

theorem dg4_final : (dats m 0 c).arrAt 12 cfg0.N
    = ((fun y => ∑ T, dn (L m c) T (y 1) * Y (L m c) T (y 1) * rs (Y (L m c)) T) : FVec Ideal S1x1024 .f32) := by
  refine (dats m 0 c).arrAt_eq_of_covers 12 _ (by decide +kernel) fun t hf y => ?_
  have h := (flush0_12 t).mp hf
  blk_simp
  rw [after0_12]
  obtain ⟨k, rfl⟩ : ∃ k : Fin 1024, y = ix2 0 k := ⟨y 1, (eq_ix2 (n0 := 1) (n1 := 1024) y).trans (congrArg (fun a => ix2 a _) (Subsingleton.elim _ _))⟩
  refine (Pipeline.eq_sum_fin_of_reset_step_apply_of_flush (fun n h (k : Fin 1024) => ((outsAt0 m c n h).2.2.2.1 : FVec Ideal S1x1024 .f32) (ix2 0 k)) 32 (fun _ => 0)
    (fun t k => ∑ r, dn (L m c) (row t r) k * Y (L m c) (row t r) k * rs (Y (L m c)) (row t r)) (fun t h k => out12A m c t h k) (fun t h k => out12B m c t h k) t h k).trans
    ((rows_sum (fun T => dn (L m c) T k * Y (L m c) T k * rs (Y (L m c)) T) t h).trans ?_)
  exact congrArg (fun k => ∑ T, dn (L m c) T k * Y (L m c) T k * rs (Y (L m c)) T) (Fin.ext (by blk_simp [idx t]))

theorem dg3_final : (dats m 0 c).arrAt 13 cfg0.N
    = ((fun y => ∑ T, DH (L m c) T (y 1) * x (L m c) T (y 1) * rs (x (L m c)) T) : FVec Ideal S1x1024 .f32) := by
  refine (dats m 0 c).arrAt_eq_of_covers 13 _ (by decide +kernel) fun t hf y => ?_
  have h := (flush0_13 t).mp hf
  blk_simp
  rw [after0_13]
  obtain ⟨k, rfl⟩ : ∃ k : Fin 1024, y = ix2 0 k := ⟨y 1, (eq_ix2 (n0 := 1) (n1 := 1024) y).trans (congrArg (fun a => ix2 a _) (Subsingleton.elim _ _))⟩
  refine (Pipeline.eq_sum_fin_of_reset_step_apply_of_flush (fun n h (k : Fin 1024) => ((outsAt0 m c n h).2.2.2.2.1 : FVec Ideal S1x1024 .f32) (ix2 0 k)) 32 (fun _ => 0)
    (fun t k => ∑ r, DH (L m c) (row t r) k * x (L m c) (row t r) k * rs (x (L m c)) (row t r)) (fun t h k => out13A m c t h k) (fun t h k => out13B m c t h k) t h k).trans
    ((rows_sum (fun T => DH (L m c) T k * x (L m c) T k * rs (x (L m c)) T) t h).trans ?_)
  exact congrArg (fun k => ∑ T, DH (L m c) T k * x (L m c) T k * rs (x (L m c)) T) (Fin.ext (by blk_simp [idx t]))

theorem dcb_final : (dats m 0 c).arrAt 14 cfg0.N = ((fun y => ∑ T, DU (L m c) T (y 1)) : FVec Ideal S1x5632 .f32) := by
  refine (dats m 0 c).arrAt_eq_of_covers 14 _ (by decide +kernel) fun t hf y => ?_
  have h := (flush0_14 t).mp hf
  blk_simp
  rw [after0_14]
  obtain ⟨l, rfl⟩ : ∃ l : Fin 5632, y = ix2 0 l := ⟨y 1, (eq_ix2 (n0 := 1) (n1 := 5632) y).trans (congrArg (fun a => ix2 a _) (Subsingleton.elim _ _))⟩
  refine (Pipeline.eq_sum_fin_of_reset_step_apply_of_flush (fun n h (l : Fin 5632) => ((outsAt0 m c n h).2.2.2.2.2.1 : FVec Ideal S1x5632 .f32) (ix2 0 l)) 32 (fun _ => 0)
    (fun t l => ∑ r, DU (L m c) (row t r) l) (fun t h l => out14A m c t h l) (fun t h l => out14B m c t h l) t h l).trans
    ((rows_sum (fun T => DU (L m c) T l) t h).trans ?_)
  exact congrArg (fun l => ∑ T, DU (L m c) T l) (Fin.ext (by blk_simp [idx t]))

theorem dcw_final : (dats m 0 c).arrAt 15 cfg0.N = ((fun y => ∑ T, PJ (L m c) (y 0) T (y 1) * U (L m c) T (y 1)) : FVec Ideal S3x5632 .f32) := by
  refine (dats m 0 c).arrAt_eq_of_covers 15 _ (by decide +kernel) fun t hf y => ?_
  have h := (flush0_15 t).mp hf
  blk_simp
  rw [after0_15]
  obtain ⟨j, l, rfl⟩ : ∃ (j : Fin 3) (l : Fin 5632), y = ix2 j l := ⟨y 0, y 1, eq_ix2 (n0 := 3) (n1 := 5632) y⟩
  refine (Pipeline.eq_sum_fin_of_reset_step_apply_of_flush (fun n h (l : Fin 5632) => ((outsAt0 m c n h).2.2.2.2.2.2.1 : FVec Ideal S3x5632 .f32) (ix2 j l)) 32 (fun _ => 0)
    (fun t l => ∑ r, PJ (L m c) j (row t r) l * U (L m c) (row t r) l) (fun t h l => out15A m c t h j l) (fun t h l => out15B m c t h j l) t h l).trans
    ((rows_sum (fun T => PJ (L m c) j T l * U (L m c) T l) t h).trans ?_)
  exact congrArg₂ (fun j l => ∑ T, PJ (L m c) j T l * U (L m c) T l) (Fin.ext (by blk_simp [idx t])) (Fin.ext (by blk_simp [idx t]))

end Cert.KernelIdeal.At

end
-- ==== Proof.Products.lean ====
module

public import proofs.«01_k».proof.Defs
public import proofs.«01_k».proof.Proof.Gen.KernelUpIdeal.Value
public import proofs.«01_k».proof.Proof.Gen.ReferenceUpIdeal.Run
public import proofs.«01_k».proof.Proof.Gen.KernelDownIdeal.Value
public import proofs.«01_k».proof.Proof.Gen.ReferenceDownIdeal.Run
public import proofs.«01_k».proof.Proof.Gen.KernelInIdeal.Value
public import proofs.«01_k».proof.Proof.Gen.ReferenceInIdeal.Run
public import proofs.«01_k».proof.Proof.Gen.KernelOutIdeal.Value
public import proofs.«01_k».proof.Proof.Gen.ReferenceOutIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

/-! The gradients of the weights: a product summed over the blocks of rows is the product summed over the rows. -/

namespace Cert.Products

/-- the sum over the blocks of rows is the sum over the rows -/
theorem sum_blocks (J K : ℕ) (F : ℕ → EReal) : ∑ s ∈ Finset.range J, ∑ k : Fin K, F (K * s + k) = ∑ T : Fin (J * K), F T := by
  rw [Finset.sum_range (f := fun s => ∑ k : Fin K, F (K * s + k)), ← (finProdFinEquiv (m := J) (n := K)).sum_comp, Fintype.sum_prod_type]
  exact Finset.sum_congr rfl fun s _ => Finset.sum_congr rfl fun k _ => congrArg F (Nat.add_comm _ _)

end Cert.Products

namespace Cert.KernelUpIdeal.At

open Cert.KernelUpIdeal Cert.KernelUpIdeal.Gen Cert.Products

variable (m : (ℓ : Loc nD τ sig) → Buf (Elt Ideal) ℓ) (c : Dev nD)

theorem pay_at (acc : FVec Ideal S1x1024x1408 .f32) (X : FVec Ideal S2048x1024 .bf16) (Y : FVec Ideal S2048x1408 .bf16) (z : Fin 1) (k : Fin 1024) (l : Fin 1408) :
    (k0_pay2 acc X Y : FVec Ideal S1x1024x1408 .f32) (ix3 z k l) = acc (ix3 z k l) + ∑ r, X (ix2 r k) * Y (ix2 r l) := by
  obtain rfl : z = 0 := Subsingleton.elim _ _
  pointwise [k0_pay2]
theorem zero_at (z : Fin 1) (k : Fin 1024) (l : Fin 1408) : (k0_pay1 (F := Ideal)) (ix3 z k l) = 0 := by
  obtain rfl : z = 0 := Subsingleton.elim _ _
  pointwise [k0_pay1]
/-- the windows' blocks -/
theorem idx : ∀ t : Fin cfg0.N, win0_0.index t = ![t.val % 4, 0] ∧ win0_1.index t = ![t.val % 4, t.val / 4] :=
  (by decide +kernel : ∀ t : Fin grid0.N, _)
/-- the first operand's entries -/
def a (T : ℕ) (k : Fin 1024) : EReal := if h : T < 8192 then (m ((c : Thread nD τ).loc main_arg0) : FVec Ideal S8192x1024 .bf16) (ix2 ⟨T, h⟩ k) else 0
/-- the second operand's entries -/
def b (T : ℕ) (n : ℕ) : EReal := if h : T < 8192 ∧ n < 5632 then (m ((c : Thread nD τ).loc main_arg1) : FVec Ideal S8192x5632 .bf16) (ix2 ⟨T, h.1⟩ ⟨n, h.2⟩) else 0
theorem blk0 (t : Fin cfg0.N) (r : Fin 2048) (k : Fin 1024) : (iblk m c 0 t : FVec Ideal S2048x1024 .bf16) (ix2 r k) = a m c (2048 * (t.val % 4) + r) k := by
  have ht : t.val < 16 := lt_of_lt_of_eq t.isLt N_0
  refine Eq.trans ?_ (dif_pos (by omega)).symm
  refine Eq.trans ?_ (congrFun (V_main_arg0 m c) _)
  blk_ext [iblk, idx t]
theorem blk1 (t : Fin cfg0.N) (r : Fin 2048) (l : Fin 1408) :
    (iblk m c 1 t : FVec Ideal S2048x1408 .bf16) (ix2 r l) = b m c (2048 * (t.val % 4) + r) (1408 * (t.val / 4) + l) := by
  have ht : t.val < 16 := lt_of_lt_of_eq t.isLt N_0
  refine Eq.trans ?_ (dif_pos (by omega)).symm
  refine Eq.trans ?_ (congrFun (V_main_arg1 m c) _)
  blk_ext [iblk, idx t]
/-- the result at an index -/
theorem final (q : Fin 4) (k : Fin 1024) (l : Fin 1408) :
    Value.G2 m c (ix3 q k l) = ∑ T : Fin 8192, a m c T k * b m c T (1408 * q + l) := by
  have hl : (l : ℕ) < 1408 := l.isLt
  have hk : (k : ℕ) < 1024 := k.isLt
  have hr : Value.run2Of (ix3 q k l) = q := by
    show 1 * ((q : ℕ) / 1 - 0) + 1 * ((k : ℕ) / 1024 - 0) + 1 * ((l : ℕ) / 1408 - 0) = q
    omega
  have hN : (cfg0.N : ℕ) = 16 := N_0
  unfold Value.G2
  rw [dif_pos (by rw [hr]; omega)]
  have hloc : Value.loc2Of (ix3 q k l) = ix3 0 k l := by
    funext i; apply Fin.ext; fin_cases i
    · exact Nat.mod_one _
    · exact Nat.mod_eq_of_lt hk
    · exact Nat.mod_eq_of_lt hl
  rw [hloc]
  refine (Pipeline.accAt_add_apply (ι := (⟨3, ![1, 1024, 1408]⟩ : Shape).Idx) (β := EReal) (Value.reset2 m c) (Value.step2 m c) (fun _ => 0)
    (fun n y => ∑ r : Fin 2048, a m c (2048 * (n % 4) + r) (y 1) * b m c (2048 * (n % 4) + r) (1408 * (n / 4) + (y 2 : Fin 1408))) _ 3 (fun h y => ?_) (fun n h acc y _ _ => ?_) 3 le_rfl _ _).trans ?_
  · obtain ⟨y0, y1, y2, rfl⟩ : ∃ (a : Fin 1) (b : Fin 1024) (d : Fin 1408), y = ix3 a b d := ⟨y 0, y 1, y 2, eq_ix3 (n0 := 1) (n1 := 1024) (n2 := 1408) y⟩
    refine (pay_at _ _ _ y0 y1 y2).trans ?_
    simp only [zero_at, blk0, blk1]
    rfl
  · obtain ⟨y0, y1, y2, rfl⟩ : ∃ (a : Fin 1) (b : Fin 1024) (d : Fin 1408), y = ix3 a b d := ⟨y 0, y 1, y 2, eq_ix3 (n0 := 1) (n1 := 1024) (n2 := 1408) y⟩
    refine (pay_at _ _ _ y0 y1 y2).trans ?_
    simp only [blk0, blk1]
    rfl
  · rw [hr, zero_add]
    refine Eq.trans (Finset.sum_congr rfl fun s hs => ?_) (sum_blocks 4 2048 fun T => a m c T k * b m c T (1408 * q + l))
    have hs' := Finset.mem_range.mp hs
    show ∑ r : Fin 2048, a m c (2048 * ((4 * (q : ℕ) + s) % 4) + r) k * b m c (2048 * ((4 * (q : ℕ) + s) % 4) + r) (1408 * ((4 * (q : ℕ) + s) / 4) + l) = _
    rw [show (4 * (q : ℕ) + s) % 4 = s by omega, show (4 * (q : ℕ) + s) / 4 = q by omega]
theorem a_eq (T : Fin 8192) (k : Fin 1024) : a m c T k = (m ((c : Thread nD τ).loc main_arg0) : FVec Ideal S8192x1024 .bf16) (ix2 T k) := dif_pos T.isLt
theorem b_eq (T : Fin 8192) (n : Fin 5632) : b m c T n = (m ((c : Thread nD τ).loc main_arg1) : FVec Ideal S8192x5632 .bf16) (ix2 T n) := dif_pos ⟨T.isLt, n.isLt⟩
/-- the operands' entries -/
abbrev A (T : Fin 8192) (k : Fin 1024) : EReal := (m ((c : Thread nD τ).loc main_arg0) : FVec Ideal S8192x1024 .bf16) (ix2 T k)
abbrev B (T : Fin 8192) (n : Fin 5632) : EReal := (m ((c : Thread nD τ).loc main_arg1) : FVec Ideal S8192x5632 .bf16) (ix2 T n)
/-- the result at an index, from the operands' entries -/
theorem final' (q : Fin 4) (k : Fin 1024) (l : Fin 1408) (n : Fin 5632) (hn : (n : ℕ) = 1408 * q + l) :
    Value.G2 m c (ix3 q k l) = ∑ T : Fin 8192, B m c T n * A m c T k := by
  have e : (∑ T : Fin 8192, a m c T k * b m c T (1408 * q + l) : EReal) = ∑ T : Fin 8192, B m c T n * A m c T k := by
    rw [← hn]
    exact Finset.sum_congr rfl fun T _ => (congrArg₂ (fun x y : EReal => x * y) (a_eq m c T k) (b_eq m c T n)).trans (mul_comm (A m c T k) (B m c T n))
  exact (final m c q k l).trans e

end Cert.KernelUpIdeal.At

namespace Cert.Proof

attribute [local instance] Cert.KernelUpIdeal.Gen.facts Cert.ReferenceUpIdeal.Gen.facts

theorem algebraic_up : Cert.algebraic_KernelUpIdeal_ReferenceUpIdeal := by
  intro m ρ m' ρ' _ hagree
  refine ⟨_, Cert.KernelUpIdeal.Value.run (F := Ideal) m ρ, ?_⟩
  refine (θ_run Cert.ReferenceUpIdeal.defs _ _).mono (fun _ h c => ⟨?_, (h c).2⟩) (Cert.ReferenceUpIdeal.Value.run (F := Ideal) m' ρ')
  refine (h c).1.trans (funext fun y => ?_)
  obtain ⟨q, k, l, rfl⟩ : ∃ (a : Fin 4) (b : Fin 1024) (d : Fin 1408), y = ix3 a b d := ⟨y 0, y 1, y 2, eq_ix3 (n0 := 4) (n1 := 1024) (n2 := 1408) y⟩
  have hl : (l : ℕ) < 1408 := l.isLt
  rw [(hagree c).1, (hagree c).2]
  pointwise []
  split
  · exact (Cert.KernelUpIdeal.At.final' m c q k l ⟨l, by omega⟩ (show (l : ℕ) = 1408 * (q : ℕ) + l by omega)).symm
  split
  · exact (Cert.KernelUpIdeal.At.final' m c q k l ⟨1408 + l, by omega⟩ (show 1408 + (l : ℕ) = 1408 * (q : ℕ) + l by omega)).symm
  split
  · exact (Cert.KernelUpIdeal.At.final' m c q k l ⟨2816 + l, by omega⟩ (show 2816 + (l : ℕ) = 1408 * (q : ℕ) + l by omega)).symm
  · exact (Cert.KernelUpIdeal.At.final' m c q k l ⟨4224 + l, by omega⟩ (show 4224 + (l : ℕ) = 1408 * (q : ℕ) + l by omega)).symm

theorem frame_up : Cert.quiescent_ReferenceUpIdeal := fun m g _ =>
  (θ_run Cert.ReferenceUpIdeal.defs _ _).mono (fun r h => ⟨fun c => (h c).2, sem_eq_zero_of_no_sems (by decide) r.2⟩) (Cert.ReferenceUpIdeal.Value.run (F := Ideal) m g)

end Cert.Proof

namespace Cert.KernelDownIdeal.At

open Cert.KernelDownIdeal Cert.KernelDownIdeal.Gen Cert.Products

variable (m : (ℓ : Loc nD τ sig) → Buf (Elt Ideal) ℓ) (c : Dev nD)

theorem pay_at (acc : FVec Ideal S2816x1024 .f32) (X : FVec Ideal S1024x2816 .bf16) (Y : FVec Ideal S1024x1024 .bf16) (k : Fin 2816) (l : Fin 1024) :
    (k0_pay2 acc X Y : FVec Ideal S2816x1024 .f32) (ix2 k l) = acc (ix2 k l) + ∑ r, X (ix2 r k) * Y (ix2 r l) := by
  pointwise [k0_pay2]
theorem zero_at (k : Fin 2816) (l : Fin 1024) : (k0_pay1 (F := Ideal)) (ix2 k l) = 0 := by
  pointwise [k0_pay1]
/-- the windows' blocks -/
theorem idx : ∀ t : Fin cfg0.N, win0_0.index t = ![t.val, 0] ∧ win0_1.index t = ![t.val, 0] :=
  (by decide +kernel : ∀ t : Fin grid0.N, _)
/-- the first operand's entries -/
def a (T : ℕ) (k : Fin 2816) : EReal := if h : T < 8192 then (m ((c : Thread nD τ).loc main_arg0) : FVec Ideal S8192x2816 .bf16) (ix2 ⟨T, h⟩ k) else 0
/-- the second operand's entries -/
def b (T : ℕ) (n : Fin 1024) : EReal := if h : T < 8192 then (m ((c : Thread nD τ).loc main_arg1) : FVec Ideal S8192x1024 .bf16) (ix2 ⟨T, h⟩ n) else 0
theorem blk0 (t : Fin cfg0.N) (r : Fin 1024) (k : Fin 2816) : (iblk m c 0 t : FVec Ideal S1024x2816 .bf16) (ix2 r k) = a m c (1024 * t.val + r) k := by
  have ht : t.val < 8 := lt_of_lt_of_eq t.isLt N_0
  refine Eq.trans ?_ (dif_pos (by omega)).symm
  refine Eq.trans ?_ (congrFun (V_main_arg0 m c) _)
  blk_ext [iblk, idx t]
theorem blk1 (t : Fin cfg0.N) (r : Fin 1024) (l : Fin 1024) : (iblk m c 1 t : FVec Ideal S1024x1024 .bf16) (ix2 r l) = b m c (1024 * t.val + r) l := by
  have ht : t.val < 8 := lt_of_lt_of_eq t.isLt N_0
  refine Eq.trans ?_ (dif_pos (by omega)).symm
  refine Eq.trans ?_ (congrFun (V_main_arg1 m c) _)
  blk_ext [iblk, idx t]
/-- the result at an index -/
theorem final (k : Fin 2816) (l : Fin 1024) : Value.G2 m c (ix2 k l) = ∑ T : Fin 8192, a m c T k * b m c T l := by
  have hl : (l : ℕ) < 1024 := l.isLt
  have hk : (k : ℕ) < 2816 := k.isLt
  have hr : Value.run2Of (ix2 k l) = 0 := by
    show 1 * ((k : ℕ) / 2816 - 0) + 1 * ((l : ℕ) / 1024 - 0) = 0
    omega
  have hN : (cfg0.N : ℕ) = 8 := N_0
  unfold Value.G2
  rw [dif_pos (by rw [hr]; omega)]
  have hloc : Value.loc2Of (ix2 k l) = ix2 k l := by
    funext i; apply Fin.ext; fin_cases i
    · exact Nat.mod_eq_of_lt hk
    · exact Nat.mod_eq_of_lt hl
  rw [hloc]
  refine (Pipeline.accAt_add_apply (ι := (⟨2, ![2816, 1024]⟩ : Shape).Idx) (β := EReal) (Value.reset2 m c) (Value.step2 m c) (fun _ => 0)
    (fun n y => ∑ r : Fin 1024, a m c (1024 * n + r) (y 0) * b m c (1024 * n + r) (y 1)) _ 7 (fun h y => ?_) (fun n h acc y _ _ => ?_) 7 le_rfl _ _).trans ?_
  · obtain ⟨y0, y1, rfl⟩ : ∃ (a : Fin 2816) (b : Fin 1024), y = ix2 a b := ⟨y 0, y 1, eq_ix2 (n0 := 2816) (n1 := 1024) y⟩
    refine (pay_at _ _ _ y0 y1).trans ?_
    simp only [zero_at, blk0, blk1]
    rfl
  · obtain ⟨y0, y1, rfl⟩ : ∃ (a : Fin 2816) (b : Fin 1024), y = ix2 a b := ⟨y 0, y 1, eq_ix2 (n0 := 2816) (n1 := 1024) y⟩
    refine (pay_at _ _ _ y0 y1).trans ?_
    simp only [blk0, blk1]
    rfl
  · rw [hr, zero_add]
    refine Eq.trans (Finset.sum_congr rfl fun s hs => ?_) (sum_blocks 8 1024 fun T => a m c T k * b m c T l)
    show ∑ r : Fin 1024, a m c (1024 * (8 * 0 + s) + r) k * b m c (1024 * (8 * 0 + s) + r) l = _
    rw [show 8 * 0 + s = s by omega]
/-- the operands' entries -/
abbrev A (T : Fin 8192) (k : Fin 2816) : EReal := (m ((c : Thread nD τ).loc main_arg0) : FVec Ideal S8192x2816 .bf16) (ix2 T k)
abbrev B (T : Fin 8192) (n : Fin 1024) : EReal := (m ((c : Thread nD τ).loc main_arg1) : FVec Ideal S8192x1024 .bf16) (ix2 T n)
theorem a_eq (T : Fin 8192) (k : Fin 2816) : a m c T k = A m c T k := dif_pos T.isLt
theorem b_eq (T : Fin 8192) (n : Fin 1024) : b m c T n = B m c T n := dif_pos T.isLt
/-- the result at an index, from the operands' entries -/
theorem final' (k : Fin 2816) (l : Fin 1024) : Value.G2 m c (ix2 k l) = ∑ T : Fin 8192, B m c T l * A m c T k := by
  have e : (∑ T : Fin 8192, a m c T k * b m c T l : EReal) = ∑ T : Fin 8192, B m c T l * A m c T k :=
    Finset.sum_congr rfl fun T _ => (congrArg₂ (fun x y : EReal => x * y) (a_eq m c T k) (b_eq m c T l)).trans (mul_comm (A m c T k) (B m c T l))
  exact (final m c k l).trans e

end Cert.KernelDownIdeal.At

namespace Cert.Proof

attribute [local instance] Cert.KernelDownIdeal.Gen.facts Cert.ReferenceDownIdeal.Gen.facts

theorem algebraic_down : Cert.algebraic_KernelDownIdeal_ReferenceDownIdeal := by
  intro m ρ m' ρ' _ hagree
  refine ⟨_, Cert.KernelDownIdeal.Value.run (F := Ideal) m ρ, ?_⟩
  refine (θ_run Cert.ReferenceDownIdeal.defs _ _).mono (fun _ h c => ⟨?_, (h c).2⟩) (Cert.ReferenceDownIdeal.Value.run (F := Ideal) m' ρ')
  refine (h c).1.trans (funext fun y => ?_)
  obtain ⟨k, l, rfl⟩ : ∃ (a : Fin 2816) (b : Fin 1024), y = ix2 a b := ⟨y 0, y 1, eq_ix2 (n0 := 2816) (n1 := 1024) y⟩
  rw [(hagree c).1, (hagree c).2]
  refine Eq.trans ?_ (Cert.KernelDownIdeal.At.final' m c k l).symm
  pointwise []

theorem frame_down : Cert.quiescent_ReferenceDownIdeal := fun m g _ =>
  (θ_run Cert.ReferenceDownIdeal.defs _ _).mono (fun r h => ⟨fun c => (h c).2, sem_eq_zero_of_no_sems (by decide) r.2⟩) (Cert.ReferenceDownIdeal.Value.run (F := Ideal) m g)

end Cert.Proof

namespace Cert.KernelInIdeal.At

open Cert.KernelInIdeal Cert.KernelInIdeal.Gen Cert.Products

variable (m : (ℓ : Loc nD τ sig) → Buf (Elt Ideal) ℓ) (c : Dev nD)

theorem pay_at (acc : FVec Ideal S1024x2432 .f32) (X : FVec Ideal S1024x1024 .bf16) (Y : FVec Ideal S1024x2432 .bf16) (k : Fin 1024) (l : Fin 2432) :
    (k0_pay2 acc X Y : FVec Ideal S1024x2432 .f32) (ix2 k l) = acc (ix2 k l) + ∑ r, X (ix2 r k) * Y (ix2 r l) := by
  pointwise [k0_pay2]
theorem zero_at (k : Fin 1024) (l : Fin 2432) : (k0_pay1 (F := Ideal)) (ix2 k l) = 0 := by
  pointwise [k0_pay1]
/-- the windows' blocks -/
theorem idx : ∀ t : Fin cfg0.N, win0_0.index t = ![t.val, 0] ∧ win0_1.index t = ![t.val, 0] :=
  (by decide +kernel : ∀ t : Fin grid0.N, _)
/-- the first operand's entries -/
def a (T : ℕ) (k : Fin 1024) : EReal := if h : T < 8192 then (m ((c : Thread nD τ).loc main_arg0) : FVec Ideal S8192x1024 .bf16) (ix2 ⟨T, h⟩ k) else 0
/-- the second operand's entries -/
def b (T : ℕ) (n : Fin 2432) : EReal := if h : T < 8192 then (m ((c : Thread nD τ).loc main_arg1) : FVec Ideal S8192x2432 .bf16) (ix2 ⟨T, h⟩ n) else 0
theorem blk0 (t : Fin cfg0.N) (r : Fin 1024) (k : Fin 1024) : (iblk m c 0 t : FVec Ideal S1024x1024 .bf16) (ix2 r k) = a m c (1024 * t.val + r) k := by
  have ht : t.val < 8 := lt_of_lt_of_eq t.isLt N_0
  refine Eq.trans ?_ (dif_pos (by omega)).symm
  refine Eq.trans ?_ (congrFun (V_main_arg0 m c) _)
  blk_ext [iblk, idx t]
theorem blk1 (t : Fin cfg0.N) (r : Fin 1024) (l : Fin 2432) : (iblk m c 1 t : FVec Ideal S1024x2432 .bf16) (ix2 r l) = b m c (1024 * t.val + r) l := by
  have ht : t.val < 8 := lt_of_lt_of_eq t.isLt N_0
  refine Eq.trans ?_ (dif_pos (by omega)).symm
  refine Eq.trans ?_ (congrFun (V_main_arg1 m c) _)
  blk_ext [iblk, idx t]
/-- the result at an index -/
theorem final (k : Fin 1024) (l : Fin 2432) : Value.G2 m c (ix2 k l) = ∑ T : Fin 8192, a m c T k * b m c T l := by
  have hl : (l : ℕ) < 2432 := l.isLt
  have hk : (k : ℕ) < 1024 := k.isLt
  have hr : Value.run2Of (ix2 k l) = 0 := by
    show 1 * ((k : ℕ) / 1024 - 0) + 1 * ((l : ℕ) / 2432 - 0) = 0
    omega
  have hN : (cfg0.N : ℕ) = 8 := N_0
  unfold Value.G2
  rw [dif_pos (by rw [hr]; omega)]
  have hloc : Value.loc2Of (ix2 k l) = ix2 k l := by
    funext i; apply Fin.ext; fin_cases i
    · exact Nat.mod_eq_of_lt hk
    · exact Nat.mod_eq_of_lt hl
  rw [hloc]
  refine (Pipeline.accAt_add_apply (ι := (⟨2, ![1024, 2432]⟩ : Shape).Idx) (β := EReal) (Value.reset2 m c) (Value.step2 m c) (fun _ => 0)
    (fun n y => ∑ r : Fin 1024, a m c (1024 * n + r) (y 0) * b m c (1024 * n + r) (y 1)) _ 7 (fun h y => ?_) (fun n h acc y _ _ => ?_) 7 le_rfl _ _).trans ?_
  · obtain ⟨y0, y1, rfl⟩ : ∃ (a : Fin 1024) (b : Fin 2432), y = ix2 a b := ⟨y 0, y 1, eq_ix2 (n0 := 1024) (n1 := 2432) y⟩
    refine (pay_at _ _ _ y0 y1).trans ?_
    simp only [zero_at, blk0, blk1]
    rfl
  · obtain ⟨y0, y1, rfl⟩ : ∃ (a : Fin 1024) (b : Fin 2432), y = ix2 a b := ⟨y 0, y 1, eq_ix2 (n0 := 1024) (n1 := 2432) y⟩
    refine (pay_at _ _ _ y0 y1).trans ?_
    simp only [blk0, blk1]
    rfl
  · rw [hr, zero_add]
    refine Eq.trans (Finset.sum_congr rfl fun s hs => ?_) (sum_blocks 8 1024 fun T => a m c T k * b m c T l)
    show ∑ r : Fin 1024, a m c (1024 * (8 * 0 + s) + r) k * b m c (1024 * (8 * 0 + s) + r) l = _
    rw [show 8 * 0 + s = s by omega]
/-- the operands' entries -/
abbrev A (T : Fin 8192) (k : Fin 1024) : EReal := (m ((c : Thread nD τ).loc main_arg0) : FVec Ideal S8192x1024 .bf16) (ix2 T k)
abbrev B (T : Fin 8192) (n : Fin 2432) : EReal := (m ((c : Thread nD τ).loc main_arg1) : FVec Ideal S8192x2432 .bf16) (ix2 T n)
theorem a_eq (T : Fin 8192) (k : Fin 1024) : a m c T k = A m c T k := dif_pos T.isLt
theorem b_eq (T : Fin 8192) (n : Fin 2432) : b m c T n = B m c T n := dif_pos T.isLt
/-- the result at an index, from the operands' entries -/
theorem final' (k : Fin 1024) (l : Fin 2432) : Value.G2 m c (ix2 k l) = ∑ T : Fin 8192, B m c T l * A m c T k := by
  have e : (∑ T : Fin 8192, a m c T k * b m c T l : EReal) = ∑ T : Fin 8192, B m c T l * A m c T k :=
    Finset.sum_congr rfl fun T _ => (congrArg₂ (fun x y : EReal => x * y) (a_eq m c T k) (b_eq m c T l)).trans (mul_comm (A m c T k) (B m c T l))
  exact (final m c k l).trans e

end Cert.KernelInIdeal.At

namespace Cert.Proof

attribute [local instance] Cert.KernelInIdeal.Gen.facts Cert.ReferenceInIdeal.Gen.facts

theorem algebraic_in : Cert.algebraic_KernelInIdeal_ReferenceInIdeal := by
  intro m ρ m' ρ' _ hagree
  refine ⟨_, Cert.KernelInIdeal.Value.run (F := Ideal) m ρ, ?_⟩
  refine (θ_run Cert.ReferenceInIdeal.defs _ _).mono (fun _ h c => ⟨?_, (h c).2⟩) (Cert.ReferenceInIdeal.Value.run (F := Ideal) m' ρ')
  refine (h c).1.trans (funext fun y => ?_)
  obtain ⟨k, l, rfl⟩ : ∃ (a : Fin 1024) (b : Fin 2432), y = ix2 a b := ⟨y 0, y 1, eq_ix2 (n0 := 1024) (n1 := 2432) y⟩
  rw [(hagree c).1, (hagree c).2]
  refine Eq.trans ?_ (Cert.KernelInIdeal.At.final' m c k l).symm
  pointwise []

theorem frame_in : Cert.quiescent_ReferenceInIdeal := fun m g _ =>
  (θ_run Cert.ReferenceInIdeal.defs _ _).mono (fun r h => ⟨fun c => (h c).2, sem_eq_zero_of_no_sems (by decide) r.2⟩) (Cert.ReferenceInIdeal.Value.run (F := Ideal) m g)

end Cert.Proof

namespace Cert.KernelOutIdeal.At

open Cert.KernelOutIdeal Cert.KernelOutIdeal.Gen Cert.Products

variable (m : (ℓ : Loc nD τ sig) → Buf (Elt Ideal) ℓ) (c : Dev nD)

theorem pay_at (acc : FVec Ideal S1024x1024 .f32) (X : FVec Ideal S2048x1024 .bf16) (Y : FVec Ideal S2048x1024 .bf16) (k : Fin 1024) (l : Fin 1024) :
    (k0_pay2 acc X Y : FVec Ideal S1024x1024 .f32) (ix2 k l) = acc (ix2 k l) + ∑ r, X (ix2 r k) * Y (ix2 r l) := by
  pointwise [k0_pay2]
theorem zero_at (k : Fin 1024) (l : Fin 1024) : (k0_pay1 (F := Ideal)) (ix2 k l) = 0 := by
  pointwise [k0_pay1]
/-- the windows' blocks -/
theorem idx : ∀ t : Fin cfg0.N, win0_0.index t = ![t.val, 0] ∧ win0_1.index t = ![t.val, 0] :=
  (by decide +kernel : ∀ t : Fin grid0.N, _)
/-- the first operand's entries -/
def a (T : ℕ) (k : Fin 1024) : EReal := if h : T < 8192 then (m ((c : Thread nD τ).loc main_arg0) : FVec Ideal S8192x1024 .bf16) (ix2 ⟨T, h⟩ k) else 0
/-- the second operand's entries -/
def b (T : ℕ) (n : Fin 1024) : EReal := if h : T < 8192 then (m ((c : Thread nD τ).loc main_arg1) : FVec Ideal S8192x1024 .bf16) (ix2 ⟨T, h⟩ n) else 0
theorem blk0 (t : Fin cfg0.N) (r : Fin 2048) (k : Fin 1024) : (iblk m c 0 t : FVec Ideal S2048x1024 .bf16) (ix2 r k) = a m c (2048 * t.val + r) k := by
  have ht : t.val < 4 := lt_of_lt_of_eq t.isLt N_0
  refine Eq.trans ?_ (dif_pos (by omega)).symm
  refine Eq.trans ?_ (congrFun (V_main_arg0 m c) _)
  blk_ext [iblk, idx t]
theorem blk1 (t : Fin cfg0.N) (r : Fin 2048) (l : Fin 1024) : (iblk m c 1 t : FVec Ideal S2048x1024 .bf16) (ix2 r l) = b m c (2048 * t.val + r) l := by
  have ht : t.val < 4 := lt_of_lt_of_eq t.isLt N_0
  refine Eq.trans ?_ (dif_pos (by omega)).symm
  refine Eq.trans ?_ (congrFun (V_main_arg1 m c) _)
  blk_ext [iblk, idx t]
/-- the result at an index -/
theorem final (k : Fin 1024) (l : Fin 1024) : Value.G2 m c (ix2 k l) = ∑ T : Fin 8192, a m c T k * b m c T l := by
  have hl : (l : ℕ) < 1024 := l.isLt
  have hk : (k : ℕ) < 1024 := k.isLt
  have hr : Value.run2Of (ix2 k l) = 0 := by
    show 1 * ((k : ℕ) / 1024 - 0) + 1 * ((l : ℕ) / 1024 - 0) = 0
    omega
  have hN : (cfg0.N : ℕ) = 4 := N_0
  unfold Value.G2
  rw [dif_pos (by rw [hr]; omega)]
  have hloc : Value.loc2Of (ix2 k l) = ix2 k l := by
    funext i; apply Fin.ext; fin_cases i
    · exact Nat.mod_eq_of_lt hk
    · exact Nat.mod_eq_of_lt hl
  rw [hloc]
  refine (Pipeline.accAt_add_apply (ι := (⟨2, ![1024, 1024]⟩ : Shape).Idx) (β := EReal) (Value.reset2 m c) (Value.step2 m c) (fun _ => 0)
    (fun n y => ∑ r : Fin 2048, a m c (2048 * n + r) (y 0) * b m c (2048 * n + r) (y 1)) _ 3 (fun h y => ?_) (fun n h acc y _ _ => ?_) 3 le_rfl _ _).trans ?_
  · obtain ⟨y0, y1, rfl⟩ : ∃ (a : Fin 1024) (b : Fin 1024), y = ix2 a b := ⟨y 0, y 1, eq_ix2 (n0 := 1024) (n1 := 1024) y⟩
    refine (pay_at _ _ _ y0 y1).trans ?_
    simp only [zero_at, blk0, blk1]
    rfl
  · obtain ⟨y0, y1, rfl⟩ : ∃ (a : Fin 1024) (b : Fin 1024), y = ix2 a b := ⟨y 0, y 1, eq_ix2 (n0 := 1024) (n1 := 1024) y⟩
    refine (pay_at _ _ _ y0 y1).trans ?_
    simp only [blk0, blk1]
    rfl
  · rw [hr, zero_add]
    refine Eq.trans (Finset.sum_congr rfl fun s hs => ?_) (sum_blocks 4 2048 fun T => a m c T k * b m c T l)
    show ∑ r : Fin 2048, a m c (2048 * (4 * 0 + s) + r) k * b m c (2048 * (4 * 0 + s) + r) l = _
    rw [show 4 * 0 + s = s by omega]
/-- the operands' entries -/
abbrev A (T : Fin 8192) (k : Fin 1024) : EReal := (m ((c : Thread nD τ).loc main_arg0) : FVec Ideal S8192x1024 .bf16) (ix2 T k)
abbrev B (T : Fin 8192) (n : Fin 1024) : EReal := (m ((c : Thread nD τ).loc main_arg1) : FVec Ideal S8192x1024 .bf16) (ix2 T n)
theorem a_eq (T : Fin 8192) (k : Fin 1024) : a m c T k = A m c T k := dif_pos T.isLt
theorem b_eq (T : Fin 8192) (n : Fin 1024) : b m c T n = B m c T n := dif_pos T.isLt
/-- the result at an index, from the operands' entries -/
theorem final' (k : Fin 1024) (l : Fin 1024) : Value.G2 m c (ix2 k l) = ∑ T : Fin 8192, B m c T l * A m c T k := by
  have e : (∑ T : Fin 8192, a m c T k * b m c T l : EReal) = ∑ T : Fin 8192, B m c T l * A m c T k :=
    Finset.sum_congr rfl fun T _ => (congrArg₂ (fun x y : EReal => x * y) (a_eq m c T k) (b_eq m c T l)).trans (mul_comm (A m c T k) (B m c T l))
  exact (final m c k l).trans e

end Cert.KernelOutIdeal.At

namespace Cert.Proof

attribute [local instance] Cert.KernelOutIdeal.Gen.facts Cert.ReferenceOutIdeal.Gen.facts

theorem algebraic_out : Cert.algebraic_KernelOutIdeal_ReferenceOutIdeal := by
  intro m ρ m' ρ' _ hagree
  refine ⟨_, Cert.KernelOutIdeal.Value.run (F := Ideal) m ρ, ?_⟩
  refine (θ_run Cert.ReferenceOutIdeal.defs _ _).mono (fun _ h c => ⟨?_, (h c).2⟩) (Cert.ReferenceOutIdeal.Value.run (F := Ideal) m' ρ')
  refine (h c).1.trans (funext fun y => ?_)
  obtain ⟨k, l, rfl⟩ : ∃ (a : Fin 1024) (b : Fin 1024), y = ix2 a b := ⟨y 0, y 1, eq_ix2 (n0 := 1024) (n1 := 1024) y⟩
  rw [(hagree c).1, (hagree c).2]
  refine Eq.trans ?_ (Cert.KernelOutIdeal.At.final' m c k l).symm
  pointwise []

theorem frame_out : Cert.quiescent_ReferenceOutIdeal := fun m g _ =>
  (θ_run Cert.ReferenceOutIdeal.defs _ _).mono (fun r h => ⟨fun c => (h c).2, sem_eq_zero_of_no_sems (by decide) r.2⟩) (Cert.ReferenceOutIdeal.Value.run (F := Ideal) m g)

end Cert.Proof

end
-- ==== Proof.Adam.lean ====
module

public import proofs.«01_k».proof.Defs
public import proofs.«01_k».proof.Proof.Gen.KernelAdamUpIdeal.Value
public import proofs.«01_k».proof.Proof.Gen.ReferenceAdamUpIdeal.Run
public import proofs.«01_k».proof.Proof.Gen.KernelAdamInIdeal.Value
public import proofs.«01_k».proof.Proof.Gen.ReferenceAdamInIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

/-! The optimizer's step on the large weights: every block of rows is changed entry by entry, as the whole array is. -/

namespace Cert.Adam

variable {s s0 : Shape}

/-- the new first moment -/
def nm (g m : FVec Ideal s .f32) : FVec Ideal s .f32 := fun y =>
  (Ideal.ofBits FTy.f32 0x3F666666#32 * m y + Ideal.ofBits FTy.f32 0x3DCCCCCD#32 * g y : EReal)
/-- the new second moment -/
def nv (g v : FVec Ideal s .f32) : FVec Ideal s .f32 := fun y =>
  (Ideal.ofBits FTy.f32 0x3F7FBE77#32 * v y + Ideal.ofBits FTy.f32 0x3A83126F#32 * (g y * g y) : EReal)
/-- the change of the weight -/
def dl (w g m v : FVec Ideal s .f32) : FVec Ideal s .f32 := fun y =>
  (Ideal.ofBits FTy.f32 0xBA83126F#32 * (Ideal.div (Ideal.div (nm g m y) (Ideal.ofBits FTy.f32 0x3F26BD02#32))
    (Ideal.sqrt (Ideal.div (nv g v y) (Ideal.ofBits FTy.f32 0x3C231ACC#32)) + Ideal.ofBits FTy.f32 0x322BCC77#32)
    + Ideal.ofBits FTy.f32 0x3C23D70A#32 * w y) : EReal)

variable (hd : Fin s0.rank → Fin s.rank) (b : s0.BroadcastsInDim s hd) (w g m v : FVec Ideal s .f32)

/-- the reference's lines, entry by entry -/
theorem ref_nm : addf (mulf (broadcastInDim s hd b (constant s0 .f32 0x3F666666#32)) m) (mulf (broadcastInDim s hd b (constant s0 .f32 0x3DCCCCCD#32)) g)
    = nm g m := rfl
theorem ref_nv : addf (mulf (broadcastInDim s hd b (constant s0 .f32 0x3F7FBE77#32)) v)
    (mulf (broadcastInDim s hd b (constant s0 .f32 0x3A83126F#32)) (mulf g g)) = nv g v := rfl
theorem ref_dl : mulf (broadcastInDim s hd b (constant s0 .f32 0xBA83126F#32))
    (addf (Host.divf (Host.divf (nm g m) (broadcastInDim s hd b (constant s0 .f32 0x3F26BD02#32)))
      (addf (Host.sqrt (Host.divf (nv g v) (broadcastInDim s hd b (constant s0 .f32 0x3C231ACC#32)))) (broadcastInDim s hd b (constant s0 .f32 0x322BCC77#32))))
      (mulf (broadcastInDim s hd b (constant s0 .f32 0x3C23D70A#32)) w)) = dl w g m v := rfl

end Cert.Adam

namespace Cert.KernelAdamUpIdeal.At

open Cert.KernelAdamUpIdeal Cert.KernelAdamUpIdeal.Gen Cert.Adam

section
variable (w g m v : FVec Ideal S256x1408 .f32) (w' g' m' v' : FVec Ideal S176x1024 .f32)
/-- what a grid point computes of its blocks -/
theorem pay1 : k0_pay1 g m = nm g m := rfl
theorem pay2 : k0_pay2 g v = nv g v := rfl
theorem pay3 : k0_pay3 g m v w = dl w g m v := rfl
theorem pay4 : k0_pay4 g' m' = nm g' m' := rfl
theorem pay5 : k0_pay5 g' v' = nv g' v' := rfl
theorem pay6 : k0_pay6 g' m' v' w' = dl w' g' m' v' := rfl
end

variable (m : (ℓ : Loc nD τ sig) → Buf (Elt Ideal) ℓ) (c : Dev nD)

/-- the places of block `t` in the two arrays -/
def rowA (t : Fin cfg0.N) (y : S256x1408.Idx) : S1024x1408.Idx := ((View.whole main_v0_0).slice (win0_8.rect t)).emb y
def rowB (t : Fin cfg0.N) (y : S176x1024.Idx) : S704x1024.Idx := ((View.whole main_v0_1).slice (win0_9.rect t)).emb y
/-- the arguments -/
abbrev wA : FVec Ideal S1024x1408 .f32 := m ((c : Thread nD τ).loc main_arg0)
abbrev wB : FVec Ideal S704x1024 .f32 := m ((c : Thread nD τ).loc main_arg1)
abbrev gA : FVec Ideal S1024x1408 .f32 := m ((c : Thread nD τ).loc main_arg2)
abbrev gB : FVec Ideal S704x1024 .f32 := m ((c : Thread nD τ).loc main_arg3)
abbrev mA : FVec Ideal S1024x1408 .f32 := m ((c : Thread nD τ).loc main_arg4)
abbrev mB : FVec Ideal S704x1024 .f32 := m ((c : Thread nD τ).loc main_arg5)
abbrev vA : FVec Ideal S1024x1408 .f32 := m ((c : Thread nD τ).loc main_arg6)
abbrev vB : FVec Ideal S704x1024 .f32 := m ((c : Thread nD τ).loc main_arg7)
/-- a block's entries are the array's -/
theorem blkA (t : Fin cfg0.N) : (iblk m c 0 t = fun y => wA m c (rowA t y)) ∧ (iblk m c 2 t = fun y => gA m c (rowA t y))
    ∧ (iblk m c 4 t = fun y => mA m c (rowA t y)) ∧ (iblk m c 6 t = fun y => vA m c (rowA t y)) :=
  ⟨funext fun _ => congrFun (V_main_arg0 m c) _, funext fun _ => congrFun (V_main_arg2 m c) _,
   funext fun _ => congrFun (V_main_arg4 m c) _, funext fun _ => congrFun (V_main_arg6 m c) _⟩
theorem blkB (t : Fin cfg0.N) : (iblk m c 1 t = fun y => wB m c (rowB t y)) ∧ (iblk m c 3 t = fun y => gB m c (rowB t y))
    ∧ (iblk m c 5 t = fun y => mB m c (rowB t y)) ∧ (iblk m c 7 t = fun y => vB m c (rowB t y)) :=
  ⟨funext fun _ => congrFun (V_main_arg1 m c) _, funext fun _ => congrFun (V_main_arg3 m c) _,
   funext fun _ => congrFun (V_main_arg5 m c) _, funext fun _ => congrFun (V_main_arg7 m c) _⟩

/-- the results after the run -/
theorem finals : (dats m 0 c).arrAt 8 cfg0.N = dl (wA m c) (gA m c) (mA m c) (vA m c)
    ∧ (dats m 0 c).arrAt 9 cfg0.N = dl (wB m c) (gB m c) (mB m c) (vB m c)
    ∧ (dats m 0 c).arrAt 10 cfg0.N = nm (gA m c) (mA m c) ∧ (dats m 0 c).arrAt 11 cfg0.N = nm (gB m c) (mB m c)
    ∧ (dats m 0 c).arrAt 12 cfg0.N = nv (gA m c) (vA m c) ∧ (dats m 0 c).arrAt 13 cfg0.N = nv (gB m c) (vB m c)
    ∧ (dats m 0 c).arrAt 14 cfg0.N = gA m c ∧ (dats m 0 c).arrAt 15 cfg0.N = gB m c := by
  have cov : ∀ w : Fin 8, (win0 (w.natAdd 8)).Covers := by decide +kernel
  refine ⟨(dats m 0 c).arrAt_eq_of_covers 8 _ (cov 0) fun t _ y => ?_, (dats m 0 c).arrAt_eq_of_covers 9 _ (cov 1) fun t _ y => ?_,
    (dats m 0 c).arrAt_eq_of_covers 10 _ (cov 2) fun t _ y => ?_, (dats m 0 c).arrAt_eq_of_covers 11 _ (cov 3) fun t _ y => ?_,
    (dats m 0 c).arrAt_eq_of_covers 12 _ (cov 4) fun t _ y => ?_, (dats m 0 c).arrAt_eq_of_covers 13 _ (cov 5) fun t _ y => ?_,
    (dats m 0 c).arrAt_eq_of_covers 14 _ (cov 6) fun t _ y => ?_, (dats m 0 c).arrAt_eq_of_covers 15 _ (cov 7) fun t _ y => ?_⟩
  all_goals
    obtain ⟨a0, a2, a4, a6⟩ := blkA m c t
    obtain ⟨a1, a3, a5, a7⟩ := blkB m c t
    blk_simp
    simp only [after0_8, after0_9, after0_10, after0_11, after0_12, after0_13, after0_14, after0_15]
    frame_out
    simp only [pay1, pay2, pay3, pay4, pay5, pay6, a0, a1, a2, a3, a4, a5, a6, a7]
    rfl

/-- the run, in the order of the results -/
theorem run (ρ : Dev nD → PrngReg) : θ_run defs (onTc (τ := τ) (main (F := Ideal))) ⟨m, fun _ => 0, ρ⟩ fun r => ∀ c : Dev nD,
      r.2.mem ((c : Thread nD τ).loc main_v0_0) = dl (wA m c) (gA m c) (mA m c) (vA m c)
      ∧ r.2.mem ((c : Thread nD τ).loc main_v0_2) = nm (gA m c) (mA m c)
      ∧ r.2.mem ((c : Thread nD τ).loc main_v0_4) = nv (gA m c) (vA m c)
      ∧ r.2.mem ((c : Thread nD τ).loc main_v0_6) = gA m c
      ∧ r.2.mem ((c : Thread nD τ).loc main_v0_1) = dl (wB m c) (gB m c) (mB m c) (vB m c)
      ∧ r.2.mem ((c : Thread nD τ).loc main_v0_3) = nm (gB m c) (mB m c)
      ∧ r.2.mem ((c : Thread nD τ).loc main_v0_5) = nv (gB m c) (vB m c)
      ∧ r.2.mem ((c : Thread nD τ).loc main_v0_7) = gB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Value.run_blocks (F := Ideal) m ρ)
  obtain ⟨f0, f1, f2, f3, f4, f5, f6, f7⟩ := finals m c
  obtain ⟨h0, h1, h2, h3, h4, h5, h6, h7, hk⟩ := h c
  exact ⟨h0.trans f0, h2.trans f2, h4.trans f4, h6.trans f6, h1.trans f1, h3.trans f3, h5.trans f5, h7.trans f7, hk⟩

end Cert.KernelAdamUpIdeal.At

namespace Cert.Proof

attribute [local instance] Cert.KernelAdamUpIdeal.Gen.facts Cert.ReferenceAdamUpIdeal.Gen.facts

theorem algebraic_adamup : Cert.algebraic_KernelAdamUpIdeal_ReferenceAdamUpIdeal := by
  intro m ρ m' ρ' _ hagree
  refine ⟨_, _, _, _, _, _, _, _, Cert.KernelAdamUpIdeal.At.run m ρ,
    (θ_run Cert.ReferenceAdamUpIdeal.defs _ _).mono (fun _ h c => ?_) (Cert.ReferenceAdamUpIdeal.Value.run (F := Ideal) m' ρ')⟩
  obtain ⟨a0, a1, a2, a3, a4, a5, a6, a7⟩ := hagree c
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  all_goals simp only [a0, a1, a2, a3, a4, a5, a6, a7, Cert.Adam.ref_nm, Cert.Adam.ref_nv, Cert.Adam.ref_dl]

theorem frame_adamup : Cert.quiescent_ReferenceAdamUpIdeal := fun m g _ =>
  (θ_run Cert.ReferenceAdamUpIdeal.defs _ _).mono (fun r h => ⟨fun c => (h c).2.2.2.2.2.2.2.2, sem_eq_zero_of_no_sems (by decide) r.2⟩)
    (Cert.ReferenceAdamUpIdeal.Value.run (F := Ideal) m g)

end Cert.Proof

namespace Cert.KernelAdamInIdeal.At

open Cert.KernelAdamInIdeal Cert.KernelAdamInIdeal.Gen Cert.Adam

section
variable (w g m v : FVec Ideal S256x580 .f32) (w' g' m' v' : FVec Ideal S64x1024 .f32)
/-- what a grid point computes of its blocks -/
theorem pay1 : k0_pay1 g m = nm g m := rfl
theorem pay2 : k0_pay2 g v = nv g v := rfl
theorem pay3 : k0_pay3 g m v w = dl w g m v := rfl
theorem pay4 : k0_pay4 g' m' = nm g' m' := rfl
theorem pay5 : k0_pay5 g' v' = nv g' v' := rfl
theorem pay6 : k0_pay6 g' m' v' w' = dl w' g' m' v' := rfl
end

variable (m : (ℓ : Loc nD τ sig) → Buf (Elt Ideal) ℓ) (c : Dev nD)

/-- the places of block `t` in the two arrays -/
def rowA (t : Fin cfg0.N) (y : S256x580.Idx) : S1024x580.Idx := ((View.whole main_v0_0).slice (win0_8.rect t)).emb y
def rowB (t : Fin cfg0.N) (y : S64x1024.Idx) : S256x1024.Idx := ((View.whole main_v0_1).slice (win0_9.rect t)).emb y
/-- the arguments -/
abbrev wA : FVec Ideal S1024x580 .f32 := m ((c : Thread nD τ).loc main_arg0)
abbrev wB : FVec Ideal S256x1024 .f32 := m ((c : Thread nD τ).loc main_arg1)
abbrev gA : FVec Ideal S1024x580 .f32 := m ((c : Thread nD τ).loc main_arg2)
abbrev gB : FVec Ideal S256x1024 .f32 := m ((c : Thread nD τ).loc main_arg3)
abbrev mA : FVec Ideal S1024x580 .f32 := m ((c : Thread nD τ).loc main_arg4)
abbrev mB : FVec Ideal S256x1024 .f32 := m ((c : Thread nD τ).loc main_arg5)
abbrev vA : FVec Ideal S1024x580 .f32 := m ((c : Thread nD τ).loc main_arg6)
abbrev vB : FVec Ideal S256x1024 .f32 := m ((c : Thread nD τ).loc main_arg7)
/-- a block's entries are the array's -/
theorem blkA (t : Fin cfg0.N) : (iblk m c 0 t = fun y => wA m c (rowA t y)) ∧ (iblk m c 2 t = fun y => gA m c (rowA t y))
    ∧ (iblk m c 4 t = fun y => mA m c (rowA t y)) ∧ (iblk m c 6 t = fun y => vA m c (rowA t y)) :=
  ⟨funext fun _ => congrFun (V_main_arg0 m c) _, funext fun _ => congrFun (V_main_arg2 m c) _,
   funext fun _ => congrFun (V_main_arg4 m c) _, funext fun _ => congrFun (V_main_arg6 m c) _⟩
theorem blkB (t : Fin cfg0.N) : (iblk m c 1 t = fun y => wB m c (rowB t y)) ∧ (iblk m c 3 t = fun y => gB m c (rowB t y))
    ∧ (iblk m c 5 t = fun y => mB m c (rowB t y)) ∧ (iblk m c 7 t = fun y => vB m c (rowB t y)) :=
  ⟨funext fun _ => congrFun (V_main_arg1 m c) _, funext fun _ => congrFun (V_main_arg3 m c) _,
   funext fun _ => congrFun (V_main_arg5 m c) _, funext fun _ => congrFun (V_main_arg7 m c) _⟩

/-- the results after the run -/
theorem finals : (dats m 0 c).arrAt 8 cfg0.N = dl (wA m c) (gA m c) (mA m c) (vA m c)
    ∧ (dats m 0 c).arrAt 9 cfg0.N = dl (wB m c) (gB m c) (mB m c) (vB m c)
    ∧ (dats m 0 c).arrAt 10 cfg0.N = nm (gA m c) (mA m c) ∧ (dats m 0 c).arrAt 11 cfg0.N = nm (gB m c) (mB m c)
    ∧ (dats m 0 c).arrAt 12 cfg0.N = nv (gA m c) (vA m c) ∧ (dats m 0 c).arrAt 13 cfg0.N = nv (gB m c) (vB m c)
    ∧ (dats m 0 c).arrAt 14 cfg0.N = gA m c ∧ (dats m 0 c).arrAt 15 cfg0.N = gB m c := by
  have cov : ∀ w : Fin 8, (win0 (w.natAdd 8)).Covers := by decide +kernel
  refine ⟨(dats m 0 c).arrAt_eq_of_covers 8 _ (cov 0) fun t _ y => ?_, (dats m 0 c).arrAt_eq_of_covers 9 _ (cov 1) fun t _ y => ?_,
    (dats m 0 c).arrAt_eq_of_covers 10 _ (cov 2) fun t _ y => ?_, (dats m 0 c).arrAt_eq_of_covers 11 _ (cov 3) fun t _ y => ?_,
    (dats m 0 c).arrAt_eq_of_covers 12 _ (cov 4) fun t _ y => ?_, (dats m 0 c).arrAt_eq_of_covers 13 _ (cov 5) fun t _ y => ?_,
    (dats m 0 c).arrAt_eq_of_covers 14 _ (cov 6) fun t _ y => ?_, (dats m 0 c).arrAt_eq_of_covers 15 _ (cov 7) fun t _ y => ?_⟩
  all_goals
    obtain ⟨a0, a2, a4, a6⟩ := blkA m c t
    obtain ⟨a1, a3, a5, a7⟩ := blkB m c t
    blk_simp
    simp only [after0_8, after0_9, after0_10, after0_11, after0_12, after0_13, after0_14, after0_15]
    frame_out
    simp only [pay1, pay2, pay3, pay4, pay5, pay6, a0, a1, a2, a3, a4, a5, a6, a7]
    rfl

/-- the run, in the order of the results -/
theorem run (ρ : Dev nD → PrngReg) : θ_run defs (onTc (τ := τ) (main (F := Ideal))) ⟨m, fun _ => 0, ρ⟩ fun r => ∀ c : Dev nD,
      r.2.mem ((c : Thread nD τ).loc main_v0_0) = dl (wA m c) (gA m c) (mA m c) (vA m c)
      ∧ r.2.mem ((c : Thread nD τ).loc main_v0_2) = nm (gA m c) (mA m c)
      ∧ r.2.mem ((c : Thread nD τ).loc main_v0_4) = nv (gA m c) (vA m c)
      ∧ r.2.mem ((c : Thread nD τ).loc main_v0_6) = gA m c
      ∧ r.2.mem ((c : Thread nD τ).loc main_v0_1) = dl (wB m c) (gB m c) (mB m c) (vB m c)
      ∧ r.2.mem ((c : Thread nD τ).loc main_v0_3) = nm (gB m c) (mB m c)
      ∧ r.2.mem ((c : Thread nD τ).loc main_v0_5) = nv (gB m c) (vB m c)
      ∧ r.2.mem ((c : Thread nD τ).loc main_v0_7) = gB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Value.run_blocks (F := Ideal) m ρ)
  obtain ⟨f0, f1, f2, f3, f4, f5, f6, f7⟩ := finals m c
  obtain ⟨h0, h1, h2, h3, h4, h5, h6, h7, hk⟩ := h c
  exact ⟨h0.trans f0, h2.trans f2, h4.trans f4, h6.trans f6, h1.trans f1, h3.trans f3, h5.trans f5, h7.trans f7, hk⟩

end Cert.KernelAdamInIdeal.At

namespace Cert.Proof

attribute [local instance] Cert.KernelAdamInIdeal.Gen.facts Cert.ReferenceAdamInIdeal.Gen.facts

theorem algebraic_adamin : Cert.algebraic_KernelAdamInIdeal_ReferenceAdamInIdeal := by
  intro m ρ m' ρ' _ hagree
  refine ⟨_, _, _, _, _, _, _, _, Cert.KernelAdamInIdeal.At.run m ρ,
    (θ_run Cert.ReferenceAdamInIdeal.defs _ _).mono (fun _ h c => ?_) (Cert.ReferenceAdamInIdeal.Value.run (F := Ideal) m' ρ')⟩
  obtain ⟨a0, a1, a2, a3, a4, a5, a6, a7⟩ := hagree c
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  all_goals simp only [a0, a1, a2, a3, a4, a5, a6, a7, Cert.Adam.ref_nm, Cert.Adam.ref_nv, Cert.Adam.ref_dl]

theorem frame_adamin : Cert.quiescent_ReferenceAdamInIdeal := fun m g _ =>
  (θ_run Cert.ReferenceAdamInIdeal.defs _ _).mono (fun r h => ⟨fun c => (h c).2.2.2.2.2.2.2.2, sem_eq_zero_of_no_sems (by decide) r.2⟩)
    (Cert.ReferenceAdamInIdeal.Value.run (F := Ideal) m g)

end Cert.Proof
-- ==== Proof.FwdPays.lean ====
module

public import proofs.«01_k».proof.Proof.Pays
public import proofs.«01_k».proof.Proof.Gen.KernelFwdIdeal.Skeleton

@[expose] public section

set_option maxRecDepth 16384

noncomputable section

open Idealize.ShloMosaic Idealize.ShloMosaic.TcCoe Idealize.SL.Sem
open Cert.KernelFwdIdeal Cert.KernelFwdIdeal.Gen Cert.Spec
open Cert.KernelIdeal.At (col cmp_word)

/-! What one block of rows of the forward call computes, as functions of a row and a column.

As in the backward call, the four groups of columns go through the same arithmetic in four spellings. -/

namespace Cert.KernelFwdIdeal.At

/-! ### One spelling -/

section
variable {F : FTy → Type} [FloatOps F]

theorem n5 (a : Vec F S256x1024 .f32) (g : Vec F S1x1024 .f32) (W : Vec F S1x1024x1408 .bf16) : k0_pay5 a g W = k0_pay9 (k0_pay4 a g) W := rfl
theorem n6 (a : Vec F S256x1024 .f32) (g : Vec F S1x1024 .f32) (W : Vec F S1x1024x1408 .bf16) : k0_pay6 a g W = k0_pay10 (k0_pay4 a g) W := rfl
theorem n22 (h : FVec F S256x1024 .bf16) (W : Vec F S1x1024x1408 .bf16) : k0_pay22 h W = k0_pay9 h W := rfl
theorem n27 (h : FVec F S256x1024 .bf16) (W : Vec F S1x1024x1408 .bf16) : k0_pay27 h W = k0_pay9 h W := rfl
theorem n23 (h : FVec F S256x1024 .bf16) (W : Vec F S1x1024x1408 .bf16) : k0_pay23 h W = k0_pay10 h W := rfl
theorem n28 (h : FVec F S256x1024 .bf16) (W : Vec F S1x1024x1408 .bf16) : k0_pay28 h W = k0_pay10 h W := rfl
theorem n13 (h : FVec F S256x1024 .bf16) (W : Vec F S1x1024x1408 .bf16) (p q b x y z : Vec F S1x1408 .f32) :
    k0_pay13 (k0_pay10 h W) (k0_pay11 h W p q b x y) (k0_pay12 z) = k0_pay7 (k0_pay10 h W) p q b x y z := rfl
theorem n25 (h : FVec F S256x1024 .bf16) (W : Vec F S1x1024x1408 .bf16) (p q b x y z : Vec F S1x1408 .f32) :
    k0_pay25 (k0_pay10 h W) (k0_pay24 h W p q b x y) z = k0_pay7 (k0_pay10 h W) p q b x y z := rfl
theorem n31 (h : FVec F S256x1024 .bf16) (W : Vec F S1x1024x1408 .bf16) (p q b x y z : Vec F S1x1408 .f32) :
    k0_pay31 (k0_pay10 h W) (k0_pay29 h W p) (k0_pay30 h W p q) b x y z = k0_pay7 (k0_pay10 h W) p q b x y z := rfl
theorem n14 (v : FVec F S256x1408 .f32) : k0_pay14 v = k0_pay8 v := rfl
theorem n26 (v : FVec F S256x1408 .f32) : k0_pay26 v = k0_pay8 v := rfl
theorem n32 (v : FVec F S256x1408 .f32) : k0_pay32 v = k0_pay8 v := rfl
end

/-! ### The functions of a block -/

/-- the projection read one row back; before the block, the carried row -/
def bM1 (D : Fin 256 → Fin 5632 → EReal) (K : Fin 8 → Fin 5632 → EReal) (r : Fin 256) (n : Fin 5632) : EReal :=
  if h : 1 ≤ (r : ℕ) then D ⟨r - 1, by omega⟩ n else K 7 n
/-- the projection read two rows back; before the block, the carried rows -/
def bM2 (D : Fin 256 → Fin 5632 → EReal) (K : Fin 8 → Fin 5632 → EReal) (r : Fin 256) (n : Fin 5632) : EReal :=
  if h : 2 ≤ (r : ℕ) then D ⟨r - 2, by omega⟩ n else if (r : ℕ) = 1 then K 7 n else K 6 n
/-- the activation of a number -/
def act1 (z : EReal) : EReal :=
  z * (Ideal.ofBits FTy.f32 0x3F000000#32 * (1 + Ideal.tanh (Ideal.ofBits FTy.f32 0x3F4C422A#32 * (z + Ideal.ofBits FTy.f32 0x3D372713#32 * (z * z * z)))))

/-! ### The payloads at an index -/

theorem h2_at (a : FVec Ideal S256x1024 .f32) (g : FVec Ideal S1x1024 .f32) (r : Fin 256) (k : Fin 1024) :
    (k0_pay4 a g : FVec Ideal S256x1024 .bf16) (ix2 r k) = a (ix2 r k) * rs (fun r k => a (ix2 r k)) r * g (ix2 0 k) := by
  pointwise [k0_pay4]
  rfl
theorem mm_at (h : FVec Ideal S256x1024 .bf16) (W : FVec Ideal S1x1024x1408 .bf16) (r : Fin 256) (l : Fin 1408) :
    (k0_pay9 h W : FVec Ideal S256x1408 .bf16) (ix2 r l) = ∑ k, h (ix2 r k) * W (ix3 0 k l) := by
  pointwise [k0_pay9]
theorem mmf_at (h : FVec Ideal S256x1024 .bf16) (W : FVec Ideal S1x1024x1408 .bf16) (r : Fin 256) (l : Fin 1408) :
    (k0_pay10 h W : FVec Ideal S256x1408 .f32) (ix2 r l) = ∑ k, h (ix2 r k) * W (ix3 0 k l) := by
  pointwise [k0_pay10, k0_pay9]
theorem last_at (v : FVec Ideal S256x1408 .f32) (r : Fin 8) (l : Fin 1408) :
    (k0_pay8 v : FVec Ideal S8x1408 .f32) (ix2 r l) = v (ix2 ⟨248 + r, by omega⟩ l) := by
  pointwise [k0_pay8]
section
variable {o : ℕ} {ho : o + 1408 ≤ 5632} {D : Fin 256 → Fin 5632 → EReal} {K : Fin 8 → Fin 5632 → EReal} {cw : Fin 3 → Fin 5632 → EReal} {cb : Fin 5632 → EReal}
  {d : FVec Ideal S256x1408 .f32} {p q b x y z : FVec Ideal S1x1408 .f32}
theorem conv_at (hd : ∀ r l, d (ix2 r l) = D r (col o ho l)) (hp : ∀ l, p (ix2 0 l) = K 7 (col o ho l)) (hq : ∀ l, q (ix2 0 l) = K 6 (col o ho l))
    (hb : ∀ l, b (ix2 0 l) = cb (col o ho l)) (hx : ∀ l, x (ix2 0 l) = cw 0 (col o ho l)) (hy : ∀ l, y (ix2 0 l) = cw 1 (col o ho l))
    (hz : ∀ l, z (ix2 0 l) = cw 2 (col o ho l)) (r : Fin 256) (l : Fin 1408) :
    (k0_pay7 d p q b x y z : FVec Ideal S256x1408 .f32) (ix2 r l)
      = cb (col o ho l) + cw 0 (col o ho l) * bM2 D K r (col o ho l) + cw 1 (col o ho l) * bM1 D K r (col o ho l) + cw 2 (col o ho l) * D r (col o ho l) := by
  pointwise [k0_pay7]
  rw [hb, hx, hy, hz]
  refine congrArg₂ (· + ·) ?_ (congrArg _ (hd r l))
  refine congrArg₂ (· + ·) ?_ ?_
  · congr 2
    refine (cmp_word r 0 (by decide) _ _).trans ?_
    unfold bM2
    by_cases h : 2 ≤ (r : ℕ)
    · rw [if_neg (show ¬ (r : ℕ) = 0 by omega), dif_pos h]
      refine (cmp_word r 1 (by decide) _ _).trans ?_
      rw [if_neg (show ¬ (r : ℕ) = 1 by omega)]
      refine (hd _ l).trans ?_
      exact congrArg (fun q => D q (col o ho l)) (Fin.ext (show (↑r + 256 - 2) % 256 = (r : ℕ) - 2 by omega))
    · rw [dif_neg h]
      by_cases h' : (r : ℕ) = 1
      · rw [if_neg (show ¬ (r : ℕ) = 0 by omega), if_pos h']
        refine (cmp_word r 1 (by decide) _ _).trans ?_
        rw [if_pos h', hp]
      · rw [if_pos (show (r : ℕ) = 0 by omega), if_neg h', hq]
  · congr 1
    refine (cmp_word r 0 (by decide) _ _).trans ?_
    unfold bM1
    by_cases h : 1 ≤ (r : ℕ)
    · rw [if_neg (show ¬ (r : ℕ) = 0 by omega), dif_pos h]
      refine (hd _ l).trans ?_
      exact congrArg (fun q => D q (col o ho l)) (Fin.ext (show (↑r + 256 - 1) % 256 = (r : ℕ) - 1 by omega))
    · rw [if_pos (show (r : ℕ) = 0 by omega), dif_neg h, hp]
end
theorem act18_at (v a b : FVec Ideal S256x1408 .f32) (r : Fin 256) (l : Fin 1408) :
    (k0_pay18 v a b : FVec Ideal S256x1408 .f32) (ix2 r l) = act1 ((k0_pay13 v a b : FVec Ideal S256x1408 .f32) (ix2 r l)) := by
  pointwise [k0_pay18, k0_pay17, k0_pay16, k0_pay15]
  rfl
theorem act36_at (v p q : FVec Ideal S256x1408 .f32) (b x y z : FVec Ideal S1x1408 .f32) (r : Fin 256) (l : Fin 1408) :
    (k0_pay36 v p q b x y z : FVec Ideal S256x1408 .f32) (ix2 r l) = act1 ((k0_pay31 v p q b x y z : FVec Ideal S256x1408 .f32) (ix2 r l)) := by
  pointwise [k0_pay36, k0_pay35, k0_pay34, k0_pay33]
  rfl
theorem a19_at (u v a b : FVec Ideal S256x1408 .f32) (r : Fin 256) (l : Fin 1408) :
    (k0_pay19 u v a b : FVec Ideal S256x1408 .bf16) (ix2 r l) = act1 ((k0_pay13 v a b : FVec Ideal S256x1408 .f32) (ix2 r l)) * u (ix2 r l) := by
  pointwise [k0_pay19]
  rw [act18_at]
theorem c20_at (v a b : FVec Ideal S256x1408 .f32) (r : Fin 256) (l : Fin 1408) :
    (k0_pay20 v a b : FVec Ideal S256x1408 .bf16) (ix2 r l) = act1 ((k0_pay13 v a b : FVec Ideal S256x1408 .f32) (ix2 r l)) := by
  pointwise [k0_pay20]
  rw [act18_at]
theorem a38_at (u w : FVec Ideal S256x1408 .f32) (r : Fin 256) (l : Fin 1408) :
    (k0_pay38 u w : FVec Ideal S256x1408 .bf16) (ix2 r l) = w (ix2 r l) * u (ix2 r l) := by
  pointwise [k0_pay38]
theorem c39_at (w : FVec Ideal S256x1408 .f32) (r : Fin 256) (l : Fin 1408) : (k0_pay39 w : FVec Ideal S256x1408 .bf16) (ix2 r l) = w (ix2 r l) := by
  pointwise [k0_pay39]
theorem y_at (A : FVec Ideal S256x2816 .bf16) (W : FVec Ideal S2816x1024 .bf16) (r : Fin 256) (k : Fin 1024) :
    (k0_pay41 A W : FVec Ideal S256x1024 .f32) (ix2 r k) = ∑ f, A (ix2 r f) * W (ix2 f k) := by
  pointwise [k0_pay41]
theorem err_at (a : FVec Ideal S256x1024 .f32) (A : FVec Ideal S256x2816 .bf16) (W : FVec Ideal S2816x1024 .bf16) (g : FVec Ideal S1x1024 .f32) (tg : FVec Ideal S256x1024 .f32)
    (r : Fin 256) (k : Fin 1024) :
    (k0_pay42 a A W g tg : FVec Ideal S256x1024 .f32) (ix2 r k)
      = a (ix2 r k) + (k0_pay41 A W : FVec Ideal S256x1024 .f32) (ix2 r k) * rs (fun r k => (k0_pay41 A W : FVec Ideal S256x1024 .f32) (ix2 r k)) r * g (ix2 0 k) - tg (ix2 r k) := by
  pointwise [k0_pay42]
  rfl
theorem dx_at (a : FVec Ideal S256x1024 .f32) (A : FVec Ideal S256x2816 .bf16) (W : FVec Ideal S2816x1024 .bf16) (g : FVec Ideal S1x1024 .f32) (tg : FVec Ideal S256x1024 .f32)
    (r : Fin 256) (k : Fin 1024) :
    (k0_pay43 a A W g tg : FVec Ideal S256x1024 .f32) (ix2 r k) = (k0_pay42 a A W g tg : FVec Ideal S256x1024 .f32) (ix2 r k) * Ideal.ofBits FTy.f32 0x3A800000#32 := by
  pointwise [k0_pay43]
theorem loss_at (e : FVec Ideal S256x1024 .f32) (s : FVec Ideal S8x128 .f32) (i : Fin 8) (j : Fin 128) :
    (k0_pay1 e s : FVec Ideal S8x128 .f32) (ix2 i j) = s (ix2 i j) + (∑ r : Fin 256, ∑ k : Fin 1024, e (ix2 r k) * e (ix2 r k)) * Ideal.ofBits FTy.f32 0x3A000000#32 := by
  pointwise [k0_pay1]
theorem zeroK (r : Fin 8) (l : Fin 5632) : (k0_pay2 (F := Ideal)) (ix2 r l) = 0 := by
  unfold k0_pay2
  pointwise []
theorem zeroL (r : Fin 8) (l : Fin 128) : (k0_pay3 (F := Ideal)) (ix2 r l) = 0 := by
  unfold k0_pay3
  pointwise []

end Cert.KernelFwdIdeal.At
end
-- ==== Proof.FwdBlocks.lean ====
module

public import proofs.«01_k».proof.Proof.Rows
public import proofs.«01_k».proof.Proof.FwdPays
public import proofs.«01_k».proof.Proof.Gen.KernelFwdIdeal.Frame

@[expose] public section

set_option maxRecDepth 16384

noncomputable section

open Idealize.ShloMosaic Idealize.ShloMosaic.TcCoe Idealize.SL.Sem
open Cert.KernelFwdIdeal Cert.KernelFwdIdeal.Gen Cert.Spec
open Cert.KernelIdeal.At (col cut2 ld2)

/-! What the forward call's buffers hold at each point of the grid. -/

namespace Cert.KernelFwdIdeal.At

section
variable (V0 : Valuation τ sig (Elt Ideal))
/-- the block's input -/
abbrev x (T : Fin 8192) (k : Fin 1024) : EReal := (V0 (Proc.devRef .tc main_arg0) : FVec Ideal S8192x1024 .f32) (ix2 T k)
/-- the first gain -/
abbrev g3 (k : Fin 1024) : EReal := (V0 (Proc.devRef .tc main_arg1) : FVec Ideal S1x1024 .f32) (ix2 0 k)
/-- the weights up -/
abbrev wu (k : Fin 1024) (n : Fin 5632) : EReal := (V0 (Proc.devRef .tc main_arg2) : FVec Ideal S1024x5632 .f32) (ix2 k n)
/-- the taps -/
abbrev cw (j : Fin 3) (n : Fin 5632) : EReal := (V0 (Proc.devRef .tc main_arg3) : FVec Ideal S3x5632 .f32) (ix2 j n)
/-- the bias -/
abbrev cb (n : Fin 5632) : EReal := (V0 (Proc.devRef .tc main_arg4) : FVec Ideal S1x5632 .f32) (ix2 0 n)
/-- the weights down -/
abbrev wd (f : Fin 2816) (k : Fin 1024) : EReal := (V0 (Proc.devRef .tc main_arg5) : FVec Ideal S2816x1024 .f32) (ix2 f k)
/-- the second gain -/
abbrev g4 (k : Fin 1024) : EReal := (V0 (Proc.devRef .tc main_arg6) : FVec Ideal S1x1024 .f32) (ix2 0 k)
/-- the target -/
abbrev tg (T : Fin 8192) (k : Fin 1024) : EReal := (V0 (Proc.devRef .tc main_arg7) : FVec Ideal S8192x1024 .f32) (ix2 T k)
/-- the normalised input -/
abbrev H (T : Fin 8192) (k : Fin 1024) : EReal := x V0 T k * rs (x V0) T * g3 V0 k
/-- the projection up -/
abbrev U : Fin 8192 → Fin 5632 → EReal := up (x V0) (g3 V0) (wu V0)
/-- the convolution's result -/
abbrev C : Fin 8192 → Fin 5632 → EReal := conv (U V0) (cw V0) (cb V0)
/-- the gated product -/
abbrev A (T : Fin 8192) (f : Fin 2816) : EReal := actH (gH (C V0)) T f * vH (C V0) T f
/-- the projection down -/
abbrev Y : Fin 8192 → Fin 1024 → EReal := yH (C V0) (wd V0)
/-- the difference from the target -/
abbrev ER (T : Fin 8192) (k : Fin 1024) : EReal := x V0 T k + Y V0 T k * rs (Y V0) T * g4 V0 k - tg V0 T k

/-! ### The weights the host prepares -/

theorem wd_at (r : Fin 2816) (l : Fin 1024) :
    (StableHlo.after hostOps0 V0 (Proc.devRef .tc main_v0) : FVec Ideal ⟨2, ![2816, 1024]⟩ .bf16) (ix2 r l) = wd V0 r l := by
  after_reads_simp
  pointwise []

theorem wu_at (s : Fin 4) (k : Fin 1024) (l : Fin 1408) :
    (StableHlo.after hostOps0 V0 (Proc.devRef .tc main_v3) : FVec Ideal ⟨3, ![4, 1024, 1408]⟩ .bf16) (ix3 s k l) = wu V0 k ⟨s * 1408 + l, by omega⟩ := by
  after_reads_simp
  pointwise []
end

variable (m : (ℓ : Loc nD τ sig) → Buf (Elt Ideal) ℓ) (c : Dev nD)

/-- the arrays before the host's operations -/
abbrev L : Valuation τ sig (Elt Ideal) := fun b => m (c, b)

/-- the windows' blocks -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] :=
  (by decide +kernel : ∀ t : Fin grid0.N, _)

theorem t_lt (t : Fin cfg0.N) : t.val < 32 := lt_of_lt_of_eq t.isLt N_0

/-- the array's row of row `r` of point `n`'s block -/
abbrev row (n : ℕ) (r : Fin 256) : Fin 8192 := ⟨256 * min n 31 + r, by omega⟩

theorem sum_rows (F : Fin 8192 → EReal) : ∑ s : Fin 32, ∑ r : Fin 256, F (row s r) = ∑ T, F T := by
  rw [← (finProdFinEquiv (m := 32) (n := 256)).sum_comp, Fintype.sum_prod_type]
  refine Finset.sum_congr rfl fun s _ => Finset.sum_congr rfl fun r _ => congrArg F (Fin.ext ?_)
  show 256 * min (s : ℕ) 31 + (r : ℕ) = r + 256 * s
  omega

theorem b0 (t : Fin cfg0.N) (r : Fin 256) (l : Fin 1024) : (iblk m c 0 t : FVec Ideal S256x1024 .f32) (ix2 r l) = x (L m c) (row t r) l := by
  have ht := t_lt t
  refine Eq.trans ?_ (congrFun (V_main_arg0 m c) _)
  blk_ext [iblk, idx t]
theorem b1 (t : Fin cfg0.N) (l : Fin 1024) : (iblk m c 1 t : FVec Ideal S1x1024 .f32) (ix2 0 l) = g3 (L m c) l := by
  refine Eq.trans ?_ (congrFun (V_main_arg1 m c) _)
  blk_ext [iblk, idx t]
theorem b2 (t : Fin cfg0.N) (j : Fin 3) (l : Fin 5632) : (iblk m c 2 t : FVec Ideal S3x5632 .f32) (ix2 j l) = cw (L m c) j l := by
  refine Eq.trans ?_ (congrFun (V_main_arg3 m c) _)
  blk_ext [iblk, idx t]
theorem b3 (t : Fin cfg0.N) (j : Fin 1) (l : Fin 5632) : (iblk m c 3 t : FVec Ideal S1x5632 .f32) (ix2 j l) = cb (L m c) l := by
  obtain rfl : j = 0 := Subsingleton.elim _ _
  refine Eq.trans ?_ (congrFun (V_main_arg4 m c) _)
  blk_ext [iblk, idx t]
theorem b4 (t : Fin cfg0.N) (l : Fin 1024) : (iblk m c 4 t : FVec Ideal S1x1024 .f32) (ix2 0 l) = g4 (L m c) l := by
  refine Eq.trans ?_ (congrFun (V_main_arg6 m c) _)
  blk_ext [iblk, idx t]
theorem b5 (t : Fin cfg0.N) (r : Fin 256) (l : Fin 1024) : (iblk m c 5 t : FVec Ideal S256x1024 .f32) (ix2 r l) = tg (L m c) (row t r) l := by
  have ht := t_lt t
  refine Eq.trans ?_ (congrFun (V_main_arg7 m c) _)
  blk_ext [iblk, idx t]

/-! ### The carried rows -/

section
variable (V0 : Valuation τ sig (Elt Ideal))
/-- the rows carried into point `n`: the last rows of the block before it -/
def Kf (n : ℕ) (r : Fin 8) (l : Fin 5632) : EReal := if n = 0 then 0 else U V0 (row (n - 1) ⟨248 + r, by omega⟩) l

theorem sh1_eq {n : ℕ} (hn : n < 32) (r : Fin 256) (l : Fin 5632) : bM1 (fun r l => U V0 (row n r) l) (Kf V0 n) r l = shB 1 (U V0) (row n r) l := by
  unfold bM1 shB Kf
  by_cases h : 1 ≤ (r : ℕ)
  · rw [dif_pos h, dif_pos (show 1 ≤ 256 * min n 31 + (r : ℕ) by omega)]
    exact congrArg (fun q => U V0 q l) (Fin.ext (show 256 * min n 31 + ((r : ℕ) - 1) = 256 * min n 31 + r - 1 by omega))
  · rw [dif_neg h]
    by_cases h0 : n = 0
    · rw [if_pos h0, dif_neg (show ¬ 1 ≤ 256 * min n 31 + (r : ℕ) by omega)]
    · rw [if_neg h0, dif_pos (show 1 ≤ 256 * min n 31 + (r : ℕ) by omega)]
      exact congrArg (fun q => U V0 q l) (Fin.ext (show 256 * min (n - 1) 31 + (248 + 7) = 256 * min n 31 + r - 1 by omega))
theorem sh2_eq {n : ℕ} (hn : n < 32) (r : Fin 256) (l : Fin 5632) : bM2 (fun r l => U V0 (row n r) l) (Kf V0 n) r l = shB 2 (U V0) (row n r) l := by
  unfold bM2 shB Kf
  by_cases h : 2 ≤ (r : ℕ)
  · rw [dif_pos h, dif_pos (show 2 ≤ 256 * min n 31 + (r : ℕ) by omega)]
    exact congrArg (fun q => U V0 q l) (Fin.ext (show 256 * min n 31 + ((r : ℕ) - 2) = 256 * min n 31 + r - 2 by omega))
  · rw [dif_neg h]
    by_cases h0 : n = 0
    · rw [if_pos h0, if_pos h0, ite_self, dif_neg (show ¬ 2 ≤ 256 * min n 31 + (r : ℕ) by omega)]
    · rw [if_neg h0, if_neg h0, dif_pos (show 2 ≤ 256 * min n 31 + (r : ℕ) by omega)]
      by_cases h' : (r : ℕ) = 1
      · rw [if_pos h']
        exact congrArg (fun q => U V0 q l) (Fin.ext (show 256 * min (n - 1) 31 + (248 + 7) = 256 * min n 31 + r - 2 by omega))
      · rw [if_neg h']
        exact congrArg (fun q => U V0 q l) (Fin.ext (show 256 * min (n - 1) 31 + (248 + 6) = 256 * min n 31 + r - 2 by omega))
end

/-! ### The weights' copies -/

theorem wup_all (n : ℕ) (h : n < cfg0.N) (s : Fin 4) (k : Fin 1024) (l : Fin 1408) :
    ((outsAt0 m c n h).2.2.2.2.2.2.2.2.1 : FVec Ideal S4x1024x1408 .bf16) (ix3 s k l) = wu (L m c) k ⟨s * 1408 + l, by omega⟩ := by
  induction n with
  | zero =>
    rw [show outsAt0 m c 0 h = outsAt0 m c (⟨0, h⟩ : Fin cfg0.N).val (⟨0, h⟩ : Fin cfg0.N).isLt from rfl, outsAt0_A m c ⟨0, h⟩ rfl rfl rfl]
    frame_out
    refine (congrFun (View.canon_cons_unit_zero (off := fun _ => 0) rfl _ _ []) _).trans ?_
    exact wu_at (L m c) s k l
  | succ n ih =>
    have hb : ¬ (⟨n + 1, h⟩ : Fin cfg0.N).val % 32 = 0 := by
      have := t_lt ⟨n + 1, h⟩
      show ¬ (n + 1) % 32 = 0
      have : n + 1 < 32 := this
      omega
    rw [show outsAt0 m c (n + 1) h = outsAt0 m c (⟨n + 1, h⟩ : Fin cfg0.N).val (⟨n + 1, h⟩ : Fin cfg0.N).isLt from rfl, outsAt0_B m c ⟨n + 1, h⟩ hb hb hb]
    frame_out
    unfold sout0_B_0
    exact ih _
theorem wdn_all (n : ℕ) (h : n < cfg0.N) (f : Fin 2816) (k : Fin 1024) :
    ((outsAt0 m c n h).2.2.2.2.2.2.2.2.2.1 : FVec Ideal S2816x1024 .bf16) (ix2 f k) = wd (L m c) f k := by
  induction n with
  | zero =>
    rw [show outsAt0 m c 0 h = outsAt0 m c (⟨0, h⟩ : Fin cfg0.N).val (⟨0, h⟩ : Fin cfg0.N).isLt from rfl, outsAt0_A m c ⟨0, h⟩ rfl rfl rfl]
    frame_out
    refine (congrFun (View.canon_cons_unit_zero (off := fun _ => 0) rfl _ _ []) _).trans ?_
    exact wd_at (L m c) f k
  | succ n ih =>
    have hb : ¬ (⟨n + 1, h⟩ : Fin cfg0.N).val % 32 = 0 := by
      have := t_lt ⟨n + 1, h⟩
      show ¬ (n + 1) % 32 = 0
      have : n + 1 < 32 := this
      omega
    rw [show outsAt0 m c (n + 1) h = outsAt0 m c (⟨n + 1, h⟩ : Fin cfg0.N).val (⟨n + 1, h⟩ : Fin cfg0.N).isLt from rfl, outsAt0_B m c ⟨n + 1, h⟩ hb hb hb]
    frame_out
    unfold sout0_B_1
    exact ih _

/-! ### What a block computes -/

/-- the block's normalised rows -/
abbrev E (t : Fin cfg0.N) : FVec Ideal S256x1024 .bf16 := k0_pay4 (iblk m c 0 t) (iblk m c 1 t)
theorem E_at (t : Fin cfg0.N) (r : Fin 256) (k : Fin 1024) : E m c t (ix2 r k) = H (L m c) (row t r) k := by
  refine (h2_at _ _ r k).trans ?_
  rw [funext fun r => funext fun k => b0 m c t r k, b0, b1]
  rfl

/-- the operands of one group of columns: its weights, the two carried rows, the bias and the taps -/
structure IsGrp (t : Fin cfg0.N) (o : ℕ) (ho : o + 1408 ≤ 5632) (W : FVec Ideal S1x1024x1408 .bf16) (p q b x y z : FVec Ideal S1x1408 .f32) : Prop where
  w : ∀ k l, W (ix3 0 k l) = wu (L m c) k (col o ho l)
  p : ∀ l, p (ix2 0 l) = Kf (L m c) t 7 (col o ho l)
  q : ∀ l, q (ix2 0 l) = Kf (L m c) t 6 (col o ho l)
  b : ∀ l, b (ix2 0 l) = cb (L m c) (col o ho l)
  x : ∀ l, x (ix2 0 l) = cw (L m c) 0 (col o ho l)
  y : ∀ l, y (ix2 0 l) = cw (L m c) 1 (col o ho l)
  z : ∀ l, z (ix2 0 l) = cw (L m c) 2 (col o ho l)

section
variable (t : Fin cfg0.N) {o : ℕ} {ho : o + 1408 ≤ 5632} {W : FVec Ideal S1x1024x1408 .bf16} {p q b x y z : FVec Ideal S1x1408 .f32}
theorem u_at (hW : ∀ k l, W (ix3 0 k l) = wu (L m c) k (col o ho l)) (r : Fin 256) (l : Fin 1408) :
    (k0_pay9 (E m c t) W : FVec Ideal S256x1408 .bf16) (ix2 r l) = U (L m c) (row t r) (col o ho l) := by
  refine (mm_at _ _ r l).trans (Finset.sum_congr rfl fun k _ => ?_)
  rw [E_at, hW]
theorem uf_at (hW : ∀ k l, W (ix3 0 k l) = wu (L m c) k (col o ho l)) (r : Fin 256) (l : Fin 1408) :
    (k0_pay10 (E m c t) W : FVec Ideal S256x1408 .f32) (ix2 r l) = U (L m c) (row t r) (col o ho l) := by
  refine (mmf_at _ _ r l).trans (Finset.sum_congr rfl fun k _ => ?_)
  rw [E_at, hW]
theorem k_blk (hW : ∀ k l, W (ix3 0 k l) = wu (L m c) k (col o ho l)) (r : Fin 8) (l : Fin 1408) :
    (k0_pay8 (k0_pay10 (E m c t) W) : FVec Ideal S8x1408 .f32) (ix2 r l) = U (L m c) (row t ⟨248 + r, by omega⟩) (col o ho l) :=
  (last_at _ r l).trans (uf_at m c t hW _ l)
theorem c_at (h : IsGrp m c t o ho W p q b x y z) (r : Fin 256) (l : Fin 1408) :
    (k0_pay7 (k0_pay10 (E m c t) W) p q b x y z : FVec Ideal S256x1408 .f32) (ix2 r l) = C (L m c) (row t r) (col o ho l) := by
  refine (conv_at (D := fun r n => U (L m c) (row t r) n) (K := Kf (L m c) t) (cw := cw (L m c)) (cb := cb (L m c)) (uf_at m c t h.w) h.p h.q h.b h.x h.y h.z r l).trans ?_
  rw [sh1_eq (L m c) (t_lt t), sh2_eq (L m c) (t_lt t)]
  rfl
end

section
variable (t : Fin cfg0.N) {W W' : FVec Ideal S1x1024x1408 .bf16} {p q b x y z p' q' b' x' y' z' : FVec Ideal S1x1408 .f32}
/-- the activation of a group of the gate's columns -/
theorem act_at {o : ℕ} {ho : 2816 + o + 1408 ≤ 5632} {v : FVec Ideal S256x1408 .f32} (hv : ∀ r l, v (ix2 r l) = C (L m c) (row t r) (col (2816 + o) ho l)) (r : Fin 256) (l : Fin 1408) :
    act1 (v (ix2 r l)) = actH (gH (C (L m c))) (row t r) ⟨o + l, by omega⟩ := by
  rw [hv]
  have e : col (2816 + o) ho l = ⟨2816 + (o + (l : ℕ)), by omega⟩ := Fin.ext (by show 2816 + o + (l : ℕ) = 2816 + (o + l); omega)
  rw [e]
  rfl
theorem a_lo (h : IsGrp m c t 0 (by decide) W p q b x y z) (h' : IsGrp m c t 2816 (by decide) W' p' q' b' x' y' z') (r : Fin 256) (l : Fin 1408) :
    (k0_pay19 (k0_pay7 (k0_pay10 (E m c t) W) p q b x y z) (k0_pay10 (E m c t) W') (k0_pay11 (E m c t) W' p' q' b' x' y') (k0_pay12 z') : FVec Ideal S256x1408 .bf16) (ix2 r l)
      = A (L m c) (row t r) ⟨0 + l, by omega⟩ := by
  refine (a19_at _ _ _ _ r l).trans ?_
  rw [n13, act_at m c t (o := 0) (ho := by decide) (c_at m c t h'), c_at m c t h]
  rfl
theorem c1_lo (h' : IsGrp m c t 2816 (by decide) W' p' q' b' x' y' z') (r : Fin 256) (l : Fin 1408) :
    (k0_pay20 (k0_pay10 (E m c t) W') (k0_pay11 (E m c t) W' p' q' b' x' y') (k0_pay12 z') : FVec Ideal S256x1408 .bf16) (ix2 r l)
      = actH (gH (C (L m c))) (row t r) ⟨0 + l, by omega⟩ := by
  refine (c20_at _ _ _ r l).trans ?_
  rw [n13, act_at m c t (o := 0) (ho := by decide) (c_at m c t h')]
theorem act_hi (h' : IsGrp m c t 4224 (by decide) W' p' q' b' x' y' z') (r : Fin 256) (l : Fin 1408) :
    (k0_pay36 (k0_pay10 (E m c t) W') (k0_pay29 (E m c t) W' p') (k0_pay30 (E m c t) W' p' q') b' x' y' z' : FVec Ideal S256x1408 .f32) (ix2 r l)
      = actH (gH (C (L m c))) (row t r) ⟨1408 + l, by omega⟩ := by
  refine (act36_at _ _ _ _ _ _ _ r l).trans ?_
  rw [n31, act_at m c t (o := 1408) (ho := by decide) (c_at m c t h')]
theorem a_hi (h : IsGrp m c t 1408 (by decide) W p q b x y z) (h' : IsGrp m c t 4224 (by decide) W' p' q' b' x' y' z') (r : Fin 256) (l : Fin 1408) :
    (k0_pay38 (k0_pay7 (k0_pay10 (E m c t) W) p q b x y z) (k0_pay36 (k0_pay10 (E m c t) W') (k0_pay29 (E m c t) W' p') (k0_pay30 (E m c t) W' p' q') b' x' y' z') : FVec Ideal S256x1408 .bf16) (ix2 r l)
      = A (L m c) (row t r) ⟨1408 + l, by omega⟩ := by
  refine (a38_at _ _ r l).trans ?_
  rw [act_hi m c t h', c_at m c t h]
  rfl
theorem c1_hi (h' : IsGrp m c t 4224 (by decide) W' p' q' b' x' y' z') (r : Fin 256) (l : Fin 1408) :
    (k0_pay39 (k0_pay36 (k0_pay10 (E m c t) W') (k0_pay29 (E m c t) W' p') (k0_pay30 (E m c t) W' p' q') b' x' y' z') : FVec Ideal S256x1408 .bf16) (ix2 r l)
      = actH (gH (C (L m c))) (row t r) ⟨1408 + l, by omega⟩ :=
  (c39_at _ r l).trans (act_hi m c t h' r l)

variable {a : FVec Ideal S256x2816 .bf16} {w : FVec Ideal S2816x1024 .bf16} (ha : ∀ r f, a (ix2 r f) = A (L m c) (row t r) f) (hw : ∀ f k, w (ix2 f k) = wd (L m c) f k)
include ha hw
theorem y_blk (r : Fin 256) (k : Fin 1024) : (k0_pay41 a w : FVec Ideal S256x1024 .f32) (ix2 r k) = Y (L m c) (row t r) k := by
  refine (y_at _ _ r k).trans (Finset.sum_congr rfl fun f _ => ?_)
  rw [ha, hw]
theorem err_blk (r : Fin 256) (k : Fin 1024) :
    (k0_pay42 (iblk m c 0 t) a w (iblk m c 4 t) (iblk m c 5 t) : FVec Ideal S256x1024 .f32) (ix2 r k) = ER (L m c) (row t r) k := by
  refine (err_at _ _ _ _ _ r k).trans ?_
  rw [funext fun r => funext fun k => y_blk m c t ha hw r k, y_blk m c t ha hw, b0, b4, b5]
  rfl
theorem dx_blk (r : Fin 256) (k : Fin 1024) :
    (k0_pay43 (iblk m c 0 t) a w (iblk m c 4 t) (iblk m c 5 t) : FVec Ideal S256x1024 .f32) (ix2 r k) = ER (L m c) (row t r) k * Ideal.ofBits FTy.f32 0x3A800000#32 := by
  refine (dx_at _ _ _ _ _ r k).trans ?_
  rw [err_blk m c t ha hw]
theorem loss_blk (s : FVec Ideal S8x128 .f32) (i : Fin 8) (j : Fin 128) :
    (k0_pay1 (k0_pay42 (iblk m c 0 t) a w (iblk m c 4 t) (iblk m c 5 t)) s : FVec Ideal S8x128 .f32) (ix2 i j)
      = s (ix2 i j) + (∑ r : Fin 256, ∑ k : Fin 1024, ER (L m c) (row t r) k * ER (L m c) (row t r) k) * Ideal.ofBits FTy.f32 0x3A000000#32 := by
  refine (loss_at _ _ i j).trans ?_
  simp only [err_blk m c t ha hw]
end

end Cert.KernelFwdIdeal.At
end
-- ==== Proof.FwdPoints.lean ====
module

public import proofs.«01_k».proof.Proof.FwdBlocks

@[expose] public section

set_option maxRecDepth 16384

noncomputable section

open Idealize.ShloMosaic Idealize.ShloMosaic.TcCoe Idealize.SL.Sem
open Cert.KernelFwdIdeal Cert.KernelFwdIdeal.Gen Cert.Spec
open Cert.KernelIdeal.At (col cut2 ld2 canon4 readCov_whole)

/-! What a point of the grid leaves in the windows of the forward call. -/

namespace Cert.KernelFwdIdeal.At

variable (m : (ℓ : Loc nD τ sig) → Buf (Elt Ideal) ℓ) (c : Dev nD)

/-! ### Half rows -/

/-- a store of one half of the columns -/
abbrev hlf (o : ℕ) (inb : ∀ i, (![0, o] : Fin 2 → ℕ) i + (![256, 1408] : Fin 2 → ℕ) i ≤ (⟨2, ![256, 2816]⟩ : Shape).size i)
    (f : FVec Ideal S256x1408 .bf16) : View.Piece (Elt Ideal) ⟨2, ![256, 2816]⟩ .bf16 := ⟨Rect.unit (s := ⟨2, ![256, 2816]⟩) ![0, o] ![256, 1408] inb, f⟩
theorem hlf_emb (o : ℕ) (ho : o + 1408 ≤ 2816) (inb) (f : FVec Ideal S256x1408 .bf16) (G : Fin 256 → Fin 2816 → EReal)
    (hf : ∀ (r : Fin 256) (l : Fin 1408), f (ix2 r l) = G r ⟨o + l, by omega⟩) (x : (hlf o inb f).1.shape.Idx) :
    (hlf o inb f).2 x = (fun y : (⟨2, ![256, 2816]⟩ : Shape).Idx => G (y 0) (y 1)) ((hlf o inb f).1.emb x) := by
  refine (congrArg f (ValueIdx.eq_ix2 (n0 := 256) (n1 := 1408) x)).trans ?_
  refine (hf (x 0) (x 1)).trans ?_
  exact congrArg₂ G (Fin.ext ((Rect.idx_unit_val _ _ inb x 0).trans (Nat.zero_add _)).symm) (Fin.ext (Rect.idx_unit_val _ _ inb x 1).symm)
theorem hlf_mem (o : ℕ) (inb) (f : FVec Ideal S256x1408 .bf16) (y : (⟨2, ![256, 2816]⟩ : Shape).Idx)
    (h1 : o ≤ (y 1 : ℕ) ∧ (y 1 : ℕ) < o + 1408) : y ∈ (hlf o inb f).1.set := by
  refine (Rect.mem_set_unit (inb := inb)).mpr fun a => ?_
  have hy0 : (y 0 : ℕ) < 256 := (y 0).isLt
  fin_cases a
  · exact ⟨Nat.zero_le _, by show (y 0 : ℕ) < 0 + 256; omega⟩
  · exact h1
/-- the two halves -/
theorem canon2 (G : Fin 256 → Fin 2816 → EReal) {f0 f1 : FVec Ideal S256x1408 .bf16} {i0 i1}
    (h0 : ∀ (r : Fin 256) (l : Fin 1408), f0 (ix2 r l) = G r ⟨0 + l, by omega⟩) (h1 : ∀ (r : Fin 256) (l : Fin 1408), f1 (ix2 r l) = G r ⟨1408 + l, by omega⟩)
    (y : (⟨2, ![256, 2816]⟩ : Shape).Idx) : View.canon [hlf 1408 i1 f1, hlf 0 i0 f0] y = G (y 0) (y 1) := by
  refine View.canon_append_of_piecesOf (fun y => G (y 0) (y 1)) [] [hlf 1408 i1 f1, hlf 0 i0 f0]
    ⟨hlf_emb 1408 (by decide) i1 f1 G h1, hlf_emb 0 (by decide) i0 f0 G h0, trivial⟩ y ?_
  have hy1 : (y 1 : ℕ) < 2816 := (y 1).isLt
  rcases lt_or_ge (y 1 : ℕ) 1408 with h | h
  · exact ⟨hlf 0 i0 f0, by simp, hlf_mem _ _ _ _ ⟨by omega, by omega⟩⟩
  · exact ⟨hlf 1408 i1 f1, by simp, hlf_mem _ _ _ _ ⟨by omega, by omega⟩⟩
/-- the stored halves read back whole -/
theorem readCov2 {sg : RefSig} {κ : Kind} {sp : Space} (v : View sg κ sp ⟨2, ![256, 2816]⟩ .bf16) (G : Fin 256 → Fin 2816 → EReal) {f0 f1 : FVec Ideal S256x1408 .bf16} {i0 i1} (inb)
    (h0 : ∀ (r : Fin 256) (l : Fin 1408), f0 (ix2 r l) = G r ⟨0 + l, by omega⟩) (h1 : ∀ (r : Fin 256) (l : Fin 1408), f1 (ix2 r l) = G r ⟨1408 + l, by omega⟩)
    (r : Fin 256) (f : Fin 2816) :
    (v.readCov [hlf 1408 i1 f1, hlf 0 i0 f0] (Rect.unit (s := ⟨2, ![256, 2816]⟩) ![0, 0] ![256, 2816] inb).toLoadRect : FVec Ideal S256x2816 .bf16) (ix2 r f) = G r f := by
  rw [View.readCov_eq_canon']
  refine (canon2 G h0 h1 _).trans ?_
  exact congrArg₂ G (Fin.ext ((Rect.idx_unit_val _ _ inb (ix2 r f) 0).trans (Nat.zero_add _))) (Fin.ext ((Rect.idx_unit_val _ _ inb (ix2 r f) 1).trans (Nat.zero_add _)))

/-- one of the four blocks of weights -/
abbrev cut3 (X : FVec Ideal S4x1024x1408 .bf16) (s : ℕ)
    (inb : ∀ i, (![s, 0, 0] : Fin 3 → ℕ) i + (![1, 1024, 1408] : Fin 3 → ℕ) i ≤ (⟨3, ![4, 1024, 1408]⟩ : Shape).size i) : Vec Ideal ⟨3, ![1, 1024, 1408]⟩ .bf16 :=
  View.ld (Val := Elt Ideal) (e' := .bf16) X (Rect.unit (s := ⟨3, ![4, 1024, 1408]⟩) ![s, 0, 0] ![1, 1024, 1408] inb)
theorem wu_ld {Wu : FVec Ideal S4x1024x1408 .bf16} (hU : ∀ s k l, Wu (ix3 s k l) = wu (L m c) k ⟨s * 1408 + l, by omega⟩) (s : Fin 4) (inb) (k : Fin 1024) (l : Fin 1408) :
    cut3 Wu (s : ℕ) inb (ix3 0 k l) = wu (L m c) k ⟨s * 1408 + l, by omega⟩ := by
  refine (View.ld_unit_apply_of (Val := Elt Ideal) (e := .bf16) Wu ![(s : ℕ), 0, 0] ![1, 1024, 1408] inb (ix3 0 k l) (ix3 s k l) fun q => ?_).trans (hU s k l)
  fin_cases q
  · rfl
  · exact (Nat.zero_add _).symm
  · exact (Nat.zero_add _).symm

/-! ### The four groups of columns -/

section
variable (t : Fin cfg0.N) {Wd : FVec Ideal S2816x1024 .bf16} {Wu : FVec Ideal S4x1024x1408 .bf16} {K : FVec Ideal S8x5632 .f32}
  (hU : ∀ s k l, Wu (ix3 s k l) = wu (L m c) k ⟨s * 1408 + l, by omega⟩) (hK : ∀ r l, K (ix2 r l) = Kf (L m c) t r l)
  (hW : ∀ f k, Wd (ix2 f k) = wd (L m c) f k)
include hU in
theorem w0 (inb) (k : Fin 1024) (l : Fin 1408) : cut3 Wu 0 inb (ix3 0 k l) = wu (L m c) k (col 0 (by decide) l) :=
  (wu_ld m c hU 0 inb k l).trans (congrArg _ (Fin.ext (show 0 * 1408 + (l : ℕ) = 0 + l by omega)))
include hU in
theorem w1 (inb) (k : Fin 1024) (l : Fin 1408) : cut3 Wu 1 inb (ix3 0 k l) = wu (L m c) k (col 1408 (by decide) l) :=
  (wu_ld m c hU 1 inb k l).trans (congrArg _ (Fin.ext (show 1 * 1408 + (l : ℕ) = 1408 + l by omega)))
include hU in
theorem w2 (inb) (k : Fin 1024) (l : Fin 1408) : cut3 Wu 2 inb (ix3 0 k l) = wu (L m c) k (col 2816 (by decide) l) := wu_ld m c hU 2 inb k l
include hU in
theorem w3 (inb) (k : Fin 1024) (l : Fin 1408) : cut3 Wu 3 inb (ix3 0 k l) = wu (L m c) k (col 4224 (by decide) l) := wu_ld m c hU 3 inb k l
include hK in
theorem grpOf {o : ℕ} {ho : o + 1408 ≤ 5632} {W : FVec Ideal S1x1024x1408 .bf16} (hw : ∀ k l, W (ix3 0 k l) = wu (L m c) k (col o ho l)) (i7 i6 ib i0 i1 i2) :
    IsGrp m c t o ho W (cut2 (e := .f32) (A := 8) (B := 5632) K 7 o 1 1408 i7) (cut2 (e := .f32) (A := 8) (B := 5632) K 6 o 1 1408 i6)
      (cut2 (e := .f32) (A := 1) (B := 5632) (iblk m c 3 t) 0 o 1 1408 ib) (cut2 (e := .f32) (A := 3) (B := 5632) (iblk m c 2 t) 0 o 1 1408 i0)
      (cut2 (e := .f32) (A := 3) (B := 5632) (iblk m c 2 t) 1 o 1 1408 i1) (cut2 (e := .f32) (A := 3) (B := 5632) (iblk m c 2 t) 2 o 1 1408 i2) where
  w := hw
  p l := ld2 (e := .f32) (A := 8) (B := 5632) K i7 hK 0 l 7 _ rfl rfl
  q l := ld2 (e := .f32) (A := 8) (B := 5632) K i6 hK 0 l 6 _ rfl rfl
  b l := ld2 (e := .f32) (A := 1) (B := 5632) (iblk m c 3 t) ib (b3 m c t) 0 l 0 _ rfl rfl
  x l := ld2 (e := .f32) (A := 3) (B := 5632) (iblk m c 2 t) i0 (b2 m c t) 0 l 0 _ rfl rfl
  y l := ld2 (e := .f32) (A := 3) (B := 5632) (iblk m c 2 t) i1 (b2 m c t) 0 l 1 _ rfl rfl
  z l := ld2 (e := .f32) (A := 3) (B := 5632) (iblk m c 2 t) i2 (b2 m c t) 0 l 2 _ rfl rfl
include hW in
theorem wd_ld (inb) (f : Fin 2816) (k : Fin 1024) : cut2 (e := .bf16) (A := 2816) (B := 1024) Wd 0 0 2816 1024 inb (ix2 f k) = wd (L m c) f k :=
  ld2 (e := .bf16) (A := 2816) (B := 1024) Wd inb hW f k _ _ (Nat.zero_add _).symm (Nat.zero_add _).symm
end

theorem hWA : ∀ f k, (ReadAs.same.apply (View.read (Elt Ideal) (View.whole main_v0) (V m c main_v0)) : FVec Ideal S2816x1024 .bf16) (ix2 f k) = wd (L m c) f k := wd_at (L m c)
theorem hUA : ∀ s k (l : Fin 1408), (ReadAs.same.apply (View.read (Elt Ideal) (View.whole main_v3) (V m c main_v3)) : FVec Ideal S4x1024x1408 .bf16) (ix3 s k l)
    = wu (L m c) k ⟨s * 1408 + l, by omega⟩ := wu_at (L m c)
theorem hKA (t : Fin cfg0.N) (h : t.val % 32 = 0) : ∀ r l, (k0_pay2 (F := Ideal)) (ix2 r l) = Kf (L m c) t r l := fun r l =>
  (zeroK r l).trans (if_pos (show t.val = 0 by have := t_lt t; omega)).symm

/-- the rows carried to the next point: the last rows of the block -/
theorem carry_all (t : Fin cfg0.N) (y : S8x5632.Idx) :
    ((outsAt0 m c t.val t.isLt).2.2.2.2.2.2.2.2.2.2 : FVec Ideal S8x5632 .f32) y = U (L m c) (row t ⟨248 + (y 0).val, by have : (y 0).val < 8 := (y 0).isLt; omega⟩) (y 1) := by
  by_cases h : t.val % 32 = 0
  · rw [outsAt0_A m c t h h h]; frame_out
    simp (decide := true) only [↓View.readCov_skip, readCov_whole, View.readCov_fill]
    simp only [n6, n23, n28, n14, n26, n32]
    have hu := hUA m c
    exact canon4 (e := .f32) (R := 8) (fun r n => U (L m c) (row t ⟨248 + r, by omega⟩) n) [_]
      (k_blk m c t (w0 m c hu _)) (k_blk m c t (w1 m c hu _)) (k_blk m c t (w2 m c hu _)) (k_blk m c t (w3 m c hu _)) y
  · rw [outsAt0_B m c t h h h]; frame_out
    simp only [read_unread_whole]
    simp only [n6, n23, n28, n14, n26, n32]
    have hu := wup_all m c (t.val - 1) (lt_of_le_of_lt (Nat.sub_le _ _) t.isLt)
    exact canon4 (e := .f32) (R := 8) (fun r n => U (L m c) (row t ⟨248 + r, by omega⟩) n) []
      (k_blk m c t (w0 m c hu _)) (k_blk m c t (w1 m c hu _)) (k_blk m c t (w2 m c hu _)) (k_blk m c t (w3 m c hu _)) y

theorem hKB (t : Fin cfg0.N) (h : ¬ t.val % 32 = 0) (ht) (r : Fin 8) (l : Fin 5632) :
    ((outsAt0 m c (t.val - 1) ht).2.2.2.2.2.2.2.2.2.2 : FVec Ideal S8x5632 .f32) (ix2 r l) = Kf (L m c) t r l :=
  (carry_all m c ⟨t.val - 1, ht⟩ (ix2 r l)).trans (if_neg (show ¬ t.val = 0 by omega)).symm

/-! ### The windows -/

theorem out6 (t : Fin cfg0.N) (r : Fin 256) (k : Fin 1024) :
    ((outsAt0 m c t.val t.isLt).1 : FVec Ideal S256x1024 .bf16) (ix2 r k) = H (L m c) (row t r) k := by
  by_cases h : t.val % 32 = 0
  · rw [outsAt0_A m c t h h h]; frame_out
    exact E_at m c t r k
  · rw [outsAt0_B m c t h h h]; frame_out
    exact E_at m c t r k

theorem out7 (t : Fin cfg0.N) (y : S256x5632.Idx) :
    ((outsAt0 m c t.val t.isLt).2.1 : FVec Ideal S256x5632 .bf16) y = U (L m c) (row t (y 0)) (y 1) := by
  by_cases h : t.val % 32 = 0
  · rw [outsAt0_A m c t h h h]; frame_out
    simp (decide := true) only [↓View.readCov_skip, readCov_whole, View.readCov_fill]
    simp only [n5, n22, n27]
    have hu := hUA m c
    exact canon4 (e := .bf16) (R := 256) (fun r n => U (L m c) (row t r) n) []
      (u_at m c t (w0 m c hu _)) (u_at m c t (w1 m c hu _)) (u_at m c t (w2 m c hu _)) (u_at m c t (w3 m c hu _)) y
  · rw [outsAt0_B m c t h h h]; frame_out
    simp only [read_unread_whole]
    simp only [n5, n22, n27]
    have hu := wup_all m c (t.val - 1) (lt_of_le_of_lt (Nat.sub_le _ _) t.isLt)
    exact canon4 (e := .bf16) (R := 256) (fun r n => U (L m c) (row t r) n) []
      (u_at m c t (w0 m c hu _)) (u_at m c t (w1 m c hu _)) (u_at m c t (w2 m c hu _)) (u_at m c t (w3 m c hu _)) y

theorem out8 (t : Fin cfg0.N) (y : S256x2816.Idx) :
    ((outsAt0 m c t.val t.isLt).2.2.1 : FVec Ideal S256x2816 .bf16) y = A (L m c) (row t (y 0)) (y 1) := by
  by_cases h : t.val % 32 = 0
  · rw [outsAt0_A m c t h h h]; frame_out
    simp (decide := true) only [↓View.readCov_skip, readCov_whole, View.readCov_fill]
    simp only [n6, n23, n28, n25]
    have hu := hUA m c
    have hk := hKA m c t h
    exact canon2 (fun r f => A (L m c) (row t r) f) (a_lo m c t (grpOf m c t hk (w0 m c hu _) _ _ _ _ _ _) (grpOf m c t hk (w2 m c hu _) _ _ _ _ _ _))
      (a_hi m c t (grpOf m c t hk (w1 m c hu _) _ _ _ _ _ _) (grpOf m c t hk (w3 m c hu _) _ _ _ _ _ _)) y
  · rw [outsAt0_B m c t h h h]; frame_out
    simp only [read_unread_whole]
    simp only [n6, n23, n28, n25]
    have hu := wup_all m c (t.val - 1) (lt_of_le_of_lt (Nat.sub_le _ _) t.isLt)
    have hk := hKB m c t h (lt_of_le_of_lt (Nat.sub_le _ _) t.isLt)
    exact canon2 (fun r f => A (L m c) (row t r) f) (a_lo m c t (grpOf m c t hk (w0 m c hu _) _ _ _ _ _ _) (grpOf m c t hk (w2 m c hu _) _ _ _ _ _ _))
      (a_hi m c t (grpOf m c t hk (w1 m c hu _) _ _ _ _ _ _) (grpOf m c t hk (w3 m c hu _) _ _ _ _ _ _)) y

theorem out9 (t : Fin cfg0.N) (y : S256x2816.Idx) :
    ((outsAt0 m c t.val t.isLt).2.2.2.1 : FVec Ideal S256x2816 .bf16) y = actH (gH (C (L m c))) (row t (y 0)) (y 1) := by
  by_cases h : t.val % 32 = 0
  · rw [outsAt0_A m c t h h h]; frame_out
    simp (decide := true) only [↓View.readCov_skip, readCov_whole, View.readCov_fill]
    simp only [n6, n23, n28, n25]
    have hu := hUA m c
    have hk := hKA m c t h
    exact canon2 (fun r f => actH (gH (C (L m c))) (row t r) f) (c1_lo m c t (grpOf m c t hk (w2 m c hu _) _ _ _ _ _ _))
      (c1_hi m c t (grpOf m c t hk (w3 m c hu _) _ _ _ _ _ _)) y
  · rw [outsAt0_B m c t h h h]; frame_out
    simp only [read_unread_whole]
    simp only [n6, n23, n28, n25]
    have hu := wup_all m c (t.val - 1) (lt_of_le_of_lt (Nat.sub_le _ _) t.isLt)
    have hk := hKB m c t h (lt_of_le_of_lt (Nat.sub_le _ _) t.isLt)
    exact canon2 (fun r f => actH (gH (C (L m c))) (row t r) f) (c1_lo m c t (grpOf m c t hk (w2 m c hu _) _ _ _ _ _ _))
      (c1_hi m c t (grpOf m c t hk (w3 m c hu _) _ _ _ _ _ _)) y

theorem out11 (t : Fin cfg0.N) (r : Fin 256) (k : Fin 1024) :
    ((outsAt0 m c t.val t.isLt).2.2.2.2.2.1 : FVec Ideal S256x1024 .f32) (ix2 r k) = Y (L m c) (row t r) k := by
  by_cases h : t.val % 32 = 0
  · rw [outsAt0_A m c t h h h]; frame_out
    simp (decide := true) only [↓View.readCov_skip, readCov_whole, View.readCov_fill]
    simp only [n6, n23, n28, n25]
    have hu := hUA m c
    have hk := hKA m c t h
    have hw := hWA m c
    exact y_blk m c t (readCov2 _ (fun r f => A (L m c) (row t r) f) _ (a_lo m c t (grpOf m c t hk (w0 m c hu _) _ _ _ _ _ _) (grpOf m c t hk (w2 m c hu _) _ _ _ _ _ _))
      (a_hi m c t (grpOf m c t hk (w1 m c hu _) _ _ _ _ _ _) (grpOf m c t hk (w3 m c hu _) _ _ _ _ _ _))) (wd_ld m c hw _) r k
  · rw [outsAt0_B m c t h h h]; frame_out
    simp only [read_unread_whole]
    simp only [n6, n23, n28, n25]
    have hu := wup_all m c (t.val - 1) (lt_of_le_of_lt (Nat.sub_le _ _) t.isLt)
    have hk := hKB m c t h (lt_of_le_of_lt (Nat.sub_le _ _) t.isLt)
    have hw := wdn_all m c (t.val - 1) (lt_of_le_of_lt (Nat.sub_le _ _) t.isLt)
    exact y_blk m c t (readCov2 _ (fun r f => A (L m c) (row t r) f) _ (a_lo m c t (grpOf m c t hk (w0 m c hu _) _ _ _ _ _ _) (grpOf m c t hk (w2 m c hu _) _ _ _ _ _ _))
      (a_hi m c t (grpOf m c t hk (w1 m c hu _) _ _ _ _ _ _) (grpOf m c t hk (w3 m c hu _) _ _ _ _ _ _))) hw r k

theorem out12 (t : Fin cfg0.N) (r : Fin 256) (k : Fin 1024) :
    ((outsAt0 m c t.val t.isLt).2.2.2.2.2.2.1 : FVec Ideal S256x1024 .f32) (ix2 r k) = ER (L m c) (row t r) k * Ideal.ofBits FTy.f32 0x3A800000#32 := by
  by_cases h : t.val % 32 = 0
  · rw [outsAt0_A m c t h h h]; frame_out
    simp (decide := true) only [↓View.readCov_skip, readCov_whole, View.readCov_fill]
    simp only [n6, n23, n28, n25]
    have hu := hUA m c
    have hk := hKA m c t h
    have hw := hWA m c
    exact dx_blk m c t (readCov2 _ (fun r f => A (L m c) (row t r) f) _ (a_lo m c t (grpOf m c t hk (w0 m c hu _) _ _ _ _ _ _) (grpOf m c t hk (w2 m c hu _) _ _ _ _ _ _))
      (a_hi m c t (grpOf m c t hk (w1 m c hu _) _ _ _ _ _ _) (grpOf m c t hk (w3 m c hu _) _ _ _ _ _ _))) (wd_ld m c hw _) r k
  · rw [outsAt0_B m c t h h h]; frame_out
    simp only [read_unread_whole]
    simp only [n6, n23, n28, n25]
    have hu := wup_all m c (t.val - 1) (lt_of_le_of_lt (Nat.sub_le _ _) t.isLt)
    have hk := hKB m c t h (lt_of_le_of_lt (Nat.sub_le _ _) t.isLt)
    have hw := wdn_all m c (t.val - 1) (lt_of_le_of_lt (Nat.sub_le _ _) t.isLt)
    exact dx_blk m c t (readCov2 _ (fun r f => A (L m c) (row t r) f) _ (a_lo m c t (grpOf m c t hk (w0 m c hu _) _ _ _ _ _ _) (grpOf m c t hk (w2 m c hu _) _ _ _ _ _ _))
      (a_hi m c t (grpOf m c t hk (w1 m c hu _) _ _ _ _ _ _) (grpOf m c t hk (w3 m c hu _) _ _ _ _ _ _))) hw r k

/-- a block's share of the loss -/
abbrev LS (V0 : Valuation τ sig (Elt Ideal)) (n : ℕ) : EReal :=
  (∑ r : Fin 256, ∑ k : Fin 1024, ER V0 (row n r) k * ER V0 (row n r) k) * Ideal.ofBits FTy.f32 0x3A000000#32

theorem out13A (t : Fin cfg0.N) (h : t.val % 32 = 0) (i : Fin 8) (j : Fin 128) :
    ((outsAt0 m c t.val t.isLt).2.2.2.2.2.2.2.1 : FVec Ideal S8x128 .f32) (ix2 i j) = 0 + LS (L m c) t := by
  rw [outsAt0_A m c t h h h]; frame_out
  simp (decide := true) only [↓View.readCov_skip, readCov_whole, View.readCov_fill]
  simp only [n6, n23, n28, n25]
  have hu := hUA m c
  have hk := hKA m c t h
  have hw := hWA m c
  refine (loss_blk m c t (readCov2 _ (fun r f => A (L m c) (row t r) f) _ (a_lo m c t (grpOf m c t hk (w0 m c hu _) _ _ _ _ _ _) (grpOf m c t hk (w2 m c hu _) _ _ _ _ _ _))
      (a_hi m c t (grpOf m c t hk (w1 m c hu _) _ _ _ _ _ _) (grpOf m c t hk (w3 m c hu _) _ _ _ _ _ _))) (wd_ld m c hw _) _ i j).trans ?_
  rw [zeroL]
theorem out13B (t : Fin cfg0.N) (h : ¬ t.val % 32 = 0) (i : Fin 8) (j : Fin 128) :
    ((outsAt0 m c t.val t.isLt).2.2.2.2.2.2.2.1 : FVec Ideal S8x128 .f32) (ix2 i j)
      = ((outsAt0 m c (t.val - 1) (lt_of_le_of_lt (Nat.sub_le _ _) t.isLt)).2.2.2.2.2.2.2.1 : FVec Ideal S8x128 .f32) (ix2 i j) + LS (L m c) t := by
  rw [outsAt0_B m c t h h h]; frame_out
  simp only [read_unread_whole]
  simp only [n6, n23, n28, n25]
  have hu := wup_all m c (t.val - 1) (lt_of_le_of_lt (Nat.sub_le _ _) t.isLt)
  have hk := hKB m c t h (lt_of_le_of_lt (Nat.sub_le _ _) t.isLt)
  have hw := wdn_all m c (t.val - 1) (lt_of_le_of_lt (Nat.sub_le _ _) t.isLt)
  exact loss_blk m c t (readCov2 _ (fun r f => A (L m c) (row t r) f) _ (a_lo m c t (grpOf m c t hk (w0 m c hu _) _ _ _ _ _ _) (grpOf m c t hk (w2 m c hu _) _ _ _ _ _ _))
      (a_hi m c t (grpOf m c t hk (w1 m c hu _) _ _ _ _ _ _) (grpOf m c t hk (w3 m c hu _) _ _ _ _ _ _))) hw _ i j

end Cert.KernelFwdIdeal.At
end
-- ==== Proof.FwdRef.lean ====
module

public import proofs.«01_k».proof.Proof.Spec
public import proofs.«01_k».proof.Proof.Gen.ReferenceFwdIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.ReferenceFwdIdeal Cert.ReferenceFwdIdeal.Gen Cert.ReferenceFwdIdeal.Value Cert.Spec

/-! The forward reference's named arrays, read at an index: they are the functions of `Spec`. -/

namespace Cert.ReferenceFwdIdeal.At

theorem mul_self_nonneg (e : EReal) : 0 ≤ e * e := by
  induction e with
  | bot => simp
  | top => simp
  | coe r => rw [← EReal.coe_mul]; exact_mod_cast _root_.mul_self_nonneg r
/-- a constant factor of a sum of nonnegative terms goes to the terms -/
theorem sum_mul {ι : Type} (s : Finset ι) (f : ι → EReal) (hf : ∀ i, 0 ≤ f i) (a : EReal) : (∑ i ∈ s, f i) * a = ∑ i ∈ s, f i * a := by
  classical
  induction s using Finset.induction_on with
  | empty => simp
  | insert i s hi ih => rw [Finset.sum_insert hi, Finset.sum_insert hi, EReal.right_distrib_of_nonneg (hf i) (Finset.sum_nonneg fun j _ => hf j), ih]

theorem c_half : Ideal.ofBits FTy.f32 0x3F000000#32 = ((1 / 2 : ℝ) : EReal) := by
  simp [Ideal.ofBits, Ideal.ieee, -EReal.coe_mul]; norm_num
theorem c_two : Ideal.ofBits FTy.f32 0x40000000#32 = ((2 : ℝ) : EReal) := by
  simp [Ideal.ofBits, Ideal.ieee, -EReal.coe_mul]; norm_num
theorem c_10 : Ideal.ofBits FTy.f32 0x3A800000#32 = ((1 / 1024 : ℝ) : EReal) := by
  simp [Ideal.ofBits, Ideal.ieee, -EReal.coe_mul]; norm_num
theorem c_11 : Ideal.ofBits FTy.f32 0x3A000000#32 = ((1 / 2048 : ℝ) : EReal) := by
  simp [Ideal.ofBits, Ideal.ieee, -EReal.coe_mul]; norm_num

variable (V0 : Valuation τ sig (Elt Ideal))

/-- the block's input -/
abbrev x (T : Fin 8192) (k : Fin 1024) : EReal := (V0 (Proc.devRef .tc main_arg0) : FVec Ideal S8192x1024 .f32) (ix2 T k)
/-- the first gain -/
abbrev g3 (k : Fin 1024) : EReal := (V0 (Proc.devRef .tc main_arg1) : FVec Ideal S1x1024 .f32) (ix2 0 k)
/-- the weights up -/
abbrev wu (k : Fin 1024) (n : Fin 5632) : EReal := (V0 (Proc.devRef .tc main_arg2) : FVec Ideal S1024x5632 .f32) (ix2 k n)
/-- the taps -/
abbrev cw (j : Fin 3) (n : Fin 5632) : EReal := (V0 (Proc.devRef .tc main_arg3) : FVec Ideal S3x5632 .f32) (ix2 j n)
/-- the bias -/
abbrev cb (n : Fin 5632) : EReal := (V0 (Proc.devRef .tc main_arg4) : FVec Ideal S1x5632 .f32) (ix2 0 n)
/-- the weights down -/
abbrev wd (f : Fin 2816) (k : Fin 1024) : EReal := (V0 (Proc.devRef .tc main_arg5) : FVec Ideal S2816x1024 .f32) (ix2 f k)
/-- the second gain -/
abbrev g4 (k : Fin 1024) : EReal := (V0 (Proc.devRef .tc main_arg6) : FVec Ideal S1x1024 .f32) (ix2 0 k)
/-- the target -/
abbrev tg (T : Fin 8192) (k : Fin 1024) : EReal := (V0 (Proc.devRef .tc main_arg7) : FVec Ideal S8192x1024 .f32) (ix2 T k)
/-- the normalised input -/
abbrev H (T : Fin 8192) (k : Fin 1024) : EReal := x V0 T k * rs (x V0) T * g3 V0 k
/-- the projection up -/
abbrev U : Fin 8192 → Fin 5632 → EReal := up (x V0) (g3 V0) (wu V0)
/-- the convolution's result -/
abbrev C : Fin 8192 → Fin 5632 → EReal := conv (U V0) (cw V0) (cb V0)
/-- the gated product -/
abbrev A (T : Fin 8192) (f : Fin 2816) : EReal := actH (gH (C V0)) T f * vH (C V0) T f
/-- the projection down -/
abbrev Y : Fin 8192 → Fin 1024 → EReal := yH (C V0) (wd V0)
/-- the difference from the target -/
abbrev ER (T : Fin 8192) (k : Fin 1024) : EReal := x V0 T k + Y V0 T k * rs (Y V0) T * g4 V0 k - tg V0 T k

theorem v11_at (r : Fin 8192) (l : Fin 1024) : (res_main_v11 (F := Ideal) V0 : FVec Ideal ⟨2, ![8192, 1024]⟩ .f32) (ix2 r l) = H V0 r l := by
  pointwise [res_main_v11]
  rfl

theorem v12_at (r : Fin 8192) (l : Fin 5632) : (res_main_v12 (F := Ideal) V0 : FVec Ideal ⟨2, ![8192, 5632]⟩ .f32) (ix2 r l) = U V0 r l := by
  pointwise [res_main_v12]
  simp only [v11_at]; rfl

theorem v14_at (r : Fin 8194) (l : Fin 5632) : (res_main_v14 (F := Ideal) V0 : FVec Ideal ⟨2, ![8194, 5632]⟩ .f32) (ix2 r l) = if h : (r : ℕ) < 2 then 0 else U V0 ⟨r - 2, by omega⟩ l := by
  pointwise [res_main_v14]
  split
  · rfl
  · rw [v12_at]

theorem v36_at (r : Fin 8192) (l : Fin 5632) : (res_main_v36 (F := Ideal) V0 : FVec Ideal ⟨2, ![8192, 5632]⟩ .f32) (ix2 r l) = C V0 r l := by
  pointwise [res_main_v36]
  rw [v14_at, v14_at, v14_at]
  unfold C conv
  congr 1
  · congr 1
    · congr 1
      unfold shB
      by_cases h : 2 ≤ (r : ℕ)
      · rw [dif_neg (show ¬ ((r : ℕ) < 2) by omega), dif_pos h]
      · rw [dif_pos (show (r : ℕ) < 2 by omega), dif_neg h]
    · unfold shB
      by_cases h : 1 ≤ (r : ℕ)
      · rw [dif_neg (show ¬ (1 + (r : ℕ) < 2) by omega), dif_pos h]
        exact congrArg (fun q => cw V0 1 l * U V0 q l) (Fin.ext (show 1 + (r : ℕ) - 2 = r - 1 by omega))
      · rw [dif_pos (show 1 + (r : ℕ) < 2 by omega), dif_neg h]
  · rw [dif_neg (show ¬ (2 + (r : ℕ) < 2) by omega)]
    exact congrArg (fun q => cw V0 2 l * U V0 q l) (Fin.ext (show 2 + (r : ℕ) - 2 = r by omega))

theorem v37_at (r : Fin 8192) (l : Fin 2816) : (res_main_v37 (F := Ideal) V0 : FVec Ideal ⟨2, ![8192, 2816]⟩ .f32) (ix2 r l) = vH (C V0) r l := by
  pointwise [res_main_v37]
  rw [v36_at]; rfl

theorem v38_at (r : Fin 8192) (l : Fin 2816) : (res_main_v38 (F := Ideal) V0 : FVec Ideal ⟨2, ![8192, 2816]⟩ .f32) (ix2 r l) = gH (C V0) r l := by
  pointwise [res_main_v38]
  rw [v36_at]; rfl

theorem v51_at (r : Fin 8192) (l : Fin 2816) : (res_main_v51 (F := Ideal) V0 : FVec Ideal ⟨2, ![8192, 2816]⟩ .f32) (ix2 r l) = actH (gH (C V0)) r l := by
  pointwise [res_main_v51]
  rw [v38_at]; rfl

theorem v53_at (r : Fin 8192) (l : Fin 1024) : (res_main_v53 (F := Ideal) V0 : FVec Ideal ⟨2, ![8192, 1024]⟩ .f32) (ix2 r l) = Y V0 r l := by
  pointwise [res_main_v53]
  simp only [v51_at, v37_at]; rfl

theorem v67_at (r : Fin 8192) (l : Fin 1024) : (res_main_v67 (F := Ideal) V0 : FVec Ideal ⟨2, ![8192, 1024]⟩ .f32) (ix2 r l) = ER V0 r l := by
  pointwise [res_main_v67]
  simp only [v53_at]; rfl

theorem a_at (r : Fin 8192) (l : Fin 2816) :
    (truncf .bf16 (mulf (res_main_v51 (F := Ideal) V0) (res_main_v37 V0)) bitsLt_bf16_f32 : FVec Ideal ⟨2, ![8192, 2816]⟩ .bf16) (ix2 r l) = A V0 r l := by
  pointwise []
  rw [v51_at, v37_at]

theorem dx_at (r : Fin 8192) (l : Fin 1024) :
    (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32))))
      (mulf (broadcastInDim S8192x1024 ![] bcast_S_S8192x1024 (constant S_ .f32 0x40000000#32)) (res_main_v67 (F := Ideal) V0)) : FVec Ideal ⟨2, ![8192, 1024]⟩ .f32) (ix2 r l)
      = ER V0 r l * Ideal.ofBits FTy.f32 0x3A800000#32 := by
  pointwise []
  rw [v67_at]
  have e : (Ideal.div (Ideal.ofBits FTy.f32 0x3F000000#32) (Ideal.ofBits FTy.f32 0x44800000#32) * (Ideal.ofBits FTy.f32 0x40000000#32 * ER V0 r l) : EReal)
      = ER V0 r l * Ideal.ofBits FTy.f32 0x3A800000#32 := by
    rw [show Ideal.ofBits FTy.f32 0x44800000#32 = ((1024 : ℝ) : EReal) from cN_eq, Ideal.div_coe (by norm_num), c_half, c_two, c_10,
      ← EReal.coe_mul, ← mul_assoc, ← EReal.coe_mul, mul_comm]
    congr 2; norm_num
  exact e

theorem loss_at (i : Fin 8) (j : Fin 128) :
    (broadcastInDim S8x128 ![] bcast_S_S8x128 (mulf (constant S_ .f32 0x3F000000#32) (Host.reduceAdd (Host.divf (Host.reduceAdd (mulf (res_main_v67 (F := Ideal) V0) (res_main_v67 V0)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : FVec Ideal ⟨2, ![8, 128]⟩ .f32) (ix2 i j)
      = ∑ T, (∑ k, ER V0 T k * ER V0 T k) * Ideal.ofBits FTy.f32 0x3A000000#32 := by
  pointwise []
  simp only [v67_at]
  have e : (Ideal.ofBits FTy.f32 0x3F000000#32 * ∑ T, Ideal.div (∑ k, ER V0 T k * ER V0 T k) (Ideal.ofBits FTy.f32 0x44800000#32) : EReal)
      = ∑ T, (∑ k, ER V0 T k * ER V0 T k) * Ideal.ofBits FTy.f32 0x3A000000#32 := by
    rw [show Ideal.ofBits FTy.f32 0x44800000#32 = ((1024 : ℝ) : EReal) from cN_eq, mul_comm,
      sum_mul _ _ (fun T => by
        rw [Ideal.div_coe (by norm_num)]
        exact mul_nonneg (Finset.sum_nonneg fun k _ => mul_self_nonneg _) (by exact_mod_cast (by norm_num : (0 : ℝ) ≤ 1 / 1024)))]
    refine Finset.sum_congr rfl fun T _ => ?_
    rw [Ideal.div_coe (by norm_num), c_half, c_11, mul_assoc, ← EReal.coe_mul]
    congr 2; norm_num
  exact e

end Cert.ReferenceFwdIdeal.At

end
-- ==== Proof.FwdResults.lean ====
module

public import proofs.«01_k».proof.Defs
public import proofs.«01_k».proof.Proof.FwdPoints
public import proofs.«01_k».proof.Proof.FwdRef
public import Idealize.ShloMosaic.Lib.Claim

@[expose] public section

set_option maxRecDepth 16384

noncomputable section

open Idealize.ShloMosaic Idealize.ShloMosaic.TcCoe Idealize.SL.Sem

/-! What the forward call's results hold after the run, and its value claim. -/

namespace Cert.KernelFwdIdeal.At

open Cert.KernelFwdIdeal Cert.KernelFwdIdeal.Gen Cert.Spec

variable (m : (ℓ : Loc nD τ sig) → Buf (Elt Ideal) ℓ) (c : Dev nD)

theorem h_final : (dats m 0 c).arrAt 6 cfg0.N = ((fun y => H (L m c) (y 0) (y 1)) : FVec Ideal S8192x1024 .bf16) := by
  refine (dats m 0 c).arrAt_eq_of_covers 6 _ (by decide +kernel) fun t _ y => ?_
  have ht := t_lt t
  blk_simp
  rw [after0_6]
  refine (congrArg _ (eq_ix2 (n0 := 256) (n1 := 1024) y)).trans ((out6 m c t (y 0) (y 1)).trans ?_)
  exact congrArg₂ (H (L m c)) (Fin.ext (by refine (?_ : 256 * min (t : ℕ) 31 + ((y 0 : Fin 256) : ℕ) = _); blk_simp [idx t]; omega)) (Fin.ext (by blk_simp [idx t]))

theorem u_final : (dats m 0 c).arrAt 7 cfg0.N = ((fun y => U (L m c) (y 0) (y 1)) : FVec Ideal S8192x5632 .bf16) := by
  refine (dats m 0 c).arrAt_eq_of_covers 7 _ (by decide +kernel) fun t _ y => ?_
  have ht := t_lt t
  blk_simp
  rw [after0_7]
  refine (out7 m c t y).trans ?_
  exact congrArg₂ (U (L m c)) (Fin.ext (by refine (?_ : 256 * min (t : ℕ) 31 + ((y 0 : Fin 256) : ℕ) = _); blk_simp [idx t]; omega)) (Fin.ext (by blk_simp [idx t]))

theorem a_final : (dats m 0 c).arrAt 8 cfg0.N = ((fun y => A (L m c) (y 0) (y 1)) : FVec Ideal S8192x2816 .bf16) := by
  refine (dats m 0 c).arrAt_eq_of_covers 8 _ (by decide +kernel) fun t _ y => ?_
  have ht := t_lt t
  blk_simp
  rw [after0_8]
  refine (out8 m c t y).trans ?_
  exact congrArg₂ (A (L m c)) (Fin.ext (by refine (?_ : 256 * min (t : ℕ) 31 + ((y 0 : Fin 256) : ℕ) = _); blk_simp [idx t]; omega)) (Fin.ext (by blk_simp [idx t]))

theorem c1_final : (dats m 0 c).arrAt 9 cfg0.N = ((fun y => actH (gH (C (L m c))) (y 0) (y 1)) : FVec Ideal S8192x2816 .bf16) := by
  refine (dats m 0 c).arrAt_eq_of_covers 9 _ (by decide +kernel) fun t _ y => ?_
  have ht := t_lt t
  blk_simp
  rw [after0_9]
  refine (out9 m c t y).trans ?_
  exact congrArg₂ (actH (gH (C (L m c)))) (Fin.ext (by refine (?_ : 256 * min (t : ℕ) 31 + ((y 0 : Fin 256) : ℕ) = _); blk_simp [idx t]; omega)) (Fin.ext (by blk_simp [idx t]))

theorem y_final : (dats m 0 c).arrAt 11 cfg0.N = ((fun y => Y (L m c) (y 0) (y 1)) : FVec Ideal S8192x1024 .f32) := by
  refine (dats m 0 c).arrAt_eq_of_covers 11 _ (by decide +kernel) fun t _ y => ?_
  have ht := t_lt t
  blk_simp
  rw [after0_11]
  refine (congrArg _ (eq_ix2 (n0 := 256) (n1 := 1024) y)).trans ((out11 m c t (y 0) (y 1)).trans ?_)
  exact congrArg₂ (Y (L m c)) (Fin.ext (by refine (?_ : 256 * min (t : ℕ) 31 + ((y 0 : Fin 256) : ℕ) = _); blk_simp [idx t]; omega)) (Fin.ext (by blk_simp [idx t]))

theorem dx_final : (dats m 0 c).arrAt 12 cfg0.N = ((fun y => (fun r k => ER (L m c) r k * Ideal.ofBits FTy.f32 0x3A800000#32) (y 0) (y 1)) : FVec Ideal S8192x1024 .f32) := by
  refine (dats m 0 c).arrAt_eq_of_covers 12 _ (by decide +kernel) fun t _ y => ?_
  have ht := t_lt t
  blk_simp
  rw [after0_12]
  refine (congrArg _ (eq_ix2 (n0 := 256) (n1 := 1024) y)).trans ((out12 m c t (y 0) (y 1)).trans ?_)
  exact congrArg₂ ((fun r k => ER (L m c) r k * Ideal.ofBits FTy.f32 0x3A800000#32)) (Fin.ext (by refine (?_ : 256 * min (t : ℕ) 31 + ((y 0 : Fin 256) : ℕ) = _); blk_simp [idx t]; omega)) (Fin.ext (by blk_simp [idx t]))

/-- the shares of the blocks add to the loss -/
theorem shares_sum (V0 : Valuation τ sig (Elt Ideal)) (t : Fin cfg0.N) (h : t.val % 32 = 31) :
    0 + ∑ s : Fin 32, LS V0 ((⟨32 * (t.val / 32) + s.val, Pipeline.run_point_lt_of_flush t h s⟩ : Fin cfg0.N) : ℕ)
      = ∑ T, (∑ k, ER V0 T k * ER V0 T k) * Ideal.ofBits FTy.f32 0x3A000000#32 := by
  have ht := t_lt t
  rw [zero_add, ← sum_rows]
  refine Finset.sum_congr rfl fun s _ => ?_
  have e : 32 * (t.val / 32) + s.val = s.val := by omega
  show LS V0 (32 * (t.val / 32) + s.val) = _
  rw [e]
  exact Cert.ReferenceFwdIdeal.At.sum_mul _ (fun r : Fin 256 => ∑ k, ER V0 (row s r) k * ER V0 (row s r) k)
    (fun r => Finset.sum_nonneg fun k _ => Cert.ReferenceFwdIdeal.At.mul_self_nonneg _) _

theorem loss_final : (dats m 0 c).arrAt 13 cfg0.N
    = ((fun _ => ∑ T, (∑ k, ER (L m c) T k * ER (L m c) T k) * Ideal.ofBits FTy.f32 0x3A000000#32) : FVec Ideal S8x128 .f32) := by
  refine (dats m 0 c).arrAt_eq_of_covers 13 _ (by decide +kernel) fun t hf y => ?_
  have h := (flush0_13 t).mp hf
  blk_simp
  rw [after0_13]
  obtain ⟨i, j, rfl⟩ : ∃ (i : Fin 8) (j : Fin 128), y = ix2 i j := ⟨y 0, y 1, eq_ix2 (n0 := 8) (n1 := 128) y⟩
  exact (Pipeline.eq_sum_fin_of_reset_step_apply_of_flush (fun n h (j : Fin 128) => ((outsAt0 m c n h).2.2.2.2.2.2.2.1 : FVec Ideal S8x128 .f32) (ix2 i j)) 32 (fun _ => 0)
    (fun t j => LS (L m c) t) (fun t h j => out13A m c t h i j) (fun t h j => out13B m c t h i j) t h j).trans
    (shares_sum (L m c) t h)

end Cert.KernelFwdIdeal.At

namespace Cert.Proof

open Cert.Spec

attribute [local instance] Cert.KernelFwdIdeal.Gen.facts Cert.ReferenceFwdIdeal.Gen.facts

section
open Cert.KernelFwdIdeal Cert.KernelFwdIdeal.At
variable (m : (ℓ : Loc nD τ sig) → Buf (Elt Ideal) ℓ) (c : Dev nD)
/-- the results of the forward call -/
abbrev fwdH : FVec Ideal S8192x1024 .bf16 := fun y => H (L m c) (y 0) (y 1)
abbrev fwdU : FVec Ideal S8192x5632 .bf16 := fun y => U (L m c) (y 0) (y 1)
abbrev fwdA : FVec Ideal S8192x2816 .bf16 := fun y => A (L m c) (y 0) (y 1)
abbrev fwdC1 : FVec Ideal S8192x2816 .bf16 := fun y => actH (gH (C (L m c))) (y 0) (y 1)
abbrev fwdY : FVec Ideal S8192x1024 .f32 := fun y => Y (L m c) (y 0) (y 1)
abbrev fwdDx : FVec Ideal S8192x1024 .f32 := fun y => ER (L m c) (y 0) (y 1) * Ideal.ofBits FTy.f32 0x3A800000#32
abbrev fwdLoss : FVec Ideal S8x128 .f32 := fun _ => ∑ T, (∑ k, ER (L m c) T k * ER (L m c) T k) * Ideal.ofBits FTy.f32 0x3A000000#32
end

section
open Cert.ReferenceFwdIdeal.At
variable {V : Valuation Cert.KernelFwdIdeal.τ Cert.KernelFwdIdeal.sig (Elt Ideal)} {V' : Valuation Cert.ReferenceFwdIdeal.τ Cert.ReferenceFwdIdeal.sig (Elt Ideal)}
/-- both forward programs have the same arguments -/
structure SameFwd (V : Valuation Cert.KernelFwdIdeal.τ Cert.KernelFwdIdeal.sig (Elt Ideal)) (V' : Valuation Cert.ReferenceFwdIdeal.τ Cert.ReferenceFwdIdeal.sig (Elt Ideal)) : Prop where
  x : Cert.ReferenceFwdIdeal.At.x V' = Cert.KernelFwdIdeal.At.x V
  g3 : Cert.ReferenceFwdIdeal.At.g3 V' = Cert.KernelFwdIdeal.At.g3 V
  wu : Cert.ReferenceFwdIdeal.At.wu V' = Cert.KernelFwdIdeal.At.wu V
  cw : Cert.ReferenceFwdIdeal.At.cw V' = Cert.KernelFwdIdeal.At.cw V
  cb : Cert.ReferenceFwdIdeal.At.cb V' = Cert.KernelFwdIdeal.At.cb V
  wd : Cert.ReferenceFwdIdeal.At.wd V' = Cert.KernelFwdIdeal.At.wd V
  g4 : Cert.ReferenceFwdIdeal.At.g4 V' = Cert.KernelFwdIdeal.At.g4 V
  tg : Cert.ReferenceFwdIdeal.At.tg V' = Cert.KernelFwdIdeal.At.tg V
variable (h : SameFwd V V')
include h
theorem SameFwd.U : U V' = Cert.KernelFwdIdeal.At.U V := congr (congrArg₂ up h.x h.g3) h.wu
theorem SameFwd.C : C V' = Cert.KernelFwdIdeal.At.C V := congr (congrArg₂ conv h.U h.cw) h.cb
theorem SameFwd.Y : Y V' = Cert.KernelFwdIdeal.At.Y V := congrArg₂ yH h.C h.wd
theorem SameFwd.H : H V' = Cert.KernelFwdIdeal.At.H V := by
  funext T k
  show Cert.ReferenceFwdIdeal.At.x V' T k * rs (Cert.ReferenceFwdIdeal.At.x V') T * Cert.ReferenceFwdIdeal.At.g3 V' k = _
  rw [h.x, h.g3]
theorem SameFwd.A : A V' = Cert.KernelFwdIdeal.At.A V := by
  funext T f
  show actH (gH (Cert.ReferenceFwdIdeal.At.C V')) T f * vH (Cert.ReferenceFwdIdeal.At.C V') T f = _
  rw [h.C]
theorem SameFwd.ER : ER V' = Cert.KernelFwdIdeal.At.ER V := by
  funext T k
  show Cert.ReferenceFwdIdeal.At.x V' T k + Cert.ReferenceFwdIdeal.At.Y V' T k * rs (Cert.ReferenceFwdIdeal.At.Y V') T * Cert.ReferenceFwdIdeal.At.g4 V' k - Cert.ReferenceFwdIdeal.At.tg V' T k = _
  rw [h.x, h.Y, h.g4, h.tg]
end

set_option maxHeartbeats 1000000 in
/-- the kernel's run: its results are the functions of `Spec`, its arguments are kept -/
theorem run_kernel_fwd (m : (ℓ : Loc Cert.KernelFwdIdeal.nD Cert.KernelFwdIdeal.τ Cert.KernelFwdIdeal.sig) → Buf (Elt Ideal) ℓ) (g : Dev Cert.KernelFwdIdeal.nD → PrngReg) :
    θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
      r.2.mem ((c.tc : Thread Cert.KernelFwdIdeal.nD Cert.KernelFwdIdeal.τ).loc Cert.KernelFwdIdeal.main_v4_0) = fwdH m c
      ∧ r.2.mem ((c.tc : Thread Cert.KernelFwdIdeal.nD Cert.KernelFwdIdeal.τ).loc Cert.KernelFwdIdeal.main_v4_1) = fwdU m c
      ∧ r.2.mem ((c.tc : Thread Cert.KernelFwdIdeal.nD Cert.KernelFwdIdeal.τ).loc Cert.KernelFwdIdeal.main_v4_2) = fwdA m c
      ∧ r.2.mem ((c.tc : Thread Cert.KernelFwdIdeal.nD Cert.KernelFwdIdeal.τ).loc Cert.KernelFwdIdeal.main_v4_3) = fwdC1 m c
      ∧ r.2.mem ((c.tc : Thread Cert.KernelFwdIdeal.nD Cert.KernelFwdIdeal.τ).loc Cert.KernelFwdIdeal.main_v4_5) = fwdY m c
      ∧ r.2.mem ((c.tc : Thread Cert.KernelFwdIdeal.nD Cert.KernelFwdIdeal.τ).loc Cert.KernelFwdIdeal.main_v4_6) = fwdDx m c
      ∧ r.2.mem ((c.tc : Thread Cert.KernelFwdIdeal.nD Cert.KernelFwdIdeal.τ).loc Cert.KernelFwdIdeal.main_v4_7) = fwdLoss m c
      ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)) := by
  refine (θ_run Cert.KernelFwdIdeal.defs _ _).mono (fun r h c => ?_) (θ_run_and (Cert.KernelFwdIdeal.Gen.run_main m g) (Cert.KernelFwdIdeal.Gen.unchanged m g))
  have hw := (h.1 c).1
  have ha := h.2 c
  have e0 : r.2.mem ((c.tc : Thread Cert.KernelFwdIdeal.nD Cert.KernelFwdIdeal.τ).loc Cert.KernelFwdIdeal.main_v4_0) = (Cert.KernelFwdIdeal.Gen.dats m 0 c).arrAt 6 Cert.KernelFwdIdeal.cfg0.N := hw 6
  have e1 : r.2.mem ((c.tc : Thread Cert.KernelFwdIdeal.nD Cert.KernelFwdIdeal.τ).loc Cert.KernelFwdIdeal.main_v4_1) = (Cert.KernelFwdIdeal.Gen.dats m 0 c).arrAt 7 Cert.KernelFwdIdeal.cfg0.N := hw 7
  have e2 : r.2.mem ((c.tc : Thread Cert.KernelFwdIdeal.nD Cert.KernelFwdIdeal.τ).loc Cert.KernelFwdIdeal.main_v4_2) = (Cert.KernelFwdIdeal.Gen.dats m 0 c).arrAt 8 Cert.KernelFwdIdeal.cfg0.N := hw 8
  have e3 : r.2.mem ((c.tc : Thread Cert.KernelFwdIdeal.nD Cert.KernelFwdIdeal.τ).loc Cert.KernelFwdIdeal.main_v4_3) = (Cert.KernelFwdIdeal.Gen.dats m 0 c).arrAt 9 Cert.KernelFwdIdeal.cfg0.N := hw 9
  have e4 : r.2.mem ((c.tc : Thread Cert.KernelFwdIdeal.nD Cert.KernelFwdIdeal.τ).loc Cert.KernelFwdIdeal.main_v4_5) = (Cert.KernelFwdIdeal.Gen.dats m 0 c).arrAt 11 Cert.KernelFwdIdeal.cfg0.N := hw 11
  have e5 : r.2.mem ((c.tc : Thread Cert.KernelFwdIdeal.nD Cert.KernelFwdIdeal.τ).loc Cert.KernelFwdIdeal.main_v4_6) = (Cert.KernelFwdIdeal.Gen.dats m 0 c).arrAt 12 Cert.KernelFwdIdeal.cfg0.N := hw 12
  have e6 : r.2.mem ((c.tc : Thread Cert.KernelFwdIdeal.nD Cert.KernelFwdIdeal.τ).loc Cert.KernelFwdIdeal.main_v4_7) = (Cert.KernelFwdIdeal.Gen.dats m 0 c).arrAt 13 Cert.KernelFwdIdeal.cfg0.N := hw 13
  exact ⟨e0.trans (Cert.KernelFwdIdeal.At.h_final m c), e1.trans (Cert.KernelFwdIdeal.At.u_final m c), e2.trans (Cert.KernelFwdIdeal.At.a_final m c), e3.trans (Cert.KernelFwdIdeal.At.c1_final m c), e4.trans (Cert.KernelFwdIdeal.At.y_final m c), e5.trans (Cert.KernelFwdIdeal.At.dx_final m c), e6.trans (Cert.KernelFwdIdeal.At.loss_final m c), ha⟩

set_option maxHeartbeats 1000000 in
/-- the reference's run, at the kernel's arguments -/
theorem run_reference_fwd (m : (ℓ : Loc Cert.KernelFwdIdeal.nD Cert.KernelFwdIdeal.τ Cert.KernelFwdIdeal.sig) → Buf (Elt Ideal) ℓ)
    (m' : (ℓ : Loc Cert.ReferenceFwdIdeal.nD Cert.ReferenceFwdIdeal.τ Cert.ReferenceFwdIdeal.sig) → Buf (Elt Ideal) ℓ) (g' : Dev Cert.ReferenceFwdIdeal.nD → PrngReg)
    (hS : ∀ c : Dev Cert.KernelFwdIdeal.nD, SameFwd (fun b => m (c, b)) (fun b => m' (c, b))) :
    θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
      r.2.mem ((c.tc : Thread Cert.ReferenceFwdIdeal.nD Cert.ReferenceFwdIdeal.τ).loc Cert.ReferenceFwdIdeal.main_v82) = fwdH m c
      ∧ r.2.mem ((c.tc : Thread Cert.ReferenceFwdIdeal.nD Cert.ReferenceFwdIdeal.τ).loc Cert.ReferenceFwdIdeal.main_v83) = fwdU m c
      ∧ r.2.mem ((c.tc : Thread Cert.ReferenceFwdIdeal.nD Cert.ReferenceFwdIdeal.τ).loc Cert.ReferenceFwdIdeal.main_v85) = fwdA m c
      ∧ r.2.mem ((c.tc : Thread Cert.ReferenceFwdIdeal.nD Cert.ReferenceFwdIdeal.τ).loc Cert.ReferenceFwdIdeal.main_v86) = fwdC1 m c
      ∧ r.2.mem ((c.tc : Thread Cert.ReferenceFwdIdeal.nD Cert.ReferenceFwdIdeal.τ).loc Cert.ReferenceFwdIdeal.main_v53) = fwdY m c
      ∧ r.2.mem ((c.tc : Thread Cert.ReferenceFwdIdeal.nD Cert.ReferenceFwdIdeal.τ).loc Cert.ReferenceFwdIdeal.main_v81) = fwdDx m c
      ∧ r.2.mem ((c.tc : Thread Cert.ReferenceFwdIdeal.nD Cert.ReferenceFwdIdeal.τ).loc Cert.ReferenceFwdIdeal.main_v87) = fwdLoss m c
      ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m' ((c.tc : Thread Cert.ReferenceFwdIdeal.nD Cert.ReferenceFwdIdeal.τ).loc Cert.ReferenceFwdIdeal.main_arg7)) := by
  refine (θ_run Cert.ReferenceFwdIdeal.defs _ _).mono (fun r h c => ?_) (Cert.ReferenceFwdIdeal.Value.run m' g')
  obtain ⟨e0, e1, e2, e3, e4, e5, e6, ha⟩ := h c
  refine ⟨e0.trans (funext fun y => ?_), e1.trans (funext fun y => ?_), e2.trans (funext fun y => ?_), e3.trans (funext fun y => ?_),
    e4.trans (funext fun y => ?_), e5.trans (funext fun y => ?_), e6.trans (funext fun y => ?_), ha⟩
  · obtain ⟨r, k, rfl⟩ : ∃ (r : Fin 8192) (k : Fin 1024), y = ix2 r k := ⟨y 0, y 1, eq_ix2 y⟩
    exact (Cert.ReferenceFwdIdeal.At.v11_at _ r k).trans (congrFun (congrFun (hS c).H r) k)
  · obtain ⟨r, k, rfl⟩ : ∃ (r : Fin 8192) (k : Fin 5632), y = ix2 r k := ⟨y 0, y 1, eq_ix2 y⟩
    exact (Cert.ReferenceFwdIdeal.At.v12_at _ r k).trans (congrFun (congrFun (hS c).U r) k)
  · obtain ⟨r, k, rfl⟩ : ∃ (r : Fin 8192) (k : Fin 2816), y = ix2 r k := ⟨y 0, y 1, eq_ix2 y⟩
    exact (Cert.ReferenceFwdIdeal.At.a_at _ r k).trans (congrFun (congrFun (hS c).A r) k)
  · obtain ⟨r, k, rfl⟩ : ∃ (r : Fin 8192) (k : Fin 2816), y = ix2 r k := ⟨y 0, y 1, eq_ix2 y⟩
    exact (Cert.ReferenceFwdIdeal.At.v51_at _ r k).trans (congrArg (fun C => actH (gH C) r k) (hS c).C)
  · obtain ⟨r, k, rfl⟩ : ∃ (r : Fin 8192) (k : Fin 1024), y = ix2 r k := ⟨y 0, y 1, eq_ix2 y⟩
    exact (Cert.ReferenceFwdIdeal.At.v53_at _ r k).trans (congrFun (congrFun (hS c).Y r) k)
  · obtain ⟨r, k, rfl⟩ : ∃ (r : Fin 8192) (k : Fin 1024), y = ix2 r k := ⟨y 0, y 1, eq_ix2 y⟩
    exact (Cert.ReferenceFwdIdeal.At.dx_at _ r k).trans (congrArg (fun e : Fin 8192 → Fin 1024 → EReal => e r k * Ideal.ofBits FTy.f32 0x3A800000#32) (hS c).ER)
  · obtain ⟨i, j, rfl⟩ : ∃ (i : Fin 8) (j : Fin 128), y = ix2 i j := ⟨y 0, y 1, eq_ix2 y⟩
    exact (Cert.ReferenceFwdIdeal.At.loss_at _ i j).trans (congrArg (fun e : Fin 8192 → Fin 1024 → EReal => ∑ T, (∑ k, e T k * e T k) * Ideal.ofBits FTy.f32 0x3A000000#32) (hS c).ER)

theorem algebraic_fwd : Cert.algebraic_KernelFwdIdeal_ReferenceFwdIdeal := by
  intro m g m' g' _ hagree
  have hS : ∀ c : Dev Cert.KernelFwdIdeal.nD, SameFwd (fun b => m (c, b)) (fun b => m' (c, b)) := fun c => by
    obtain ⟨a0, a1, a2, a3, a4, a5, a6, a7⟩ := hagree c
    exact {
      x := funext fun a => funext fun a => congrFun a0 _
      g3 := funext fun a => congrFun a1 _
      wu := funext fun a => funext fun a => congrFun a2 _
      cw := funext fun a => funext fun a => congrFun a3 _
      cb := funext fun a => congrFun a4 _
      wd := funext fun a => funext fun a => congrFun a5 _
      g4 := funext fun a => congrFun a6 _
      tg := funext fun a => funext fun a => congrFun a7 _ }
  exact ⟨fwdH m, fwdU m, fwdA m, fwdC1 m, fwdY m, fwdDx m, fwdLoss m, run_kernel_fwd m g, run_reference_fwd m m' g' hS⟩

theorem frame_fwd : Cert.quiescent_ReferenceFwdIdeal := fun m g _ =>
  (θ_run Cert.ReferenceFwdIdeal.defs _ _).mono (fun r h => ⟨fun c => (h c).2.2.2.2.2.2.2, sem_eq_zero_of_no_sems (by decide) r.2⟩) (Cert.ReferenceFwdIdeal.Value.run (F := Ideal) m g)

end Cert.Proof

end
-- ==== Proof.SmallBody.lean ====
module

public import proofs.«01_k».proof.Proof.Gen.KernelAdamSmallIdeal.Launch
public import proofs.«01_k».proof.Proof.Gen.KernelAdamSmallIdeal.Skeleton
public import proofs.«01_k».proof.Proof.Gen.KernelAdamSmallIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelAdamSmallIdeal.At

open Cert.KernelAdamSmallIdeal Cert.KernelAdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The optimizer's step on the ten small weights, held whole in fast memory: what the body leaves in its buffers. -/

section
variable {s : Shape}
/-- the new first moment, the new second moment and the change of the weight -/
def newM (g m : FVec F s .f32) : FVec F s .f32 :=
  addf (mulf (broadcast s (Scalar.ofBits .f32 0x3F666666#32)) m) (mulf (broadcast s (Scalar.ofBits .f32 0x3DCCCCCD#32)) g)
def newV (g v : FVec F s .f32) : FVec F s .f32 :=
  addf (mulf (broadcast s (Scalar.ofBits .f32 0x3F7FBE77#32)) v) (mulf (broadcast s (Scalar.ofBits .f32 0x3A83126F#32)) (mulf g g))
def newD (w g m v : FVec F s .f32) : FVec F s .f32 :=
  mulf (broadcast s (Scalar.ofBits .f32 0xBA83126F#32))
    (addf (divf (divf (newM g m) (broadcast s (Scalar.ofBits .f32 0x3F26BD02#32)))
        (addf (sqrt (divf (newV g v) (broadcast s (Scalar.ofBits .f32 0x3C231ACC#32)))) (broadcast s (Scalar.ofBits .f32 0x322BCC77#32))))
      (mulf (broadcast s (Scalar.ofBits .f32 0x3C23D70A#32)) w))

variable (r : Rect s) (w g m v : Vec F s .f32)
/-- a buffer after it is written once -/
def outD : Vec F s .f32 := View.canon [⟨r, newD (View.ld w r) (View.ld g r) (View.ld m r) (View.ld v r)⟩]
def outM : Vec F s .f32 := View.canon [⟨r, newM (View.ld g r) (View.ld m r)⟩]
def outV : Vec F s .f32 := View.canon [⟨r, newV (View.ld g r) (View.ld v r)⟩]
def outG : Vec F s .f32 := View.canon [⟨r, View.ld g r⟩]
end

/-- the whole of a buffer of each shape, and that one write of it covers it -/
abbrev r0 : Rect S1x1024 := Rect.unit (s := S1x1024) ![0, 0] S1x1024.size inb_S1x1024_S1x1024_0_0
abbrev r1 : Rect S1x256 := Rect.unit (s := S1x256) ![0, 0] S1x256.size inb_S1x256_S1x256_0_0
abbrev r2 : Rect S1x128 := Rect.unit (s := S1x128) ![0, 0] S1x128.size inb_S1x128_S1x128_0_0
abbrev r3 : Rect S1x8 := Rect.unit (s := S1x8) ![0, 0] S1x8.size inb_S1x8_S1x8_0_0
abbrev r4 : Rect S1x5632 := Rect.unit (s := S1x5632) ![0, 0] S1x5632.size inb_S1x5632_S1x5632_0_0
abbrev r5 : Rect S16x64 := Rect.unit (s := S16x64) ![0, 0] S16x64.size inb_S16x64_S16x64_0_0
abbrev r6 : Rect S3x1408 := Rect.unit (s := S3x1408) ![0, 0] S3x1408.size inb_S3x1408_S3x1408_0_0
theorem cover0 (p : Vec F S1x1024 .f32) (y : S1x1024.Idx) : ∃ pc ∈ ([⟨r0, p⟩] : List (View.Piece (Elt F) S1x1024 .f32)), y ∈ pc.1.set :=
  View.cover_of_tiled [⟨r0, p⟩] S1x1024.size (by rfl) y
theorem cover1 (p : Vec F S1x256 .f32) (y : S1x256.Idx) : ∃ pc ∈ ([⟨r1, p⟩] : List (View.Piece (Elt F) S1x256 .f32)), y ∈ pc.1.set :=
  View.cover_of_tiled [⟨r1, p⟩] S1x256.size (by rfl) y
theorem cover2 (p : Vec F S1x128 .f32) (y : S1x128.Idx) : ∃ pc ∈ ([⟨r2, p⟩] : List (View.Piece (Elt F) S1x128 .f32)), y ∈ pc.1.set :=
  View.cover_of_tiled [⟨r2, p⟩] S1x128.size (by rfl) y
theorem cover3 (p : Vec F S1x8 .f32) (y : S1x8.Idx) : ∃ pc ∈ ([⟨r3, p⟩] : List (View.Piece (Elt F) S1x8 .f32)), y ∈ pc.1.set :=
  View.cover_of_tiled [⟨r3, p⟩] S1x8.size (by rfl) y
theorem cover4 (p : Vec F S1x5632 .f32) (y : S1x5632.Idx) : ∃ pc ∈ ([⟨r4, p⟩] : List (View.Piece (Elt F) S1x5632 .f32)), y ∈ pc.1.set :=
  View.cover_of_tiled [⟨r4, p⟩] S1x5632.size (by rfl) y
theorem cover5 (p : Vec F S16x64 .f32) (y : S16x64.Idx) : ∃ pc ∈ ([⟨r5, p⟩] : List (View.Piece (Elt F) S16x64 .f32)), y ∈ pc.1.set :=
  View.cover_of_tiled [⟨r5, p⟩] S16x64.size (by rfl) y
theorem cover6 (p : Vec F S3x1408 .f32) (y : S3x1408.Idx) : ∃ pc ∈ ([⟨r6, p⟩] : List (View.Piece (Elt F) S3x1408 .f32)), y ∈ pc.1.set :=
  View.cover_of_tiled [⟨r6, p⟩] S3x1408.size (by rfl) y

set_option maxHeartbeats 1000000 in
/-- the body on whole buffers: the forty inputs stay, the forty outputs are written -/
theorem sound_kernel (c : Dev nD) (E : Set ℕ)
    (arg0 : Memref sig .tc .vmem S1x1024 .f32) (harg0 : arg0.IsWhole) (arg1 : Memref sig .tc .vmem S1x256 .f32) (harg1 : arg1.IsWhole) (arg2 : Memref sig .tc .vmem S1x128 .f32) (harg2
    : arg2.IsWhole) (arg3 : Memref sig .tc .vmem S1x8 .f32) (harg3 : arg3.IsWhole) (arg4 : Memref sig .tc .vmem S1x1024 .f32) (harg4 : arg4.IsWhole) (arg5 : Memref sig .tc .vmem
    S1x1024 .f32) (harg5 : arg5.IsWhole) (arg6 : Memref sig .tc .vmem S1x5632 .f32) (harg6 : arg6.IsWhole) (arg7 : Memref sig .tc .vmem S1x1024 .f32) (harg7 : arg7.IsWhole) (arg8 :
    Memref sig .tc .vmem S16x64 .f32) (harg8 : arg8.IsWhole) (arg9 : Memref sig .tc .vmem S3x1408 .f32) (harg9 : arg9.IsWhole) (arg10 : Memref sig .tc .vmem S1x1024 .f32) (harg10 :
    arg10.IsWhole) (arg11 : Memref sig .tc .vmem S1x256 .f32) (harg11 : arg11.IsWhole) (arg12 : Memref sig .tc .vmem S1x128 .f32) (harg12 : arg12.IsWhole) (arg13 : Memref sig .tc
    .vmem S1x8 .f32) (harg13 : arg13.IsWhole) (arg14 : Memref sig .tc .vmem S1x1024 .f32) (harg14 : arg14.IsWhole) (arg15 : Memref sig .tc .vmem S1x1024 .f32) (harg15 :
    arg15.IsWhole) (arg16 : Memref sig .tc .vmem S1x5632 .f32) (harg16 : arg16.IsWhole) (arg17 : Memref sig .tc .vmem S1x1024 .f32) (harg17 : arg17.IsWhole) (arg18 : Memref sig .tc
    .vmem S16x64 .f32) (harg18 : arg18.IsWhole) (arg19 : Memref sig .tc .vmem S3x1408 .f32) (harg19 : arg19.IsWhole) (arg20 : Memref sig .tc .vmem S1x1024 .f32) (harg20 :
    arg20.IsWhole) (arg21 : Memref sig .tc .vmem S1x256 .f32) (harg21 : arg21.IsWhole) (arg22 : Memref sig .tc .vmem S1x128 .f32) (harg22 : arg22.IsWhole) (arg23 : Memref sig .tc
    .vmem S1x8 .f32) (harg23 : arg23.IsWhole) (arg24 : Memref sig .tc .vmem S1x1024 .f32) (harg24 : arg24.IsWhole) (arg25 : Memref sig .tc .vmem S1x1024 .f32) (harg25 :
    arg25.IsWhole) (arg26 : Memref sig .tc .vmem S1x5632 .f32) (harg26 : arg26.IsWhole) (arg27 : Memref sig .tc .vmem S1x1024 .f32) (harg27 : arg27.IsWhole) (arg28 : Memref sig .tc
    .vmem S16x64 .f32) (harg28 : arg28.IsWhole) (arg29 : Memref sig .tc .vmem S3x1408 .f32) (harg29 : arg29.IsWhole) (arg30 : Memref sig .tc .vmem S1x1024 .f32) (harg30 :
    arg30.IsWhole) (arg31 : Memref sig .tc .vmem S1x256 .f32) (harg31 : arg31.IsWhole) (arg32 : Memref sig .tc .vmem S1x128 .f32) (harg32 : arg32.IsWhole) (arg33 : Memref sig .tc
    .vmem S1x8 .f32) (harg33 : arg33.IsWhole) (arg34 : Memref sig .tc .vmem S1x1024 .f32) (harg34 : arg34.IsWhole) (arg35 : Memref sig .tc .vmem S1x1024 .f32) (harg35 :
    arg35.IsWhole) (arg36 : Memref sig .tc .vmem S1x5632 .f32) (harg36 : arg36.IsWhole) (arg37 : Memref sig .tc .vmem S1x1024 .f32) (harg37 : arg37.IsWhole) (arg38 : Memref sig .tc
    .vmem S16x64 .f32) (harg38 : arg38.IsWhole) (arg39 : Memref sig .tc .vmem S3x1408 .f32) (harg39 : arg39.IsWhole) (arg40 : Memref sig .tc .vmem S1x1024 .f32) (harg40 :
    arg40.IsWhole) (arg41 : Memref sig .tc .vmem S1x256 .f32) (harg41 : arg41.IsWhole) (arg42 : Memref sig .tc .vmem S1x128 .f32) (harg42 : arg42.IsWhole) (arg43 : Memref sig .tc
    .vmem S1x8 .f32) (harg43 : arg43.IsWhole) (arg44 : Memref sig .tc .vmem S1x1024 .f32) (harg44 : arg44.IsWhole) (arg45 : Memref sig .tc .vmem S1x1024 .f32) (harg45 :
    arg45.IsWhole) (arg46 : Memref sig .tc .vmem S1x5632 .f32) (harg46 : arg46.IsWhole) (arg47 : Memref sig .tc .vmem S1x1024 .f32) (harg47 : arg47.IsWhole) (arg48 : Memref sig .tc
    .vmem S16x64 .f32) (harg48 : arg48.IsWhole) (arg49 : Memref sig .tc .vmem S3x1408 .f32) (harg49 : arg49.IsWhole) (arg50 : Memref sig .tc .vmem S1x1024 .f32) (harg50 :
    arg50.IsWhole) (arg51 : Memref sig .tc .vmem S1x256 .f32) (harg51 : arg51.IsWhole) (arg52 : Memref sig .tc .vmem S1x128 .f32) (harg52 : arg52.IsWhole) (arg53 : Memref sig .tc
    .vmem S1x8 .f32) (harg53 : arg53.IsWhole) (arg54 : Memref sig .tc .vmem S1x1024 .f32) (harg54 : arg54.IsWhole) (arg55 : Memref sig .tc .vmem S1x1024 .f32) (harg55 :
    arg55.IsWhole) (arg56 : Memref sig .tc .vmem S1x5632 .f32) (harg56 : arg56.IsWhole) (arg57 : Memref sig .tc .vmem S1x1024 .f32) (harg57 : arg57.IsWhole) (arg58 : Memref sig .tc
    .vmem S16x64 .f32) (harg58 : arg58.IsWhole) (arg59 : Memref sig .tc .vmem S3x1408 .f32) (harg59 : arg59.IsWhole) (arg60 : Memref sig .tc .vmem S1x1024 .f32) (harg60 :
    arg60.IsWhole) (arg61 : Memref sig .tc .vmem S1x256 .f32) (harg61 : arg61.IsWhole) (arg62 : Memref sig .tc .vmem S1x128 .f32) (harg62 : arg62.IsWhole) (arg63 : Memref sig .tc
    .vmem S1x8 .f32) (harg63 : arg63.IsWhole) (arg64 : Memref sig .tc .vmem S1x1024 .f32) (harg64 : arg64.IsWhole) (arg65 : Memref sig .tc .vmem S1x1024 .f32) (harg65 :
    arg65.IsWhole) (arg66 : Memref sig .tc .vmem S1x5632 .f32) (harg66 : arg66.IsWhole) (arg67 : Memref sig .tc .vmem S1x1024 .f32) (harg67 : arg67.IsWhole) (arg68 : Memref sig .tc
    .vmem S16x64 .f32) (harg68 : arg68.IsWhole) (arg69 : Memref sig .tc .vmem S3x1408 .f32) (harg69 : arg69.IsWhole) (arg70 : Memref sig .tc .vmem S1x1024 .f32) (harg70 :
    arg70.IsWhole) (arg71 : Memref sig .tc .vmem S1x256 .f32) (harg71 : arg71.IsWhole) (arg72 : Memref sig .tc .vmem S1x128 .f32) (harg72 : arg72.IsWhole) (arg73 : Memref sig .tc
    .vmem S1x8 .f32) (harg73 : arg73.IsWhole) (arg74 : Memref sig .tc .vmem S1x1024 .f32) (harg74 : arg74.IsWhole) (arg75 : Memref sig .tc .vmem S1x1024 .f32) (harg75 :
    arg75.IsWhole) (arg76 : Memref sig .tc .vmem S1x5632 .f32) (harg76 : arg76.IsWhole) (arg77 : Memref sig .tc .vmem S1x1024 .f32) (harg77 : arg77.IsWhole) (arg78 : Memref sig .tc
    .vmem S16x64 .f32) (harg78 : arg78.IsWhole) (arg79 : Memref sig .tc .vmem S3x1408 .f32) (harg79 : arg79.IsWhole)
    (x0 : Vec F S1x1024 .f32) (x1 : Vec F S1x256 .f32) (x2 : Vec F S1x128 .f32) (x3 : Vec F S1x8 .f32) (x4 : Vec F S1x1024 .f32) (x5 : Vec F S1x1024 .f32) (x6 : Vec F S1x5632 .f32) (x7
    : Vec F S1x1024 .f32) (x8 : Vec F S16x64 .f32) (x9 : Vec F S3x1408 .f32) (x10 : Vec F S1x1024 .f32) (x11 : Vec F S1x256 .f32) (x12 : Vec F S1x128 .f32) (x13 : Vec F S1x8 .f32)
    (x14 : Vec F S1x1024 .f32) (x15 : Vec F S1x1024 .f32) (x16 : Vec F S1x5632 .f32) (x17 : Vec F S1x1024 .f32) (x18 : Vec F S16x64 .f32) (x19 : Vec F S3x1408 .f32) (x20 : Vec F
    S1x1024 .f32) (x21 : Vec F S1x256 .f32) (x22 : Vec F S1x128 .f32) (x23 : Vec F S1x8 .f32) (x24 : Vec F S1x1024 .f32) (x25 : Vec F S1x1024 .f32) (x26 : Vec F S1x5632 .f32) (x27
    : Vec F S1x1024 .f32) (x28 : Vec F S16x64 .f32) (x29 : Vec F S3x1408 .f32) (x30 : Vec F S1x1024 .f32) (x31 : Vec F S1x256 .f32) (x32 : Vec F S1x128 .f32) (x33 : Vec F S1x8
    .f32) (x34 : Vec F S1x1024 .f32) (x35 : Vec F S1x1024 .f32) (x36 : Vec F S1x5632 .f32) (x37 : Vec F S1x1024 .f32) (x38 : Vec F S16x64 .f32) (x39 : Vec F S3x1408 .f32) (Q : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c
      : Thread nD τ) arg4 fullShare x4 ∗ owns (c : Thread nD τ) arg5 fullShare x5 ∗ owns (c : Thread nD τ) arg6 fullShare x6 ∗ owns (c : Thread nD τ) arg7 fullShare x7 ∗ owns (c :
      Thread nD τ) arg8 fullShare x8 ∗ owns (c : Thread nD τ) arg9 fullShare x9 ∗ owns (c : Thread nD τ) arg10 fullShare x10 ∗ owns (c : Thread nD τ) arg11 fullShare x11 ∗ owns (c
      : Thread nD τ) arg12 fullShare x12 ∗ owns (c : Thread nD τ) arg13 fullShare x13 ∗ owns (c : Thread nD τ) arg14 fullShare x14 ∗ owns (c : Thread nD τ) arg15 fullShare x15 ∗
      owns (c : Thread nD τ) arg16 fullShare x16 ∗ owns (c : Thread nD τ) arg17 fullShare x17 ∗ owns (c : Thread nD τ) arg18 fullShare x18 ∗ owns (c : Thread nD τ) arg19 fullShare
      x19 ∗ owns (c : Thread nD τ) arg20 fullShare x20 ∗ owns (c : Thread nD τ) arg21 fullShare x21 ∗ owns (c : Thread nD τ) arg22 fullShare x22 ∗ owns (c : Thread nD τ) arg23
      fullShare x23 ∗ owns (c : Thread nD τ) arg24 fullShare x24 ∗ owns (c : Thread nD τ) arg25 fullShare x25 ∗ owns (c : Thread nD τ) arg26 fullShare x26 ∗ owns (c : Thread nD τ)
      arg27 fullShare x27 ∗ owns (c : Thread nD τ) arg28 fullShare x28 ∗ owns (c : Thread nD τ) arg29 fullShare x29 ∗ owns (c : Thread nD τ) arg30 fullShare x30 ∗ owns (c : Thread
      nD τ) arg31 fullShare x31 ∗ owns (c : Thread nD τ) arg32 fullShare x32 ∗ owns (c : Thread nD τ) arg33 fullShare x33 ∗ owns (c : Thread nD τ) arg34 fullShare x34 ∗ owns (c :
      Thread nD τ) arg35 fullShare x35 ∗ owns (c : Thread nD τ) arg36 fullShare x36 ∗ owns (c : Thread nD τ) arg37 fullShare x37 ∗ owns (c : Thread nD τ) arg38 fullShare x38 ∗ owns
      (c : Thread nD τ) arg39 fullShare x39 ∗ (∃ d, owns (c : Thread nD τ) arg40 fullShare d) ∗ (∃ d, owns (c : Thread nD τ) arg41 fullShare d) ∗ (∃ d, owns (c : Thread nD τ) arg42
      fullShare d) ∗ (∃ d, owns (c : Thread nD τ) arg43 fullShare d) ∗ (∃ d, owns (c : Thread nD τ) arg44 fullShare d) ∗ (∃ d, owns (c : Thread nD τ) arg45 fullShare d) ∗ (∃ d,
      owns (c : Thread nD τ) arg46 fullShare d) ∗ (∃ d, owns (c : Thread nD τ) arg47 fullShare d) ∗ (∃ d, owns (c : Thread nD τ) arg48 fullShare d) ∗ (∃ d, owns (c : Thread nD τ)
      arg49 fullShare d) ∗ (∃ d, owns (c : Thread nD τ) arg50 fullShare d) ∗ (∃ d, owns (c : Thread nD τ) arg51 fullShare d) ∗ (∃ d, owns (c : Thread nD τ) arg52 fullShare d) ∗ (∃
      d, owns (c : Thread nD τ) arg53 fullShare d) ∗ (∃ d, owns (c : Thread nD τ) arg54 fullShare d) ∗ (∃ d, owns (c : Thread nD τ) arg55 fullShare d) ∗ (∃ d, owns (c : Thread nD
      τ) arg56 fullShare d) ∗ (∃ d, owns (c : Thread nD τ) arg57 fullShare d) ∗ (∃ d, owns (c : Thread nD τ) arg58 fullShare d) ∗ (∃ d, owns (c : Thread nD τ) arg59 fullShare d) ∗
      (∃ d, owns (c : Thread nD τ) arg60 fullShare d) ∗ (∃ d, owns (c : Thread nD τ) arg61 fullShare d) ∗ (∃ d, owns (c : Thread nD τ) arg62 fullShare d) ∗ (∃ d, owns (c : Thread
      nD τ) arg63 fullShare d) ∗ (∃ d, owns (c : Thread nD τ) arg64 fullShare d) ∗ (∃ d, owns (c : Thread nD τ) arg65 fullShare d) ∗ (∃ d, owns (c : Thread nD τ) arg66 fullShare d)
      ∗ (∃ d, owns (c : Thread nD τ) arg67 fullShare d) ∗ (∃ d, owns (c : Thread nD τ) arg68 fullShare d) ∗ (∃ d, owns (c : Thread nD τ) arg69 fullShare d) ∗ (∃ d, owns (c : Thread
      nD τ) arg70 fullShare d) ∗ (∃ d, owns (c : Thread nD τ) arg71 fullShare d) ∗ (∃ d, owns (c : Thread nD τ) arg72 fullShare d) ∗ (∃ d, owns (c : Thread nD τ) arg73 fullShare d)
      ∗ (∃ d, owns (c : Thread nD τ) arg74 fullShare d) ∗ (∃ d, owns (c : Thread nD τ) arg75 fullShare d) ∗ (∃ d, owns (c : Thread nD τ) arg76 fullShare d) ∗ (∃ d, owns (c : Thread
      nD τ) arg77 fullShare d) ∗ (∃ d, owns (c : Thread nD τ) arg78 fullShare d) ∗ (∃ d, owns (c : Thread nD τ) arg79 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c
      : Thread nD τ) arg4 fullShare x4 ∗ owns (c : Thread nD τ) arg5 fullShare x5 ∗ owns (c : Thread nD τ) arg6 fullShare x6 ∗ owns (c : Thread nD τ) arg7 fullShare x7 ∗ owns (c :
      Thread nD τ) arg8 fullShare x8 ∗ owns (c : Thread nD τ) arg9 fullShare x9 ∗ owns (c : Thread nD τ) arg10 fullShare x10 ∗ owns (c : Thread nD τ) arg11 fullShare x11 ∗ owns (c
      : Thread nD τ) arg12 fullShare x12 ∗ owns (c : Thread nD τ) arg13 fullShare x13 ∗ owns (c : Thread nD τ) arg14 fullShare x14 ∗ owns (c : Thread nD τ) arg15 fullShare x15 ∗
      owns (c : Thread nD τ) arg16 fullShare x16 ∗ owns (c : Thread nD τ) arg17 fullShare x17 ∗ owns (c : Thread nD τ) arg18 fullShare x18 ∗ owns (c : Thread nD τ) arg19 fullShare
      x19 ∗ owns (c : Thread nD τ) arg20 fullShare x20 ∗ owns (c : Thread nD τ) arg21 fullShare x21 ∗ owns (c : Thread nD τ) arg22 fullShare x22 ∗ owns (c : Thread nD τ) arg23
      fullShare x23 ∗ owns (c : Thread nD τ) arg24 fullShare x24 ∗ owns (c : Thread nD τ) arg25 fullShare x25 ∗ owns (c : Thread nD τ) arg26 fullShare x26 ∗ owns (c : Thread nD τ)
      arg27 fullShare x27 ∗ owns (c : Thread nD τ) arg28 fullShare x28 ∗ owns (c : Thread nD τ) arg29 fullShare x29 ∗ owns (c : Thread nD τ) arg30 fullShare x30 ∗ owns (c : Thread
      nD τ) arg31 fullShare x31 ∗ owns (c : Thread nD τ) arg32 fullShare x32 ∗ owns (c : Thread nD τ) arg33 fullShare x33 ∗ owns (c : Thread nD τ) arg34 fullShare x34 ∗ owns (c :
      Thread nD τ) arg35 fullShare x35 ∗ owns (c : Thread nD τ) arg36 fullShare x36 ∗ owns (c : Thread nD τ) arg37 fullShare x37 ∗ owns (c : Thread nD τ) arg38 fullShare x38 ∗ owns
      (c : Thread nD τ) arg39 fullShare x39 ∗ owns (c : Thread nD τ) arg40 fullShare (outD r0 x0 x10 x20 x30) ∗ owns (c : Thread nD τ) arg41 fullShare (outD r1 x1 x11 x21 x31) ∗
      owns (c : Thread nD τ) arg42 fullShare (outD r2 x2 x12 x22 x32) ∗ owns (c : Thread nD τ) arg43 fullShare (outD r3 x3 x13 x23 x33) ∗ owns (c : Thread nD τ) arg44 fullShare
      (outD r0 x4 x14 x24 x34) ∗ owns (c : Thread nD τ) arg45 fullShare (outD r0 x5 x15 x25 x35) ∗ owns (c : Thread nD τ) arg46 fullShare (outD r4 x6 x16 x26 x36) ∗ owns (c :
      Thread nD τ) arg47 fullShare (outD r0 x7 x17 x27 x37) ∗ owns (c : Thread nD τ) arg48 fullShare (outD r5 x8 x18 x28 x38) ∗ owns (c : Thread nD τ) arg49 fullShare (outD r6 x9
      x19 x29 x39) ∗ owns (c : Thread nD τ) arg50 fullShare (outM r0 x10 x20) ∗ owns (c : Thread nD τ) arg51 fullShare (outM r1 x11 x21) ∗ owns (c : Thread nD τ) arg52 fullShare
      (outM r2 x12 x22) ∗ owns (c : Thread nD τ) arg53 fullShare (outM r3 x13 x23) ∗ owns (c : Thread nD τ) arg54 fullShare (outM r0 x14 x24) ∗ owns (c : Thread nD τ) arg55
      fullShare (outM r0 x15 x25) ∗ owns (c : Thread nD τ) arg56 fullShare (outM r4 x16 x26) ∗ owns (c : Thread nD τ) arg57 fullShare (outM r0 x17 x27) ∗ owns (c : Thread nD τ)
      arg58 fullShare (outM r5 x18 x28) ∗ owns (c : Thread nD τ) arg59 fullShare (outM r6 x19 x29) ∗ owns (c : Thread nD τ) arg60 fullShare (outV r0 x10 x30) ∗ owns (c : Thread nD
      τ) arg61 fullShare (outV r1 x11 x31) ∗ owns (c : Thread nD τ) arg62 fullShare (outV r2 x12 x32) ∗ owns (c : Thread nD τ) arg63 fullShare (outV r3 x13 x33) ∗ owns (c : Thread
      nD τ) arg64 fullShare (outV r0 x14 x34) ∗ owns (c : Thread nD τ) arg65 fullShare (outV r0 x15 x35) ∗ owns (c : Thread nD τ) arg66 fullShare (outV r4 x16 x36) ∗ owns (c :
      Thread nD τ) arg67 fullShare (outV r0 x17 x37) ∗ owns (c : Thread nD τ) arg68 fullShare (outV r5 x18 x38) ∗ owns (c : Thread nD τ) arg69 fullShare (outV r6 x19 x39) ∗ owns (c
      : Thread nD τ) arg70 fullShare (outG r0 x10) ∗ owns (c : Thread nD τ) arg71 fullShare (outG r1 x11) ∗ owns (c : Thread nD τ) arg72 fullShare (outG r2 x12) ∗ owns (c : Thread
      nD τ) arg73 fullShare (outG r3 x13) ∗ owns (c : Thread nD τ) arg74 fullShare (outG r0 x14) ∗ owns (c : Thread nD τ) arg75 fullShare (outG r0 x15) ∗ owns (c : Thread nD τ)
      arg76 fullShare (outG r4 x16) ∗ owns (c : Thread nD τ) arg77 fullShare (outG r0 x17) ∗ owns (c : Thread nD τ) arg78 fullShare (outG r5 x18) ∗ owns (c : Thread nD τ) arg79
      fullShare (outG r6 x19)) -∗ Q PUnit.unit))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13
        arg14 harg14 arg15 harg15 arg16 harg16 arg17 harg17 arg18 harg18 arg19 harg19 arg20 harg20 arg21 harg21 arg22 harg22 arg23 harg23 arg24 harg24 arg25 harg25 arg26 harg26
        arg27 harg27 arg28 harg28 arg29 harg29 arg30 harg30 arg31 harg31 arg32 harg32 arg33 harg33 arg34 harg34 arg35 harg35 arg36 harg36 arg37 harg37 arg38 harg38 arg39 harg39
        arg40 harg40 arg41 harg41 arg42 harg42 arg43 harg43 arg44 harg44 arg45 harg45 arg46 harg46 arg47 harg47 arg48 harg48 arg49 harg49 arg50 harg50 arg51 harg51 arg52 harg52
        arg53 harg53 arg54 harg54 arg55 harg55 arg56 harg56 arg57 harg57 arg58 harg58 arg59 harg59 arg60 harg60 arg61 harg61 arg62 harg62 arg63 harg63 arg64 harg64 arg65 harg65
        arg66 harg66 arg67 harg67 arg68 harg68 arg69 harg69 arg70 harg70 arg71 harg71 arg72 harg72 arg73 harg73 arg74 harg74 arg75 harg75 arg76 harg76 arg77 harg77 arg78 harg78
        arg79 harg79) Q := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10,
    %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩,
    ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27,
    H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36,
    %hf36, H36⟩, ⟨%f37, %hf37, H37⟩, ⟨%f38, %hf38, H38⟩, ⟨%f39, %hf39, H39⟩, ⟨%d40, %f40, %hf40, H40⟩, ⟨%d41, %f41, %hf41, H41⟩, ⟨%d42, %f42, %hf42, H42⟩, ⟨%d43, %f43, %hf43, H43⟩,
    ⟨%d44, %f44, %hf44, H44⟩, ⟨%d45, %f45, %hf45, H45⟩, ⟨%d46, %f46, %hf46, H46⟩, ⟨%d47, %f47, %hf47, H47⟩, ⟨%d48, %f48, %hf48, H48⟩, ⟨%d49, %f49, %hf49, H49⟩, ⟨%d50, %f50, %hf50,
    H50⟩, ⟨%d51, %f51, %hf51, H51⟩, ⟨%d52, %f52, %hf52, H52⟩, ⟨%d53, %f53, %hf53, H53⟩, ⟨%d54, %f54, %hf54, H54⟩, ⟨%d55, %f55, %hf55, H55⟩, ⟨%d56, %f56, %hf56, H56⟩, ⟨%d57, %f57,
    %hf57, H57⟩, ⟨%d58, %f58, %hf58, H58⟩, ⟨%d59, %f59, %hf59, H59⟩, ⟨%d60, %f60, %hf60, H60⟩, ⟨%d61, %f61, %hf61, H61⟩, ⟨%d62, %f62, %hf62, H62⟩, ⟨%d63, %f63, %hf63, H63⟩, ⟨%d64,
    %f64, %hf64, H64⟩, ⟨%d65, %f65, %hf65, H65⟩, ⟨%d66, %f66, %hf66, H66⟩, ⟨%d67, %f67, %hf67, H67⟩, ⟨%d68, %f68, %hf68, H68⟩, ⟨%d69, %f69, %hf69, H69⟩, ⟨%d70, %f70, %hf70, H70⟩,
    ⟨%d71, %f71, %hf71, H71⟩, ⟨%d72, %f72, %hf72, H72⟩, ⟨%d73, %f73, %hf73, H73⟩, ⟨%d74, %f74, %hf74, H74⟩, ⟨%d75, %f75, %hf75, H75⟩, ⟨%d76, %f76, %hf76, H76⟩, ⟨%d77, %f77, %hf77,
    H77⟩, ⟨%d78, %f78, %hf78, H78⟩, ⟨%d79, %f79, %hf79, H79⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37
    hf38 hf39
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists _; isplitr
    swap; · iexact H40
    ipureintro; exact (View.read_writes_eq_canon _ _ _ (cover0 _)).trans rfl
  isplitl [H41]
  · iexists _; isplitr
    swap; · iexact H41
    ipureintro; exact (View.read_writes_eq_canon _ _ _ (cover1 _)).trans rfl
  isplitl [H42]
  · iexists _; isplitr
    swap; · iexact H42
    ipureintro; exact (View.read_writes_eq_canon _ _ _ (cover2 _)).trans rfl
  isplitl [H43]
  · iexists _; isplitr
    swap; · iexact H43
    ipureintro; exact (View.read_writes_eq_canon _ _ _ (cover3 _)).trans rfl
  isplitl [H44]
  · iexists _; isplitr
    swap; · iexact H44
    ipureintro; exact (View.read_writes_eq_canon _ _ _ (cover0 _)).trans rfl
  isplitl [H45]
  · iexists _; isplitr
    swap; · iexact H45
    ipureintro; exact (View.read_writes_eq_canon _ _ _ (cover0 _)).trans rfl
  isplitl [H46]
  · iexists _; isplitr
    swap; · iexact H46
    ipureintro; exact (View.read_writes_eq_canon _ _ _ (cover4 _)).trans rfl
  isplitl [H47]
  · iexists _; isplitr
    swap; · iexact H47
    ipureintro; exact (View.read_writes_eq_canon _ _ _ (cover0 _)).trans rfl
  isplitl [H48]
  · iexists _; isplitr
    swap; · iexact H48
    ipureintro; exact (View.read_writes_eq_canon _ _ _ (cover5 _)).trans rfl
  isplitl [H49]
  · iexists _; isplitr
    swap; · iexact H49
    ipureintro; exact (View.read_writes_eq_canon _ _ _ (cover6 _)).trans rfl
  isplitl [H50]
  · iexists _; isplitr
    swap; · iexact H50
    ipureintro; exact (View.read_writes_eq_canon _ _ _ (cover0 _)).trans rfl
  isplitl [H51]
  · iexists _; isplitr
    swap; · iexact H51
    ipureintro; exact (View.read_writes_eq_canon _ _ _ (cover1 _)).trans rfl
  isplitl [H52]
  · iexists _; isplitr
    swap; · iexact H52
    ipureintro; exact (View.read_writes_eq_canon _ _ _ (cover2 _)).trans rfl
  isplitl [H53]
  · iexists _; isplitr
    swap; · iexact H53
    ipureintro; exact (View.read_writes_eq_canon _ _ _ (cover3 _)).trans rfl
  isplitl [H54]
  · iexists _; isplitr
    swap; · iexact H54
    ipureintro; exact (View.read_writes_eq_canon _ _ _ (cover0 _)).trans rfl
  isplitl [H55]
  · iexists _; isplitr
    swap; · iexact H55
    ipureintro; exact (View.read_writes_eq_canon _ _ _ (cover0 _)).trans rfl
  isplitl [H56]
  · iexists _; isplitr
    swap; · iexact H56
    ipureintro; exact (View.read_writes_eq_canon _ _ _ (cover4 _)).trans rfl
  isplitl [H57]
  · iexists _; isplitr
    swap; · iexact H57
    ipureintro; exact (View.read_writes_eq_canon _ _ _ (cover0 _)).trans rfl
  isplitl [H58]
  · iexists _; isplitr
    swap; · iexact H58
    ipureintro; exact (View.read_writes_eq_canon _ _ _ (cover5 _)).trans rfl
  isplitl [H59]
  · iexists _; isplitr
    swap; · iexact H59
    ipureintro; exact (View.read_writes_eq_canon _ _ _ (cover6 _)).trans rfl
  isplitl [H60]
  · iexists _; isplitr
    swap; · iexact H60
    ipureintro; exact (View.read_writes_eq_canon _ _ _ (cover0 _)).trans rfl
  isplitl [H61]
  · iexists _; isplitr
    swap; · iexact H61
    ipureintro; exact (View.read_writes_eq_canon _ _ _ (cover1 _)).trans rfl
  isplitl [H62]
  · iexists _; isplitr
    swap; · iexact H62
    ipureintro; exact (View.read_writes_eq_canon _ _ _ (cover2 _)).trans rfl
  isplitl [H63]
  · iexists _; isplitr
    swap; · iexact H63
    ipureintro; exact (View.read_writes_eq_canon _ _ _ (cover3 _)).trans rfl
  isplitl [H64]
  · iexists _; isplitr
    swap; · iexact H64
    ipureintro; exact (View.read_writes_eq_canon _ _ _ (cover0 _)).trans rfl
  isplitl [H65]
  · iexists _; isplitr
    swap; · iexact H65
    ipureintro; exact (View.read_writes_eq_canon _ _ _ (cover0 _)).trans rfl
  isplitl [H66]
  · iexists _; isplitr
    swap; · iexact H66
    ipureintro; exact (View.read_writes_eq_canon _ _ _ (cover4 _)).trans rfl
  isplitl [H67]
  · iexists _; isplitr
    swap; · iexact H67
    ipureintro; exact (View.read_writes_eq_canon _ _ _ (cover0 _)).trans rfl
  isplitl [H68]
  · iexists _; isplitr
    swap; · iexact H68
    ipureintro; exact (View.read_writes_eq_canon _ _ _ (cover5 _)).trans rfl
  isplitl [H69]
  · iexists _; isplitr
    swap; · iexact H69
    ipureintro; exact (View.read_writes_eq_canon _ _ _ (cover6 _)).trans rfl
  isplitl [H70]
  · iexists _; isplitr
    swap; · iexact H70
    ipureintro; exact (View.read_writes_eq_canon _ _ _ (cover0 _)).trans rfl
  isplitl [H71]
  · iexists _; isplitr
    swap; · iexact H71
    ipureintro; exact (View.read_writes_eq_canon _ _ _ (cover1 _)).trans rfl
  isplitl [H72]
  · iexists _; isplitr
    swap; · iexact H72
    ipureintro; exact (View.read_writes_eq_canon _ _ _ (cover2 _)).trans rfl
  isplitl [H73]
  · iexists _; isplitr
    swap; · iexact H73
    ipureintro; exact (View.read_writes_eq_canon _ _ _ (cover3 _)).trans rfl
  isplitl [H74]
  · iexists _; isplitr
    swap; · iexact H74
    ipureintro; exact (View.read_writes_eq_canon _ _ _ (cover0 _)).trans rfl
  isplitl [H75]
  · iexists _; isplitr
    swap; · iexact H75
    ipureintro; exact (View.read_writes_eq_canon _ _ _ (cover0 _)).trans rfl
  isplitl [H76]
  · iexists _; isplitr
    swap; · iexact H76
    ipureintro; exact (View.read_writes_eq_canon _ _ _ (cover4 _)).trans rfl
  isplitl [H77]
  · iexists _; isplitr
    swap; · iexact H77
    ipureintro; exact (View.read_writes_eq_canon _ _ _ (cover0 _)).trans rfl
  isplitl [H78]
  · iexists _; isplitr
    swap; · iexact H78
    ipureintro; exact (View.read_writes_eq_canon _ _ _ (cover5 _)).trans rfl
  iexists _; isplitr
  swap; · iexact H79
  ipureintro; exact (View.read_writes_eq_canon _ _ _ (cover6 _)).trans rfl

end Cert.KernelAdamSmallIdeal.At

end
-- ==== Proof.SmallDats.lean ====
module

public import proofs.«01_k».proof.Proof.SmallBody

@[expose] public section

set_option maxRecDepth 16384

noncomputable section

namespace Cert.KernelAdamSmallIdeal.At

open Cert.KernelAdamSmallIdeal Cert.KernelAdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The launch: the one grid point's body on every window's whole array. -/

variable (m : (ℓ : Loc nD τ sig) → Buf (Elt F) ℓ) (ρ : Dev nD → PrngReg)

/-- core `c`'s buffers at the start -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- a window's block of its array -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- every window's buffer after the body -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => outD r0 (iblk m c 0 t) (iblk m c 10 t) (iblk m c 20 t) (iblk m c 30 t)
    | ⟨41, _⟩ => outD r1 (iblk m c 1 t) (iblk m c 11 t) (iblk m c 21 t) (iblk m c 31 t)
    | ⟨42, _⟩ => outD r2 (iblk m c 2 t) (iblk m c 12 t) (iblk m c 22 t) (iblk m c 32 t)
    | ⟨43, _⟩ => outD r3 (iblk m c 3 t) (iblk m c 13 t) (iblk m c 23 t) (iblk m c 33 t)
    | ⟨44, _⟩ => outD r0 (iblk m c 4 t) (iblk m c 14 t) (iblk m c 24 t) (iblk m c 34 t)
    | ⟨45, _⟩ => outD r0 (iblk m c 5 t) (iblk m c 15 t) (iblk m c 25 t) (iblk m c 35 t)
    | ⟨46, _⟩ => outD r4 (iblk m c 6 t) (iblk m c 16 t) (iblk m c 26 t) (iblk m c 36 t)
    | ⟨47, _⟩ => outD r0 (iblk m c 7 t) (iblk m c 17 t) (iblk m c 27 t) (iblk m c 37 t)
    | ⟨48, _⟩ => outD r5 (iblk m c 8 t) (iblk m c 18 t) (iblk m c 28 t) (iblk m c 38 t)
    | ⟨49, _⟩ => outD r6 (iblk m c 9 t) (iblk m c 19 t) (iblk m c 29 t) (iblk m c 39 t)
    | ⟨50, _⟩ => outM r0 (iblk m c 10 t) (iblk m c 20 t)
    | ⟨51, _⟩ => outM r1 (iblk m c 11 t) (iblk m c 21 t)
    | ⟨52, _⟩ => outM r2 (iblk m c 12 t) (iblk m c 22 t)
    | ⟨53, _⟩ => outM r3 (iblk m c 13 t) (iblk m c 23 t)
    | ⟨54, _⟩ => outM r0 (iblk m c 14 t) (iblk m c 24 t)
    | ⟨55, _⟩ => outM r0 (iblk m c 15 t) (iblk m c 25 t)
    | ⟨56, _⟩ => outM r4 (iblk m c 16 t) (iblk m c 26 t)
    | ⟨57, _⟩ => outM r0 (iblk m c 17 t) (iblk m c 27 t)
    | ⟨58, _⟩ => outM r5 (iblk m c 18 t) (iblk m c 28 t)
    | ⟨59, _⟩ => outM r6 (iblk m c 19 t) (iblk m c 29 t)
    | ⟨60, _⟩ => outV r0 (iblk m c 10 t) (iblk m c 30 t)
    | ⟨61, _⟩ => outV r1 (iblk m c 11 t) (iblk m c 31 t)
    | ⟨62, _⟩ => outV r2 (iblk m c 12 t) (iblk m c 32 t)
    | ⟨63, _⟩ => outV r3 (iblk m c 13 t) (iblk m c 33 t)
    | ⟨64, _⟩ => outV r0 (iblk m c 14 t) (iblk m c 34 t)
    | ⟨65, _⟩ => outV r0 (iblk m c 15 t) (iblk m c 35 t)
    | ⟨66, _⟩ => outV r4 (iblk m c 16 t) (iblk m c 36 t)
    | ⟨67, _⟩ => outV r0 (iblk m c 17 t) (iblk m c 37 t)
    | ⟨68, _⟩ => outV r5 (iblk m c 18 t) (iblk m c 38 t)
    | ⟨69, _⟩ => outV r6 (iblk m c 19 t) (iblk m c 39 t)
    | ⟨70, _⟩ => outG r0 (iblk m c 10 t)
    | ⟨71, _⟩ => outG r1 (iblk m c 11 t)
    | ⟨72, _⟩ => outG r2 (iblk m c 12 t)
    | ⟨73, _⟩ => outG r3 (iblk m c 13 t)
    | ⟨74, _⟩ => outG r0 (iblk m c 14 t)
    | ⟨75, _⟩ => outG r0 (iblk m c 15 t)
    | ⟨76, _⟩ => outG r4 (iblk m c 16 t)
    | ⟨77, _⟩ => outG r0 (iblk m c 17 t)
    | ⟨78, _⟩ => outG r5 (iblk m c 18 t)
    | ⟨79, _⟩ => outG r6 (iblk m c 19 t)
    | ⟨_ + 80, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

end Cert.KernelAdamSmallIdeal.At

end
-- ==== Proof.SmallRun.lean ====
module

public import proofs.«01_k».proof.Proof.SmallDats

@[expose] public section

set_option maxRecDepth 16384

noncomputable section

namespace Cert.KernelAdamSmallIdeal.At

open Cert.KernelAdamSmallIdeal Cert.KernelAdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- before the body every input's buffer holds its block -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t
    d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d,
    (dats m 0 c).before 7 t d = iblk m c 7 t) ∧ (∀ d, (dats m 0 c).before 8 t d = iblk m c 8 t) ∧ (∀ d, (dats m 0 c).before 9 t d = iblk m c 9 t) ∧ (∀ d, (dats m 0 c).before 10 t d
    = iblk m c 10 t) ∧ (∀ d, (dats m 0 c).before 11 t d = iblk m c 11 t) ∧ (∀ d, (dats m 0 c).before 12 t d = iblk m c 12 t) ∧ (∀ d, (dats m 0 c).before 13 t d = iblk m c 13 t) ∧
    (∀ d, (dats m 0 c).before 14 t d = iblk m c 14 t) ∧ (∀ d, (dats m 0 c).before 15 t d = iblk m c 15 t) ∧ (∀ d, (dats m 0 c).before 16 t d = iblk m c 16 t) ∧ (∀ d, (dats m 0
    c).before 17 t d = iblk m c 17 t) ∧ (∀ d, (dats m 0 c).before 18 t d = iblk m c 18 t) ∧ (∀ d, (dats m 0 c).before 19 t d = iblk m c 19 t) ∧ (∀ d, (dats m 0 c).before 20 t d =
    iblk m c 20 t) ∧ (∀ d, (dats m 0 c).before 21 t d = iblk m c 21 t) ∧ (∀ d, (dats m 0 c).before 22 t d = iblk m c 22 t) ∧ (∀ d, (dats m 0 c).before 23 t d = iblk m c 23 t) ∧ (∀
    d, (dats m 0 c).before 24 t d = iblk m c 24 t) ∧ (∀ d, (dats m 0 c).before 25 t d = iblk m c 25 t) ∧ (∀ d, (dats m 0 c).before 26 t d = iblk m c 26 t) ∧ (∀ d, (dats m 0
    c).before 27 t d = iblk m c 27 t) ∧ (∀ d, (dats m 0 c).before 28 t d = iblk m c 28 t) ∧ (∀ d, (dats m 0 c).before 29 t d = iblk m c 29 t) ∧ (∀ d, (dats m 0 c).before 30 t d =
    iblk m c 30 t) ∧ (∀ d, (dats m 0 c).before 31 t d = iblk m c 31 t) ∧ (∀ d, (dats m 0 c).before 32 t d = iblk m c 32 t) ∧ (∀ d, (dats m 0 c).before 33 t d = iblk m c 33 t) ∧ (∀
    d, (dats m 0 c).before 34 t d = iblk m c 34 t) ∧ (∀ d, (dats m 0 c).before 35 t d = iblk m c 35 t) ∧ (∀ d, (dats m 0 c).before 36 t d = iblk m c 36 t) ∧ (∀ d, (dats m 0
    c).before 37 t d = iblk m c 37 t) ∧ (∀ d, (dats m 0 c).before 38 t d = iblk m c 38 t) ∧ (∀ d, (dats m 0 c).before 39 t d = iblk m c 39 t) := by
  and_intros
  all_goals
    intro d
    refine Eq.trans ((dats m 0 c).before_in_eq_fetched _ ?_ ?_ ?_ ?_ t d) ?_
    · rfl
    · exact fun _ => rfl
    · exact fun _ _ _ => rfl
    · intro t; unfold Dat.blockOf; rw [A_eq]; rfl
    · unfold Dat.fetched Dat.blockOf iblk; rw [A_eq]; rfl

section
variable {c : Dev nD} (dat : Dat τ (Elt F) Unit ℕ (UR sig nD τ) ℕ cfg0 c) (t : Fin cfg0.N)
/-- the buffers before and after the body -/
def bodyPre : sProp 𝕄 :=
  iprop(dat.Φ t.castSucc ∗ dat.owesAt () t.castSucc ∗ (∃ d, owns (c : Thread nD τ) (st0_0 t) fullShare (dat.before 0 t d)) ∗ (∃ d, owns (c : Thread nD τ) (st0_1 t) fullShare (dat.before 1 t d)) ∗ (∃ d, owns (c : Thread nD τ) (st0_2 t)
    fullShare (dat.before 2 t d)) ∗ (∃ d, owns (c : Thread nD τ) (st0_3 t) fullShare (dat.before 3 t d)) ∗ (∃ d, owns (c : Thread nD τ) (st0_4 t) fullShare (dat.before 4 t d)) ∗ (∃
    d, owns (c : Thread nD τ) (st0_5 t) fullShare (dat.before 5 t d)) ∗ (∃ d, owns (c : Thread nD τ) (st0_6 t) fullShare (dat.before 6 t d)) ∗ (∃ d, owns (c : Thread nD τ) (st0_7
    t) fullShare (dat.before 7 t d)) ∗ (∃ d, owns (c : Thread nD τ) (st0_8 t) fullShare (dat.before 8 t d)) ∗ (∃ d, owns (c : Thread nD τ) (st0_9 t) fullShare (dat.before 9 t d)) ∗
    (∃ d, owns (c : Thread nD τ) (st0_10 t) fullShare (dat.before 10 t d)) ∗ (∃ d, owns (c : Thread nD τ) (st0_11 t) fullShare (dat.before 11 t d)) ∗ (∃ d, owns (c : Thread nD τ)
    (st0_12 t) fullShare (dat.before 12 t d)) ∗ (∃ d, owns (c : Thread nD τ) (st0_13 t) fullShare (dat.before 13 t d)) ∗ (∃ d, owns (c : Thread nD τ) (st0_14 t) fullShare
    (dat.before 14 t d)) ∗ (∃ d, owns (c : Thread nD τ) (st0_15 t) fullShare (dat.before 15 t d)) ∗ (∃ d, owns (c : Thread nD τ) (st0_16 t) fullShare (dat.before 16 t d)) ∗ (∃ d,
    owns (c : Thread nD τ) (st0_17 t) fullShare (dat.before 17 t d)) ∗ (∃ d, owns (c : Thread nD τ) (st0_18 t) fullShare (dat.before 18 t d)) ∗ (∃ d, owns (c : Thread nD τ) (st0_19
    t) fullShare (dat.before 19 t d)) ∗ (∃ d, owns (c : Thread nD τ) (st0_20 t) fullShare (dat.before 20 t d)) ∗ (∃ d, owns (c : Thread nD τ) (st0_21 t) fullShare (dat.before 21 t
    d)) ∗ (∃ d, owns (c : Thread nD τ) (st0_22 t) fullShare (dat.before 22 t d)) ∗ (∃ d, owns (c : Thread nD τ) (st0_23 t) fullShare (dat.before 23 t d)) ∗ (∃ d, owns (c : Thread
    nD τ) (st0_24 t) fullShare (dat.before 24 t d)) ∗ (∃ d, owns (c : Thread nD τ) (st0_25 t) fullShare (dat.before 25 t d)) ∗ (∃ d, owns (c : Thread nD τ) (st0_26 t) fullShare
    (dat.before 26 t d)) ∗ (∃ d, owns (c : Thread nD τ) (st0_27 t) fullShare (dat.before 27 t d)) ∗ (∃ d, owns (c : Thread nD τ) (st0_28 t) fullShare (dat.before 28 t d)) ∗ (∃ d,
    owns (c : Thread nD τ) (st0_29 t) fullShare (dat.before 29 t d)) ∗ (∃ d, owns (c : Thread nD τ) (st0_30 t) fullShare (dat.before 30 t d)) ∗ (∃ d, owns (c : Thread nD τ) (st0_31
    t) fullShare (dat.before 31 t d)) ∗ (∃ d, owns (c : Thread nD τ) (st0_32 t) fullShare (dat.before 32 t d)) ∗ (∃ d, owns (c : Thread nD τ) (st0_33 t) fullShare (dat.before 33 t
    d)) ∗ (∃ d, owns (c : Thread nD τ) (st0_34 t) fullShare (dat.before 34 t d)) ∗ (∃ d, owns (c : Thread nD τ) (st0_35 t) fullShare (dat.before 35 t d)) ∗ (∃ d, owns (c : Thread
    nD τ) (st0_36 t) fullShare (dat.before 36 t d)) ∗ (∃ d, owns (c : Thread nD τ) (st0_37 t) fullShare (dat.before 37 t d)) ∗ (∃ d, owns (c : Thread nD τ) (st0_38 t) fullShare
    (dat.before 38 t d)) ∗ (∃ d, owns (c : Thread nD τ) (st0_39 t) fullShare (dat.before 39 t d)) ∗ (∃ d, owns (c : Thread nD τ) (st0_40 t) fullShare (dat.before 40 t d)) ∗ (∃ d,
    owns (c : Thread nD τ) (st0_41 t) fullShare (dat.before 41 t d)) ∗ (∃ d, owns (c : Thread nD τ) (st0_42 t) fullShare (dat.before 42 t d)) ∗ (∃ d, owns (c : Thread nD τ) (st0_43
    t) fullShare (dat.before 43 t d)) ∗ (∃ d, owns (c : Thread nD τ) (st0_44 t) fullShare (dat.before 44 t d)) ∗ (∃ d, owns (c : Thread nD τ) (st0_45 t) fullShare (dat.before 45 t
    d)) ∗ (∃ d, owns (c : Thread nD τ) (st0_46 t) fullShare (dat.before 46 t d)) ∗ (∃ d, owns (c : Thread nD τ) (st0_47 t) fullShare (dat.before 47 t d)) ∗ (∃ d, owns (c : Thread
    nD τ) (st0_48 t) fullShare (dat.before 48 t d)) ∗ (∃ d, owns (c : Thread nD τ) (st0_49 t) fullShare (dat.before 49 t d)) ∗ (∃ d, owns (c : Thread nD τ) (st0_50 t) fullShare
    (dat.before 50 t d)) ∗ (∃ d, owns (c : Thread nD τ) (st0_51 t) fullShare (dat.before 51 t d)) ∗ (∃ d, owns (c : Thread nD τ) (st0_52 t) fullShare (dat.before 52 t d)) ∗ (∃ d,
    owns (c : Thread nD τ) (st0_53 t) fullShare (dat.before 53 t d)) ∗ (∃ d, owns (c : Thread nD τ) (st0_54 t) fullShare (dat.before 54 t d)) ∗ (∃ d, owns (c : Thread nD τ) (st0_55
    t) fullShare (dat.before 55 t d)) ∗ (∃ d, owns (c : Thread nD τ) (st0_56 t) fullShare (dat.before 56 t d)) ∗ (∃ d, owns (c : Thread nD τ) (st0_57 t) fullShare (dat.before 57 t
    d)) ∗ (∃ d, owns (c : Thread nD τ) (st0_58 t) fullShare (dat.before 58 t d)) ∗ (∃ d, owns (c : Thread nD τ) (st0_59 t) fullShare (dat.before 59 t d)) ∗ (∃ d, owns (c : Thread
    nD τ) (st0_60 t) fullShare (dat.before 60 t d)) ∗ (∃ d, owns (c : Thread nD τ) (st0_61 t) fullShare (dat.before 61 t d)) ∗ (∃ d, owns (c : Thread nD τ) (st0_62 t) fullShare
    (dat.before 62 t d)) ∗ (∃ d, owns (c : Thread nD τ) (st0_63 t) fullShare (dat.before 63 t d)) ∗ (∃ d, owns (c : Thread nD τ) (st0_64 t) fullShare (dat.before 64 t d)) ∗ (∃ d,
    owns (c : Thread nD τ) (st0_65 t) fullShare (dat.before 65 t d)) ∗ (∃ d, owns (c : Thread nD τ) (st0_66 t) fullShare (dat.before 66 t d)) ∗ (∃ d, owns (c : Thread nD τ) (st0_67
    t) fullShare (dat.before 67 t d)) ∗ (∃ d, owns (c : Thread nD τ) (st0_68 t) fullShare (dat.before 68 t d)) ∗ (∃ d, owns (c : Thread nD τ) (st0_69 t) fullShare (dat.before 69 t
    d)) ∗ (∃ d, owns (c : Thread nD τ) (st0_70 t) fullShare (dat.before 70 t d)) ∗ (∃ d, owns (c : Thread nD τ) (st0_71 t) fullShare (dat.before 71 t d)) ∗ (∃ d, owns (c : Thread
    nD τ) (st0_72 t) fullShare (dat.before 72 t d)) ∗ (∃ d, owns (c : Thread nD τ) (st0_73 t) fullShare (dat.before 73 t d)) ∗ (∃ d, owns (c : Thread nD τ) (st0_74 t) fullShare
    (dat.before 74 t d)) ∗ (∃ d, owns (c : Thread nD τ) (st0_75 t) fullShare (dat.before 75 t d)) ∗ (∃ d, owns (c : Thread nD τ) (st0_76 t) fullShare (dat.before 76 t d)) ∗ (∃ d,
    owns (c : Thread nD τ) (st0_77 t) fullShare (dat.before 77 t d)) ∗ (∃ d, owns (c : Thread nD τ) (st0_78 t) fullShare (dat.before 78 t d)) ∗ (∃ d, owns (c : Thread nD τ) (st0_79
    t) fullShare (dat.before 79 t d)))

def bodyPost : sProp 𝕄 :=
  iprop(dat.Φ t.succ ∗ dat.owesAt () t.succ ∗ owns (c : Thread nD τ) (st0_0 t) fullShare (dat.after 0 t) ∗ owns (c : Thread nD τ) (st0_1 t) fullShare (dat.after 1 t) ∗ owns (c : Thread nD τ) (st0_2 t) fullShare (dat.after 2 t)
    ∗ owns (c : Thread nD τ) (st0_3 t) fullShare (dat.after 3 t) ∗ owns (c : Thread nD τ) (st0_4 t) fullShare (dat.after 4 t) ∗ owns (c : Thread nD τ) (st0_5 t) fullShare
    (dat.after 5 t) ∗ owns (c : Thread nD τ) (st0_6 t) fullShare (dat.after 6 t) ∗ owns (c : Thread nD τ) (st0_7 t) fullShare (dat.after 7 t) ∗ owns (c : Thread nD τ) (st0_8 t)
    fullShare (dat.after 8 t) ∗ owns (c : Thread nD τ) (st0_9 t) fullShare (dat.after 9 t) ∗ owns (c : Thread nD τ) (st0_10 t) fullShare (dat.after 10 t) ∗ owns (c : Thread nD τ)
    (st0_11 t) fullShare (dat.after 11 t) ∗ owns (c : Thread nD τ) (st0_12 t) fullShare (dat.after 12 t) ∗ owns (c : Thread nD τ) (st0_13 t) fullShare (dat.after 13 t) ∗ owns (c :
    Thread nD τ) (st0_14 t) fullShare (dat.after 14 t) ∗ owns (c : Thread nD τ) (st0_15 t) fullShare (dat.after 15 t) ∗ owns (c : Thread nD τ) (st0_16 t) fullShare (dat.after 16 t)
    ∗ owns (c : Thread nD τ) (st0_17 t) fullShare (dat.after 17 t) ∗ owns (c : Thread nD τ) (st0_18 t) fullShare (dat.after 18 t) ∗ owns (c : Thread nD τ) (st0_19 t) fullShare
    (dat.after 19 t) ∗ owns (c : Thread nD τ) (st0_20 t) fullShare (dat.after 20 t) ∗ owns (c : Thread nD τ) (st0_21 t) fullShare (dat.after 21 t) ∗ owns (c : Thread nD τ) (st0_22
    t) fullShare (dat.after 22 t) ∗ owns (c : Thread nD τ) (st0_23 t) fullShare (dat.after 23 t) ∗ owns (c : Thread nD τ) (st0_24 t) fullShare (dat.after 24 t) ∗ owns (c : Thread
    nD τ) (st0_25 t) fullShare (dat.after 25 t) ∗ owns (c : Thread nD τ) (st0_26 t) fullShare (dat.after 26 t) ∗ owns (c : Thread nD τ) (st0_27 t) fullShare (dat.after 27 t) ∗ owns
    (c : Thread nD τ) (st0_28 t) fullShare (dat.after 28 t) ∗ owns (c : Thread nD τ) (st0_29 t) fullShare (dat.after 29 t) ∗ owns (c : Thread nD τ) (st0_30 t) fullShare (dat.after
    30 t) ∗ owns (c : Thread nD τ) (st0_31 t) fullShare (dat.after 31 t) ∗ owns (c : Thread nD τ) (st0_32 t) fullShare (dat.after 32 t) ∗ owns (c : Thread nD τ) (st0_33 t)
    fullShare (dat.after 33 t) ∗ owns (c : Thread nD τ) (st0_34 t) fullShare (dat.after 34 t) ∗ owns (c : Thread nD τ) (st0_35 t) fullShare (dat.after 35 t) ∗ owns (c : Thread nD
    τ) (st0_36 t) fullShare (dat.after 36 t) ∗ owns (c : Thread nD τ) (st0_37 t) fullShare (dat.after 37 t) ∗ owns (c : Thread nD τ) (st0_38 t) fullShare (dat.after 38 t) ∗ owns (c
    : Thread nD τ) (st0_39 t) fullShare (dat.after 39 t) ∗ owns (c : Thread nD τ) (st0_40 t) fullShare (dat.after 40 t) ∗ owns (c : Thread nD τ) (st0_41 t) fullShare (dat.after 41
    t) ∗ owns (c : Thread nD τ) (st0_42 t) fullShare (dat.after 42 t) ∗ owns (c : Thread nD τ) (st0_43 t) fullShare (dat.after 43 t) ∗ owns (c : Thread nD τ) (st0_44 t) fullShare
    (dat.after 44 t) ∗ owns (c : Thread nD τ) (st0_45 t) fullShare (dat.after 45 t) ∗ owns (c : Thread nD τ) (st0_46 t) fullShare (dat.after 46 t) ∗ owns (c : Thread nD τ) (st0_47
    t) fullShare (dat.after 47 t) ∗ owns (c : Thread nD τ) (st0_48 t) fullShare (dat.after 48 t) ∗ owns (c : Thread nD τ) (st0_49 t) fullShare (dat.after 49 t) ∗ owns (c : Thread
    nD τ) (st0_50 t) fullShare (dat.after 50 t) ∗ owns (c : Thread nD τ) (st0_51 t) fullShare (dat.after 51 t) ∗ owns (c : Thread nD τ) (st0_52 t) fullShare (dat.after 52 t) ∗ owns
    (c : Thread nD τ) (st0_53 t) fullShare (dat.after 53 t) ∗ owns (c : Thread nD τ) (st0_54 t) fullShare (dat.after 54 t) ∗ owns (c : Thread nD τ) (st0_55 t) fullShare (dat.after
    55 t) ∗ owns (c : Thread nD τ) (st0_56 t) fullShare (dat.after 56 t) ∗ owns (c : Thread nD τ) (st0_57 t) fullShare (dat.after 57 t) ∗ owns (c : Thread nD τ) (st0_58 t)
    fullShare (dat.after 58 t) ∗ owns (c : Thread nD τ) (st0_59 t) fullShare (dat.after 59 t) ∗ owns (c : Thread nD τ) (st0_60 t) fullShare (dat.after 60 t) ∗ owns (c : Thread nD
    τ) (st0_61 t) fullShare (dat.after 61 t) ∗ owns (c : Thread nD τ) (st0_62 t) fullShare (dat.after 62 t) ∗ owns (c : Thread nD τ) (st0_63 t) fullShare (dat.after 63 t) ∗ owns (c
    : Thread nD τ) (st0_64 t) fullShare (dat.after 64 t) ∗ owns (c : Thread nD τ) (st0_65 t) fullShare (dat.after 65 t) ∗ owns (c : Thread nD τ) (st0_66 t) fullShare (dat.after 66
    t) ∗ owns (c : Thread nD τ) (st0_67 t) fullShare (dat.after 67 t) ∗ owns (c : Thread nD τ) (st0_68 t) fullShare (dat.after 68 t) ∗ owns (c : Thread nD τ) (st0_69 t) fullShare
    (dat.after 69 t) ∗ owns (c : Thread nD τ) (st0_70 t) fullShare (dat.after 70 t) ∗ owns (c : Thread nD τ) (st0_71 t) fullShare (dat.after 71 t) ∗ owns (c : Thread nD τ) (st0_72
    t) fullShare (dat.after 72 t) ∗ owns (c : Thread nD τ) (st0_73 t) fullShare (dat.after 73 t) ∗ owns (c : Thread nD τ) (st0_74 t) fullShare (dat.after 74 t) ∗ owns (c : Thread
    nD τ) (st0_75 t) fullShare (dat.after 75 t) ∗ owns (c : Thread nD τ) (st0_76 t) fullShare (dat.after 76 t) ∗ owns (c : Thread nD τ) (st0_77 t) fullShare (dat.after 77 t) ∗ owns
    (c : Thread nD τ) (st0_78 t) fullShare (dat.after 78 t) ∗ owns (c : Thread nD τ) (st0_79 t) fullShare (dat.after 79 t))

/-- the same, all the windows at once -/
theorem pre_all : iprop(dat.Φ t.castSucc ∗ dat.owesAt () t.castSucc
    ∗ bigSep Finset.univ fun w : Fin cfg0.W => iprop(∃ d, owns (c : Thread nD τ) ((cfg0.win w).stage (cfg0.slots t w)) fullShare (dat.before w t d)))
    ⊢ bodyPre dat t := by
  unfold bodyPre
  refine BIClass.sep_mono .rfl (BIClass.sep_mono .rfl ?_)
  exact Entails.of_eq (bigSep_W0 _)

theorem post_all : bodyPost dat t
    ⊢ iprop(dat.Φ t.succ ∗ dat.owesAt () t.succ
      ∗ bigSep Finset.univ fun w : Fin cfg0.W => owns (c : Thread nD τ) ((cfg0.win w).stage (cfg0.slots t w)) fullShare (dat.after w t)) := by
  unfold bodyPost
  refine BIClass.sep_mono .rfl (BIClass.sep_mono .rfl ?_)
  rw [bigSep_W0]
end

/-- the buffers after the body, spelt out -/
def bodyVals (c : Dev nD) (t : Fin cfg0.N) : sProp 𝕄 :=
  iprop((dats m 0 c).Φ t.succ ∗ (dats m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗
    owns (c : Thread nD τ) (st0_3 t) fullShare (iblk m c 3 t) ∗ owns (c : Thread nD τ) (st0_4 t) fullShare (iblk m c 4 t) ∗ owns (c : Thread nD τ) (st0_5 t) fullShare (iblk m c 5
    t) ∗ owns (c : Thread nD τ) (st0_6 t) fullShare (iblk m c 6 t) ∗ owns (c : Thread nD τ) (st0_7 t) fullShare (iblk m c 7 t) ∗ owns (c : Thread nD τ) (st0_8 t) fullShare (iblk m
    c 8 t) ∗ owns (c : Thread nD τ) (st0_9 t) fullShare (iblk m c 9 t) ∗ owns (c : Thread nD τ) (st0_10 t) fullShare (iblk m c 10 t) ∗ owns (c : Thread nD τ) (st0_11 t) fullShare
    (iblk m c 11 t) ∗ owns (c : Thread nD τ) (st0_12 t) fullShare (iblk m c 12 t) ∗ owns (c : Thread nD τ) (st0_13 t) fullShare (iblk m c 13 t) ∗ owns (c : Thread nD τ) (st0_14 t)
    fullShare (iblk m c 14 t) ∗ owns (c : Thread nD τ) (st0_15 t) fullShare (iblk m c 15 t) ∗ owns (c : Thread nD τ) (st0_16 t) fullShare (iblk m c 16 t) ∗ owns (c : Thread nD τ)
    (st0_17 t) fullShare (iblk m c 17 t) ∗ owns (c : Thread nD τ) (st0_18 t) fullShare (iblk m c 18 t) ∗ owns (c : Thread nD τ) (st0_19 t) fullShare (iblk m c 19 t) ∗ owns (c :
    Thread nD τ) (st0_20 t) fullShare (iblk m c 20 t) ∗ owns (c : Thread nD τ) (st0_21 t) fullShare (iblk m c 21 t) ∗ owns (c : Thread nD τ) (st0_22 t) fullShare (iblk m c 22 t) ∗
    owns (c : Thread nD τ) (st0_23 t) fullShare (iblk m c 23 t) ∗ owns (c : Thread nD τ) (st0_24 t) fullShare (iblk m c 24 t) ∗ owns (c : Thread nD τ) (st0_25 t) fullShare (iblk m
    c 25 t) ∗ owns (c : Thread nD τ) (st0_26 t) fullShare (iblk m c 26 t) ∗ owns (c : Thread nD τ) (st0_27 t) fullShare (iblk m c 27 t) ∗ owns (c : Thread nD τ) (st0_28 t)
    fullShare (iblk m c 28 t) ∗ owns (c : Thread nD τ) (st0_29 t) fullShare (iblk m c 29 t) ∗ owns (c : Thread nD τ) (st0_30 t) fullShare (iblk m c 30 t) ∗ owns (c : Thread nD τ)
    (st0_31 t) fullShare (iblk m c 31 t) ∗ owns (c : Thread nD τ) (st0_32 t) fullShare (iblk m c 32 t) ∗ owns (c : Thread nD τ) (st0_33 t) fullShare (iblk m c 33 t) ∗ owns (c :
    Thread nD τ) (st0_34 t) fullShare (iblk m c 34 t) ∗ owns (c : Thread nD τ) (st0_35 t) fullShare (iblk m c 35 t) ∗ owns (c : Thread nD τ) (st0_36 t) fullShare (iblk m c 36 t) ∗
    owns (c : Thread nD τ) (st0_37 t) fullShare (iblk m c 37 t) ∗ owns (c : Thread nD τ) (st0_38 t) fullShare (iblk m c 38 t) ∗ owns (c : Thread nD τ) (st0_39 t) fullShare (iblk m
    c 39 t) ∗ owns (c : Thread nD τ) (st0_40 t) fullShare (outD r0 (iblk m c 0 t) (iblk m c 10 t) (iblk m c 20 t) (iblk m c 30 t)) ∗ owns (c : Thread nD τ) (st0_41 t) fullShare
    (outD r1 (iblk m c 1 t) (iblk m c 11 t) (iblk m c 21 t) (iblk m c 31 t)) ∗ owns (c : Thread nD τ) (st0_42 t) fullShare (outD r2 (iblk m c 2 t) (iblk m c 12 t) (iblk m c 22 t)
    (iblk m c 32 t)) ∗ owns (c : Thread nD τ) (st0_43 t) fullShare (outD r3 (iblk m c 3 t) (iblk m c 13 t) (iblk m c 23 t) (iblk m c 33 t)) ∗ owns (c : Thread nD τ) (st0_44 t)
    fullShare (outD r0 (iblk m c 4 t) (iblk m c 14 t) (iblk m c 24 t) (iblk m c 34 t)) ∗ owns (c : Thread nD τ) (st0_45 t) fullShare (outD r0 (iblk m c 5 t) (iblk m c 15 t) (iblk m
    c 25 t) (iblk m c 35 t)) ∗ owns (c : Thread nD τ) (st0_46 t) fullShare (outD r4 (iblk m c 6 t) (iblk m c 16 t) (iblk m c 26 t) (iblk m c 36 t)) ∗ owns (c : Thread nD τ) (st0_47
    t) fullShare (outD r0 (iblk m c 7 t) (iblk m c 17 t) (iblk m c 27 t) (iblk m c 37 t)) ∗ owns (c : Thread nD τ) (st0_48 t) fullShare (outD r5 (iblk m c 8 t) (iblk m c 18 t)
    (iblk m c 28 t) (iblk m c 38 t)) ∗ owns (c : Thread nD τ) (st0_49 t) fullShare (outD r6 (iblk m c 9 t) (iblk m c 19 t) (iblk m c 29 t) (iblk m c 39 t)) ∗ owns (c : Thread nD τ)
    (st0_50 t) fullShare (outM r0 (iblk m c 10 t) (iblk m c 20 t)) ∗ owns (c : Thread nD τ) (st0_51 t) fullShare (outM r1 (iblk m c 11 t) (iblk m c 21 t)) ∗ owns (c : Thread nD τ)
    (st0_52 t) fullShare (outM r2 (iblk m c 12 t) (iblk m c 22 t)) ∗ owns (c : Thread nD τ) (st0_53 t) fullShare (outM r3 (iblk m c 13 t) (iblk m c 23 t)) ∗ owns (c : Thread nD τ)
    (st0_54 t) fullShare (outM r0 (iblk m c 14 t) (iblk m c 24 t)) ∗ owns (c : Thread nD τ) (st0_55 t) fullShare (outM r0 (iblk m c 15 t) (iblk m c 25 t)) ∗ owns (c : Thread nD τ)
    (st0_56 t) fullShare (outM r4 (iblk m c 16 t) (iblk m c 26 t)) ∗ owns (c : Thread nD τ) (st0_57 t) fullShare (outM r0 (iblk m c 17 t) (iblk m c 27 t)) ∗ owns (c : Thread nD τ)
    (st0_58 t) fullShare (outM r5 (iblk m c 18 t) (iblk m c 28 t)) ∗ owns (c : Thread nD τ) (st0_59 t) fullShare (outM r6 (iblk m c 19 t) (iblk m c 29 t)) ∗ owns (c : Thread nD τ)
    (st0_60 t) fullShare (outV r0 (iblk m c 10 t) (iblk m c 30 t)) ∗ owns (c : Thread nD τ) (st0_61 t) fullShare (outV r1 (iblk m c 11 t) (iblk m c 31 t)) ∗ owns (c : Thread nD τ)
    (st0_62 t) fullShare (outV r2 (iblk m c 12 t) (iblk m c 32 t)) ∗ owns (c : Thread nD τ) (st0_63 t) fullShare (outV r3 (iblk m c 13 t) (iblk m c 33 t)) ∗ owns (c : Thread nD τ)
    (st0_64 t) fullShare (outV r0 (iblk m c 14 t) (iblk m c 34 t)) ∗ owns (c : Thread nD τ) (st0_65 t) fullShare (outV r0 (iblk m c 15 t) (iblk m c 35 t)) ∗ owns (c : Thread nD τ)
    (st0_66 t) fullShare (outV r4 (iblk m c 16 t) (iblk m c 36 t)) ∗ owns (c : Thread nD τ) (st0_67 t) fullShare (outV r0 (iblk m c 17 t) (iblk m c 37 t)) ∗ owns (c : Thread nD τ)
    (st0_68 t) fullShare (outV r5 (iblk m c 18 t) (iblk m c 38 t)) ∗ owns (c : Thread nD τ) (st0_69 t) fullShare (outV r6 (iblk m c 19 t) (iblk m c 39 t)) ∗ owns (c : Thread nD τ)
    (st0_70 t) fullShare (outG r0 (iblk m c 10 t)) ∗ owns (c : Thread nD τ) (st0_71 t) fullShare (outG r1 (iblk m c 11 t)) ∗ owns (c : Thread nD τ) (st0_72 t) fullShare (outG r2
    (iblk m c 12 t)) ∗ owns (c : Thread nD τ) (st0_73 t) fullShare (outG r3 (iblk m c 13 t)) ∗ owns (c : Thread nD τ) (st0_74 t) fullShare (outG r0 (iblk m c 14 t)) ∗ owns (c :
    Thread nD τ) (st0_75 t) fullShare (outG r0 (iblk m c 15 t)) ∗ owns (c : Thread nD τ) (st0_76 t) fullShare (outG r4 (iblk m c 16 t)) ∗ owns (c : Thread nD τ) (st0_77 t)
    fullShare (outG r0 (iblk m c 17 t)) ∗ owns (c : Thread nD τ) (st0_78 t) fullShare (outG r5 (iblk m c 18 t)) ∗ owns (c : Thread nD τ) (st0_79 t) fullShare (outG r6 (iblk m c 19
    t)))

set_option maxHeartbeats 4000000 in
theorem post_vals (c : Dev nD) (t : Fin cfg0.N) : bodyVals m c t ⊢ bodyPost (dats m 0 c) t := by
  unfold bodyVals bodyPost
  dsimp only [dats]
  exact .rfl

set_option maxHeartbeats 4000000 in
theorem sound_body (c : Dev nD) (t : Fin cfg0.N) :
    bodyPre (dats m 0 c) t ⊢ wp frame (wpE (defs₀ (F := F)) Variants.none c none) Set.univ (bodyAt0 t) (fun _ => bodyVals m c t) := by
  obtain ⟨b0, b1, b2, b3, b4, b5, b6, b7, b8, b9, b10, b11, b12, b13, b14, b15, b16, b17, b18, b19, b20, b21, b22, b23, b24, b25, b26, b27, b28, b29, b30, b31, b32, b33, b34, b35, b36, b37,
    b38, b39⟩ := before_in m c t
  unfold bodyPre bodyVals bodyAt0
  simp only [b0, b1, b2, b3, b4, b5, b6, b7, b8, b9, b10, b11, b12, b13, b14, b15, b16, b17, b18, b19, b20, b21, b22, b23, b24, b25, b26, b27, b28, b29, b30, b31, b32, b33, b34, b35, b36, b37,
    b38, b39]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩,
    ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28,
    H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩,
    ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55,
    H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩,
    ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk
    m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13
    t) (iblk m c 14 t) (iblk m c 15 t) (iblk m c 16 t) (iblk m c 17 t) (iblk m c 18 t) (iblk m c 19 t) (iblk m c 20 t) (iblk m c 21 t) (iblk m c 22 t) (iblk m c 23 t) (iblk m c 24
    t) (iblk m c 25 t) (iblk m c 26 t) (iblk m c 27 t) (iblk m c 28 t) (iblk m c 29 t) (iblk m c 30 t) (iblk m c 31 t) (iblk m c 32 t) (iblk m c 33 t) (iblk m c 34 t) (iblk m c 35
    t) (iblk m c 36 t) (iblk m c 37 t) (iblk m c 38 t) (iblk m c 39 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  iintro ⟨H0, H1, H2, H3, H4, H5, H6, H7, H8, H9, H10, H11, H12, H13, H14, H15, H16, H17, H18, H19, H20, H21, H22, H23, H24, H25, H26, H27, H28, H29, H30, H31, H32, H33, H34, H35, H36, H37,
    H38, H39, H40, H41, H42, H43, H44, H45, H46, H47, H48, H49, H50, H51, H52, H53, H54, H55, H56, H57, H58, H59, H60, H61, H62, H63, H64, H65, H66, H67, H68, H69, H70, H71, H72,
    H73, H74, H75, H76, H77, H78, H79⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  iexact H79

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t =>
  triple_restated (sound_body m c t) (congrArg (wp frame (wpE (defs₀ (F := F)) Variants.none c none) Set.univ) (defs₀_row t).symm)
    (pre_all (dats m 0 c) t) fun _ => (post_vals m c t).trans (post_all (dats m 0 c) t)

set_option backward.isDefEq.respectTransparency.types false in
set_option maxHeartbeats 4000000 in
/-- the run: every window's array ends as the blocks make it, and no counter is left -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- an input's array stays -/
theorem kept {r} (h : Pipeline.FramePost cfgs (dats m) 0 (V m) r) (c : Dev nD) (w : Fin cfg0.W) (hw : (cfg0.win w).isOut = false) :
    r.2.mem ((c : Thread nD τ).loc (Pipeline.arrRef spec0 w)) = m ((c : Thread nD τ).loc (Pipeline.arrRef spec0 w)) :=
  ((h c).1 w).trans (((dats m 0 c).arrAt_in w hw _).trans (A_eq m c w))

end Cert.KernelAdamSmallIdeal.At

end
-- ==== Proof.SmallFin.lean ====
module

public import proofs.«01_k».proof.Proof.Adam
public import proofs.«01_k».proof.Proof.SmallDats
public import Idealize.ShloMosaic.Lib.Pipeline.ValueKit
public import Idealize.ShloMosaic.Lib.Pointwise

@[expose] public section

set_option maxRecDepth 16384

noncomputable section

namespace Cert.KernelAdamSmallIdeal.At

open Cert.KernelAdamSmallIdeal Cert.KernelAdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Adam

/-! The optimizer's step on the small weights against the reference. -/

section
variable {s : Shape} {w g n v w' g' n' v' : FVec Ideal s .f32} {y y' : s.Idx} {off : Fin s.rank → ℕ}
/-- entries of the step depend on the entries alone -/
theorem nm_at (hg : g y = g' y') (hm : n y = n' y') : nm g n y = nm g' n' y' := by
  show (_ * n y + _ * g y : EReal) = _; rw [hg, hm]; rfl
theorem nv_at (hg : g y = g' y') (hv : v y = v' y') : nv g v y = nv g' v' y' := by
  show (_ * v y + _ * (g y * g y) : EReal) = _; rw [hg, hv]; rfl
theorem dl_at (hw : w y = w' y') (hg : g y = g' y') (hm : n y = n' y') (hv : v y = v' y') : dl w g n v y = dl w' g' n' v' y' := by
  unfold dl; rw [nm_at hg hm, nv_at hg hv, hw]

/-- a buffer written whole holds what was written -/
theorem outD_eq (h : off = fun _ => 0) (inb : ∀ a, off a + s.size a ≤ s.size a) (w g n v : FVec Ideal s .f32) :
    outD (F := Ideal) (Rect.unit off s.size inb) w g n v = dl w g n v := by
  unfold outD; rw [View.canon_unit_zero h, View.ld_unit_zero h, View.ld_unit_zero h, View.ld_unit_zero h, View.ld_unit_zero h]; rfl
theorem outM_eq (h : off = fun _ => 0) (inb : ∀ a, off a + s.size a ≤ s.size a) (g n : FVec Ideal s .f32) :
    outM (F := Ideal) (Rect.unit off s.size inb) g n = nm g n := by
  unfold outM; rw [View.canon_unit_zero h, View.ld_unit_zero h, View.ld_unit_zero h]; rfl
theorem outV_eq (h : off = fun _ => 0) (inb : ∀ a, off a + s.size a ≤ s.size a) (g v : FVec Ideal s .f32) :
    outV (F := Ideal) (Rect.unit off s.size inb) g v = nv g v := by
  unfold outV; rw [View.canon_unit_zero h, View.ld_unit_zero h, View.ld_unit_zero h]; rfl
theorem outG_eq (h : off = fun _ => 0) (inb : ∀ a, off a + s.size a ≤ s.size a) (g : FVec Ideal s .f32) :
    outG (F := Ideal) (Rect.unit off s.size inb) g = g := by
  unfold outG; rw [View.canon_unit_zero h, View.ld_unit_zero h]
end

theorem zeros : (![0, 0] : Fin 2 → ℕ) = fun _ => 0 := by decide

/-- one grid point's block of each result is the whole array -/
theorem cov : ∀ w : Fin 40, (win0 (w.natAdd 40)).Covers := by decide +kernel

variable (m : (ℓ : Loc nD τ sig) → Buf (Elt Ideal) ℓ) (c : Dev nD)

/-! The results after the run. -/

set_option maxHeartbeats 4000000 in
/-- the changes to the weights -/
theorem finD :
    (dats m 0 c).arrAt 40 cfg0.N = dl (s := S1x1024) (V m c main_arg0) (V m c main_arg10) (V m c main_arg20) (V m c main_arg30) ∧ (dats m 0 c).arrAt 41 cfg0.N = dl (s := S1x256) (V m c
    main_arg1) (V m c main_arg11) (V m c main_arg21) (V m c main_arg31) ∧ (dats m 0 c).arrAt 42 cfg0.N = dl (s := S1x128) (V m c main_arg2) (V m c main_arg12) (V m c main_arg22) (V
    m c main_arg32) ∧ (dats m 0 c).arrAt 43 cfg0.N = dl (s := S1x8) (V m c main_arg3) (V m c main_arg13) (V m c main_arg23) (V m c main_arg33) ∧ (dats m 0 c).arrAt 44 cfg0.N = dl
    (s := S1x1024) (V m c main_arg4) (V m c main_arg14) (V m c main_arg24) (V m c main_arg34) ∧ (dats m 0 c).arrAt 45 cfg0.N = dl (s := S1x1024) (V m c main_arg5) (V m c
    main_arg15) (V m c main_arg25) (V m c main_arg35) ∧ (dats m 0 c).arrAt 46 cfg0.N = dl (s := S1x5632) (V m c main_arg6) (V m c main_arg16) (V m c main_arg26) (V m c main_arg36)
    ∧ (dats m 0 c).arrAt 47 cfg0.N = dl (s := S1x1024) (V m c main_arg7) (V m c main_arg17) (V m c main_arg27) (V m c main_arg37) ∧ (dats m 0 c).arrAt 48 cfg0.N = dl (s := S16x64)
    (V m c main_arg8) (V m c main_arg18) (V m c main_arg28) (V m c main_arg38) ∧ (dats m 0 c).arrAt 49 cfg0.N = dl (s := S3x1408) (V m c main_arg9) (V m c main_arg19) (V m c
    main_arg29) (V m c main_arg39) := by
  refine ⟨(dats m 0 c).arrAt_eq_of_covers 40 _ (cov 0) fun t _ y => ?_, (dats m 0 c).arrAt_eq_of_covers 41 _ (cov 1) fun t _ y => ?_, (dats m 0 c).arrAt_eq_of_covers 42 _ (cov 2) fun t _ y
    => ?_, (dats m 0 c).arrAt_eq_of_covers 43 _ (cov 3) fun t _ y => ?_, (dats m 0 c).arrAt_eq_of_covers 44 _ (cov 4) fun t _ y => ?_, (dats m 0 c).arrAt_eq_of_covers 45 _ (cov 5)
    fun t _ y => ?_, (dats m 0 c).arrAt_eq_of_covers 46 _ (cov 6) fun t _ y => ?_, (dats m 0 c).arrAt_eq_of_covers 47 _ (cov 7) fun t _ y => ?_, (dats m 0 c).arrAt_eq_of_covers 48
    _ (cov 8) fun t _ y => ?_, (dats m 0 c).arrAt_eq_of_covers 49 _ (cov 9) fun t _ y => ?_⟩
  all_goals
    blk_simp
    dsimp only [dats]
    refine (congrFun (outD_eq zeros _ _ _ _ _) y).trans ?_
    exact dl_at rfl rfl rfl rfl

set_option maxHeartbeats 4000000 in
/-- the new first moments -/
theorem finM :
    (dats m 0 c).arrAt 50 cfg0.N = nm (s := S1x1024) (V m c main_arg10) (V m c main_arg20) ∧ (dats m 0 c).arrAt 51 cfg0.N = nm (s := S1x256) (V m c main_arg11) (V m c main_arg21) ∧
    (dats m 0 c).arrAt 52 cfg0.N = nm (s := S1x128) (V m c main_arg12) (V m c main_arg22) ∧ (dats m 0 c).arrAt 53 cfg0.N = nm (s := S1x8) (V m c main_arg13) (V m c main_arg23) ∧
    (dats m 0 c).arrAt 54 cfg0.N = nm (s := S1x1024) (V m c main_arg14) (V m c main_arg24) ∧ (dats m 0 c).arrAt 55 cfg0.N = nm (s := S1x1024) (V m c main_arg15) (V m c main_arg25)
    ∧ (dats m 0 c).arrAt 56 cfg0.N = nm (s := S1x5632) (V m c main_arg16) (V m c main_arg26) ∧ (dats m 0 c).arrAt 57 cfg0.N = nm (s := S1x1024) (V m c main_arg17) (V m c
    main_arg27) ∧ (dats m 0 c).arrAt 58 cfg0.N = nm (s := S16x64) (V m c main_arg18) (V m c main_arg28) ∧ (dats m 0 c).arrAt 59 cfg0.N = nm (s := S3x1408) (V m c main_arg19) (V m c
    main_arg29) := by
  refine ⟨(dats m 0 c).arrAt_eq_of_covers 50 _ (cov 10) fun t _ y => ?_, (dats m 0 c).arrAt_eq_of_covers 51 _ (cov 11) fun t _ y => ?_, (dats m 0 c).arrAt_eq_of_covers 52 _ (cov 12) fun t _
    y => ?_, (dats m 0 c).arrAt_eq_of_covers 53 _ (cov 13) fun t _ y => ?_, (dats m 0 c).arrAt_eq_of_covers 54 _ (cov 14) fun t _ y => ?_, (dats m 0 c).arrAt_eq_of_covers 55 _ (cov
    15) fun t _ y => ?_, (dats m 0 c).arrAt_eq_of_covers 56 _ (cov 16) fun t _ y => ?_, (dats m 0 c).arrAt_eq_of_covers 57 _ (cov 17) fun t _ y => ?_, (dats m 0
    c).arrAt_eq_of_covers 58 _ (cov 18) fun t _ y => ?_, (dats m 0 c).arrAt_eq_of_covers 59 _ (cov 19) fun t _ y => ?_⟩
  all_goals
    blk_simp
    dsimp only [dats]
    refine (congrFun (outM_eq zeros _ _ _) y).trans ?_
    exact nm_at rfl rfl

set_option maxHeartbeats 4000000 in
/-- the new second moments -/
theorem finV :
    (dats m 0 c).arrAt 60 cfg0.N = nv (s := S1x1024) (V m c main_arg10) (V m c main_arg30) ∧ (dats m 0 c).arrAt 61 cfg0.N = nv (s := S1x256) (V m c main_arg11) (V m c main_arg31) ∧
    (dats m 0 c).arrAt 62 cfg0.N = nv (s := S1x128) (V m c main_arg12) (V m c main_arg32) ∧ (dats m 0 c).arrAt 63 cfg0.N = nv (s := S1x8) (V m c main_arg13) (V m c main_arg33) ∧
    (dats m 0 c).arrAt 64 cfg0.N = nv (s := S1x1024) (V m c main_arg14) (V m c main_arg34) ∧ (dats m 0 c).arrAt 65 cfg0.N = nv (s := S1x1024) (V m c main_arg15) (V m c main_arg35)
    ∧ (dats m 0 c).arrAt 66 cfg0.N = nv (s := S1x5632) (V m c main_arg16) (V m c main_arg36) ∧ (dats m 0 c).arrAt 67 cfg0.N = nv (s := S1x1024) (V m c main_arg17) (V m c
    main_arg37) ∧ (dats m 0 c).arrAt 68 cfg0.N = nv (s := S16x64) (V m c main_arg18) (V m c main_arg38) ∧ (dats m 0 c).arrAt 69 cfg0.N = nv (s := S3x1408) (V m c main_arg19) (V m c
    main_arg39) := by
  refine ⟨(dats m 0 c).arrAt_eq_of_covers 60 _ (cov 20) fun t _ y => ?_, (dats m 0 c).arrAt_eq_of_covers 61 _ (cov 21) fun t _ y => ?_, (dats m 0 c).arrAt_eq_of_covers 62 _ (cov 22) fun t _
    y => ?_, (dats m 0 c).arrAt_eq_of_covers 63 _ (cov 23) fun t _ y => ?_, (dats m 0 c).arrAt_eq_of_covers 64 _ (cov 24) fun t _ y => ?_, (dats m 0 c).arrAt_eq_of_covers 65 _ (cov
    25) fun t _ y => ?_, (dats m 0 c).arrAt_eq_of_covers 66 _ (cov 26) fun t _ y => ?_, (dats m 0 c).arrAt_eq_of_covers 67 _ (cov 27) fun t _ y => ?_, (dats m 0
    c).arrAt_eq_of_covers 68 _ (cov 28) fun t _ y => ?_, (dats m 0 c).arrAt_eq_of_covers 69 _ (cov 29) fun t _ y => ?_⟩
  all_goals
    blk_simp
    dsimp only [dats]
    refine (congrFun (outV_eq zeros _ _ _) y).trans ?_
    exact nv_at rfl rfl

set_option maxHeartbeats 4000000 in
/-- the gradients, as they were -/
theorem finG :
    (dats m 0 c).arrAt 70 cfg0.N = (V m c main_arg10) ∧ (dats m 0 c).arrAt 71 cfg0.N = (V m c main_arg11) ∧ (dats m 0 c).arrAt 72 cfg0.N = (V m c main_arg12) ∧ (dats m 0 c).arrAt 73
    cfg0.N = (V m c main_arg13) ∧ (dats m 0 c).arrAt 74 cfg0.N = (V m c main_arg14) ∧ (dats m 0 c).arrAt 75 cfg0.N = (V m c main_arg15) ∧ (dats m 0 c).arrAt 76 cfg0.N = (V m c
    main_arg16) ∧ (dats m 0 c).arrAt 77 cfg0.N = (V m c main_arg17) ∧ (dats m 0 c).arrAt 78 cfg0.N = (V m c main_arg18) ∧ (dats m 0 c).arrAt 79 cfg0.N = (V m c main_arg19) := by
  refine ⟨(dats m 0 c).arrAt_eq_of_covers 70 _ (cov 30) fun t _ y => ?_, (dats m 0 c).arrAt_eq_of_covers 71 _ (cov 31) fun t _ y => ?_, (dats m 0 c).arrAt_eq_of_covers 72 _ (cov 32) fun t _
    y => ?_, (dats m 0 c).arrAt_eq_of_covers 73 _ (cov 33) fun t _ y => ?_, (dats m 0 c).arrAt_eq_of_covers 74 _ (cov 34) fun t _ y => ?_, (dats m 0 c).arrAt_eq_of_covers 75 _ (cov
    35) fun t _ y => ?_, (dats m 0 c).arrAt_eq_of_covers 76 _ (cov 36) fun t _ y => ?_, (dats m 0 c).arrAt_eq_of_covers 77 _ (cov 37) fun t _ y => ?_, (dats m 0
    c).arrAt_eq_of_covers 78 _ (cov 38) fun t _ y => ?_, (dats m 0 c).arrAt_eq_of_covers 79 _ (cov 39) fun t _ y => ?_⟩
  all_goals
    blk_simp
    dsimp only [dats]
    refine (congrFun (outG_eq zeros _ _) y).trans ?_
    exact rfl

end Cert.KernelAdamSmallIdeal.At

end
-- ==== Proof.SmallOuts.lean ====
module

public import proofs.«01_k».proof.Proof.SmallRun
public import proofs.«01_k».proof.Proof.SmallFin

@[expose] public section

set_option maxRecDepth 16384

noncomputable section

/-! What the results' arrays hold after the run. -/

namespace Cert.KernelAdamSmallIdeal.At

open Idealize.ShloMosaic Idealize.ShloMosaic.TcCoe Idealize.SL.Sem
open Cert.KernelAdamSmallIdeal Cert.KernelAdamSmallIdeal.Gen Cert.Adam

variable (m : (ℓ : Loc nD τ sig) → Buf (Elt Ideal) ℓ)

set_option maxHeartbeats 4000000 in
/-- the changes to the weights, in the results' arrays -/
theorem outsD {r} (h : Pipeline.FramePost cfgs (dats m) 0 (V m) r) (c : Dev nD) :
    r.2.mem ((c : Thread nD τ).loc main_v0_0) = dl (s := S1x1024) (V m c main_arg0) (V m c main_arg10) (V m c main_arg20) (V m c main_arg30) ∧ r.2.mem ((c : Thread nD τ).loc
    main_v0_1) = dl (s := S1x256) (V m c main_arg1) (V m c main_arg11) (V m c main_arg21) (V m c main_arg31) ∧ r.2.mem ((c : Thread nD τ).loc main_v0_2) = dl (s := S1x128) (V m c
    main_arg2) (V m c main_arg12) (V m c main_arg22) (V m c main_arg32) ∧ r.2.mem ((c : Thread nD τ).loc main_v0_3) = dl (s := S1x8) (V m c main_arg3) (V m c main_arg13) (V m c
    main_arg23) (V m c main_arg33) ∧ r.2.mem ((c : Thread nD τ).loc main_v0_4) = dl (s := S1x1024) (V m c main_arg4) (V m c main_arg14) (V m c main_arg24) (V m c main_arg34) ∧
    r.2.mem ((c : Thread nD τ).loc main_v0_5) = dl (s := S1x1024) (V m c main_arg5) (V m c main_arg15) (V m c main_arg25) (V m c main_arg35) ∧ r.2.mem ((c : Thread nD τ).loc
    main_v0_6) = dl (s := S1x5632) (V m c main_arg6) (V m c main_arg16) (V m c main_arg26) (V m c main_arg36) ∧ r.2.mem ((c : Thread nD τ).loc main_v0_7) = dl (s := S1x1024) (V m c
    main_arg7) (V m c main_arg17) (V m c main_arg27) (V m c main_arg37) ∧ r.2.mem ((c : Thread nD τ).loc main_v0_8) = dl (s := S16x64) (V m c main_arg8) (V m c main_arg18) (V m c
    main_arg28) (V m c main_arg38) ∧ r.2.mem ((c : Thread nD τ).loc main_v0_9) = dl (s := S3x1408) (V m c main_arg9) (V m c main_arg19) (V m c main_arg29) (V m c main_arg39) := by
  have e := (h c).1
  obtain ⟨d0, d1, d2, d3, d4, d5, d6, d7, d8, d9⟩ := finD m c
  refine ⟨(e 40).trans ?_, (e 41).trans ?_, (e 42).trans ?_, (e 43).trans ?_, (e 44).trans ?_, (e 45).trans ?_, (e 46).trans ?_, (e 47).trans ?_, (e 48).trans ?_, (e 49).trans ?_⟩
  exacts [d0, d1, d2, d3, d4, d5, d6, d7, d8, d9]

set_option maxHeartbeats 4000000 in
/-- the new first moments, in the results' arrays -/
theorem outsM {r} (h : Pipeline.FramePost cfgs (dats m) 0 (V m) r) (c : Dev nD) :
    r.2.mem ((c : Thread nD τ).loc main_v0_10) = nm (s := S1x1024) (V m c main_arg10) (V m c main_arg20) ∧ r.2.mem ((c : Thread nD τ).loc main_v0_11) = nm (s := S1x256) (V m c
    main_arg11) (V m c main_arg21) ∧ r.2.mem ((c : Thread nD τ).loc main_v0_12) = nm (s := S1x128) (V m c main_arg12) (V m c main_arg22) ∧ r.2.mem ((c : Thread nD τ).loc main_v0_13)
    = nm (s := S1x8) (V m c main_arg13) (V m c main_arg23) ∧ r.2.mem ((c : Thread nD τ).loc main_v0_14) = nm (s := S1x1024) (V m c main_arg14) (V m c main_arg24) ∧ r.2.mem ((c :
    Thread nD τ).loc main_v0_15) = nm (s := S1x1024) (V m c main_arg15) (V m c main_arg25) ∧ r.2.mem ((c : Thread nD τ).loc main_v0_16) = nm (s := S1x5632) (V m c main_arg16) (V m c
    main_arg26) ∧ r.2.mem ((c : Thread nD τ).loc main_v0_17) = nm (s := S1x1024) (V m c main_arg17) (V m c main_arg27) ∧ r.2.mem ((c : Thread nD τ).loc main_v0_18) = nm (s := S16x64)
    (V m c main_arg18) (V m c main_arg28) ∧ r.2.mem ((c : Thread nD τ).loc main_v0_19) = nm (s := S3x1408) (V m c main_arg19) (V m c main_arg29) := by
  have e := (h c).1
  obtain ⟨d0, d1, d2, d3, d4, d5, d6, d7, d8, d9⟩ := finM m c
  refine ⟨(e 50).trans ?_, (e 51).trans ?_, (e 52).trans ?_, (e 53).trans ?_, (e 54).trans ?_, (e 55).trans ?_, (e 56).trans ?_, (e 57).trans ?_, (e 58).trans ?_, (e 59).trans ?_⟩
  exacts [d0, d1, d2, d3, d4, d5, d6, d7, d8, d9]

set_option maxHeartbeats 4000000 in
/-- the new second moments, in the results' arrays -/
theorem outsV {r} (h : Pipeline.FramePost cfgs (dats m) 0 (V m) r) (c : Dev nD) :
    r.2.mem ((c : Thread nD τ).loc main_v0_20) = nv (s := S1x1024) (V m c main_arg10) (V m c main_arg30) ∧ r.2.mem ((c : Thread nD τ).loc main_v0_21) = nv (s := S1x256) (V m c
    main_arg11) (V m c main_arg31) ∧ r.2.mem ((c : Thread nD τ).loc main_v0_22) = nv (s := S1x128) (V m c main_arg12) (V m c main_arg32) ∧ r.2.mem ((c : Thread nD τ).loc main_v0_23)
    = nv (s := S1x8) (V m c main_arg13) (V m c main_arg33) ∧ r.2.mem ((c : Thread nD τ).loc main_v0_24) = nv (s := S1x1024) (V m c main_arg14) (V m c main_arg34) ∧ r.2.mem ((c :
    Thread nD τ).loc main_v0_25) = nv (s := S1x1024) (V m c main_arg15) (V m c main_arg35) ∧ r.2.mem ((c : Thread nD τ).loc main_v0_26) = nv (s := S1x5632) (V m c main_arg16) (V m c
    main_arg36) ∧ r.2.mem ((c : Thread nD τ).loc main_v0_27) = nv (s := S1x1024) (V m c main_arg17) (V m c main_arg37) ∧ r.2.mem ((c : Thread nD τ).loc main_v0_28) = nv (s := S16x64)
    (V m c main_arg18) (V m c main_arg38) ∧ r.2.mem ((c : Thread nD τ).loc main_v0_29) = nv (s := S3x1408) (V m c main_arg19) (V m c main_arg39) := by
  have e := (h c).1
  obtain ⟨d0, d1, d2, d3, d4, d5, d6, d7, d8, d9⟩ := finV m c
  refine ⟨(e 60).trans ?_, (e 61).trans ?_, (e 62).trans ?_, (e 63).trans ?_, (e 64).trans ?_, (e 65).trans ?_, (e 66).trans ?_, (e 67).trans ?_, (e 68).trans ?_, (e 69).trans ?_⟩
  exacts [d0, d1, d2, d3, d4, d5, d6, d7, d8, d9]

set_option maxHeartbeats 4000000 in
/-- the gradients as they were, in the results' arrays -/
theorem outsG {r} (h : Pipeline.FramePost cfgs (dats m) 0 (V m) r) (c : Dev nD) :
    r.2.mem ((c : Thread nD τ).loc main_v0_30) = (V m c main_arg10) ∧ r.2.mem ((c : Thread nD τ).loc main_v0_31) = (V m c main_arg11) ∧ r.2.mem ((c : Thread nD τ).loc main_v0_32) =
    (V m c main_arg12) ∧ r.2.mem ((c : Thread nD τ).loc main_v0_33) = (V m c main_arg13) ∧ r.2.mem ((c : Thread nD τ).loc main_v0_34) = (V m c main_arg14) ∧ r.2.mem ((c : Thread nD
    τ).loc main_v0_35) = (V m c main_arg15) ∧ r.2.mem ((c : Thread nD τ).loc main_v0_36) = (V m c main_arg16) ∧ r.2.mem ((c : Thread nD τ).loc main_v0_37) = (V m c main_arg17) ∧
    r.2.mem ((c : Thread nD τ).loc main_v0_38) = (V m c main_arg18) ∧ r.2.mem ((c : Thread nD τ).loc main_v0_39) = (V m c main_arg19) := by
  have e := (h c).1
  obtain ⟨d0, d1, d2, d3, d4, d5, d6, d7, d8, d9⟩ := finG m c
  refine ⟨(e 70).trans ?_, (e 71).trans ?_, (e 72).trans ?_, (e 73).trans ?_, (e 74).trans ?_, (e 75).trans ?_, (e 76).trans ?_, (e 77).trans ?_, (e 78).trans ?_, (e 79).trans ?_⟩
  exacts [d0, d1, d2, d3, d4, d5, d6, d7, d8, d9]

end Cert.KernelAdamSmallIdeal.At

end
-- ==== Proof.AdamSmall.lean ====
module

public import proofs.«01_k».proof.Proof.Adam
public import proofs.«01_k».proof.Proof.SmallOuts
public import proofs.«01_k».proof.Proof.Gen.ReferenceAdamSmallIdeal.Run

@[expose] public section

set_option maxRecDepth 16384

noncomputable section

/-! The optimizer's step on the small weights against the reference. -/

namespace Cert.Proof

open Idealize.ShloMosaic Idealize.ShloMosaic.TcCoe Idealize.SL.Sem
open Cert.KernelAdamSmallIdeal Cert.KernelAdamSmallIdeal.Gen Cert.KernelAdamSmallIdeal.At Cert.Adam

attribute [local instance] Cert.KernelAdamSmallIdeal.Gen.facts Cert.ReferenceAdamSmallIdeal.Gen.facts

section
variable {F : FTy → Type} [FloatOps F] (m : (ℓ : Loc nD τ sig) → Buf (Elt F) ℓ)
set_option maxHeartbeats 4000000 in
/-- every input's array stays -/
theorem kept_all {r} (h : Pipeline.FramePost cfgs (dats m) 0 (V m) r) (c : Dev nD) :
    r.2.mem ((c : Thread nD τ).loc main_arg0) = m ((c : Thread nD τ).loc main_arg0) ∧ r.2.mem ((c : Thread nD τ).loc main_arg1) = m ((c : Thread nD τ).loc main_arg1) ∧ r.2.mem ((c :
    Thread nD τ).loc main_arg2) = m ((c : Thread nD τ).loc main_arg2) ∧ r.2.mem ((c : Thread nD τ).loc main_arg3) = m ((c : Thread nD τ).loc main_arg3) ∧ r.2.mem ((c : Thread nD
    τ).loc main_arg4) = m ((c : Thread nD τ).loc main_arg4) ∧ r.2.mem ((c : Thread nD τ).loc main_arg5) = m ((c : Thread nD τ).loc main_arg5) ∧ r.2.mem ((c : Thread nD τ).loc
    main_arg6) = m ((c : Thread nD τ).loc main_arg6) ∧ r.2.mem ((c : Thread nD τ).loc main_arg7) = m ((c : Thread nD τ).loc main_arg7) ∧ r.2.mem ((c : Thread nD τ).loc main_arg8) = m
    ((c : Thread nD τ).loc main_arg8) ∧ r.2.mem ((c : Thread nD τ).loc main_arg9) = m ((c : Thread nD τ).loc main_arg9) ∧ r.2.mem ((c : Thread nD τ).loc main_arg10) = m ((c : Thread
    nD τ).loc main_arg10) ∧ r.2.mem ((c : Thread nD τ).loc main_arg11) = m ((c : Thread nD τ).loc main_arg11) ∧ r.2.mem ((c : Thread nD τ).loc main_arg12) = m ((c : Thread nD τ).loc
    main_arg12) ∧ r.2.mem ((c : Thread nD τ).loc main_arg13) = m ((c : Thread nD τ).loc main_arg13) ∧ r.2.mem ((c : Thread nD τ).loc main_arg14) = m ((c : Thread nD τ).loc
    main_arg14) ∧ r.2.mem ((c : Thread nD τ).loc main_arg15) = m ((c : Thread nD τ).loc main_arg15) ∧ r.2.mem ((c : Thread nD τ).loc main_arg16) = m ((c : Thread nD τ).loc
    main_arg16) ∧ r.2.mem ((c : Thread nD τ).loc main_arg17) = m ((c : Thread nD τ).loc main_arg17) ∧ r.2.mem ((c : Thread nD τ).loc main_arg18) = m ((c : Thread nD τ).loc
    main_arg18) ∧ r.2.mem ((c : Thread nD τ).loc main_arg19) = m ((c : Thread nD τ).loc main_arg19) ∧ r.2.mem ((c : Thread nD τ).loc main_arg20) = m ((c : Thread nD τ).loc
    main_arg20) ∧ r.2.mem ((c : Thread nD τ).loc main_arg21) = m ((c : Thread nD τ).loc main_arg21) ∧ r.2.mem ((c : Thread nD τ).loc main_arg22) = m ((c : Thread nD τ).loc
    main_arg22) ∧ r.2.mem ((c : Thread nD τ).loc main_arg23) = m ((c : Thread nD τ).loc main_arg23) ∧ r.2.mem ((c : Thread nD τ).loc main_arg24) = m ((c : Thread nD τ).loc
    main_arg24) ∧ r.2.mem ((c : Thread nD τ).loc main_arg25) = m ((c : Thread nD τ).loc main_arg25) ∧ r.2.mem ((c : Thread nD τ).loc main_arg26) = m ((c : Thread nD τ).loc
    main_arg26) ∧ r.2.mem ((c : Thread nD τ).loc main_arg27) = m ((c : Thread nD τ).loc main_arg27) ∧ r.2.mem ((c : Thread nD τ).loc main_arg28) = m ((c : Thread nD τ).loc
    main_arg28) ∧ r.2.mem ((c : Thread nD τ).loc main_arg29) = m ((c : Thread nD τ).loc main_arg29) ∧ r.2.mem ((c : Thread nD τ).loc main_arg30) = m ((c : Thread nD τ).loc
    main_arg30) ∧ r.2.mem ((c : Thread nD τ).loc main_arg31) = m ((c : Thread nD τ).loc main_arg31) ∧ r.2.mem ((c : Thread nD τ).loc main_arg32) = m ((c : Thread nD τ).loc
    main_arg32) ∧ r.2.mem ((c : Thread nD τ).loc main_arg33) = m ((c : Thread nD τ).loc main_arg33) ∧ r.2.mem ((c : Thread nD τ).loc main_arg34) = m ((c : Thread nD τ).loc
    main_arg34) ∧ r.2.mem ((c : Thread nD τ).loc main_arg35) = m ((c : Thread nD τ).loc main_arg35) ∧ r.2.mem ((c : Thread nD τ).loc main_arg36) = m ((c : Thread nD τ).loc
    main_arg36) ∧ r.2.mem ((c : Thread nD τ).loc main_arg37) = m ((c : Thread nD τ).loc main_arg37) ∧ r.2.mem ((c : Thread nD τ).loc main_arg38) = m ((c : Thread nD τ).loc
    main_arg38) ∧ r.2.mem ((c : Thread nD τ).loc main_arg39) = m ((c : Thread nD τ).loc main_arg39) :=
  ⟨kept m h c 0 rfl, kept m h c 1 rfl, kept m h c 2 rfl, kept m h c 3 rfl, kept m h c 4 rfl, kept m h c 5 rfl, kept m h c 6 rfl, kept m h c 7 rfl, kept m h c 8 rfl, kept m h c 9
    rfl, kept m h c 10 rfl, kept m h c 11 rfl, kept m h c 12 rfl, kept m h c 13 rfl, kept m h c 14 rfl, kept m h c 15 rfl, kept m h c 16 rfl, kept m h c 17 rfl, kept m h c 18 rfl,
    kept m h c 19 rfl, kept m h c 20 rfl, kept m h c 21 rfl, kept m h c 22 rfl, kept m h c 23 rfl, kept m h c 24 rfl, kept m h c 25 rfl, kept m h c 26 rfl, kept m h c 27 rfl, kept m
    h c 28 rfl, kept m h c 29 rfl, kept m h c 30 rfl, kept m h c 31 rfl, kept m h c 32 rfl, kept m h c 33 rfl, kept m h c 34 rfl, kept m h c 35 rfl, kept m h c 36 rfl, kept m h c 37
    rfl, kept m h c 38 rfl, kept m h c 39 rfl⟩
end

set_option maxHeartbeats 4000000 in
theorem algebraic_adamsmall : Cert.algebraic_KernelAdamSmallIdeal_ReferenceAdamSmallIdeal := by
  intro m ρ m' ρ' _ hagree
  refine ⟨fun c => dl (s := S1x1024) (V m c main_arg0) (V m c main_arg10) (V m c main_arg20) (V m c main_arg30), fun c => dl (s := S1x256) (V m c main_arg1) (V m c main_arg11) (V m c
    main_arg21) (V m c main_arg31), fun c => dl (s := S1x128) (V m c main_arg2) (V m c main_arg12) (V m c main_arg22) (V m c main_arg32), fun c => dl (s := S1x8) (V m c main_arg3)
    (V m c main_arg13) (V m c main_arg23) (V m c main_arg33), fun c => dl (s := S1x1024) (V m c main_arg4) (V m c main_arg14) (V m c main_arg24) (V m c main_arg34), fun c => dl (s
    := S1x1024) (V m c main_arg5) (V m c main_arg15) (V m c main_arg25) (V m c main_arg35), fun c => dl (s := S1x5632) (V m c main_arg6) (V m c main_arg16) (V m c main_arg26) (V m
    c main_arg36), fun c => dl (s := S1x1024) (V m c main_arg7) (V m c main_arg17) (V m c main_arg27) (V m c main_arg37), fun c => dl (s := S16x64) (V m c main_arg8) (V m c
    main_arg18) (V m c main_arg28) (V m c main_arg38), fun c => dl (s := S3x1408) (V m c main_arg9) (V m c main_arg19) (V m c main_arg29) (V m c main_arg39), fun c => nm (s :=
    S1x1024) (V m c main_arg10) (V m c main_arg20), fun c => nm (s := S1x256) (V m c main_arg11) (V m c main_arg21), fun c => nm (s := S1x128) (V m c main_arg12) (V m c
    main_arg22), fun c => nm (s := S1x8) (V m c main_arg13) (V m c main_arg23), fun c => nm (s := S1x1024) (V m c main_arg14) (V m c main_arg24), fun c => nm (s := S1x1024) (V m c
    main_arg15) (V m c main_arg25), fun c => nm (s := S1x5632) (V m c main_arg16) (V m c main_arg26), fun c => nm (s := S1x1024) (V m c main_arg17) (V m c main_arg27), fun c => nm
    (s := S16x64) (V m c main_arg18) (V m c main_arg28), fun c => nm (s := S3x1408) (V m c main_arg19) (V m c main_arg29), fun c => nv (s := S1x1024) (V m c main_arg10) (V m c
    main_arg30), fun c => nv (s := S1x256) (V m c main_arg11) (V m c main_arg31), fun c => nv (s := S1x128) (V m c main_arg12) (V m c main_arg32), fun c => nv (s := S1x8) (V m c
    main_arg13) (V m c main_arg33), fun c => nv (s := S1x1024) (V m c main_arg14) (V m c main_arg34), fun c => nv (s := S1x1024) (V m c main_arg15) (V m c main_arg35), fun c => nv
    (s := S1x5632) (V m c main_arg16) (V m c main_arg36), fun c => nv (s := S1x1024) (V m c main_arg17) (V m c main_arg37), fun c => nv (s := S16x64) (V m c main_arg18) (V m c
    main_arg38), fun c => nv (s := S3x1408) (V m c main_arg19) (V m c main_arg39), fun c => (V m c main_arg10), fun c => (V m c main_arg11), fun c => (V m c main_arg12), fun c =>
    (V m c main_arg13), fun c => (V m c main_arg14), fun c => (V m c main_arg15), fun c => (V m c main_arg16), fun c => (V m c main_arg17), fun c => (V m c main_arg18), fun c => (V
    m c main_arg19),
    (θ_run Cert.KernelAdamSmallIdeal.defs _ _).mono (fun r h c => ?_) (run_main (F := Ideal) m ρ),
    (θ_run Cert.ReferenceAdamSmallIdeal.defs _ _).mono (fun _ h c => ?_) (Cert.ReferenceAdamSmallIdeal.Value.run (F := Ideal) m' ρ')⟩
  · obtain ⟨d0, d1, d2, d3, d4, d5, d6, d7, d8, d9⟩ := outsD m h.1 c
    obtain ⟨n0, n1, n2, n3, n4, n5, n6, n7, n8, n9⟩ := outsM m h.1 c
    obtain ⟨v0, v1, v2, v3, v4, v5, v6, v7, v8, v9⟩ := outsV m h.1 c
    obtain ⟨g0, g1, g2, g3, g4, g5, g6, g7, g8, g9⟩ := outsG m h.1 c
    exact ⟨d0, d1, d2, d3, d4, d5, d6, d7, d8, d9, n0, n1, n2, n3, n4, n5, n6, n7, n8, n9, v0, v1, v2, v3, v4, v5, v6, v7, v8, v9, g0, g1, g2, g3, g4, g5, g6, g7, g8, g9, kept_all m h.1 c⟩
  · obtain ⟨a0, a1, a2, a3, a4, a5, a6, a7, a8, a9, a10, a11, a12, a13, a14, a15, a16, a17, a18, a19, a20, a21, a22, a23, a24, a25, a26, a27, a28, a29, a30, a31, a32, a33, a34, a35, a36, a37,
    a38, a39⟩ := hagree c
    obtain ⟨h0, h1, h2, h3, h4, h5, h6, h7, h8, h9, h10, h11, h12, h13, h14, h15, h16, h17, h18, h19, h20, h21, h22, h23, h24, h25, h26, h27, h28, h29, h30, h31, h32, h33, h34, h35, h36, h37,
    h38, h39, hk⟩ := h c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_,
    h13.trans ?_, h14.trans ?_, h15.trans ?_, h16.trans ?_, h17.trans ?_, h18.trans ?_, h19.trans ?_, h20.trans ?_, h21.trans ?_, h22.trans ?_, h23.trans ?_, h24.trans ?_,
    h25.trans ?_, h26.trans ?_, h27.trans ?_, h28.trans ?_, h29.trans ?_, h30.trans ?_, h31.trans ?_, h32.trans ?_, h33.trans ?_, h34.trans ?_, h35.trans ?_, h36.trans ?_,
    h37.trans ?_, h38.trans ?_, h39.trans ?_, hk⟩
    all_goals simp only [a0, a1, a2, a3, a4, a5, a6, a7, a8, a9, a10, a11, a12, a13, a14, a15, a16, a17, a18, a19, a20, a21, a22, a23, a24, a25, a26, a27, a28, a29, a30, a31, a32, a33, a34, a35, a36, a37,
    a38, a39, Cert.Adam.ref_nm, Cert.Adam.ref_nv, Cert.Adam.ref_dl]

set_option maxHeartbeats 4000000 in
theorem frame_adamsmall : Cert.quiescent_ReferenceAdamSmallIdeal := fun m g _ =>
  (θ_run Cert.ReferenceAdamSmallIdeal.defs _ _).mono (fun r h => ⟨fun c => (h c).2.2.2.2.2.2.2.2.2.2.2.2.2.2.2.2.2.2.2.2.2.2.2.2.2.2.2.2.2.2.2.2.2.2.2.2.2.2.2.2, sem_eq_zero_of_no_sems (by decide) r.2⟩)
    (Cert.ReferenceAdamSmallIdeal.Value.run (F := Ideal) m g)

set_option maxHeartbeats 4000000 in
/-- the inputs stay, and no counter is left -/
theorem frame_smallideal : Cert.quiescent_KernelAdamSmallIdeal := fun m ρ _ =>
  (θ_run Cert.KernelAdamSmallIdeal.defs _ _).mono (fun r h => ⟨fun c => kept_all m h.1 c, h.2⟩)
    (run_main (F := Ideal) m ρ)

end Cert.Proof

end
-- ==== Proof.SmallBitsFrame.lean ====
module

public import proofs.«01_k».proof.Proof.SmallBitsRun
public import proofs.«01_k».proof.Defs
public import proofs.«01_k».proof.Proof.Gen.KernelAdamSmall

@[expose] public section

set_option maxRecDepth 16384

noncomputable section

/-! The kernel as printed keeps its inputs: its launch is the same, under its own names. -/

namespace Cert.Proof

open Idealize.ShloMosaic Idealize.ShloMosaic.TcCoe Idealize.SL.Sem
open Cert.KernelAdamSmall Cert.KernelAdamSmall.Gen Cert.KernelAdamSmall.At

attribute [local instance] Cert.KernelAdamSmall.Gen.facts

section
variable {F : FTy → Type} [FloatOps F] (m : (ℓ : Loc nD τ sig) → Buf (Elt F) ℓ)
set_option maxHeartbeats 4000000 in
/-- every input's array stays -/
theorem keptbits {r} (h : Pipeline.FramePost cfgs (dats m) 0 (V m) r) (c : Dev nD) :
    r.2.mem ((c : Thread nD τ).loc main_arg0) = m ((c : Thread nD τ).loc main_arg0) ∧ r.2.mem ((c : Thread nD τ).loc main_arg1) = m ((c : Thread nD τ).loc main_arg1) ∧ r.2.mem ((c :
    Thread nD τ).loc main_arg2) = m ((c : Thread nD τ).loc main_arg2) ∧ r.2.mem ((c : Thread nD τ).loc main_arg3) = m ((c : Thread nD τ).loc main_arg3) ∧ r.2.mem ((c : Thread nD
    τ).loc main_arg4) = m ((c : Thread nD τ).loc main_arg4) ∧ r.2.mem ((c : Thread nD τ).loc main_arg5) = m ((c : Thread nD τ).loc main_arg5) ∧ r.2.mem ((c : Thread nD τ).loc
    main_arg6) = m ((c : Thread nD τ).loc main_arg6) ∧ r.2.mem ((c : Thread nD τ).loc main_arg7) = m ((c : Thread nD τ).loc main_arg7) ∧ r.2.mem ((c : Thread nD τ).loc main_arg8) = m
    ((c : Thread nD τ).loc main_arg8) ∧ r.2.mem ((c : Thread nD τ).loc main_arg9) = m ((c : Thread nD τ).loc main_arg9) ∧ r.2.mem ((c : Thread nD τ).loc main_arg10) = m ((c : Thread
    nD τ).loc main_arg10) ∧ r.2.mem ((c : Thread nD τ).loc main_arg11) = m ((c : Thread nD τ).loc main_arg11) ∧ r.2.mem ((c : Thread nD τ).loc main_arg12) = m ((c : Thread nD τ).loc
    main_arg12) ∧ r.2.mem ((c : Thread nD τ).loc main_arg13) = m ((c : Thread nD τ).loc main_arg13) ∧ r.2.mem ((c : Thread nD τ).loc main_arg14) = m ((c : Thread nD τ).loc
    main_arg14) ∧ r.2.mem ((c : Thread nD τ).loc main_arg15) = m ((c : Thread nD τ).loc main_arg15) ∧ r.2.mem ((c : Thread nD τ).loc main_arg16) = m ((c : Thread nD τ).loc
    main_arg16) ∧ r.2.mem ((c : Thread nD τ).loc main_arg17) = m ((c : Thread nD τ).loc main_arg17) ∧ r.2.mem ((c : Thread nD τ).loc main_arg18) = m ((c : Thread nD τ).loc
    main_arg18) ∧ r.2.mem ((c : Thread nD τ).loc main_arg19) = m ((c : Thread nD τ).loc main_arg19) ∧ r.2.mem ((c : Thread nD τ).loc main_arg20) = m ((c : Thread nD τ).loc
    main_arg20) ∧ r.2.mem ((c : Thread nD τ).loc main_arg21) = m ((c : Thread nD τ).loc main_arg21) ∧ r.2.mem ((c : Thread nD τ).loc main_arg22) = m ((c : Thread nD τ).loc
    main_arg22) ∧ r.2.mem ((c : Thread nD τ).loc main_arg23) = m ((c : Thread nD τ).loc main_arg23) ∧ r.2.mem ((c : Thread nD τ).loc main_arg24) = m ((c : Thread nD τ).loc
    main_arg24) ∧ r.2.mem ((c : Thread nD τ).loc main_arg25) = m ((c : Thread nD τ).loc main_arg25) ∧ r.2.mem ((c : Thread nD τ).loc main_arg26) = m ((c : Thread nD τ).loc
    main_arg26) ∧ r.2.mem ((c : Thread nD τ).loc main_arg27) = m ((c : Thread nD τ).loc main_arg27) ∧ r.2.mem ((c : Thread nD τ).loc main_arg28) = m ((c : Thread nD τ).loc
    main_arg28) ∧ r.2.mem ((c : Thread nD τ).loc main_arg29) = m ((c : Thread nD τ).loc main_arg29) ∧ r.2.mem ((c : Thread nD τ).loc main_arg30) = m ((c : Thread nD τ).loc
    main_arg30) ∧ r.2.mem ((c : Thread nD τ).loc main_arg31) = m ((c : Thread nD τ).loc main_arg31) ∧ r.2.mem ((c : Thread nD τ).loc main_arg32) = m ((c : Thread nD τ).loc
    main_arg32) ∧ r.2.mem ((c : Thread nD τ).loc main_arg33) = m ((c : Thread nD τ).loc main_arg33) ∧ r.2.mem ((c : Thread nD τ).loc main_arg34) = m ((c : Thread nD τ).loc
    main_arg34) ∧ r.2.mem ((c : Thread nD τ).loc main_arg35) = m ((c : Thread nD τ).loc main_arg35) ∧ r.2.mem ((c : Thread nD τ).loc main_arg36) = m ((c : Thread nD τ).loc
    main_arg36) ∧ r.2.mem ((c : Thread nD τ).loc main_arg37) = m ((c : Thread nD τ).loc main_arg37) ∧ r.2.mem ((c : Thread nD τ).loc main_arg38) = m ((c : Thread nD τ).loc
    main_arg38) ∧ r.2.mem ((c : Thread nD τ).loc main_arg39) = m ((c : Thread nD τ).loc main_arg39) :=
  ⟨kept m h c 0 rfl, kept m h c 1 rfl, kept m h c 2 rfl, kept m h c 3 rfl, kept m h c 4 rfl, kept m h c 5 rfl, kept m h c 6 rfl, kept m h c 7 rfl, kept m h c 8 rfl, kept m h c 9
    rfl, kept m h c 10 rfl, kept m h c 11 rfl, kept m h c 12 rfl, kept m h c 13 rfl, kept m h c 14 rfl, kept m h c 15 rfl, kept m h c 16 rfl, kept m h c 17 rfl, kept m h c 18 rfl,
    kept m h c 19 rfl, kept m h c 20 rfl, kept m h c 21 rfl, kept m h c 22 rfl, kept m h c 23 rfl, kept m h c 24 rfl, kept m h c 25 rfl, kept m h c 26 rfl, kept m h c 27 rfl, kept m
    h c 28 rfl, kept m h c 29 rfl, kept m h c 30 rfl, kept m h c 31 rfl, kept m h c 32 rfl, kept m h c 33 rfl, kept m h c 34 rfl, kept m h c 35 rfl, kept m h c 36 rfl, kept m h c 37
    rfl, kept m h c 38 rfl, kept m h c 39 rfl⟩
end

set_option maxHeartbeats 4000000 in
/-- the inputs stay, and no counter is left -/
theorem frame_small : Cert.quiescent_KernelAdamSmall := fun m ρ _ =>
  (θ_run Cert.KernelAdamSmall.defs _ _).mono (fun r h => ⟨fun c => keptbits m h.1 c, h.2⟩)
    (run_main (F := Bits) m ρ)

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Gen.ReferenceIdeal.Run
public import proofs.«01_k».proof.Proof.Ref
public import proofs.«01_k».proof.Proof.Final
public import proofs.«01_k».proof.Proof.Gen.KernelUp.Frame
public import proofs.«01_k».proof.Proof.Gen.KernelDown.Frame
public import proofs.«01_k».proof.Proof.Gen.KernelIn.Frame
public import proofs.«01_k».proof.Proof.Gen.KernelOut.Frame
public import proofs.«01_k».proof.Proof.Gen.KernelFwd.Frame
public import proofs.«01_k».proof.Proof.Gen.KernelAdamUp.Frame
public import proofs.«01_k».proof.Proof.Gen.KernelAdamIn.Frame
public import proofs.«01_k».proof.Proof.Products
public import proofs.«01_k».proof.Proof.Adam
public import proofs.«01_k».proof.Proof.FwdResults
public import proofs.«01_k».proof.Proof.AdamSmall
public import proofs.«01_k».proof.Proof.SmallBitsFrame
public import Idealize.ShloMosaic.Lib.Claim

@[expose] public section

set_option maxRecDepth 16384

noncomputable section

/-! The claims: the frames are the generated runs; the value claim meets the kernel's results and the reference's in the functions of `Spec`. -/

namespace Cert.Proof

open Idealize.ShloMosaic Idealize.ShloMosaic.TcCoe Idealize.SL.Sem Cert.Spec

attribute [local instance] Cert.KernelIdeal.Gen.facts Cert.ReferenceIdeal.Gen.facts Cert.Pre_finite.Gen.facts

theorem isR_of_mask {s : Shape} (a : FVec Ideal s .f32) (hb : (⟨0, ![]⟩ : Shape).BroadcastsInDim s (![] : Fin 0 → Fin s.rank))
    (h : cmpf .olt (Host.absf a) (broadcastInDim s ![] hb (constant ⟨0, ![]⟩ .f32 0x7F800000#32)) = fun _ => 1#1) (y : s.Idx) : IsR (a y) := by
  have := congrFun h y
  pointwise at this
  rw [ofBits_inf] at this
  refine isR_of_abs_lt (of_not_not fun hn => ?_)
  have e : decide (FloatOps.absf (F := Ideal) (a y) < (⊤ : EReal)) = false := decide_eq_false hn
  exact absurd (this.symm.trans (congrArg BitVec.ofBool e)) (by decide)

/-- the arguments are finite, so the reference's are -/
theorem real_of_pre (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.At.Real (fun b => m' (c, b)) := by
  obtain ⟨p0, p1, p2, p3, p4, p5, p6, p7⟩ := hpre c
  exact {
    dn := fun T k => (congrArg IsR (congrFun h0 _)).mpr (isR_of_mask _ _ p0 _)
    x := fun T k => (congrArg IsR (congrFun h1 _)).mpr (isR_of_mask _ _ p1 _)
    g3 := fun k => (congrArg IsR (congrFun h2 _)).mpr (isR_of_mask _ _ p2 _)
    wu := fun k n => (congrArg IsR (congrFun h3 _)).mpr (isR_of_mask _ _ p3 _)
    cw := fun j n => (congrArg IsR (congrFun h4 _)).mpr (isR_of_mask _ _ p4 _)
    cb := fun n => (congrArg IsR (congrFun h5 _)).mpr (isR_of_mask _ _ p5 _)
    wd := fun f k => (congrArg IsR (congrFun h6 _)).mpr (isR_of_mask _ _ p6 _)
    g4 := fun k => (congrArg IsR (congrFun h7 _)).mpr (isR_of_mask _ _ p7 _) }

section
open Cert.KernelIdeal Cert.KernelIdeal.At
variable (m : (ℓ : Loc nD τ sig) → Buf (Elt Ideal) ℓ) (c : Dev nD)
/-- the results -/
abbrev dyV : FVec Ideal S8192x1024 .bf16 := fun y => DY (L m c) (y 0) (y 1)
abbrev dupV : FVec Ideal S8192x5632 .bf16 := fun y => DUP (L m c) (y 0) (y 1)
abbrev dxV : FVec Ideal S8192x1024 .f32 := fun y => dn (L m c) (y 0) (y 1) + rmsB (x (L m c)) (g3 (L m c)) (DH (L m c)) (y 0) (y 1)
abbrev dg4V : FVec Ideal S1x1024 .f32 := fun y => ∑ T, dn (L m c) T (y 1) * Y (L m c) T (y 1) * rs (Y (L m c)) T
abbrev dg3V : FVec Ideal S1x1024 .f32 := fun y => ∑ T, DH (L m c) T (y 1) * x (L m c) T (y 1) * rs (x (L m c)) T
abbrev dcbV : FVec Ideal S1x5632 .f32 := fun y => ∑ T, DU (L m c) T (y 1)
abbrev dcwV : FVec Ideal S3x5632 .f32 := fun y => ∑ T, PJ (L m c) (y 0) T (y 1) * U (L m c) T (y 1)
end

section
open Cert.ReferenceIdeal.At
variable {V : Valuation Cert.KernelIdeal.τ Cert.KernelIdeal.sig (Elt Ideal)} {V' : Valuation Cert.ReferenceIdeal.τ Cert.ReferenceIdeal.sig (Elt Ideal)}
/-- both programs have the same arguments -/
structure Same (V : Valuation Cert.KernelIdeal.τ Cert.KernelIdeal.sig (Elt Ideal)) (V' : Valuation Cert.ReferenceIdeal.τ Cert.ReferenceIdeal.sig (Elt Ideal)) : Prop where
  dn : Cert.ReferenceIdeal.At.dn V' = Cert.KernelIdeal.At.dn V
  x : Cert.ReferenceIdeal.At.x V' = Cert.KernelIdeal.At.x V
  g3 : Cert.ReferenceIdeal.At.g3 V' = Cert.KernelIdeal.At.g3 V
  wu : Cert.ReferenceIdeal.At.wu V' = Cert.KernelIdeal.At.wu V
  cw : Cert.ReferenceIdeal.At.cw V' = Cert.KernelIdeal.At.cw V
  cb : Cert.ReferenceIdeal.At.cb V' = Cert.KernelIdeal.At.cb V
  wd : Cert.ReferenceIdeal.At.wd V' = Cert.KernelIdeal.At.wd V
  g4 : Cert.ReferenceIdeal.At.g4 V' = Cert.KernelIdeal.At.g4 V
variable (h : Same V V')
include h
theorem Same.U : U V' = Cert.KernelIdeal.At.U V := congr (congrArg₂ up h.x h.g3) h.wu
theorem Same.C : C V' = Cert.KernelIdeal.At.C V := congr (congrArg₂ conv h.U h.cw) h.cb
theorem Same.Y : Y V' = Cert.KernelIdeal.At.Y V := congrArg₂ yH h.C h.wd
theorem Same.DY : DY V' = Cert.KernelIdeal.At.DY V := congr (congrArg₂ rmsB h.Y h.g4) h.dn
theorem Same.DU : DU V' = Cert.KernelIdeal.At.DU V := by
  show dU (mmT (Cert.ReferenceIdeal.At.DY V') _) _ _ = dU (mmT (Cert.KernelIdeal.At.DY V) _) _ _
  rw [h.DY, h.wd, h.C]
theorem Same.DUP : DUP V' = Cert.KernelIdeal.At.DUP V := congrArg₂ dUp h.cw h.DU
theorem Same.DH : DH V' = Cert.KernelIdeal.At.DH V := congrArg₂ mmT h.DUP h.wu
end

set_option maxHeartbeats 1000000 in
/-- the kernel's run: its results are the functions of `Spec`, its arguments are kept -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v81_0) = dyV m c
      ∧ r.2.mem ((c.tc : Thread Cert.KernelIdeal.nD Cert.KernelIdeal.τ).loc Cert.KernelIdeal.main_v81_1) = dupV m c
      ∧ r.2.mem ((c.tc : Thread Cert.KernelIdeal.nD Cert.KernelIdeal.τ).loc Cert.KernelIdeal.main_v81_2) = dxV m c
      ∧ r.2.mem ((c.tc : Thread Cert.KernelIdeal.nD Cert.KernelIdeal.τ).loc Cert.KernelIdeal.main_v81_3) = dg4V m c
      ∧ r.2.mem ((c.tc : Thread Cert.KernelIdeal.nD Cert.KernelIdeal.τ).loc Cert.KernelIdeal.main_v81_4) = dg3V m c
      ∧ r.2.mem ((c.tc : Thread Cert.KernelIdeal.nD Cert.KernelIdeal.τ).loc Cert.KernelIdeal.main_v81_5) = dcbV m c
      ∧ r.2.mem ((c.tc : Thread Cert.KernelIdeal.nD Cert.KernelIdeal.τ).loc Cert.KernelIdeal.main_v81_6) = dcwV m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) := by
  refine (θ_run Cert.KernelIdeal.defs _ _).mono (fun r h c => ?_) (θ_run_and (Cert.KernelIdeal.Gen.run_main m g) (Cert.KernelIdeal.Gen.unchanged m g))
  have hw := (h.1 c).1
  have ha := h.2 c
  have e0 : r.2.mem ((c.tc : Thread Cert.KernelIdeal.nD Cert.KernelIdeal.τ).loc Cert.KernelIdeal.main_v81_0) = (Cert.KernelIdeal.Gen.dats m 0 c).arrAt 9 Cert.KernelIdeal.cfg0.N := hw 9
  have e1 : r.2.mem ((c.tc : Thread Cert.KernelIdeal.nD Cert.KernelIdeal.τ).loc Cert.KernelIdeal.main_v81_1) = (Cert.KernelIdeal.Gen.dats m 0 c).arrAt 10 Cert.KernelIdeal.cfg0.N := hw 10
  have e2 : r.2.mem ((c.tc : Thread Cert.KernelIdeal.nD Cert.KernelIdeal.τ).loc Cert.KernelIdeal.main_v81_2) = (Cert.KernelIdeal.Gen.dats m 0 c).arrAt 11 Cert.KernelIdeal.cfg0.N := hw 11
  have e3 : r.2.mem ((c.tc : Thread Cert.KernelIdeal.nD Cert.KernelIdeal.τ).loc Cert.KernelIdeal.main_v81_3) = (Cert.KernelIdeal.Gen.dats m 0 c).arrAt 12 Cert.KernelIdeal.cfg0.N := hw 12
  have e4 : r.2.mem ((c.tc : Thread Cert.KernelIdeal.nD Cert.KernelIdeal.τ).loc Cert.KernelIdeal.main_v81_4) = (Cert.KernelIdeal.Gen.dats m 0 c).arrAt 13 Cert.KernelIdeal.cfg0.N := hw 13
  have e5 : r.2.mem ((c.tc : Thread Cert.KernelIdeal.nD Cert.KernelIdeal.τ).loc Cert.KernelIdeal.main_v81_5) = (Cert.KernelIdeal.Gen.dats m 0 c).arrAt 14 Cert.KernelIdeal.cfg0.N := hw 14
  have e6 : r.2.mem ((c.tc : Thread Cert.KernelIdeal.nD Cert.KernelIdeal.τ).loc Cert.KernelIdeal.main_v81_6) = (Cert.KernelIdeal.Gen.dats m 0 c).arrAt 15 Cert.KernelIdeal.cfg0.N := hw 15
  exact ⟨e0.trans (Cert.KernelIdeal.At.dy_final m c), e1.trans (Cert.KernelIdeal.At.dup_final m c), e2.trans (Cert.KernelIdeal.At.dx_final m c), e3.trans (Cert.KernelIdeal.At.dg4_final m c), e4.trans (Cert.KernelIdeal.At.dg3_final m c), e5.trans (Cert.KernelIdeal.At.dcb_final m c), e6.trans (Cert.KernelIdeal.At.dcw_final m c), ha⟩

set_option maxHeartbeats 1000000 in
/-- the reference's run, at the kernel's arguments -/
theorem run_reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hR : ∀ c : Dev Cert.KernelIdeal.nD, Cert.ReferenceIdeal.At.Real (fun b => m' (c, b))) (hS : ∀ c : Dev Cert.KernelIdeal.nD, Same (fun b => m (c, b)) (fun b => m' (c, b))) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v173) = dyV m c
      ∧ r.2.mem ((c.tc : Thread Cert.ReferenceIdeal.nD Cert.ReferenceIdeal.τ).loc Cert.ReferenceIdeal.main_v174) = dupV m c
      ∧ r.2.mem ((c.tc : Thread Cert.ReferenceIdeal.nD Cert.ReferenceIdeal.τ).loc Cert.ReferenceIdeal.main_v175) = dxV m c
      ∧ r.2.mem ((c.tc : Thread Cert.ReferenceIdeal.nD Cert.ReferenceIdeal.τ).loc Cert.ReferenceIdeal.main_v85) = dg4V m c
      ∧ r.2.mem ((c.tc : Thread Cert.ReferenceIdeal.nD Cert.ReferenceIdeal.τ).loc Cert.ReferenceIdeal.main_v156) = dg3V m c
      ∧ r.2.mem ((c.tc : Thread Cert.ReferenceIdeal.nD Cert.ReferenceIdeal.τ).loc Cert.ReferenceIdeal.main_v139) = dcbV m c
      ∧ r.2.mem ((c.tc : Thread Cert.ReferenceIdeal.nD Cert.ReferenceIdeal.τ).loc Cert.ReferenceIdeal.main_v150) = dcwV m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) := by
  refine (θ_run Cert.ReferenceIdeal.defs _ _).mono (fun r h c => ?_) (Cert.ReferenceIdeal.Value.run m' g')
  obtain ⟨e0, e1, e2, e3, e4, e5, e6, ha⟩ := h c
  refine ⟨e0.trans (funext fun y => ?_), e1.trans (funext fun y => ?_), e2.trans (funext fun y => ?_), e3.trans (funext fun y => ?_),
    e4.trans (funext fun y => ?_), e5.trans (funext fun y => ?_), e6.trans (funext fun y => ?_), ha⟩
  · obtain ⟨r, k, rfl⟩ : ∃ (r : Fin 8192) (k : Fin 1024), y = ix2 r k := ⟨y 0, y 1, eq_ix2 y⟩
    exact (Cert.ReferenceIdeal.At.dy_at _ (hR c) r k).trans (congrFun (congrFun (hS c).DY r) k)
  · obtain ⟨r, k, rfl⟩ : ∃ (r : Fin 8192) (k : Fin 5632), y = ix2 r k := ⟨y 0, y 1, eq_ix2 y⟩
    exact (Cert.ReferenceIdeal.At.dup_at _ (hR c) r k).trans (congrFun (congrFun (hS c).DUP r) k)
  · obtain ⟨r, k, rfl⟩ : ∃ (r : Fin 8192) (k : Fin 1024), y = ix2 r k := ⟨y 0, y 1, eq_ix2 y⟩
    refine (Cert.ReferenceIdeal.At.dx_at _ (hR c) r k).trans ?_
    rw [(hS c).dn, (hS c).x, (hS c).g3, (hS c).DH]
    rfl
  · obtain ⟨k, rfl⟩ : ∃ k : Fin 1024, y = ix2 0 k := ⟨y 1, (eq_ix2 (n0 := 1) (n1 := 1024) y).trans (congrArg (fun a => ix2 a _) (Subsingleton.elim _ _))⟩
    refine (Cert.ReferenceIdeal.At.dg4_at _ k).trans ?_
    rw [(hS c).dn, (hS c).Y]
    rfl
  · obtain ⟨k, rfl⟩ : ∃ k : Fin 1024, y = ix2 0 k := ⟨y 1, (eq_ix2 (n0 := 1) (n1 := 1024) y).trans (congrArg (fun a => ix2 a _) (Subsingleton.elim _ _))⟩
    refine (Cert.ReferenceIdeal.At.dg3_at _ (hR c) k).trans ?_
    rw [(hS c).x, (hS c).DH]
    rfl
  · obtain ⟨l, rfl⟩ : ∃ l : Fin 5632, y = ix2 0 l := ⟨y 1, (eq_ix2 (n0 := 1) (n1 := 5632) y).trans (congrArg (fun a => ix2 a _) (Subsingleton.elim _ _))⟩
    refine (Cert.ReferenceIdeal.At.dcb_at _ (hR c) l).trans ?_
    rw [(hS c).DU]
    rfl
  · obtain ⟨j, l, rfl⟩ : ∃ (j : Fin 3) (l : Fin 5632), y = ix2 j l := ⟨y 0, y 1, eq_ix2 y⟩
    refine (Cert.ReferenceIdeal.At.dcw_at _ (hR c) j l).trans ?_
    rw [(hS c).DU, (hS c).U]
    show _ = ∑ T, Cert.KernelIdeal.At.PJ _ j T l * _
    unfold Cert.KernelIdeal.At.PJ
    fin_cases j <;> rfl

theorem algebraic : Cert.algebraic_KernelIdeal_ReferenceIdeal_pre_finite := by
  intro m g m' g' hpre hagree
  have hR : ∀ c : Dev Cert.KernelIdeal.nD, Cert.ReferenceIdeal.At.Real (fun b => m' (c, b)) := fun c => by
    obtain ⟨a0, a1, a2, a3, a4, a5, a6, a7⟩ := hagree c
    exact real_of_pre m m' hpre c a0 a1 a2 a3 a4 a5 a6 a7
  have hS : ∀ c : Dev Cert.KernelIdeal.nD, Same (fun b => m (c, b)) (fun b => m' (c, b)) := fun c => by
    obtain ⟨a0, a1, a2, a3, a4, a5, a6, a7⟩ := hagree c
    exact {
      dn := funext fun a => funext fun a => congrFun a0 _
      x := funext fun a => funext fun a => congrFun a1 _
      g3 := funext fun a => congrFun a2 _
      wu := funext fun a => funext fun a => congrFun a3 _
      cw := funext fun a => funext fun a => congrFun a4 _
      cb := funext fun a => congrFun a5 _
      wd := funext fun a => funext fun a => congrFun a6 _
      g4 := funext fun a => congrFun a7 _ }
  exact ⟨dyV m, dupV m, dxV m, dg4V m, dg3V m, dcbV m, dcwV m, run_kernel m g, run_reference m m' g' hR hS⟩

theorem frame_reference : Cert.quiescent_ReferenceIdeal := fun m g _ =>
  (θ_run Cert.ReferenceIdeal.defs _ _).mono (fun r h => ⟨fun c => (h c).2.2.2.2.2.2.2, sem_eq_zero_of_no_sems (by decide) r.2⟩) (Cert.ReferenceIdeal.Value.run (F := Ideal) m g)

theorem claim : Cert.Claim := ⟨Cert.Kernel.Gen.facts, Cert.KernelIdeal.Gen.facts, Cert.ReferenceIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelIn.Gen.facts, Cert.KernelInIdeal.Gen.facts, Cert.ReferenceInIdeal.Gen.facts, Cert.KernelOut.Gen.facts, Cert.KernelOutIdeal.Gen.facts, Cert.ReferenceOutIdeal.Gen.facts, Cert.KernelFwd.Gen.facts, Cert.KernelFwdIdeal.Gen.facts, Cert.ReferenceFwdIdeal.Gen.facts, Cert.KernelAdamUp.Gen.facts, Cert.KernelAdamUpIdeal.Gen.facts, Cert.ReferenceAdamUpIdeal.Gen.facts, Cert.KernelAdamIn.Gen.facts, Cert.KernelAdamInIdeal.Gen.facts, Cert.ReferenceAdamInIdeal.Gen.facts, Cert.KernelAdamSmall.Gen.facts, Cert.KernelAdamSmallIdeal.Gen.facts, Cert.ReferenceAdamSmallIdeal.Gen.facts, Cert.Pre_finite.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.KernelUp.Gen.frame m g, fun m g _ => Cert.KernelUpIdeal.Gen.frame m g, frame_up,
  fun m g _ => Cert.KernelDown.Gen.frame m g, fun m g _ => Cert.KernelDownIdeal.Gen.frame m g, frame_down,
  fun m g _ => Cert.KernelIn.Gen.frame m g, fun m g _ => Cert.KernelInIdeal.Gen.frame m g, frame_in,
  fun m g _ => Cert.KernelOut.Gen.frame m g, fun m g _ => Cert.KernelOutIdeal.Gen.frame m g, frame_out,
  fun m g _ => Cert.KernelFwd.Gen.frame m g, fun m g _ => Cert.KernelFwdIdeal.Gen.frame m g, frame_fwd,
  fun m g _ => Cert.KernelAdamUp.Gen.frame m g, fun m g _ => Cert.KernelAdamUpIdeal.Gen.frame m g, frame_adamup,
  fun m g _ => Cert.KernelAdamIn.Gen.frame m g, fun m g _ => Cert.KernelAdamInIdeal.Gen.frame m g, frame_adamin,
  frame_small, frame_smallideal, frame_adamsmall,
  trivial, algebraic, trivial, algebraic_up, trivial, algebraic_down, trivial, algebraic_in, trivial, algebraic_out, trivial, algebraic_fwd, trivial, algebraic_adamup, trivial, algebraic_adamin, trivial, algebraic_adamsmall⟩

end Cert.Proof

end
